-- ==== Defs.lean ====
def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_finite_scores [hPre_finite_scores : Cert.Pre_finite_scores.Facts] (m : (ℓ : Loc Cert.FlashIdeal.nD Cert.FlashIdeal.τ Cert.FlashIdeal.sig) → Buf (Elt Ideal) ℓ) : Prop :=
  ∀ c : Dev Cert.FlashIdeal.nD,
    (Cert.Pre_finite_scores.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2))) = (fun _ => 1#1)

def Pre_FlashRefIdeal (m : (ℓ : Loc Cert.FlashRefIdeal.nD Cert.FlashRefIdeal.τ Cert.FlashRefIdeal.sig) → Buf (Elt Ideal) ℓ) : Prop :=
  True

def Pre_FlashRefIdeal_finite_scores [hPre_finite_scores : Cert.Pre_finite_scores.Facts] (m : (ℓ : Loc Cert.FlashRefIdeal.nD Cert.FlashRefIdeal.τ Cert.FlashRefIdeal.sig) → Buf (Elt Ideal) ℓ) : Prop :=
  ∀ c : Dev Cert.FlashRefIdeal.nD,
    (Cert.Pre_finite_scores.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_PleS (m : (ℓ : Loc Cert.PleS.nD Cert.PleS.τ Cert.PleS.sig) → Buf (Elt Bits) ℓ) : Prop :=
  True

def Pre_PleSIdeal (m : (ℓ : Loc Cert.PleSIdeal.nD Cert.PleSIdeal.τ Cert.PleSIdeal.sig) → Buf (Elt Ideal) ℓ) : Prop :=
  True

def Pre_PleSRefIdeal (m : (ℓ : Loc Cert.PleSRefIdeal.nD Cert.PleSRefIdeal.τ Cert.PleSRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvIdeal_finite_rope [hPre_finite_rope : Cert.Pre_finite_rope.Facts] (m : (ℓ : Loc Cert.KvIdeal.nD Cert.KvIdeal.τ Cert.KvIdeal.sig) → Buf (Elt Ideal) ℓ) : Prop :=
  ∀ c : Dev Cert.KvIdeal.nD,
    (Cert.Pre_finite_rope.fn (F := Ideal) (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg2)) (m ((c.tc : Thread Cert.KvIdeal.nD Cert.KvIdeal.τ).loc Cert.KvIdeal.main_arg3))) = (fun _ => 1#1)

def Pre_KvRefIdeal (m : (ℓ : Loc Cert.KvRefIdeal.nD Cert.KvRefIdeal.τ Cert.KvRefIdeal.sig) → Buf (Elt Ideal) ℓ) : Prop :=
  True

def Pre_KvRefIdeal_finite_rope [hPre_finite_rope : Cert.Pre_finite_rope.Facts] (m : (ℓ : Loc Cert.KvRefIdeal.nD Cert.KvRefIdeal.τ Cert.KvRefIdeal.sig) → Buf (Elt Ideal) ℓ) : Prop :=
  ∀ c : Dev Cert.KvRefIdeal.nD,
    (Cert.Pre_finite_rope.fn (F := Ideal) (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1)) (m ((c.tc : Thread Cert.KvRefIdeal.nD Cert.KvRefIdeal.τ).loc Cert.KvRefIdeal.main_arg2)) (m ((c.tc : Thread Cert.KvRefIdeal.nD Cert.KvRefIdeal.τ).loc Cert.KvRefIdeal.main_arg3))) = (fun _ => 1#1)

def Pre_Qp (m : (ℓ : Loc Cert.Qp.nD Cert.Qp.τ Cert.Qp.sig) → Buf (Elt Bits) ℓ) : Prop :=
  True

def Pre_QpIdeal (m : (ℓ : Loc Cert.QpIdeal.nD Cert.QpIdeal.τ Cert.QpIdeal.sig) → Buf (Elt Ideal) ℓ) : Prop :=
  True

def Pre_QpIdeal_finite_queries [hPre_finite_queries : Cert.Pre_finite_queries.Facts] (m : (ℓ : Loc Cert.QpIdeal.nD Cert.QpIdeal.τ Cert.QpIdeal.sig) → Buf (Elt Ideal) ℓ) : Prop :=
  ∀ c : Dev Cert.QpIdeal.nD,
    (Cert.Pre_finite_queries.fn (F := Ideal) (m ((c.tc : Thread Cert.QpIdeal.nD Cert.QpIdeal.τ).loc Cert.QpIdeal.main_arg0)) (m ((c.tc : Thread Cert.QpIdeal.nD Cert.QpIdeal.τ).loc Cert.QpIdeal.main_arg1)) (m ((c.tc : Thread Cert.QpIdeal.nD Cert.QpIdeal.τ).loc Cert.QpIdeal.main_arg2)) (m ((c.tc : Thread Cert.QpIdeal.nD Cert.QpIdeal.τ).loc Cert.QpIdeal.main_arg3))) = (fun _ => 1#1)

def Pre_QpRefIdeal (m : (ℓ : Loc Cert.QpRefIdeal.nD Cert.QpRefIdeal.τ Cert.QpRefIdeal.sig) → Buf (Elt Ideal) ℓ) : Prop :=
  True

def Pre_QpRefIdeal_finite_queries [hPre_finite_queries : Cert.Pre_finite_queries.Facts] (m : (ℓ : Loc Cert.QpRefIdeal.nD Cert.QpRefIdeal.τ Cert.QpRefIdeal.sig) → Buf (Elt Ideal) ℓ) : Prop :=
  ∀ c : Dev Cert.QpRefIdeal.nD,
    (Cert.Pre_finite_queries.fn (F := Ideal) (m ((c.tc : Thread Cert.QpRefIdeal.nD Cert.QpRefIdeal.τ).loc Cert.QpRefIdeal.main_arg0)) (m ((c.tc : Thread Cert.QpRefIdeal.nD Cert.QpRefIdeal.τ).loc Cert.QpRefIdeal.main_arg1)) (m ((c.tc : Thread Cert.QpRefIdeal.nD Cert.QpRefIdeal.τ).loc Cert.QpRefIdeal.main_arg2)) (m ((c.tc : Thread Cert.QpRefIdeal.nD Cert.QpRefIdeal.τ).loc Cert.QpRefIdeal.main_arg3))) = (fun _ => 1#1)

def Pre_Absorb (m : (ℓ : Loc Cert.Absorb.nD Cert.Absorb.τ Cert.Absorb.sig) → Buf (Elt Bits) ℓ) : Prop :=
  True

def Pre_AbsorbIdeal (m : (ℓ : Loc Cert.AbsorbIdeal.nD Cert.AbsorbIdeal.τ Cert.AbsorbIdeal.sig) → Buf (Elt Ideal) ℓ) : Prop :=
  True

def Pre_AbsorbRefIdeal (m : (ℓ : Loc Cert.AbsorbRefIdeal.nD Cert.AbsorbRefIdeal.τ Cert.AbsorbRefIdeal.sig) → Buf (Elt Ideal) ℓ) : Prop :=
  True

def Pre_Uv (m : (ℓ : Loc Cert.Uv.nD Cert.Uv.τ Cert.Uv.sig) → Buf (Elt Bits) ℓ) : Prop :=
  True

def Pre_UvIdeal (m : (ℓ : Loc Cert.UvIdeal.nD Cert.UvIdeal.τ Cert.UvIdeal.sig) → Buf (Elt Ideal) ℓ) : Prop :=
  True

def Pre_UvRefIdeal (m : (ℓ : Loc Cert.UvRefIdeal.nD Cert.UvRefIdeal.τ Cert.UvRefIdeal.sig) → Buf (Elt Ideal) ℓ) : Prop :=
  True

def Pre_ConvS (m : (ℓ : Loc Cert.ConvS.nD Cert.ConvS.τ Cert.ConvS.sig) → Buf (Elt Bits) ℓ) : Prop :=
  True

def Pre_ConvSIdeal (m : (ℓ : Loc Cert.ConvSIdeal.nD Cert.ConvSIdeal.τ Cert.ConvSIdeal.sig) → Buf (Elt Ideal) ℓ) : Prop :=
  True

def Pre_ConvSRefIdeal (m : (ℓ : Loc Cert.ConvSRefIdeal.nD Cert.ConvSRefIdeal.τ Cert.ConvSRefIdeal.sig) → Buf (Elt Ideal) ℓ) : Prop :=
  True

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ r.2.sem = fun _ => 0)

def quiescent_FlashIdeal_pre_finite_scores [hFlashIdeal : Cert.FlashIdeal.Facts] [hPre_finite_scores : Cert.Pre_finite_scores.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_finite_scores m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ r.2.sem = fun _ => 0)

def quiescent_FlashRefIdeal [hFlashRefIdeal : Cert.FlashRefIdeal.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2))
      ∧ r.2.sem = fun _ => 0)

def quiescent_FlashRefIdeal_pre_finite_scores [hFlashRefIdeal : Cert.FlashRefIdeal.Facts] [hPre_finite_scores : Cert.Pre_finite_scores.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal_finite_scores m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_PleS [hPleS : Cert.PleS.Facts] : Prop :=
  ∀ (m : (ℓ : Loc Cert.PleS.nD Cert.PleS.τ Cert.PleS.sig) → Buf (Elt Bits) ℓ) (g : Dev Cert.PleS.nD → PrngReg), Pre_PleS m →
    θ_run (Cert.PleS.defs (F := Bits)) (onTc (τ := Cert.PleS.τ) (Cert.PleS.main (F := Bits))) ⟨m, fun _ => 0, g⟩ (fun r => (∀ c : Dev Cert.PleS.nD,
      r.2.mem ((c.tc : Thread Cert.PleS.nD Cert.PleS.τ).loc Cert.PleS.main_arg0) = m ((c.tc : Thread Cert.PleS.nD Cert.PleS.τ).loc Cert.PleS.main_arg0)
      ∧ r.2.mem ((c.tc : Thread Cert.PleS.nD Cert.PleS.τ).loc Cert.PleS.main_arg1) = m ((c.tc : Thread Cert.PleS.nD Cert.PleS.τ).loc Cert.PleS.main_arg1)
      ∧ r.2.mem ((c.tc : Thread Cert.PleS.nD Cert.PleS.τ).loc Cert.PleS.main_arg2) = m ((c.tc : Thread Cert.PleS.nD Cert.PleS.τ).loc Cert.PleS.main_arg2)
      ∧ r.2.mem ((c.tc : Thread Cert.PleS.nD Cert.PleS.τ).loc Cert.PleS.main_arg3) = m ((c.tc : Thread Cert.PleS.nD Cert.PleS.τ).loc Cert.PleS.main_arg3)
      ∧ r.2.mem ((c.tc : Thread Cert.PleS.nD Cert.PleS.τ).loc Cert.PleS.main_arg4) = m ((c.tc : Thread Cert.PleS.nD Cert.PleS.τ).loc Cert.PleS.main_arg4)
      ∧ r.2.mem ((c.tc : Thread Cert.PleS.nD Cert.PleS.τ).loc Cert.PleS.main_arg5) = m ((c.tc : Thread Cert.PleS.nD Cert.PleS.τ).loc Cert.PleS.main_arg5))
      ∧ r.2.sem = fun _ => 0)

def quiescent_PleSIdeal [hPleSIdeal : Cert.PleSIdeal.Facts] : Prop :=
  ∀ (m : (ℓ : Loc Cert.PleSIdeal.nD Cert.PleSIdeal.τ Cert.PleSIdeal.sig) → Buf (Elt Ideal) ℓ) (g : Dev Cert.PleSIdeal.nD → PrngReg), Pre_PleSIdeal m →
    θ_run (Cert.PleSIdeal.defs (F := Ideal)) (onTc (τ := Cert.PleSIdeal.τ) (Cert.PleSIdeal.main (F := Ideal))) ⟨m, fun _ => 0, g⟩ (fun r => (∀ c : Dev Cert.PleSIdeal.nD,
      r.2.mem ((c.tc : Thread Cert.PleSIdeal.nD Cert.PleSIdeal.τ).loc Cert.PleSIdeal.main_arg0) = m ((c.tc : Thread Cert.PleSIdeal.nD Cert.PleSIdeal.τ).loc Cert.PleSIdeal.main_arg0)
      ∧ r.2.mem ((c.tc : Thread Cert.PleSIdeal.nD Cert.PleSIdeal.τ).loc Cert.PleSIdeal.main_arg1) = m ((c.tc : Thread Cert.PleSIdeal.nD Cert.PleSIdeal.τ).loc Cert.PleSIdeal.main_arg1)
      ∧ r.2.mem ((c.tc : Thread Cert.PleSIdeal.nD Cert.PleSIdeal.τ).loc Cert.PleSIdeal.main_arg2) = m ((c.tc : Thread Cert.PleSIdeal.nD Cert.PleSIdeal.τ).loc Cert.PleSIdeal.main_arg2)
      ∧ r.2.mem ((c.tc : Thread Cert.PleSIdeal.nD Cert.PleSIdeal.τ).loc Cert.PleSIdeal.main_arg3) = m ((c.tc : Thread Cert.PleSIdeal.nD Cert.PleSIdeal.τ).loc Cert.PleSIdeal.main_arg3)
      ∧ r.2.mem ((c.tc : Thread Cert.PleSIdeal.nD Cert.PleSIdeal.τ).loc Cert.PleSIdeal.main_arg4) = m ((c.tc : Thread Cert.PleSIdeal.nD Cert.PleSIdeal.τ).loc Cert.PleSIdeal.main_arg4)
      ∧ r.2.mem ((c.tc : Thread Cert.PleSIdeal.nD Cert.PleSIdeal.τ).loc Cert.PleSIdeal.main_arg5) = m ((c.tc : Thread Cert.PleSIdeal.nD Cert.PleSIdeal.τ).loc Cert.PleSIdeal.main_arg5))
      ∧ r.2.sem = fun _ => 0)

def quiescent_PleSRefIdeal [hPleSRefIdeal : Cert.PleSRefIdeal.Facts] : Prop :=
  ∀ (m : (ℓ : Loc Cert.PleSRefIdeal.nD Cert.PleSRefIdeal.τ Cert.PleSRefIdeal.sig) → Buf (Elt Ideal) ℓ) (g : Dev Cert.PleSRefIdeal.nD → PrngReg), Pre_PleSRefIdeal m →
    θ_run (Cert.PleSRefIdeal.defs (F := Ideal)) (onTc (τ := Cert.PleSRefIdeal.τ) (Cert.PleSRefIdeal.main (F := Ideal))) ⟨m, fun _ => 0, g⟩ (fun r => (∀ c : Dev Cert.PleSRefIdeal.nD,
      r.2.mem ((c.tc : Thread Cert.PleSRefIdeal.nD Cert.PleSRefIdeal.τ).loc Cert.PleSRefIdeal.main_arg0) = m ((c.tc : Thread Cert.PleSRefIdeal.nD Cert.PleSRefIdeal.τ).loc Cert.PleSRefIdeal.main_arg0)
      ∧ r.2.mem ((c.tc : Thread Cert.PleSRefIdeal.nD Cert.PleSRefIdeal.τ).loc Cert.PleSRefIdeal.main_arg1) = m ((c.tc : Thread Cert.PleSRefIdeal.nD Cert.PleSRefIdeal.τ).loc Cert.PleSRefIdeal.main_arg1)
      ∧ r.2.mem ((c.tc : Thread Cert.PleSRefIdeal.nD Cert.PleSRefIdeal.τ).loc Cert.PleSRefIdeal.main_arg2) = m ((c.tc : Thread Cert.PleSRefIdeal.nD Cert.PleSRefIdeal.τ).loc Cert.PleSRefIdeal.main_arg2)
      ∧ r.2.mem ((c.tc : Thread Cert.PleSRefIdeal.nD Cert.PleSRefIdeal.τ).loc Cert.PleSRefIdeal.main_arg3) = m ((c.tc : Thread Cert.PleSRefIdeal.nD Cert.PleSRefIdeal.τ).loc Cert.PleSRefIdeal.main_arg3)
      ∧ r.2.mem ((c.tc : Thread Cert.PleSRefIdeal.nD Cert.PleSRefIdeal.τ).loc Cert.PleSRefIdeal.main_arg4) = m ((c.tc : Thread Cert.PleSRefIdeal.nD Cert.PleSRefIdeal.τ).loc Cert.PleSRefIdeal.main_arg4)
      ∧ r.2.mem ((c.tc : Thread Cert.PleSRefIdeal.nD Cert.PleSRefIdeal.τ).loc Cert.PleSRefIdeal.main_arg5) = m ((c.tc : Thread Cert.PleSRefIdeal.nD Cert.PleSRefIdeal.τ).loc Cert.PleSRefIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ r.2.sem = fun _ => 0)

def quiescent_KvIdeal_pre_finite_rope [hKvIdeal : Cert.KvIdeal.Facts] [hPre_finite_rope : Cert.Pre_finite_rope.Facts] : Prop :=
  ∀ (m : (ℓ : Loc Cert.KvIdeal.nD Cert.KvIdeal.τ Cert.KvIdeal.sig) → Buf (Elt Ideal) ℓ) (g : Dev Cert.KvIdeal.nD → PrngReg), Pre_KvIdeal_finite_rope m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3))
      ∧ r.2.sem = fun _ => 0)

def quiescent_KvRefIdeal_pre_finite_rope [hKvRefIdeal : Cert.KvRefIdeal.Facts] [hPre_finite_rope : Cert.Pre_finite_rope.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal_finite_rope m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3))
      ∧ r.2.sem = fun _ => 0)

def quiescent_Qp [hQp : Cert.Qp.Facts] : Prop :=
  ∀ (m : (ℓ : Loc Cert.Qp.nD Cert.Qp.τ Cert.Qp.sig) → Buf (Elt Bits) ℓ) (g : Dev Cert.Qp.nD → PrngReg), Pre_Qp m →
    θ_run (Cert.Qp.defs (F := Bits)) (onTc (τ := Cert.Qp.τ) (Cert.Qp.main (F := Bits))) ⟨m, fun _ => 0, g⟩ (fun r => (∀ c : Dev Cert.Qp.nD,
      r.2.mem ((c.tc : Thread Cert.Qp.nD Cert.Qp.τ).loc Cert.Qp.main_arg0) = m ((c.tc : Thread Cert.Qp.nD Cert.Qp.τ).loc Cert.Qp.main_arg0)
      ∧ r.2.mem ((c.tc : Thread Cert.Qp.nD Cert.Qp.τ).loc Cert.Qp.main_arg1) = m ((c.tc : Thread Cert.Qp.nD Cert.Qp.τ).loc Cert.Qp.main_arg1)
      ∧ r.2.mem ((c.tc : Thread Cert.Qp.nD Cert.Qp.τ).loc Cert.Qp.main_arg2) = m ((c.tc : Thread Cert.Qp.nD Cert.Qp.τ).loc Cert.Qp.main_arg2)
      ∧ r.2.mem ((c.tc : Thread Cert.Qp.nD Cert.Qp.τ).loc Cert.Qp.main_arg3) = m ((c.tc : Thread Cert.Qp.nD Cert.Qp.τ).loc Cert.Qp.main_arg3))
      ∧ r.2.sem = fun _ => 0)

def quiescent_QpIdeal [hQpIdeal : Cert.QpIdeal.Facts] : Prop :=
  ∀ (m : (ℓ : Loc Cert.QpIdeal.nD Cert.QpIdeal.τ Cert.QpIdeal.sig) → Buf (Elt Ideal) ℓ) (g : Dev Cert.QpIdeal.nD → PrngReg), Pre_QpIdeal m →
    θ_run (Cert.QpIdeal.defs (F := Ideal)) (onTc (τ := Cert.QpIdeal.τ) (Cert.QpIdeal.main (F := Ideal))) ⟨m, fun _ => 0, g⟩ (fun r => (∀ c : Dev Cert.QpIdeal.nD,
      r.2.mem ((c.tc : Thread Cert.QpIdeal.nD Cert.QpIdeal.τ).loc Cert.QpIdeal.main_arg0) = m ((c.tc : Thread Cert.QpIdeal.nD Cert.QpIdeal.τ).loc Cert.QpIdeal.main_arg0)
      ∧ r.2.mem ((c.tc : Thread Cert.QpIdeal.nD Cert.QpIdeal.τ).loc Cert.QpIdeal.main_arg1) = m ((c.tc : Thread Cert.QpIdeal.nD Cert.QpIdeal.τ).loc Cert.QpIdeal.main_arg1)
      ∧ r.2.mem ((c.tc : Thread Cert.QpIdeal.nD Cert.QpIdeal.τ).loc Cert.QpIdeal.main_arg2) = m ((c.tc : Thread Cert.QpIdeal.nD Cert.QpIdeal.τ).loc Cert.QpIdeal.main_arg2)
      ∧ r.2.mem ((c.tc : Thread Cert.QpIdeal.nD Cert.QpIdeal.τ).loc Cert.QpIdeal.main_arg3) = m ((c.tc : Thread Cert.QpIdeal.nD Cert.QpIdeal.τ).loc Cert.QpIdeal.main_arg3))
      ∧ r.2.sem = fun _ => 0)

def quiescent_QpIdeal_pre_finite_queries [hQpIdeal : Cert.QpIdeal.Facts] [hPre_finite_queries : Cert.Pre_finite_queries.Facts] : Prop :=
  ∀ (m : (ℓ : Loc Cert.QpIdeal.nD Cert.QpIdeal.τ Cert.QpIdeal.sig) → Buf (Elt Ideal) ℓ) (g : Dev Cert.QpIdeal.nD → PrngReg), Pre_QpIdeal_finite_queries m →
    θ_run (Cert.QpIdeal.defs (F := Ideal)) (onTc (τ := Cert.QpIdeal.τ) (Cert.QpIdeal.main (F := Ideal))) ⟨m, fun _ => 0, g⟩ (fun r => (∀ c : Dev Cert.QpIdeal.nD,
      r.2.mem ((c.tc : Thread Cert.QpIdeal.nD Cert.QpIdeal.τ).loc Cert.QpIdeal.main_arg0) = m ((c.tc : Thread Cert.QpIdeal.nD Cert.QpIdeal.τ).loc Cert.QpIdeal.main_arg0)
      ∧ r.2.mem ((c.tc : Thread Cert.QpIdeal.nD Cert.QpIdeal.τ).loc Cert.QpIdeal.main_arg1) = m ((c.tc : Thread Cert.QpIdeal.nD Cert.QpIdeal.τ).loc Cert.QpIdeal.main_arg1)
      ∧ r.2.mem ((c.tc : Thread Cert.QpIdeal.nD Cert.QpIdeal.τ).loc Cert.QpIdeal.main_arg2) = m ((c.tc : Thread Cert.QpIdeal.nD Cert.QpIdeal.τ).loc Cert.QpIdeal.main_arg2)
      ∧ r.2.mem ((c.tc : Thread Cert.QpIdeal.nD Cert.QpIdeal.τ).loc Cert.QpIdeal.main_arg3) = m ((c.tc : Thread Cert.QpIdeal.nD Cert.QpIdeal.τ).loc Cert.QpIdeal.main_arg3))
      ∧ r.2.sem = fun _ => 0)

def quiescent_QpRefIdeal [hQpRefIdeal : Cert.QpRefIdeal.Facts] : Prop :=
  ∀ (m : (ℓ : Loc Cert.QpRefIdeal.nD Cert.QpRefIdeal.τ Cert.QpRefIdeal.sig) → Buf (Elt Ideal) ℓ) (g : Dev Cert.QpRefIdeal.nD → PrngReg), Pre_QpRefIdeal m →
    θ_run (Cert.QpRefIdeal.defs (F := Ideal)) (onTc (τ := Cert.QpRefIdeal.τ) (Cert.QpRefIdeal.main (F := Ideal))) ⟨m, fun _ => 0, g⟩ (fun r => (∀ c : Dev Cert.QpRefIdeal.nD,
      r.2.mem ((c.tc : Thread Cert.QpRefIdeal.nD Cert.QpRefIdeal.τ).loc Cert.QpRefIdeal.main_arg0) = m ((c.tc : Thread Cert.QpRefIdeal.nD Cert.QpRefIdeal.τ).loc Cert.QpRefIdeal.main_arg0)
      ∧ r.2.mem ((c.tc : Thread Cert.QpRefIdeal.nD Cert.QpRefIdeal.τ).loc Cert.QpRefIdeal.main_arg1) = m ((c.tc : Thread Cert.QpRefIdeal.nD Cert.QpRefIdeal.τ).loc Cert.QpRefIdeal.main_arg1)
      ∧ r.2.mem ((c.tc : Thread Cert.QpRefIdeal.nD Cert.QpRefIdeal.τ).loc Cert.QpRefIdeal.main_arg2) = m ((c.tc : Thread Cert.QpRefIdeal.nD Cert.QpRefIdeal.τ).loc Cert.QpRefIdeal.main_arg2)
      ∧ r.2.mem ((c.tc : Thread Cert.QpRefIdeal.nD Cert.QpRefIdeal.τ).loc Cert.QpRefIdeal.main_arg3) = m ((c.tc : Thread Cert.QpRefIdeal.nD Cert.QpRefIdeal.τ).loc Cert.QpRefIdeal.main_arg3))
      ∧ r.2.sem = fun _ => 0)

def quiescent_QpRefIdeal_pre_finite_queries [hQpRefIdeal : Cert.QpRefIdeal.Facts] [hPre_finite_queries : Cert.Pre_finite_queries.Facts] : Prop :=
  ∀ (m : (ℓ : Loc Cert.QpRefIdeal.nD Cert.QpRefIdeal.τ Cert.QpRefIdeal.sig) → Buf (Elt Ideal) ℓ) (g : Dev Cert.QpRefIdeal.nD → PrngReg), Pre_QpRefIdeal_finite_queries m →
    θ_run (Cert.QpRefIdeal.defs (F := Ideal)) (onTc (τ := Cert.QpRefIdeal.τ) (Cert.QpRefIdeal.main (F := Ideal))) ⟨m, fun _ => 0, g⟩ (fun r => (∀ c : Dev Cert.QpRefIdeal.nD,
      r.2.mem ((c.tc : Thread Cert.QpRefIdeal.nD Cert.QpRefIdeal.τ).loc Cert.QpRefIdeal.main_arg0) = m ((c.tc : Thread Cert.QpRefIdeal.nD Cert.QpRefIdeal.τ).loc Cert.QpRefIdeal.main_arg0)
      ∧ r.2.mem ((c.tc : Thread Cert.QpRefIdeal.nD Cert.QpRefIdeal.τ).loc Cert.QpRefIdeal.main_arg1) = m ((c.tc : Thread Cert.QpRefIdeal.nD Cert.QpRefIdeal.τ).loc Cert.QpRefIdeal.main_arg1)
      ∧ r.2.mem ((c.tc : Thread Cert.QpRefIdeal.nD Cert.QpRefIdeal.τ).loc Cert.QpRefIdeal.main_arg2) = m ((c.tc : Thread Cert.QpRefIdeal.nD Cert.QpRefIdeal.τ).loc Cert.QpRefIdeal.main_arg2)
      ∧ r.2.mem ((c.tc : Thread Cert.QpRefIdeal.nD Cert.QpRefIdeal.τ).loc Cert.QpRefIdeal.main_arg3) = m ((c.tc : Thread Cert.QpRefIdeal.nD Cert.QpRefIdeal.τ).loc Cert.QpRefIdeal.main_arg3))
      ∧ r.2.sem = fun _ => 0)

def quiescent_Absorb [hAbsorb : Cert.Absorb.Facts] : Prop :=
  ∀ (m : (ℓ : Loc Cert.Absorb.nD Cert.Absorb.τ Cert.Absorb.sig) → Buf (Elt Bits) ℓ) (g : Dev Cert.Absorb.nD → PrngReg), Pre_Absorb m →
    θ_run (Cert.Absorb.defs (F := Bits)) (onTc (τ := Cert.Absorb.τ) (Cert.Absorb.main (F := Bits))) ⟨m, fun _ => 0, g⟩ (fun r => (∀ c : Dev Cert.Absorb.nD,
      r.2.mem ((c.tc : Thread Cert.Absorb.nD Cert.Absorb.τ).loc Cert.Absorb.main_arg0) = m ((c.tc : Thread Cert.Absorb.nD Cert.Absorb.τ).loc Cert.Absorb.main_arg0)
      ∧ r.2.mem ((c.tc : Thread Cert.Absorb.nD Cert.Absorb.τ).loc Cert.Absorb.main_arg1) = m ((c.tc : Thread Cert.Absorb.nD Cert.Absorb.τ).loc Cert.Absorb.main_arg1))
      ∧ r.2.sem = fun _ => 0)

def quiescent_AbsorbIdeal [hAbsorbIdeal : Cert.AbsorbIdeal.Facts] : Prop :=
  ∀ (m : (ℓ : Loc Cert.AbsorbIdeal.nD Cert.AbsorbIdeal.τ Cert.AbsorbIdeal.sig) → Buf (Elt Ideal) ℓ) (g : Dev Cert.AbsorbIdeal.nD → PrngReg), Pre_AbsorbIdeal m →
    θ_run (Cert.AbsorbIdeal.defs (F := Ideal)) (onTc (τ := Cert.AbsorbIdeal.τ) (Cert.AbsorbIdeal.main (F := Ideal))) ⟨m, fun _ => 0, g⟩ (fun r => (∀ c : Dev Cert.AbsorbIdeal.nD,
      r.2.mem ((c.tc : Thread Cert.AbsorbIdeal.nD Cert.AbsorbIdeal.τ).loc Cert.AbsorbIdeal.main_arg0) = m ((c.tc : Thread Cert.AbsorbIdeal.nD Cert.AbsorbIdeal.τ).loc Cert.AbsorbIdeal.main_arg0)
      ∧ r.2.mem ((c.tc : Thread Cert.AbsorbIdeal.nD Cert.AbsorbIdeal.τ).loc Cert.AbsorbIdeal.main_arg1) = m ((c.tc : Thread Cert.AbsorbIdeal.nD Cert.AbsorbIdeal.τ).loc Cert.AbsorbIdeal.main_arg1))
      ∧ r.2.sem = fun _ => 0)

def quiescent_AbsorbRefIdeal [hAbsorbRefIdeal : Cert.AbsorbRefIdeal.Facts] : Prop :=
  ∀ (m : (ℓ : Loc Cert.AbsorbRefIdeal.nD Cert.AbsorbRefIdeal.τ Cert.AbsorbRefIdeal.sig) → Buf (Elt Ideal) ℓ) (g : Dev Cert.AbsorbRefIdeal.nD → PrngReg), Pre_AbsorbRefIdeal m →
    θ_run (Cert.AbsorbRefIdeal.defs (F := Ideal)) (onTc (τ := Cert.AbsorbRefIdeal.τ) (Cert.AbsorbRefIdeal.main (F := Ideal))) ⟨m, fun _ => 0, g⟩ (fun r => (∀ c : Dev Cert.AbsorbRefIdeal.nD,
      r.2.mem ((c.tc : Thread Cert.AbsorbRefIdeal.nD Cert.AbsorbRefIdeal.τ).loc Cert.AbsorbRefIdeal.main_arg0) = m ((c.tc : Thread Cert.AbsorbRefIdeal.nD Cert.AbsorbRefIdeal.τ).loc Cert.AbsorbRefIdeal.main_arg0)
      ∧ r.2.mem ((c.tc : Thread Cert.AbsorbRefIdeal.nD Cert.AbsorbRefIdeal.τ).loc Cert.AbsorbRefIdeal.main_arg1) = m ((c.tc : Thread Cert.AbsorbRefIdeal.nD Cert.AbsorbRefIdeal.τ).loc Cert.AbsorbRefIdeal.main_arg1))
      ∧ r.2.sem = fun _ => 0)

def quiescent_Uv [hUv : Cert.Uv.Facts] : Prop :=
  ∀ (m : (ℓ : Loc Cert.Uv.nD Cert.Uv.τ Cert.Uv.sig) → Buf (Elt Bits) ℓ) (g : Dev Cert.Uv.nD → PrngReg), Pre_Uv m →
    θ_run (Cert.Uv.defs (F := Bits)) (onTc (τ := Cert.Uv.τ) (Cert.Uv.main (F := Bits))) ⟨m, fun _ => 0, g⟩ (fun r => (∀ c : Dev Cert.Uv.nD,
      r.2.mem ((c.tc : Thread Cert.Uv.nD Cert.Uv.τ).loc Cert.Uv.main_arg0) = m ((c.tc : Thread Cert.Uv.nD Cert.Uv.τ).loc Cert.Uv.main_arg0)
      ∧ r.2.mem ((c.tc : Thread Cert.Uv.nD Cert.Uv.τ).loc Cert.Uv.main_arg1) = m ((c.tc : Thread Cert.Uv.nD Cert.Uv.τ).loc Cert.Uv.main_arg1)
      ∧ r.2.mem ((c.tc : Thread Cert.Uv.nD Cert.Uv.τ).loc Cert.Uv.main_arg2) = m ((c.tc : Thread Cert.Uv.nD Cert.Uv.τ).loc Cert.Uv.main_arg2))
      ∧ r.2.sem = fun _ => 0)

def quiescent_UvIdeal [hUvIdeal : Cert.UvIdeal.Facts] : Prop :=
  ∀ (m : (ℓ : Loc Cert.UvIdeal.nD Cert.UvIdeal.τ Cert.UvIdeal.sig) → Buf (Elt Ideal) ℓ) (g : Dev Cert.UvIdeal.nD → PrngReg), Pre_UvIdeal m →
    θ_run (Cert.UvIdeal.defs (F := Ideal)) (onTc (τ := Cert.UvIdeal.τ) (Cert.UvIdeal.main (F := Ideal))) ⟨m, fun _ => 0, g⟩ (fun r => (∀ c : Dev Cert.UvIdeal.nD,
      r.2.mem ((c.tc : Thread Cert.UvIdeal.nD Cert.UvIdeal.τ).loc Cert.UvIdeal.main_arg0) = m ((c.tc : Thread Cert.UvIdeal.nD Cert.UvIdeal.τ).loc Cert.UvIdeal.main_arg0)
      ∧ r.2.mem ((c.tc : Thread Cert.UvIdeal.nD Cert.UvIdeal.τ).loc Cert.UvIdeal.main_arg1) = m ((c.tc : Thread Cert.UvIdeal.nD Cert.UvIdeal.τ).loc Cert.UvIdeal.main_arg1)
      ∧ r.2.mem ((c.tc : Thread Cert.UvIdeal.nD Cert.UvIdeal.τ).loc Cert.UvIdeal.main_arg2) = m ((c.tc : Thread Cert.UvIdeal.nD Cert.UvIdeal.τ).loc Cert.UvIdeal.main_arg2))
      ∧ r.2.sem = fun _ => 0)

def quiescent_UvRefIdeal [hUvRefIdeal : Cert.UvRefIdeal.Facts] : Prop :=
  ∀ (m : (ℓ : Loc Cert.UvRefIdeal.nD Cert.UvRefIdeal.τ Cert.UvRefIdeal.sig) → Buf (Elt Ideal) ℓ) (g : Dev Cert.UvRefIdeal.nD → PrngReg), Pre_UvRefIdeal m →
    θ_run (Cert.UvRefIdeal.defs (F := Ideal)) (onTc (τ := Cert.UvRefIdeal.τ) (Cert.UvRefIdeal.main (F := Ideal))) ⟨m, fun _ => 0, g⟩ (fun r => (∀ c : Dev Cert.UvRefIdeal.nD,
      r.2.mem ((c.tc : Thread Cert.UvRefIdeal.nD Cert.UvRefIdeal.τ).loc Cert.UvRefIdeal.main_arg0) = m ((c.tc : Thread Cert.UvRefIdeal.nD Cert.UvRefIdeal.τ).loc Cert.UvRefIdeal.main_arg0)
      ∧ r.2.mem ((c.tc : Thread Cert.UvRefIdeal.nD Cert.UvRefIdeal.τ).loc Cert.UvRefIdeal.main_arg1) = m ((c.tc : Thread Cert.UvRefIdeal.nD Cert.UvRefIdeal.τ).loc Cert.UvRefIdeal.main_arg1)
      ∧ r.2.mem ((c.tc : Thread Cert.UvRefIdeal.nD Cert.UvRefIdeal.τ).loc Cert.UvRefIdeal.main_arg2) = m ((c.tc : Thread Cert.UvRefIdeal.nD Cert.UvRefIdeal.τ).loc Cert.UvRefIdeal.main_arg2))
      ∧ r.2.sem = fun _ => 0)

def quiescent_ConvS [hConvS : Cert.ConvS.Facts] : Prop :=
  ∀ (m : (ℓ : Loc Cert.ConvS.nD Cert.ConvS.τ Cert.ConvS.sig) → Buf (Elt Bits) ℓ) (g : Dev Cert.ConvS.nD → PrngReg), Pre_ConvS m →
    θ_run (Cert.ConvS.defs (F := Bits)) (onTc (τ := Cert.ConvS.τ) (Cert.ConvS.main (F := Bits))) ⟨m, fun _ => 0, g⟩ (fun r => (∀ c : Dev Cert.ConvS.nD,
      r.2.mem ((c.tc : Thread Cert.ConvS.nD Cert.ConvS.τ).loc Cert.ConvS.main_arg0) = m ((c.tc : Thread Cert.ConvS.nD Cert.ConvS.τ).loc Cert.ConvS.main_arg0)
      ∧ r.2.mem ((c.tc : Thread Cert.ConvS.nD Cert.ConvS.τ).loc Cert.ConvS.main_arg1) = m ((c.tc : Thread Cert.ConvS.nD Cert.ConvS.τ).loc Cert.ConvS.main_arg1)
      ∧ r.2.mem ((c.tc : Thread Cert.ConvS.nD Cert.ConvS.τ).loc Cert.ConvS.main_arg2) = m ((c.tc : Thread Cert.ConvS.nD Cert.ConvS.τ).loc Cert.ConvS.main_arg2)
      ∧ r.2.mem ((c.tc : Thread Cert.ConvS.nD Cert.ConvS.τ).loc Cert.ConvS.main_arg3) = m ((c.tc : Thread Cert.ConvS.nD Cert.ConvS.τ).loc Cert.ConvS.main_arg3)
      ∧ r.2.mem ((c.tc : Thread Cert.ConvS.nD Cert.ConvS.τ).loc Cert.ConvS.main_arg4) = m ((c.tc : Thread Cert.ConvS.nD Cert.ConvS.τ).loc Cert.ConvS.main_arg4)
      ∧ r.2.mem ((c.tc : Thread Cert.ConvS.nD Cert.ConvS.τ).loc Cert.ConvS.main_arg5) = m ((c.tc : Thread Cert.ConvS.nD Cert.ConvS.τ).loc Cert.ConvS.main_arg5)
      ∧ r.2.mem ((c.tc : Thread Cert.ConvS.nD Cert.ConvS.τ).loc Cert.ConvS.main_arg6) = m ((c.tc : Thread Cert.ConvS.nD Cert.ConvS.τ).loc Cert.ConvS.main_arg6))
      ∧ r.2.sem = fun _ => 0)

def quiescent_ConvSIdeal [hConvSIdeal : Cert.ConvSIdeal.Facts] : Prop :=
  ∀ (m : (ℓ : Loc Cert.ConvSIdeal.nD Cert.ConvSIdeal.τ Cert.ConvSIdeal.sig) → Buf (Elt Ideal) ℓ) (g : Dev Cert.ConvSIdeal.nD → PrngReg), Pre_ConvSIdeal m →
    θ_run (Cert.ConvSIdeal.defs (F := Ideal)) (onTc (τ := Cert.ConvSIdeal.τ) (Cert.ConvSIdeal.main (F := Ideal))) ⟨m, fun _ => 0, g⟩ (fun r => (∀ c : Dev Cert.ConvSIdeal.nD,
      r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
      ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
      ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
      ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
      ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
      ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5)
      ∧ r.2.mem ((c.tc : Thread Cert.ConvSIdeal.nD Cert.ConvSIdeal.τ).loc Cert.ConvSIdeal.main_arg6) = m ((c.tc : Thread Cert.ConvSIdeal.nD Cert.ConvSIdeal.τ).loc Cert.ConvSIdeal.main_arg6))
      ∧ r.2.sem = fun _ => 0)

def quiescent_ConvSRefIdeal [hConvSRefIdeal : Cert.ConvSRefIdeal.Facts] : Prop :=
  ∀ (m : (ℓ : Loc Cert.ConvSRefIdeal.nD Cert.ConvSRefIdeal.τ Cert.ConvSRefIdeal.sig) → Buf (Elt Ideal) ℓ) (g : Dev Cert.ConvSRefIdeal.nD → PrngReg), Pre_ConvSRefIdeal m →
    θ_run (Cert.ConvSRefIdeal.defs (F := Ideal)) (onTc (τ := Cert.ConvSRefIdeal.τ) (Cert.ConvSRefIdeal.main (F := Ideal))) ⟨m, fun _ => 0, g⟩ (fun r => (∀ c : Dev Cert.ConvSRefIdeal.nD,
      r.2.mem ((c.tc : Thread Cert.ConvSRefIdeal.nD Cert.ConvSRefIdeal.τ).loc Cert.ConvSRefIdeal.main_arg0) = m ((c.tc : Thread Cert.ConvSRefIdeal.nD Cert.ConvSRefIdeal.τ).loc Cert.ConvSRefIdeal.main_arg0)
      ∧ r.2.mem ((c.tc : Thread Cert.ConvSRefIdeal.nD Cert.ConvSRefIdeal.τ).loc Cert.ConvSRefIdeal.main_arg1) = m ((c.tc : Thread Cert.ConvSRefIdeal.nD Cert.ConvSRefIdeal.τ).loc Cert.ConvSRefIdeal.main_arg1)
      ∧ r.2.mem ((c.tc : Thread Cert.ConvSRefIdeal.nD Cert.ConvSRefIdeal.τ).loc Cert.ConvSRefIdeal.main_arg2) = m ((c.tc : Thread Cert.ConvSRefIdeal.nD Cert.ConvSRefIdeal.τ).loc Cert.ConvSRefIdeal.main_arg2)
      ∧ r.2.mem ((c.tc : Thread Cert.ConvSRefIdeal.nD Cert.ConvSRefIdeal.τ).loc Cert.ConvSRefIdeal.main_arg3) = m ((c.tc : Thread Cert.ConvSRefIdeal.nD Cert.ConvSRefIdeal.τ).loc Cert.ConvSRefIdeal.main_arg3)
      ∧ r.2.mem ((c.tc : Thread Cert.ConvSRefIdeal.nD Cert.ConvSRefIdeal.τ).loc Cert.ConvSRefIdeal.main_arg4) = m ((c.tc : Thread Cert.ConvSRefIdeal.nD Cert.ConvSRefIdeal.τ).loc Cert.ConvSRefIdeal.main_arg4)
      ∧ r.2.mem ((c.tc : Thread Cert.ConvSRefIdeal.nD Cert.ConvSRefIdeal.τ).loc Cert.ConvSRefIdeal.main_arg5) = m ((c.tc : Thread Cert.ConvSRefIdeal.nD Cert.ConvSRefIdeal.τ).loc Cert.ConvSRefIdeal.main_arg5)
      ∧ r.2.mem ((c.tc : Thread Cert.ConvSRefIdeal.nD Cert.ConvSRefIdeal.τ).loc Cert.ConvSRefIdeal.main_arg6) = m ((c.tc : Thread Cert.ConvSRefIdeal.nD Cert.ConvSRefIdeal.τ).loc Cert.ConvSRefIdeal.main_arg6))
      ∧ r.2.sem = fun _ => 0)

def preserves_Flash_FlashIdeal : Prop :=
  True

def algebraic_FlashIdeal_FlashRefIdeal_on_prompt_rows_pre_finite_scores [hFlashIdeal : Cert.FlashIdeal.Facts] [hFlashRefIdeal : Cert.FlashRefIdeal.Facts] [hPre_finite_scores : Cert.Pre_finite_scores.Facts] [hOn_prompt_rows : Cert.On_prompt_rows.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashRefIdeal.nD Cert.FlashRefIdeal.τ Cert.FlashRefIdeal.sig) → Buf (Elt Ideal) ℓ) (g' : Dev Cert.FlashRefIdeal.nD → PrngReg), Pre_FlashIdeal_finite_scores m →
    (∀ c : Dev Cert.FlashIdeal.nD,
      m' ((c.tc : Thread Cert.FlashRefIdeal.nD Cert.FlashRefIdeal.τ).loc Cert.FlashRefIdeal.main_arg0) = m ((c.tc : Thread Cert.FlashIdeal.nD Cert.FlashIdeal.τ).loc Cert.FlashIdeal.main_arg0)
      ∧ m' ((c.tc : Thread Cert.FlashRefIdeal.nD Cert.FlashRefIdeal.τ).loc Cert.FlashRefIdeal.main_arg1) = m ((c.tc : Thread Cert.FlashIdeal.nD Cert.FlashIdeal.τ).loc Cert.FlashIdeal.main_arg1)
      ∧ m' ((c.tc : Thread Cert.FlashRefIdeal.nD Cert.FlashRefIdeal.τ).loc Cert.FlashRefIdeal.main_arg2) = m ((c.tc : Thread Cert.FlashIdeal.nD Cert.FlashIdeal.τ).loc Cert.FlashIdeal.main_arg2)) →
    ∃ (v0 : (c : Dev Cert.FlashIdeal.nD) → Buf (Elt Ideal) ((c.tc : Thread Cert.FlashIdeal.nD Cert.FlashIdeal.τ).loc Cert.FlashIdeal.main_v0)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          (∀ i : (⟨2, ![8704, 2048]⟩ : Shape).Idx, (Cert.On_prompt_rows.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2))) i = 1#1 → r.2.mem ((c.tc : Thread Cert.FlashIdeal.nD Cert.FlashIdeal.τ).loc Cert.FlashIdeal.main_v0) i = v0 c i)
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ θ_run (Cert.FlashRefIdeal.defs (F := Ideal)) (onTc (τ := Cert.FlashRefIdeal.τ) (Cert.FlashRefIdeal.main (F := Ideal))) ⟨m', fun _ => 0, g'⟩ (fun r => ∀ c : Dev Cert.FlashRefIdeal.nD,
          (∀ i : (⟨2, ![8704, 2048]⟩ : Shape).Idx, (Cert.On_prompt_rows.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2))) i = 1#1 → r.2.mem ((c.tc : Thread Cert.FlashRefIdeal.nD Cert.FlashRefIdeal.τ).loc Cert.FlashRefIdeal.main_v42) i = v0 c i)
          ∧ r.2.mem ((c.tc : Thread Cert.FlashRefIdeal.nD Cert.FlashRefIdeal.τ).loc Cert.FlashRefIdeal.main_arg0) = m' ((c.tc : Thread Cert.FlashRefIdeal.nD Cert.FlashRefIdeal.τ).loc Cert.FlashRefIdeal.main_arg0)
          ∧ r.2.mem ((c.tc : Thread Cert.FlashRefIdeal.nD Cert.FlashRefIdeal.τ).loc Cert.FlashRefIdeal.main_arg1) = m' ((c.tc : Thread Cert.FlashRefIdeal.nD Cert.FlashRefIdeal.τ).loc Cert.FlashRefIdeal.main_arg1)
          ∧ r.2.mem ((c.tc : Thread Cert.FlashRefIdeal.nD Cert.FlashRefIdeal.τ).loc Cert.FlashRefIdeal.main_arg2) = m' ((c.tc : Thread Cert.FlashRefIdeal.nD Cert.FlashRefIdeal.τ).loc Cert.FlashRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v8_0)) (v1 : (c : Dev Cert.FfnIdeal.nD) → Buf (Elt Ideal) ((c.tc : Thread Cert.FfnIdeal.nD Cert.FfnIdeal.τ).loc Cert.FfnIdeal.main_v8_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8_0) = v0 c
          ∧ r.2.mem ((c.tc : Thread Cert.FfnIdeal.nD Cert.FfnIdeal.τ).loc Cert.FfnIdeal.main_v8_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v9) = v0 c
          ∧ r.2.mem ((c.tc : Thread Cert.FfnRefIdeal.nD Cert.FfnRefIdeal.τ).loc Cert.FfnRefIdeal.main_v24) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v5)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v5) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v14) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v6)) (v1 : (c : Dev Cert.GluIdeal.nD) → Buf (Elt Ideal) ((c.tc : Thread Cert.GluIdeal.nD Cert.GluIdeal.τ).loc Cert.GluIdeal.main_v10)) (v2 : (c : Dev Cert.GluIdeal.nD) → Buf (Elt Ideal) ((c.tc : Thread Cert.GluIdeal.nD Cert.GluIdeal.τ).loc Cert.GluIdeal.main_v14)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v6) = v0 c
          ∧ r.2.mem ((c.tc : Thread Cert.GluIdeal.nD Cert.GluIdeal.τ).loc Cert.GluIdeal.main_v10) = v1 c
          ∧ r.2.mem ((c.tc : Thread Cert.GluIdeal.nD Cert.GluIdeal.τ).loc Cert.GluIdeal.main_v14) = v2 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v11) = v0 c
          ∧ r.2.mem ((c.tc : Thread Cert.GluRefIdeal.nD Cert.GluRefIdeal.τ).loc Cert.GluRefIdeal.main_v21) = v1 c
          ∧ r.2.mem ((c.tc : Thread Cert.GluRefIdeal.nD Cert.GluRefIdeal.τ).loc Cert.GluRefIdeal.main_v23) = v2 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v6_0)) (v1 : (c : Dev Cert.OutIdeal.nD) → Buf (Elt Ideal) ((c.tc : Thread Cert.OutIdeal.nD Cert.OutIdeal.τ).loc Cert.OutIdeal.main_v6_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v6_0) = v0 c
          ∧ r.2.mem ((c.tc : Thread Cert.OutIdeal.nD Cert.OutIdeal.τ).loc Cert.OutIdeal.main_v6_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v12) = v0 c
          ∧ r.2.mem ((c.tc : Thread Cert.OutRefIdeal.nD Cert.OutRefIdeal.τ).loc Cert.OutRefIdeal.main_v27) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v7)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v7) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v29) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_PleS_PleSIdeal : Prop :=
  True

def algebraic_PleSIdeal_PleSRefIdeal [hPleSIdeal : Cert.PleSIdeal.Facts] [hPleSRefIdeal : Cert.PleSRefIdeal.Facts] : Prop :=
  ∀ (m : (ℓ : Loc Cert.PleSIdeal.nD Cert.PleSIdeal.τ Cert.PleSIdeal.sig) → Buf (Elt Ideal) ℓ) (g : Dev Cert.PleSIdeal.nD → PrngReg)
    (m' : (ℓ : Loc Cert.PleSRefIdeal.nD Cert.PleSRefIdeal.τ Cert.PleSRefIdeal.sig) → Buf (Elt Ideal) ℓ) (g' : Dev Cert.PleSRefIdeal.nD → PrngReg), Pre_PleSIdeal m →
    (∀ c : Dev Cert.PleSIdeal.nD,
      m' ((c.tc : Thread Cert.PleSRefIdeal.nD Cert.PleSRefIdeal.τ).loc Cert.PleSRefIdeal.main_arg0) = m ((c.tc : Thread Cert.PleSIdeal.nD Cert.PleSIdeal.τ).loc Cert.PleSIdeal.main_arg0)
      ∧ m' ((c.tc : Thread Cert.PleSRefIdeal.nD Cert.PleSRefIdeal.τ).loc Cert.PleSRefIdeal.main_arg1) = m ((c.tc : Thread Cert.PleSIdeal.nD Cert.PleSIdeal.τ).loc Cert.PleSIdeal.main_arg1)
      ∧ m' ((c.tc : Thread Cert.PleSRefIdeal.nD Cert.PleSRefIdeal.τ).loc Cert.PleSRefIdeal.main_arg2) = m ((c.tc : Thread Cert.PleSIdeal.nD Cert.PleSIdeal.τ).loc Cert.PleSIdeal.main_arg2)
      ∧ m' ((c.tc : Thread Cert.PleSRefIdeal.nD Cert.PleSRefIdeal.τ).loc Cert.PleSRefIdeal.main_arg3) = m ((c.tc : Thread Cert.PleSIdeal.nD Cert.PleSIdeal.τ).loc Cert.PleSIdeal.main_arg3)
      ∧ m' ((c.tc : Thread Cert.PleSRefIdeal.nD Cert.PleSRefIdeal.τ).loc Cert.PleSRefIdeal.main_arg4) = m ((c.tc : Thread Cert.PleSIdeal.nD Cert.PleSIdeal.τ).loc Cert.PleSIdeal.main_arg4)
      ∧ m' ((c.tc : Thread Cert.PleSRefIdeal.nD Cert.PleSRefIdeal.τ).loc Cert.PleSRefIdeal.main_arg5) = m ((c.tc : Thread Cert.PleSIdeal.nD Cert.PleSIdeal.τ).loc Cert.PleSIdeal.main_arg5)) →
    ∃ (v0 : (c : Dev Cert.PleSIdeal.nD) → Buf (Elt Ideal) ((c.tc : Thread Cert.PleSIdeal.nD Cert.PleSIdeal.τ).loc Cert.PleSIdeal.main_v7)),
      θ_run (Cert.PleSIdeal.defs (F := Ideal)) (onTc (τ := Cert.PleSIdeal.τ) (Cert.PleSIdeal.main (F := Ideal))) ⟨m, fun _ => 0, g⟩ (fun r => ∀ c : Dev Cert.PleSIdeal.nD,
          r.2.mem ((c.tc : Thread Cert.PleSIdeal.nD Cert.PleSIdeal.τ).loc Cert.PleSIdeal.main_v7) = v0 c
          ∧ r.2.mem ((c.tc : Thread Cert.PleSIdeal.nD Cert.PleSIdeal.τ).loc Cert.PleSIdeal.main_arg0) = m ((c.tc : Thread Cert.PleSIdeal.nD Cert.PleSIdeal.τ).loc Cert.PleSIdeal.main_arg0)
          ∧ r.2.mem ((c.tc : Thread Cert.PleSIdeal.nD Cert.PleSIdeal.τ).loc Cert.PleSIdeal.main_arg1) = m ((c.tc : Thread Cert.PleSIdeal.nD Cert.PleSIdeal.τ).loc Cert.PleSIdeal.main_arg1)
          ∧ r.2.mem ((c.tc : Thread Cert.PleSIdeal.nD Cert.PleSIdeal.τ).loc Cert.PleSIdeal.main_arg2) = m ((c.tc : Thread Cert.PleSIdeal.nD Cert.PleSIdeal.τ).loc Cert.PleSIdeal.main_arg2)
          ∧ r.2.mem ((c.tc : Thread Cert.PleSIdeal.nD Cert.PleSIdeal.τ).loc Cert.PleSIdeal.main_arg3) = m ((c.tc : Thread Cert.PleSIdeal.nD Cert.PleSIdeal.τ).loc Cert.PleSIdeal.main_arg3)
          ∧ r.2.mem ((c.tc : Thread Cert.PleSIdeal.nD Cert.PleSIdeal.τ).loc Cert.PleSIdeal.main_arg4) = m ((c.tc : Thread Cert.PleSIdeal.nD Cert.PleSIdeal.τ).loc Cert.PleSIdeal.main_arg4)
          ∧ r.2.mem ((c.tc : Thread Cert.PleSIdeal.nD Cert.PleSIdeal.τ).loc Cert.PleSIdeal.main_arg5) = m ((c.tc : Thread Cert.PleSIdeal.nD Cert.PleSIdeal.τ).loc Cert.PleSIdeal.main_arg5))
      ∧ θ_run (Cert.PleSRefIdeal.defs (F := Ideal)) (onTc (τ := Cert.PleSRefIdeal.τ) (Cert.PleSRefIdeal.main (F := Ideal))) ⟨m', fun _ => 0, g'⟩ (fun r => ∀ c : Dev Cert.PleSRefIdeal.nD,
          r.2.mem ((c.tc : Thread Cert.PleSRefIdeal.nD Cert.PleSRefIdeal.τ).loc Cert.PleSRefIdeal.main_v29) = v0 c
          ∧ r.2.mem ((c.tc : Thread Cert.PleSRefIdeal.nD Cert.PleSRefIdeal.τ).loc Cert.PleSRefIdeal.main_arg0) = m' ((c.tc : Thread Cert.PleSRefIdeal.nD Cert.PleSRefIdeal.τ).loc Cert.PleSRefIdeal.main_arg0)
          ∧ r.2.mem ((c.tc : Thread Cert.PleSRefIdeal.nD Cert.PleSRefIdeal.τ).loc Cert.PleSRefIdeal.main_arg1) = m' ((c.tc : Thread Cert.PleSRefIdeal.nD Cert.PleSRefIdeal.τ).loc Cert.PleSRefIdeal.main_arg1)
          ∧ r.2.mem ((c.tc : Thread Cert.PleSRefIdeal.nD Cert.PleSRefIdeal.τ).loc Cert.PleSRefIdeal.main_arg2) = m' ((c.tc : Thread Cert.PleSRefIdeal.nD Cert.PleSRefIdeal.τ).loc Cert.PleSRefIdeal.main_arg2)
          ∧ r.2.mem ((c.tc : Thread Cert.PleSRefIdeal.nD Cert.PleSRefIdeal.τ).loc Cert.PleSRefIdeal.main_arg3) = m' ((c.tc : Thread Cert.PleSRefIdeal.nD Cert.PleSRefIdeal.τ).loc Cert.PleSRefIdeal.main_arg3)
          ∧ r.2.mem ((c.tc : Thread Cert.PleSRefIdeal.nD Cert.PleSRefIdeal.τ).loc Cert.PleSRefIdeal.main_arg4) = m' ((c.tc : Thread Cert.PleSRefIdeal.nD Cert.PleSRefIdeal.τ).loc Cert.PleSRefIdeal.main_arg4)
          ∧ r.2.mem ((c.tc : Thread Cert.PleSRefIdeal.nD Cert.PleSRefIdeal.τ).loc Cert.PleSRefIdeal.main_arg5) = m' ((c.tc : Thread Cert.PleSRefIdeal.nD Cert.PleSRefIdeal.τ).loc Cert.PleSRefIdeal.main_arg5))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v14) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Kv_KvIdeal : Prop :=
  True

def algebraic_KvIdeal_KvRefIdeal_pre_finite_rope [hKvIdeal : Cert.KvIdeal.Facts] [hKvRefIdeal : Cert.KvRefIdeal.Facts] [hPre_finite_rope : Cert.Pre_finite_rope.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal_finite_rope m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)) →
    ∃ (v0 : (c : Dev Cert.KvIdeal.nD) → Buf (Elt Ideal) ((c.tc : Thread Cert.KvIdeal.nD Cert.KvIdeal.τ).loc Cert.KvIdeal.main_v53_0)) (v1 : (c : Dev Cert.KvIdeal.nD) → Buf (Elt Ideal) ((c.tc : Thread Cert.KvIdeal.nD Cert.KvIdeal.τ).loc Cert.KvIdeal.main_v53_1)) (v2 : (c : Dev Cert.KvIdeal.nD) → Buf (Elt Ideal) ((c.tc : Thread Cert.KvIdeal.nD Cert.KvIdeal.τ).loc Cert.KvIdeal.main_v53_2)) (v3 : (c : Dev Cert.KvIdeal.nD) → Buf (Elt Ideal) ((c.tc : Thread Cert.KvIdeal.nD Cert.KvIdeal.τ).loc Cert.KvIdeal.main_v53_3)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v53_0) = v0 c
          ∧ r.2.mem ((c.tc : Thread Cert.KvIdeal.nD Cert.KvIdeal.τ).loc Cert.KvIdeal.main_v53_1) = v1 c
          ∧ r.2.mem ((c.tc : Thread Cert.KvIdeal.nD Cert.KvIdeal.τ).loc Cert.KvIdeal.main_v53_2) = v2 c
          ∧ r.2.mem ((c.tc : Thread Cert.KvIdeal.nD Cert.KvIdeal.τ).loc Cert.KvIdeal.main_v53_3) = v3 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v17) = v0 c
          ∧ r.2.mem ((c.tc : Thread Cert.KvRefIdeal.nD Cert.KvRefIdeal.τ).loc Cert.KvRefIdeal.main_v61) = v1 c
          ∧ r.2.mem ((c.tc : Thread Cert.KvRefIdeal.nD Cert.KvRefIdeal.τ).loc Cert.KvRefIdeal.main_v63) = v2 c
          ∧ r.2.mem ((c.tc : Thread Cert.KvRefIdeal.nD Cert.KvRefIdeal.τ).loc Cert.KvRefIdeal.main_v65) = v3 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3))

def preserves_Qp_QpIdeal : Prop :=
  True

def algebraic_QpIdeal_QpRefIdeal_pre_finite_queries [hQpIdeal : Cert.QpIdeal.Facts] [hQpRefIdeal : Cert.QpRefIdeal.Facts] [hPre_finite_queries : Cert.Pre_finite_queries.Facts] : Prop :=
  ∀ (m : (ℓ : Loc Cert.QpIdeal.nD Cert.QpIdeal.τ Cert.QpIdeal.sig) → Buf (Elt Ideal) ℓ) (g : Dev Cert.QpIdeal.nD → PrngReg)
    (m' : (ℓ : Loc Cert.QpRefIdeal.nD Cert.QpRefIdeal.τ Cert.QpRefIdeal.sig) → Buf (Elt Ideal) ℓ) (g' : Dev Cert.QpRefIdeal.nD → PrngReg), Pre_QpIdeal_finite_queries m →
    (∀ c : Dev Cert.QpIdeal.nD,
      m' ((c.tc : Thread Cert.QpRefIdeal.nD Cert.QpRefIdeal.τ).loc Cert.QpRefIdeal.main_arg0) = m ((c.tc : Thread Cert.QpIdeal.nD Cert.QpIdeal.τ).loc Cert.QpIdeal.main_arg0)
      ∧ m' ((c.tc : Thread Cert.QpRefIdeal.nD Cert.QpRefIdeal.τ).loc Cert.QpRefIdeal.main_arg1) = m ((c.tc : Thread Cert.QpIdeal.nD Cert.QpIdeal.τ).loc Cert.QpIdeal.main_arg1)
      ∧ m' ((c.tc : Thread Cert.QpRefIdeal.nD Cert.QpRefIdeal.τ).loc Cert.QpRefIdeal.main_arg2) = m ((c.tc : Thread Cert.QpIdeal.nD Cert.QpIdeal.τ).loc Cert.QpIdeal.main_arg2)
      ∧ m' ((c.tc : Thread Cert.QpRefIdeal.nD Cert.QpRefIdeal.τ).loc Cert.QpRefIdeal.main_arg3) = m ((c.tc : Thread Cert.QpIdeal.nD Cert.QpIdeal.τ).loc Cert.QpIdeal.main_arg3)) →
    ∃ (v0 : (c : Dev Cert.QpIdeal.nD) → Buf (Elt Ideal) ((c.tc : Thread Cert.QpIdeal.nD Cert.QpIdeal.τ).loc Cert.QpIdeal.main_v51)),
      θ_run (Cert.QpIdeal.defs (F := Ideal)) (onTc (τ := Cert.QpIdeal.τ) (Cert.QpIdeal.main (F := Ideal))) ⟨m, fun _ => 0, g⟩ (fun r => ∀ c : Dev Cert.QpIdeal.nD,
          r.2.mem ((c.tc : Thread Cert.QpIdeal.nD Cert.QpIdeal.τ).loc Cert.QpIdeal.main_v51) = v0 c
          ∧ r.2.mem ((c.tc : Thread Cert.QpIdeal.nD Cert.QpIdeal.τ).loc Cert.QpIdeal.main_arg0) = m ((c.tc : Thread Cert.QpIdeal.nD Cert.QpIdeal.τ).loc Cert.QpIdeal.main_arg0)
          ∧ r.2.mem ((c.tc : Thread Cert.QpIdeal.nD Cert.QpIdeal.τ).loc Cert.QpIdeal.main_arg1) = m ((c.tc : Thread Cert.QpIdeal.nD Cert.QpIdeal.τ).loc Cert.QpIdeal.main_arg1)
          ∧ r.2.mem ((c.tc : Thread Cert.QpIdeal.nD Cert.QpIdeal.τ).loc Cert.QpIdeal.main_arg2) = m ((c.tc : Thread Cert.QpIdeal.nD Cert.QpIdeal.τ).loc Cert.QpIdeal.main_arg2)
          ∧ r.2.mem ((c.tc : Thread Cert.QpIdeal.nD Cert.QpIdeal.τ).loc Cert.QpIdeal.main_arg3) = m ((c.tc : Thread Cert.QpIdeal.nD Cert.QpIdeal.τ).loc Cert.QpIdeal.main_arg3))
      ∧ θ_run (Cert.QpRefIdeal.defs (F := Ideal)) (onTc (τ := Cert.QpRefIdeal.τ) (Cert.QpRefIdeal.main (F := Ideal))) ⟨m', fun _ => 0, g'⟩ (fun r => ∀ c : Dev Cert.QpRefIdeal.nD,
          r.2.mem ((c.tc : Thread Cert.QpRefIdeal.nD Cert.QpRefIdeal.τ).loc Cert.QpRefIdeal.main_v65) = v0 c
          ∧ r.2.mem ((c.tc : Thread Cert.QpRefIdeal.nD Cert.QpRefIdeal.τ).loc Cert.QpRefIdeal.main_arg0) = m' ((c.tc : Thread Cert.QpRefIdeal.nD Cert.QpRefIdeal.τ).loc Cert.QpRefIdeal.main_arg0)
          ∧ r.2.mem ((c.tc : Thread Cert.QpRefIdeal.nD Cert.QpRefIdeal.τ).loc Cert.QpRefIdeal.main_arg1) = m' ((c.tc : Thread Cert.QpRefIdeal.nD Cert.QpRefIdeal.τ).loc Cert.QpRefIdeal.main_arg1)
          ∧ r.2.mem ((c.tc : Thread Cert.QpRefIdeal.nD Cert.QpRefIdeal.τ).loc Cert.QpRefIdeal.main_arg2) = m' ((c.tc : Thread Cert.QpRefIdeal.nD Cert.QpRefIdeal.τ).loc Cert.QpRefIdeal.main_arg2)
          ∧ r.2.mem ((c.tc : Thread Cert.QpRefIdeal.nD Cert.QpRefIdeal.τ).loc Cert.QpRefIdeal.main_arg3) = m' ((c.tc : Thread Cert.QpRefIdeal.nD Cert.QpRefIdeal.τ).loc Cert.QpRefIdeal.main_arg3))

def preserves_Absorb_AbsorbIdeal : Prop :=
  True

def algebraic_AbsorbIdeal_AbsorbRefIdeal [hAbsorbIdeal : Cert.AbsorbIdeal.Facts] [hAbsorbRefIdeal : Cert.AbsorbRefIdeal.Facts] : Prop :=
  ∀ (m : (ℓ : Loc Cert.AbsorbIdeal.nD Cert.AbsorbIdeal.τ Cert.AbsorbIdeal.sig) → Buf (Elt Ideal) ℓ) (g : Dev Cert.AbsorbIdeal.nD → PrngReg)
    (m' : (ℓ : Loc Cert.AbsorbRefIdeal.nD Cert.AbsorbRefIdeal.τ Cert.AbsorbRefIdeal.sig) → Buf (Elt Ideal) ℓ) (g' : Dev Cert.AbsorbRefIdeal.nD → PrngReg), Pre_AbsorbIdeal m →
    (∀ c : Dev Cert.AbsorbIdeal.nD,
      m' ((c.tc : Thread Cert.AbsorbRefIdeal.nD Cert.AbsorbRefIdeal.τ).loc Cert.AbsorbRefIdeal.main_arg0) = m ((c.tc : Thread Cert.AbsorbIdeal.nD Cert.AbsorbIdeal.τ).loc Cert.AbsorbIdeal.main_arg0)
      ∧ m' ((c.tc : Thread Cert.AbsorbRefIdeal.nD Cert.AbsorbRefIdeal.τ).loc Cert.AbsorbRefIdeal.main_arg1) = m ((c.tc : Thread Cert.AbsorbIdeal.nD Cert.AbsorbIdeal.τ).loc Cert.AbsorbIdeal.main_arg1)) →
    ∃ (v0 : (c : Dev Cert.AbsorbIdeal.nD) → Buf (Elt Ideal) ((c.tc : Thread Cert.AbsorbIdeal.nD Cert.AbsorbIdeal.τ).loc Cert.AbsorbIdeal.main_v4)),
      θ_run (Cert.AbsorbIdeal.defs (F := Ideal)) (onTc (τ := Cert.AbsorbIdeal.τ) (Cert.AbsorbIdeal.main (F := Ideal))) ⟨m, fun _ => 0, g⟩ (fun r => ∀ c : Dev Cert.AbsorbIdeal.nD,
          r.2.mem ((c.tc : Thread Cert.AbsorbIdeal.nD Cert.AbsorbIdeal.τ).loc Cert.AbsorbIdeal.main_v4) = v0 c
          ∧ r.2.mem ((c.tc : Thread Cert.AbsorbIdeal.nD Cert.AbsorbIdeal.τ).loc Cert.AbsorbIdeal.main_arg0) = m ((c.tc : Thread Cert.AbsorbIdeal.nD Cert.AbsorbIdeal.τ).loc Cert.AbsorbIdeal.main_arg0)
          ∧ r.2.mem ((c.tc : Thread Cert.AbsorbIdeal.nD Cert.AbsorbIdeal.τ).loc Cert.AbsorbIdeal.main_arg1) = m ((c.tc : Thread Cert.AbsorbIdeal.nD Cert.AbsorbIdeal.τ).loc Cert.AbsorbIdeal.main_arg1))
      ∧ θ_run (Cert.AbsorbRefIdeal.defs (F := Ideal)) (onTc (τ := Cert.AbsorbRefIdeal.τ) (Cert.AbsorbRefIdeal.main (F := Ideal))) ⟨m', fun _ => 0, g'⟩ (fun r => ∀ c : Dev Cert.AbsorbRefIdeal.nD,
          r.2.mem ((c.tc : Thread Cert.AbsorbRefIdeal.nD Cert.AbsorbRefIdeal.τ).loc Cert.AbsorbRefIdeal.main_v9) = v0 c
          ∧ r.2.mem ((c.tc : Thread Cert.AbsorbRefIdeal.nD Cert.AbsorbRefIdeal.τ).loc Cert.AbsorbRefIdeal.main_arg0) = m' ((c.tc : Thread Cert.AbsorbRefIdeal.nD Cert.AbsorbRefIdeal.τ).loc Cert.AbsorbRefIdeal.main_arg0)
          ∧ r.2.mem ((c.tc : Thread Cert.AbsorbRefIdeal.nD Cert.AbsorbRefIdeal.τ).loc Cert.AbsorbRefIdeal.main_arg1) = m' ((c.tc : Thread Cert.AbsorbRefIdeal.nD Cert.AbsorbRefIdeal.τ).loc Cert.AbsorbRefIdeal.main_arg1))

def preserves_Uv_UvIdeal : Prop :=
  True

def algebraic_UvIdeal_UvRefIdeal [hUvIdeal : Cert.UvIdeal.Facts] [hUvRefIdeal : Cert.UvRefIdeal.Facts] : Prop :=
  ∀ (m : (ℓ : Loc Cert.UvIdeal.nD Cert.UvIdeal.τ Cert.UvIdeal.sig) → Buf (Elt Ideal) ℓ) (g : Dev Cert.UvIdeal.nD → PrngReg)
    (m' : (ℓ : Loc Cert.UvRefIdeal.nD Cert.UvRefIdeal.τ Cert.UvRefIdeal.sig) → Buf (Elt Ideal) ℓ) (g' : Dev Cert.UvRefIdeal.nD → PrngReg), Pre_UvIdeal m →
    (∀ c : Dev Cert.UvIdeal.nD,
      m' ((c.tc : Thread Cert.UvRefIdeal.nD Cert.UvRefIdeal.τ).loc Cert.UvRefIdeal.main_arg0) = m ((c.tc : Thread Cert.UvIdeal.nD Cert.UvIdeal.τ).loc Cert.UvIdeal.main_arg0)
      ∧ m' ((c.tc : Thread Cert.UvRefIdeal.nD Cert.UvRefIdeal.τ).loc Cert.UvRefIdeal.main_arg1) = m ((c.tc : Thread Cert.UvIdeal.nD Cert.UvIdeal.τ).loc Cert.UvIdeal.main_arg1)
      ∧ m' ((c.tc : Thread Cert.UvRefIdeal.nD Cert.UvRefIdeal.τ).loc Cert.UvRefIdeal.main_arg2) = m ((c.tc : Thread Cert.UvIdeal.nD Cert.UvIdeal.τ).loc Cert.UvIdeal.main_arg2)) →
    ∃ (v0 : (c : Dev Cert.UvIdeal.nD) → Buf (Elt Ideal) ((c.tc : Thread Cert.UvIdeal.nD Cert.UvIdeal.τ).loc Cert.UvIdeal.main_v4)),
      θ_run (Cert.UvIdeal.defs (F := Ideal)) (onTc (τ := Cert.UvIdeal.τ) (Cert.UvIdeal.main (F := Ideal))) ⟨m, fun _ => 0, g⟩ (fun r => ∀ c : Dev Cert.UvIdeal.nD,
          r.2.mem ((c.tc : Thread Cert.UvIdeal.nD Cert.UvIdeal.τ).loc Cert.UvIdeal.main_v4) = v0 c
          ∧ r.2.mem ((c.tc : Thread Cert.UvIdeal.nD Cert.UvIdeal.τ).loc Cert.UvIdeal.main_arg0) = m ((c.tc : Thread Cert.UvIdeal.nD Cert.UvIdeal.τ).loc Cert.UvIdeal.main_arg0)
          ∧ r.2.mem ((c.tc : Thread Cert.UvIdeal.nD Cert.UvIdeal.τ).loc Cert.UvIdeal.main_arg1) = m ((c.tc : Thread Cert.UvIdeal.nD Cert.UvIdeal.τ).loc Cert.UvIdeal.main_arg1)
          ∧ r.2.mem ((c.tc : Thread Cert.UvIdeal.nD Cert.UvIdeal.τ).loc Cert.UvIdeal.main_arg2) = m ((c.tc : Thread Cert.UvIdeal.nD Cert.UvIdeal.τ).loc Cert.UvIdeal.main_arg2))
      ∧ θ_run (Cert.UvRefIdeal.defs (F := Ideal)) (onTc (τ := Cert.UvRefIdeal.τ) (Cert.UvRefIdeal.main (F := Ideal))) ⟨m', fun _ => 0, g'⟩ (fun r => ∀ c : Dev Cert.UvRefIdeal.nD,
          r.2.mem ((c.tc : Thread Cert.UvRefIdeal.nD Cert.UvRefIdeal.τ).loc Cert.UvRefIdeal.main_v10) = v0 c
          ∧ r.2.mem ((c.tc : Thread Cert.UvRefIdeal.nD Cert.UvRefIdeal.τ).loc Cert.UvRefIdeal.main_arg0) = m' ((c.tc : Thread Cert.UvRefIdeal.nD Cert.UvRefIdeal.τ).loc Cert.UvRefIdeal.main_arg0)
          ∧ r.2.mem ((c.tc : Thread Cert.UvRefIdeal.nD Cert.UvRefIdeal.τ).loc Cert.UvRefIdeal.main_arg1) = m' ((c.tc : Thread Cert.UvRefIdeal.nD Cert.UvRefIdeal.τ).loc Cert.UvRefIdeal.main_arg1)
          ∧ r.2.mem ((c.tc : Thread Cert.UvRefIdeal.nD Cert.UvRefIdeal.τ).loc Cert.UvRefIdeal.main_arg2) = m' ((c.tc : Thread Cert.UvRefIdeal.nD Cert.UvRefIdeal.τ).loc Cert.UvRefIdeal.main_arg2))

def preserves_ConvS_ConvSIdeal : Prop :=
  True

def algebraic_ConvSIdeal_ConvSRefIdeal [hConvSIdeal : Cert.ConvSIdeal.Facts] [hConvSRefIdeal : Cert.ConvSRefIdeal.Facts] : Prop :=
  ∀ (m : (ℓ : Loc Cert.ConvSIdeal.nD Cert.ConvSIdeal.τ Cert.ConvSIdeal.sig) → Buf (Elt Ideal) ℓ) (g : Dev Cert.ConvSIdeal.nD → PrngReg)
    (m' : (ℓ : Loc Cert.ConvSRefIdeal.nD Cert.ConvSRefIdeal.τ Cert.ConvSRefIdeal.sig) → Buf (Elt Ideal) ℓ) (g' : Dev Cert.ConvSRefIdeal.nD → PrngReg), Pre_ConvSIdeal m →
    (∀ c : Dev Cert.ConvSIdeal.nD,
      m' ((c.tc : Thread Cert.ConvSRefIdeal.nD Cert.ConvSRefIdeal.τ).loc Cert.ConvSRefIdeal.main_arg0) = m ((c.tc : Thread Cert.ConvSIdeal.nD Cert.ConvSIdeal.τ).loc Cert.ConvSIdeal.main_arg0)
      ∧ m' ((c.tc : Thread Cert.ConvSRefIdeal.nD Cert.ConvSRefIdeal.τ).loc Cert.ConvSRefIdeal.main_arg1) = m ((c.tc : Thread Cert.ConvSIdeal.nD Cert.ConvSIdeal.τ).loc Cert.ConvSIdeal.main_arg1)
      ∧ m' ((c.tc : Thread Cert.ConvSRefIdeal.nD Cert.ConvSRefIdeal.τ).loc Cert.ConvSRefIdeal.main_arg2) = m ((c.tc : Thread Cert.ConvSIdeal.nD Cert.ConvSIdeal.τ).loc Cert.ConvSIdeal.main_arg2)
      ∧ m' ((c.tc : Thread Cert.ConvSRefIdeal.nD Cert.ConvSRefIdeal.τ).loc Cert.ConvSRefIdeal.main_arg3) = m ((c.tc : Thread Cert.ConvSIdeal.nD Cert.ConvSIdeal.τ).loc Cert.ConvSIdeal.main_arg3)
      ∧ m' ((c.tc : Thread Cert.ConvSRefIdeal.nD Cert.ConvSRefIdeal.τ).loc Cert.ConvSRefIdeal.main_arg4) = m ((c.tc : Thread Cert.ConvSIdeal.nD Cert.ConvSIdeal.τ).loc Cert.ConvSIdeal.main_arg4)
      ∧ m' ((c.tc : Thread Cert.ConvSRefIdeal.nD Cert.ConvSRefIdeal.τ).loc Cert.ConvSRefIdeal.main_arg5) = m ((c.tc : Thread Cert.ConvSIdeal.nD Cert.ConvSIdeal.τ).loc Cert.ConvSIdeal.main_arg5)
      ∧ m' ((c.tc : Thread Cert.ConvSRefIdeal.nD Cert.ConvSRefIdeal.τ).loc Cert.ConvSRefIdeal.main_arg6) = m ((c.tc : Thread Cert.ConvSIdeal.nD Cert.ConvSIdeal.τ).loc Cert.ConvSIdeal.main_arg6)) →
    ∃ (v0 : (c : Dev Cert.ConvSIdeal.nD) → Buf (Elt Ideal) ((c.tc : Thread Cert.ConvSIdeal.nD Cert.ConvSIdeal.τ).loc Cert.ConvSIdeal.main_v42)),
      θ_run (Cert.ConvSIdeal.defs (F := Ideal)) (onTc (τ := Cert.ConvSIdeal.τ) (Cert.ConvSIdeal.main (F := Ideal))) ⟨m, fun _ => 0, g⟩ (fun r => ∀ c : Dev Cert.ConvSIdeal.nD,
          r.2.mem ((c.tc : Thread Cert.ConvSIdeal.nD Cert.ConvSIdeal.τ).loc Cert.ConvSIdeal.main_v42) = v0 c
          ∧ r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
          ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
          ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
          ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
          ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
          ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5)
          ∧ r.2.mem ((c.tc : Thread Cert.ConvSIdeal.nD Cert.ConvSIdeal.τ).loc Cert.ConvSIdeal.main_arg6) = m ((c.tc : Thread Cert.ConvSIdeal.nD Cert.ConvSIdeal.τ).loc Cert.ConvSIdeal.main_arg6))
      ∧ θ_run (Cert.ConvSRefIdeal.defs (F := Ideal)) (onTc (τ := Cert.ConvSRefIdeal.τ) (Cert.ConvSRefIdeal.main (F := Ideal))) ⟨m', fun _ => 0, g'⟩ (fun r => ∀ c : Dev Cert.ConvSRefIdeal.nD,
          r.2.mem ((c.tc : Thread Cert.ConvSRefIdeal.nD Cert.ConvSRefIdeal.τ).loc Cert.ConvSRefIdeal.main_v287) = v0 c
          ∧ r.2.mem ((c.tc : Thread Cert.ConvSRefIdeal.nD Cert.ConvSRefIdeal.τ).loc Cert.ConvSRefIdeal.main_arg0) = m' ((c.tc : Thread Cert.ConvSRefIdeal.nD Cert.ConvSRefIdeal.τ).loc Cert.ConvSRefIdeal.main_arg0)
          ∧ r.2.mem ((c.tc : Thread Cert.ConvSRefIdeal.nD Cert.ConvSRefIdeal.τ).loc Cert.ConvSRefIdeal.main_arg1) = m' ((c.tc : Thread Cert.ConvSRefIdeal.nD Cert.ConvSRefIdeal.τ).loc Cert.ConvSRefIdeal.main_arg1)
          ∧ r.2.mem ((c.tc : Thread Cert.ConvSRefIdeal.nD Cert.ConvSRefIdeal.τ).loc Cert.ConvSRefIdeal.main_arg2) = m' ((c.tc : Thread Cert.ConvSRefIdeal.nD Cert.ConvSRefIdeal.τ).loc Cert.ConvSRefIdeal.main_arg2)
          ∧ r.2.mem ((c.tc : Thread Cert.ConvSRefIdeal.nD Cert.ConvSRefIdeal.τ).loc Cert.ConvSRefIdeal.main_arg3) = m' ((c.tc : Thread Cert.ConvSRefIdeal.nD Cert.ConvSRefIdeal.τ).loc Cert.ConvSRefIdeal.main_arg3)
          ∧ r.2.mem ((c.tc : Thread Cert.ConvSRefIdeal.nD Cert.ConvSRefIdeal.τ).loc Cert.ConvSRefIdeal.main_arg4) = m' ((c.tc : Thread Cert.ConvSRefIdeal.nD Cert.ConvSRefIdeal.τ).loc Cert.ConvSRefIdeal.main_arg4)
          ∧ r.2.mem ((c.tc : Thread Cert.ConvSRefIdeal.nD Cert.ConvSRefIdeal.τ).loc Cert.ConvSRefIdeal.main_arg5) = m' ((c.tc : Thread Cert.ConvSRefIdeal.nD Cert.ConvSRefIdeal.τ).loc Cert.ConvSRefIdeal.main_arg5)
          ∧ r.2.mem ((c.tc : Thread Cert.ConvSRefIdeal.nD Cert.ConvSRefIdeal.τ).loc Cert.ConvSRefIdeal.main_arg6) = m' ((c.tc : Thread Cert.ConvSRefIdeal.nD Cert.ConvSRefIdeal.τ).loc Cert.ConvSRefIdeal.main_arg6))

def Claim : Prop :=
  ∃ (hFlash : Cert.Flash.Facts) (hFlashIdeal : Cert.FlashIdeal.Facts) (hFlashRefIdeal : Cert.FlashRefIdeal.Facts) (hFfn : Cert.Ffn.Facts) (hFfnIdeal : Cert.FfnIdeal.Facts) (hFfnRefIdeal : Cert.FfnRefIdeal.Facts) (hGates : Cert.Gates.Facts) (hGatesIdeal : Cert.GatesIdeal.Facts) (hGatesRefIdeal : Cert.GatesRefIdeal.Facts) (hGlu : Cert.Glu.Facts) (hGluIdeal : Cert.GluIdeal.Facts) (hGluRefIdeal : Cert.GluRefIdeal.Facts) (hOut : Cert.Out.Facts) (hOutIdeal : Cert.OutIdeal.Facts) (hOutRefIdeal : Cert.OutRefIdeal.Facts) (hPle : Cert.Ple.Facts) (hPleIdeal : Cert.PleIdeal.Facts) (hPleRefIdeal : Cert.PleRefIdeal.Facts) (hPleS : Cert.PleS.Facts) (hPleSIdeal : Cert.PleSIdeal.Facts) (hPleSRefIdeal : Cert.PleSRefIdeal.Facts) (hNorm : Cert.Norm.Facts) (hNormIdeal : Cert.NormIdeal.Facts) (hNormRefIdeal : Cert.NormRefIdeal.Facts) (hKv : Cert.Kv.Facts) (hKvIdeal : Cert.KvIdeal.Facts) (hKvRefIdeal : Cert.KvRefIdeal.Facts) (hQp : Cert.Qp.Facts) (hQpIdeal : Cert.QpIdeal.Facts) (hQpRefIdeal : Cert.QpRefIdeal.Facts) (hAbsorb : Cert.Absorb.Facts) (hAbsorbIdeal : Cert.AbsorbIdeal.Facts) (hAbsorbRefIdeal : Cert.AbsorbRefIdeal.Facts) (hUv : Cert.Uv.Facts) (hUvIdeal : Cert.UvIdeal.Facts) (hUvRefIdeal : Cert.UvRefIdeal.Facts) (hConvS : Cert.ConvS.Facts) (hConvSIdeal : Cert.ConvSIdeal.Facts) (hConvSRefIdeal : Cert.ConvSRefIdeal.Facts) (hPre_finite_scores : Cert.Pre_finite_scores.Facts) (hPre_finite_rope : Cert.Pre_finite_rope.Facts) (hPre_finite_queries : Cert.Pre_finite_queries.Facts) (hOn_prompt_rows : Cert.On_prompt_rows.Facts),
    quiescent_Flash (hFlash := hFlash)
    ∧ quiescent_FlashIdeal (hFlashIdeal := hFlashIdeal)
    ∧ quiescent_FlashIdeal_pre_finite_scores (hFlashIdeal := hFlashIdeal) (hPre_finite_scores := hPre_finite_scores)
    ∧ quiescent_FlashRefIdeal (hFlashRefIdeal := hFlashRefIdeal)
    ∧ quiescent_FlashRefIdeal_pre_finite_scores (hFlashRefIdeal := hFlashRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_Gates (hGates := hGates)
    ∧ quiescent_GatesIdeal (hGatesIdeal := hGatesIdeal)
    ∧ quiescent_GatesRefIdeal (hGatesRefIdeal := hGatesRefIdeal)
    ∧ quiescent_Glu (hGlu := hGlu)
    ∧ quiescent_GluIdeal (hGluIdeal := hGluIdeal)
    ∧ quiescent_GluRefIdeal (hGluRefIdeal := hGluRefIdeal)
    ∧ quiescent_Out (hOut := hOut)
    ∧ quiescent_OutIdeal (hOutIdeal := hOutIdeal)
    ∧ quiescent_OutRefIdeal (hOutRefIdeal := hOutRefIdeal)
    ∧ quiescent_Ple (hPle := hPle)
    ∧ quiescent_PleIdeal (hPleIdeal := hPleIdeal)
    ∧ quiescent_PleRefIdeal (hPleRefIdeal := hPleRefIdeal)
    ∧ quiescent_PleS (hPleS := hPleS)
    ∧ quiescent_PleSIdeal (hPleSIdeal := hPleSIdeal)
    ∧ quiescent_PleSRefIdeal (hPleSRefIdeal := hPleSRefIdeal)
    ∧ quiescent_Norm (hNorm := hNorm)
    ∧ quiescent_NormIdeal (hNormIdeal := hNormIdeal)
    ∧ quiescent_NormRefIdeal (hNormRefIdeal := hNormRefIdeal)
    ∧ quiescent_Kv (hKv := hKv)
    ∧ quiescent_KvIdeal (hKvIdeal := hKvIdeal)
    ∧ quiescent_KvIdeal_pre_finite_rope (hKvIdeal := hKvIdeal) (hPre_finite_rope := hPre_finite_rope)
    ∧ quiescent_KvRefIdeal (hKvRefIdeal := hKvRefIdeal)
    ∧ quiescent_KvRefIdeal_pre_finite_rope (hKvRefIdeal := hKvRefIdeal) (hPre_finite_rope := hPre_finite_rope)
    ∧ quiescent_Qp (hQp := hQp)
    ∧ quiescent_QpIdeal (hQpIdeal := hQpIdeal)
    ∧ quiescent_QpIdeal_pre_finite_queries (hQpIdeal := hQpIdeal) (hPre_finite_queries := hPre_finite_queries)
    ∧ quiescent_QpRefIdeal (hQpRefIdeal := hQpRefIdeal)
    ∧ quiescent_QpRefIdeal_pre_finite_queries (hQpRefIdeal := hQpRefIdeal) (hPre_finite_queries := hPre_finite_queries)
    ∧ quiescent_Absorb (hAbsorb := hAbsorb)
    ∧ quiescent_AbsorbIdeal (hAbsorbIdeal := hAbsorbIdeal)
    ∧ quiescent_AbsorbRefIdeal (hAbsorbRefIdeal := hAbsorbRefIdeal)
    ∧ quiescent_Uv (hUv := hUv)
    ∧ quiescent_UvIdeal (hUvIdeal := hUvIdeal)
    ∧ quiescent_UvRefIdeal (hUvRefIdeal := hUvRefIdeal)
    ∧ quiescent_ConvS (hConvS := hConvS)
    ∧ quiescent_ConvSIdeal (hConvSIdeal := hConvSIdeal)
    ∧ quiescent_ConvSRefIdeal (hConvSRefIdeal := hConvSRefIdeal)
    ∧ preserves_Flash_FlashIdeal
    ∧ algebraic_FlashIdeal_FlashRefIdeal_on_prompt_rows_pre_finite_scores (hFlashIdeal := hFlashIdeal) (hFlashRefIdeal := hFlashRefIdeal) (hPre_finite_scores := hPre_finite_scores) (hOn_prompt_rows := hOn_prompt_rows)
    ∧ preserves_Ffn_FfnIdeal
    ∧ algebraic_FfnIdeal_FfnRefIdeal (hFfnIdeal := hFfnIdeal) (hFfnRefIdeal := hFfnRefIdeal)
    ∧ preserves_Gates_GatesIdeal
    ∧ algebraic_GatesIdeal_GatesRefIdeal (hGatesIdeal := hGatesIdeal) (hGatesRefIdeal := hGatesRefIdeal)
    ∧ preserves_Glu_GluIdeal
    ∧ algebraic_GluIdeal_GluRefIdeal (hGluIdeal := hGluIdeal) (hGluRefIdeal := hGluRefIdeal)
    ∧ preserves_Out_OutIdeal
    ∧ algebraic_OutIdeal_OutRefIdeal (hOutIdeal := hOutIdeal) (hOutRefIdeal := hOutRefIdeal)
    ∧ preserves_Ple_PleIdeal
    ∧ algebraic_PleIdeal_PleRefIdeal (hPleIdeal := hPleIdeal) (hPleRefIdeal := hPleRefIdeal)
    ∧ preserves_PleS_PleSIdeal
    ∧ algebraic_PleSIdeal_PleSRefIdeal (hPleSIdeal := hPleSIdeal) (hPleSRefIdeal := hPleSRefIdeal)
    ∧ preserves_Norm_NormIdeal
    ∧ algebraic_NormIdeal_NormRefIdeal (hNormIdeal := hNormIdeal) (hNormRefIdeal := hNormRefIdeal)
    ∧ preserves_Kv_KvIdeal
    ∧ algebraic_KvIdeal_KvRefIdeal_pre_finite_rope (hKvIdeal := hKvIdeal) (hKvRefIdeal := hKvRefIdeal) (hPre_finite_rope := hPre_finite_rope)
    ∧ preserves_Qp_QpIdeal
    ∧ algebraic_QpIdeal_QpRefIdeal_pre_finite_queries (hQpIdeal := hQpIdeal) (hQpRefIdeal := hQpRefIdeal) (hPre_finite_queries := hPre_finite_queries)
    ∧ preserves_Absorb_AbsorbIdeal
    ∧ algebraic_AbsorbIdeal_AbsorbRefIdeal (hAbsorbIdeal := hAbsorbIdeal) (hAbsorbRefIdeal := hAbsorbRefIdeal)
    ∧ preserves_Uv_UvIdeal
    ∧ algebraic_UvIdeal_UvRefIdeal (hUvIdeal := hUvIdeal) (hUvRefIdeal := hUvRefIdeal)
    ∧ preserves_ConvS_ConvSIdeal
    ∧ algebraic_ConvSIdeal_ConvSRefIdeal (hConvSIdeal := hConvSIdeal) (hConvSRefIdeal := hConvSRefIdeal)
-- ==== On_prompt_rows.lean ====
abbrev S8704x4096 : Shape := ⟨2, ![8704, 4096]⟩
abbrev S8704x2048 : Shape := ⟨2, ![8704, 2048]⟩
abbrev S8704 : Shape := ⟨1, ![8704]⟩
abbrev S_ : Shape := ⟨0, ![]⟩
abbrev S8704x1 : Shape := ⟨2, ![8704, 1]⟩

class Facts : Prop where
  bcast_S_S8704 : S_.BroadcastsInDim S8704 (![] : Fin 0 → Fin S8704.rank)
  bcast_S8704_S8704x1_0 : S8704.BroadcastsInDim S8704x1 (![0] : Fin 1 → Fin S8704x1.rank)
  bcast_S8704x1_S8704x2048_0_1 : S8704x1.BroadcastsInDim S8704x2048 (![0, 1] : Fin 2 → Fin S8704x2048.rank)

variable [Facts]

def fn {F : FTy → Type} [FloatOps F] (main_arg0 : FVec F S8704x4096 .bf16) (main_arg1 : FVec F S8704x4096 .bf16) (main_arg2 : FVec F S8704x2048 .bf16) : IVec S8704x2048 1 :=
  let main_v0 : IVec S8704 32 := iotaInDim S8704 32 0
  let main_c : IVec S_ 32 := constantI S_ 32 8192#32
  let main_v1 : IVec S8704 32 := broadcastInDim S8704 ![] bcast_S_S8704 main_c
  let main_v2 : IVec S8704 1 := cmpi .slt main_v0 main_v1
  let main_v3 : IVec S8704x1 1 := broadcastInDim S8704x1 ![0] bcast_S8704_S8704x1_0 main_v2
  let main_v4 : IVec S8704x2048 1 := broadcastInDim S8704x2048 ![0, 1] bcast_S8704x1_S8704x2048_0_1 main_v3
  main_v4
-- ==== Pre_finite_queries.lean ====
abbrev S8704x2048 : Shape := ⟨2, ![8704, 2048]⟩
abbrev S1x2048x7232 : Shape := ⟨3, ![1, 2048, 7232]⟩
abbrev S1x512 : Shape := ⟨2, ![1, 512]⟩
abbrev S1x512x16x192 : Shape := ⟨4, ![1, 512, 16, 192]⟩
abbrev S2048x7232 : Shape := ⟨2, ![2048, 7232]⟩
abbrev S2048x512 : Shape := ⟨2, ![2048, 512]⟩
abbrev S512x2048 : Shape := ⟨2, ![512, 2048]⟩
abbrev S1x1x1x512 : Shape := ⟨4, ![1, 1, 1, 512]⟩
abbrev S1x1x4x512 : Shape := ⟨4, ![1, 1, 4, 512]⟩
abbrev S1x2048 : Shape := ⟨2, ![1, 2048]⟩
abbrev S512x16x192 : Shape := ⟨3, ![512, 16, 192]⟩
abbrev S512x16x32 : Shape := ⟨3, ![512, 16, 32]⟩
abbrev S128x2048 : Shape := ⟨2, ![128, 2048]⟩
abbrev S9345x2048 : Shape := ⟨2, ![9345, 2048]⟩
abbrev S_ : Shape := ⟨0, ![]⟩

class Facts : Prop where
  bitsLt_bf16_f32 : FTy.bits .bf16 < FTy.bits .f32
  shapeCasts_S1x2048x7232_S2048x7232 : S1x2048x7232.ShapeCasts S2048x7232
  slices_S2048x7232_S2048x512_0_2048 : S2048x7232.Slices ![0, 2048] S2048x512
  transposes_S2048x512_S512x2048_1_0 : S2048x512.Transposes [1, 0] S512x2048
  shapeCasts_S1x512_S1x1x1x512 : S1x512.ShapeCasts S1x1x1x512
  bcast_S1x1x1x512_S1x1x4x512_0_1_2_3 : S1x1x1x512.BroadcastsInDim S1x1x4x512 (![0, 1, 2, 3] : Fin 4 → Fin S1x1x4x512.rank)
  shapeCasts_S1x1x4x512_S1x2048 : S1x1x4x512.ShapeCasts S1x2048
  shapeCasts_S1x512x16x192_S512x16x192 : S1x512x16x192.ShapeCasts S512x16x192
  slices_S512x16x192_S512x16x32_0_0_160 : S512x16x192.Slices ![0, 0, 160] S512x16x32
  shapeCasts_S512x16x32_S128x2048 : S512x16x32.ShapeCasts S128x2048
  concatenates_S8704x2048_S512x2048_S1x2048_S128x2048_S9345x2048_d0 : Shape.Concatenates [S8704x2048, S512x2048, S1x2048, S128x2048] S9345x2048 0
  bcast_S_S9345x2048 : S_.BroadcastsInDim S9345x2048 (![] : Fin 0 → Fin S9345x2048.rank)

variable [Facts]

def fn {F : FTy → Type} [FloatOps F] (main_arg0 : FVec F S8704x2048 .bf16) (main_arg1 : FVec F S1x2048x7232 .f32) (main_arg2 : FVec F S1x512 .f32) (main_arg3 : FVec F S1x512x16x192 .f32) : IVec S9345x2048 1 :=
  let main_v0 : FVec F S8704x2048 .f32 := (extf .f32 · bitsLt_bf16_f32) main_arg0
  let main_v1 : FVec F S2048x7232 .f32 := shapeCast S2048x7232 main_arg1 shapeCasts_S1x2048x7232_S2048x7232
  let main_v2 : FVec F S2048x512 .f32 := (extractStridedSlice S2048x512 ![0, 2048] · slices_S2048x7232_S2048x512_0_2048) main_v1
  let main_v3 : FVec F S512x2048 .f32 := (transpose S512x2048 [1, 0] · transposes_S2048x512_S512x2048_1_0) main_v2
  let main_v4 : FVec F S1x1x1x512 .f32 := shapeCast S1x1x1x512 main_arg2 shapeCasts_S1x512_S1x1x1x512
  let main_v5 : FVec F S1x1x4x512 .f32 := broadcastInDim S1x1x4x512 ![0, 1, 2, 3] bcast_S1x1x1x512_S1x1x4x512_0_1_2_3 main_v4
  let main_v6 : FVec F S1x2048 .f32 := shapeCast S1x2048 main_v5 shapeCasts_S1x1x4x512_S1x2048
  let main_v7 : FVec F S512x16x192 .f32 := shapeCast S512x16x192 main_arg3 shapeCasts_S1x512x16x192_S512x16x192
  let main_v8 : FVec F S512x16x32 .f32 := (extractStridedSlice S512x16x32 ![0, 0, 160] · slices_S512x16x192_S512x16x32_0_0_160) main_v7
  let main_v9 : FVec F S128x2048 .f32 := shapeCast S128x2048 main_v8 shapeCasts_S512x16x32_S128x2048
  let main_v10 : FVec F S9345x2048 .f32 := concatenate S9345x2048 0 [⟨S8704x2048, main_v0⟩, ⟨S512x2048, main_v3⟩, ⟨S1x2048, main_v6⟩, ⟨S128x2048, main_v9⟩] concatenates_S8704x2048_S512x2048_S1x2048_S128x2048_S9345x2048_d0
  let main_v11 : FVec F S9345x2048 .f32 := Host.absf main_v10
  let main_cst : FVec F S_ .f32 := constant S_ .f32 0x7F800000#32
  let main_v12 : FVec F S9345x2048 .f32 := broadcastInDim S9345x2048 ![] bcast_S_S9345x2048 main_cst
  let main_v13 : IVec S9345x2048 1 := cmpf .olt main_v11 main_v12
  main_v13
-- ==== Pre_finite_rope.lean ====
abbrev S8704x2048 : Shape := ⟨2, ![8704, 2048]⟩
abbrev S1x2048x7232 : Shape := ⟨3, ![1, 2048, 7232]⟩
abbrev S1x512 : Shape := ⟨2, ![1, 512]⟩
abbrev S1x512x16x256 : Shape := ⟨4, ![1, 512, 16, 256]⟩
abbrev S2048x7232 : Shape := ⟨2, ![2048, 7232]⟩
abbrev S2048x32 : Shape := ⟨2, ![2048, 32]⟩
abbrev S32x2048 : Shape := ⟨2, ![32, 2048]⟩
abbrev S8736x2048 : Shape := ⟨2, ![8736, 2048]⟩
abbrev S_ : Shape := ⟨0, ![]⟩

class Facts : Prop where
  bitsLt_bf16_f32 : FTy.bits .bf16 < FTy.bits .f32
  shapeCasts_S1x2048x7232_S2048x7232 : S1x2048x7232.ShapeCasts S2048x7232
  slices_S2048x7232_S2048x32_0_3104 : S2048x7232.Slices ![0, 3104] S2048x32
  transposes_S2048x32_S32x2048_1_0 : S2048x32.Transposes [1, 0] S32x2048
  concatenates_S8704x2048_S32x2048_S8736x2048_d0 : Shape.Concatenates [S8704x2048, S32x2048] S8736x2048 0
  bcast_S_S8736x2048 : S_.BroadcastsInDim S8736x2048 (![] : Fin 0 → Fin S8736x2048.rank)

variable [Facts]

def fn {F : FTy → Type} [FloatOps F] (main_arg0 : FVec F S8704x2048 .bf16) (main_arg1 : FVec F S1x2048x7232 .f32) (main_arg2 : FVec F S1x512 .f32) (main_arg3 : FVec F S1x512x16x256 .f32) : IVec S8736x2048 1 :=
  let main_v0 : FVec F S8704x2048 .f32 := (extf .f32 · bitsLt_bf16_f32) main_arg0
  let main_v1 : FVec F S2048x7232 .f32 := shapeCast S2048x7232 main_arg1 shapeCasts_S1x2048x7232_S2048x7232
  let main_v2 : FVec F S2048x32 .f32 := (extractStridedSlice S2048x32 ![0, 3104] · slices_S2048x7232_S2048x32_0_3104) main_v1
  let main_v3 : FVec F S32x2048 .f32 := (transpose S32x2048 [1, 0] · transposes_S2048x32_S32x2048_1_0) main_v2
  let main_v4 : FVec F S8736x2048 .f32 := (fun a b => concatenate S8736x2048 0 [⟨S8704x2048, a⟩, ⟨S32x2048, b⟩] concatenates_S8704x2048_S32x2048_S8736x2048_d0) main_v0 main_v3
  let main_v5 : FVec F S8736x2048 .f32 := Host.absf main_v4
  let main_cst : FVec F S_ .f32 := constant S_ .f32 0x7F800000#32
  let main_v6 : FVec F S8736x2048 .f32 := broadcastInDim S8736x2048 ![] bcast_S_S8736x2048 main_cst
  let main_v7 : IVec S8736x2048 1 := cmpf .olt main_v5 main_v6
  main_v7
-- ==== Pre_finite_scores.lean ====
abbrev S8704x4096 : Shape := ⟨2, ![8704, 4096]⟩
abbrev S8704x2048 : Shape := ⟨2, ![8704, 2048]⟩
abbrev S8192x4096 : Shape := ⟨2, ![8192, 4096]⟩
abbrev S_ : Shape := ⟨0, ![]⟩

class Facts : Prop where
  slices_S8704x4096_S8192x4096_0_0 : S8704x4096.Slices ![0, 0] S8192x4096
  bitsLt_bf16_f32 : FTy.bits .bf16 < FTy.bits .f32
  bcast_S_S8192x4096 : S_.BroadcastsInDim S8192x4096 (![] : Fin 0 → Fin S8192x4096.rank)

variable [Facts]

def fn {F : FTy → Type} [FloatOps F] (main_arg0 : FVec F S8704x4096 .bf16) (main_arg1 : FVec F S8704x4096 .bf16) (main_arg2 : FVec F S8704x2048 .bf16) : IVec S8192x4096 1 :=
  let main_v0 : FVec F S8192x4096 .bf16 := (extractStridedSlice S8192x4096 ![0, 0] · slices_S8704x4096_S8192x4096_0_0) main_arg0
  let main_v1 : FVec F S8192x4096 .f32 := (extf .f32 · bitsLt_bf16_f32) main_v0
  let main_v2 : FVec F S8192x4096 .f32 := Host.absf main_v1
  let main_cst : FVec F S_ .f32 := constant S_ .f32 0x7F800000#32
  let main_v3 : FVec F S8192x4096 .f32 := broadcastInDim S8192x4096 ![] bcast_S_S8192x4096 main_cst
  let main_v4 : IVec S8192x4096 1 := cmpf .olt main_v2 main_v3
  let main_v5 : FVec F S8192x4096 .bf16 := (extractStridedSlice S8192x4096 ![0, 0] · slices_S8704x4096_S8192x4096_0_0) main_arg1
  let main_v6 : FVec F S8192x4096 .f32 := (extf .f32 · bitsLt_bf16_f32) main_v5
  let main_v7 : FVec F S8192x4096 .f32 := Host.absf main_v6
  let main_cst_0 : FVec F S_ .f32 := constant S_ .f32 0x7F800000#32
  let main_v8 : FVec F S8192x4096 .f32 := broadcastInDim S8192x4096 ![] bcast_S_S8192x4096 main_cst_0
  let main_v9 : IVec S8192x4096 1 := cmpf .olt main_v7 main_v8
  let main_v10 : IVec S8192x4096 1 := andi main_v4 main_v9
  main_v10
-- ==== Flash.lean ====
abbrev S8704x4096 : Shape := ⟨2, ![8704, 4096]⟩
abbrev S8704x2048 : Shape := ⟨2, ![8704, 2048]⟩
abbrev S512x256 : Shape := ⟨2, ![512, 256]⟩
abbrev S8192x256 : Shape := ⟨2, ![8192, 256]⟩
abbrev S8192x128 : Shape := ⟨2, ![8192, 128]⟩
abbrev S512x128 : Shape := ⟨2, ![512, 128]⟩
abbrev S512x1 : Shape := ⟨2, ![512, 1]⟩
abbrev S512x512 : Shape := ⟨2, ![512, 512]⟩
abbrev S512 : Shape := ⟨1, ![512]⟩

abbrev nBuf : Space → Nat
  | .hbm => 4
  | .vmem => 8
  | .smem => 0
  | _ => 0

abbrev bufTy : (tb : Table) → Fin (tcTables nBuf tb) → BufTy
  | .hbm, ⟨0, _⟩ => ⟨S8704x4096, .bf16⟩
  | .hbm, ⟨1, _⟩ => ⟨S8704x4096, .bf16⟩
  | .hbm, ⟨2, _⟩ => ⟨S8704x2048, .bf16⟩
  | .hbm, ⟨3, _⟩ => ⟨S8704x2048, .bf16⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S512x128, .bf16⟩
  | .local _ .vmem, ⟨7, _⟩ => ⟨S512x128, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

@[reducible] def k0_t1_loop (i : grid0.Coords) : Scf.Loop 32 :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_3 : BitVec 32 := 1#32
  ⟨c0_i32, v8, c1_i32_3⟩
def k0_mult1 (i : grid0.Coords) (k0_t1 : Fin (k0_t1_loop i).trips) : BitVec 32 :=
  let c0_i32 : BitVec 32 := 0#32
  let c1_i32_3 : BitVec 32 := 1#32
  let arg6 : BitVec 32 := Scf.iv c0_i32 c1_i32_3 k0_t1
  let c512_i32_14 : BitVec 32 := 512#32
  let v44 : BitVec 32 := Scalar.muli arg6 c512_i32_14
  v44
def k0_off1 (i : grid0.Coords) (k0_t1 : Fin (k0_t1_loop i).trips) : Fin 2 → Nat :=
  let c0_i32 : BitVec 32 := 0#32
  let c1_i32_3 : BitVec 32 := 1#32
  let arg6 : BitVec 32 := Scf.iv c0_i32 c1_i32_3 k0_t1
  let c512_i32_14 : BitVec 32 := 512#32
  let v44 : BitVec 32 := Scalar.muli arg6 c512_i32_14
  let v45 : BitVec 32 := v44
  let v46 : Index := Scalar.indexCast v45
  let c0_15 : Index := 0#32
  ![v46.toNat, 0]
def k0_off2 (i : grid0.Coords) (k0_t1 : Fin (k0_t1_loop i).trips) : Fin 2 → Nat :=
  let c0_i32 : BitVec 32 := 0#32
  let c1_i32_3 : BitVec 32 := 1#32
  let arg6 : BitVec 32 := Scf.iv c0_i32 c1_i32_3 k0_t1
  let c512_i32_14 : BitVec 32 := 512#32
  let v44 : BitVec 32 := Scalar.muli arg6 c512_i32_14
  let v45 : BitVec 32 := v44
  let v49 : Index := Scalar.indexCast v45
  let c0_17 : Index := 0#32
  ![v49.toNat, 0]
@[reducible] def k0_t2_loop (i : grid0.Coords) : Scf.Loop 32 :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let v5 : BitVec 32 := Scalar.addi c0_i32 v4
  let c1_i32_4 : BitVec 32 := 1#32
  ⟨v8, v5, c1_i32_4⟩
def k0_mult2 (i : grid0.Coords) (k0_t2 : Fin (k0_t2_loop i).trips) : BitVec 32 :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg6 : BitVec 32 := Scf.iv v8 c1_i32_4 k0_t2
  let c512_i32_14 : BitVec 32 := 512#32
  let v44 : BitVec 32 := Scalar.muli arg6 c512_i32_14
  v44
def k0_off3 (i : grid0.Coords) (k0_t2 : Fin (k0_t2_loop i).trips) : Fin 2 → Nat :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg6 : BitVec 32 := Scf.iv v8 c1_i32_4 k0_t2
  let c512_i32_14 : BitVec 32 := 512#32
  let v44 : BitVec 32 := Scalar.muli arg6 c512_i32_14
  let v45 : BitVec 32 := v44
  let v46 : Index := Scalar.indexCast v45
  let c0_15 : Index := 0#32
  ![v46.toNat, 0]
def k0_off4 (i : grid0.Coords) (k0_t2 : Fin (k0_t2_loop i).trips) : Fin 2 → Nat :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg6 : BitVec 32 := Scf.iv v8 c1_i32_4 k0_t2
  let c512_i32_14 : BitVec 32 := 512#32
  let v44 : BitVec 32 := Scalar.muli arg6 c512_i32_14
  let v45 : BitVec 32 := v44
  let v49 : Index := Scalar.indexCast v45
  let c0_17 : Index := 0#32
  ![v49.toNat, 0]
def k0_mult3 (i : grid0.Coords) : BitVec 32 :=
  let arg1 : BitVec 32 := BitVec.ofNat 32 (i 1).val
  let c512_i32 : BitVec 32 := 512#32
  let v11 : BitVec 32 := Scalar.muli arg1 c512_i32
  v11
def k0_off5 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v13 : Index := Scalar.indexCast v12
  let c0_5 : Index := 0#32
  ![v13.toNat, 0]
def k0_off6 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v21 : Index := Scalar.indexCast v12
  let c0_8 : Index := 0#32
  ![v21.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FlashRefIdeal.lean ====
abbrev S8704x4096 : Shape := ⟨2, ![8704, 4096]⟩
abbrev S8704x2048 : Shape := ⟨2, ![8704, 2048]⟩
abbrev S8192x4096 : Shape := ⟨2, ![8192, 4096]⟩
abbrev S8192x16x256 : Shape := ⟨3, ![8192, 16, 256]⟩
abbrev S8192x2048 : Shape := ⟨2, ![8192, 2048]⟩
abbrev S8192x16x128 : Shape := ⟨3, ![8192, 16, 128]⟩
abbrev S16x8192x8192 : Shape := ⟨3, ![16, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S_ : Shape := ⟨0, ![]⟩
abbrev S16x8192 : Shape := ⟨2, ![16, 8192]⟩
abbrev S16x8192x1 : Shape := ⟨3, ![16, 8192, 1]⟩
abbrev S16x128x8192 : Shape := ⟨3, ![16, 128, 8192]⟩
abbrev S512x2048 : Shape := ⟨2, ![512, 2048]⟩

abbrev nBuf : Space → Nat
  | .hbm => 54
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S8704x4096, .bf16⟩
  | .hbm, ⟨2, _⟩ => ⟨S8704x2048, .bf16⟩
  | .hbm, ⟨3, _⟩ => ⟨S8704x4096, .f32⟩
  | .hbm, ⟨4, _⟩ => ⟨S8192x4096, .f32⟩
  | .hbm, ⟨5, _⟩ => ⟨S8192x16x256, .f32⟩
  | .hbm, ⟨6, _⟩ => ⟨S8704x4096, .f32⟩
  | .hbm, ⟨7, _⟩ => ⟨S8192x4096, .f32⟩
  | .hbm, ⟨8, _⟩ => ⟨S8192x16x256, .f32⟩
  | .hbm, ⟨9, _⟩ => ⟨S8704x2048, .f32⟩
  | .hbm, ⟨10, _⟩ => ⟨S8192x2048, .f32⟩
  | .hbm, ⟨11, _⟩ => ⟨S8192x16x128, .f32⟩
  | .hbm, ⟨12, _⟩ => ⟨S8192x16x128, .f32⟩
  | .hbm, ⟨13, _⟩ => ⟨S8192x16x128, .f32⟩
  | .hbm, ⟨14, _⟩ => ⟨S16x8192x8192, .f32⟩
  | .hbm, ⟨15, _⟩ => ⟨S8192x16x128, .f32⟩
  | .hbm, ⟨16, _⟩ => ⟨S8192x16x128, .f32⟩
  | .hbm, ⟨17, _⟩ => ⟨S16x8192x8192, .f32⟩
  | .hbm, ⟨18, _⟩ => ⟨S16x8192x8192, .f32⟩
  | .hbm, ⟨19, _⟩ => ⟨S8192, .i32⟩
  | .hbm, ⟨20, _⟩ => ⟨S1x8192, .i32⟩
  | .hbm, ⟨21, _⟩ => ⟨S8192x1, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S1x8192x8192, .i1⟩
  | .hbm, ⟨26, _⟩ => ⟨S_, .f32⟩
  | .hbm, ⟨27, _⟩ => ⟨S_, .f32⟩
  | .hbm, ⟨28, _⟩ => ⟨S16x8192x8192, .i1⟩
  | .hbm, ⟨29, _⟩ => ⟨S16x8192x8192, .f32⟩
  | .hbm, ⟨30, _⟩ => ⟨S16x8192x8192, .f32⟩
  | .hbm, ⟨31, _⟩ => ⟨S_, .f32⟩
  | .hbm, ⟨32, _⟩ => ⟨S16x8192, .f32⟩
  | .hbm, ⟨33, _⟩ => ⟨S_, .f32⟩
  | .hbm, ⟨34, _⟩ => ⟨S16x8192, .f32⟩
  | .hbm, ⟨35, _⟩ => ⟨S16x8192, .f32⟩
  | .hbm, ⟨36, _⟩ => ⟨S16x8192x1, .f32⟩
  | .hbm, ⟨37, _⟩ => ⟨S16x8192x8192, .f32⟩
  | .hbm, ⟨38, _⟩ => ⟨S16x8192x8192, .f32⟩
  | .hbm, ⟨39, _⟩ => ⟨S16x8192x8192, .f32⟩
  | .hbm, ⟨40, _⟩ => ⟨S_, .f32⟩
  | .hbm, ⟨41, _⟩ => ⟨S16x8192, .f32⟩
  | .hbm, ⟨42, _⟩ => ⟨S16x8192x1, .f32⟩
  | .hbm, ⟨43, _⟩ => ⟨S16x8192x8192, .f32⟩
  | .hbm, ⟨44, _⟩ => ⟨S16x8192x8192, .f32⟩
  | .hbm, ⟨45, _⟩ => ⟨S16x8192x8192, .bf16⟩
  | .hbm, ⟨46, _⟩ => ⟨S16x8192x8192, .f32⟩
  | .hbm, ⟨47, _⟩ => ⟨S16x128x8192, .f32⟩
  | .hbm, ⟨48, _⟩ => ⟨S8192x16x128, .f32⟩
  | .hbm, ⟨49, _⟩ => ⟨S8192x2048, .f32⟩
  | .hbm, ⟨50, _⟩ => ⟨S_, .f32⟩
  | .hbm, ⟨51, _⟩ => ⟨S512x2048, .f32⟩
  | .hbm, ⟨52, _⟩ => ⟨S8704x2048, .f32⟩
  | .hbm, ⟨53, _⟩ => ⟨S8704x2048, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Ffn.lean ====
abbrev S8704x2048 : Shape := ⟨2, ![8704, 2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S2048x5632 : Shape := ⟨2, ![2048, 5632]⟩
abbrev S5632x2048 : Shape := ⟨2, ![5632, 2048]⟩
abbrev S2048 : Shape := ⟨1, ![2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 16
  | .vmem => 16
  | .smem => 0
  | _ => 0

abbrev bufTy : (tb : Table) → Fin (tcTables nBuf tb) → BufTy
  | .hbm, ⟨0, _⟩ => ⟨S8704x2048, .bf16⟩
  | .hbm, ⟨1, _⟩ => ⟨S8704x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048, .f32⟩
  | .hbm, ⟨6, _⟩ => ⟨S2048x5632, .f32⟩
  | .hbm, ⟨7, _⟩ => ⟨S2048x5632, .bf16⟩
  | .hbm, ⟨8, _⟩ => ⟨S2048x5632, .f32⟩
  | .hbm, ⟨9, _⟩ => ⟨S2048x5632, .bf16⟩
  | .hbm, ⟨10, _⟩ => ⟨S5632x2048, .f32⟩
  | .hbm, ⟨11, _⟩ => ⟨S5632x2048, .bf16⟩
  | .hbm, ⟨12, _⟩ => ⟨S2048, .f32⟩
  | .hbm, ⟨13, _⟩ => ⟨S1x2048, .f32⟩
  | .hbm, ⟨14, _⟩ => ⟨S8704x2048, .f32⟩
  | .hbm, ⟨15, _⟩ => ⟨S8704x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S512x2048, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![17, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnRefIdeal.lean ====
abbrev S8704x2048 : Shape := ⟨2, ![8704, 2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S2048x5632 : Shape := ⟨2, ![2048, 5632]⟩
abbrev S8704x5632 : Shape := ⟨2, ![8704, 5632]⟩
abbrev S_ : Shape := ⟨0, ![]⟩
abbrev S5632x2048 : Shape := ⟨2, ![5632, 2048]⟩
abbrev S2048 : Shape := ⟨1, ![2048]⟩
abbrev S8704 : Shape := ⟨1, ![8704]⟩
abbrev S8704x1 : Shape := ⟨2, ![8704, 1]⟩

abbrev nBuf : Space → Nat
  | .hbm => 42
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S8704x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048, .f32⟩
  | .hbm, ⟨6, _⟩ => ⟨S8704x2048, .f32⟩
  | .hbm, ⟨7, _⟩ => ⟨S2048x5632, .f32⟩
  | .hbm, ⟨8, _⟩ => ⟨S8704x5632, .f32⟩
  | .hbm, ⟨9, _⟩ => ⟨S8704x5632, .f32⟩
  | .hbm, ⟨10, _⟩ => ⟨S8704x5632, .f32⟩
  | .hbm, ⟨11, _⟩ => ⟨S_, .f32⟩
  | .hbm, ⟨12, _⟩ => ⟨S8704x5632, .f32⟩
  | .hbm, ⟨13, _⟩ => ⟨S8704x5632, .f32⟩
  | .hbm, ⟨14, _⟩ => ⟨S_, .f32⟩
  | .hbm, ⟨15, _⟩ => ⟨S8704x5632, .f32⟩
  | .hbm, ⟨16, _⟩ => ⟨S8704x5632, .f32⟩
  | .hbm, ⟨17, _⟩ => ⟨S8704x5632, .f32⟩
  | .hbm, ⟨18, _⟩ => ⟨S2048x5632, .f32⟩
  | .hbm, ⟨19, _⟩ => ⟨S8704x5632, .f32⟩
  | .hbm, ⟨20, _⟩ => ⟨S8704x5632, .f32⟩
  | .hbm, ⟨21, _⟩ => ⟨S5632x2048, .f32⟩
  | .hbm, ⟨22, _⟩ => ⟨S8704x2048, .f32⟩
  | .hbm, ⟨23, _⟩ => ⟨S8704x2048, .f32⟩
  | .hbm, ⟨24, _⟩ => ⟨S2048, .f32⟩
  | .hbm, ⟨25, _⟩ => ⟨S8704x2048, .f32⟩
  | .hbm, ⟨26, _⟩ => ⟨S_, .f32⟩
  | .hbm, ⟨27, _⟩ => ⟨S8704, .f32⟩
  | .hbm, ⟨28, _⟩ => ⟨S8704x1, .f32⟩
  | .hbm, ⟨29, _⟩ => ⟨S_, .f32⟩
  | .hbm, ⟨30, _⟩ => ⟨S8704x1, .f32⟩
  | .hbm, ⟨31, _⟩ => ⟨S8704x1, .f32⟩
  | .hbm, ⟨32, _⟩ => ⟨S_, .f32⟩
  | .hbm, ⟨33, _⟩ => ⟨S8704x1, .f32⟩
  | .hbm, ⟨34, _⟩ => ⟨S8704x1, .f32⟩
  | .hbm, ⟨35, _⟩ => ⟨S8704x1, .f32⟩
  | .hbm, ⟨36, _⟩ => ⟨S8704x2048, .f32⟩
  | .hbm, ⟨37, _⟩ => ⟨S8704x2048, .f32⟩
  | .hbm, ⟨38, _⟩ => ⟨S1x2048, .f32⟩
  | .hbm, ⟨39, _⟩ => ⟨S8704x2048, .f32⟩
  | .hbm, ⟨40, _⟩ => ⟨S8704x2048, .f32⟩
  | .hbm, ⟨41, _⟩ => ⟨S8704x2048, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]
-- ==== Gates.lean ====
abbrev S8704x2048 : Shape := ⟨2, ![8704, 2048]⟩
abbrev S1x2048x7232 : Shape := ⟨3, ![1, 2048, 7232]⟩
abbrev S1x4096 : Shape := ⟨2, ![1, 4096]⟩
abbrev S2048x7232 : Shape := ⟨2, ![2048, 7232]⟩
abbrev S2048x4096 : Shape := ⟨2, ![2048, 4096]⟩
abbrev S4096 : Shape := ⟨1, ![4096]⟩
abbrev S8704x4096 : Shape := ⟨2, ![8704, 4096]⟩
abbrev S512x2048 : Shape := ⟨2, ![512, 2048]⟩
abbrev S2048x1024 : Shape := ⟨2, ![2048, 1024]⟩
abbrev S1x1024 : Shape := ⟨2, ![1, 1024]⟩
abbrev S512x1024 : Shape := ⟨2, ![512, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8704x2048, .bf16⟩
  | .hbm, ⟨1, _⟩ => ⟨S1x2048x7232, .f32⟩
  | .hbm, ⟨2, _⟩ => ⟨S1x4096, .f32⟩
  | .hbm, ⟨3, _⟩ => ⟨S2048x7232, .f32⟩
  | .hbm, ⟨4, _⟩ => ⟨S2048x4096, .f32⟩
  | .hbm, ⟨5, _⟩ => ⟨S2048x4096, .bf16⟩
  | .hbm, ⟨6, _⟩ => ⟨S4096, .f32⟩
  | .hbm, ⟨7, _⟩ => ⟨S1x4096, .f32⟩
  | .hbm, ⟨8, _⟩ => ⟨S8704x4096, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![17, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatesRefIdeal.lean ====
abbrev S8704x2048 : Shape := ⟨2, ![8704, 2048]⟩
abbrev S1x2048x7232 : Shape := ⟨3, ![1, 2048, 7232]⟩
abbrev S1x4096 : Shape := ⟨2, ![1, 4096]⟩
abbrev S2048x7232 : Shape := ⟨2, ![2048, 7232]⟩
abbrev S8704x7232 : Shape := ⟨2, ![8704, 7232]⟩
abbrev S8704x4096 : Shape := ⟨2, ![8704, 4096]⟩
abbrev S4096 : Shape := ⟨1, ![4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S1x2048x7232, .f32⟩
  | .hbm, ⟨2, _⟩ => ⟨S1x4096, .f32⟩
  | .hbm, ⟨3, _⟩ => ⟨S8704x2048, .f32⟩
  | .hbm, ⟨4, _⟩ => ⟨S2048x7232, .f32⟩
  | .hbm, ⟨5, _⟩ => ⟨S8704x7232, .f32⟩
  | .hbm, ⟨6, _⟩ => ⟨S8704x4096, .f32⟩
  | .hbm, ⟨7, _⟩ => ⟨S4096, .f32⟩
  | .hbm, ⟨8, _⟩ => ⟨S1x4096, .f32⟩
  | .hbm, ⟨9, _⟩ => ⟨S8704x4096, .f32⟩
  | .hbm, ⟨10, _⟩ => ⟨S8704x4096, .f32⟩
  | .hbm, ⟨11, _⟩ => ⟨S8704x4096, .f32⟩
  | .hbm, ⟨12, _⟩ => ⟨S8704x4096, .f32⟩
  | .hbm, ⟨13, _⟩ => ⟨S_, .f32⟩
  | .hbm, ⟨14, _⟩ => ⟨S8704x4096, .f32⟩
  | .hbm, ⟨15, _⟩ => ⟨S8704x4096, .f32⟩
  | .hbm, ⟨16, _⟩ => ⟨S_, .f32⟩
  | .hbm, ⟨17, _⟩ => ⟨S8704x4096, .f32⟩
  | .hbm, ⟨18, _⟩ => ⟨S8704x4096, .f32⟩
  | .hbm, ⟨19, _⟩ => ⟨S8704x4096, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Glu.lean ====
abbrev S8704x2048 : Shape := ⟨2, ![8704, 2048]⟩
abbrev S1x2048x7232 : Shape := ⟨3, ![1, 2048, 7232]⟩
abbrev S1x128x30x1024 : Shape := ⟨4, ![1, 128, 30, 1024]⟩
abbrev S2048x7232 : Shape := ⟨2, ![2048, 7232]⟩
abbrev S2048x1024 : Shape := ⟨2, ![2048, 1024]⟩
abbrev S8704x1024 : Shape := ⟨2, ![8704, 1024]⟩
abbrev S512x2048 : Shape := ⟨2, ![512, 2048]⟩
abbrev S512x1024 : Shape := ⟨2, ![512, 1024]⟩
abbrev S128x4x1024 : Shape := ⟨3, ![128, 4, 1024]⟩
abbrev S30x1024 : Shape := ⟨2, ![30, 1024]⟩
abbrev S1x1x30x1024 : Shape := ⟨4, ![1, 1, 30, 1024]⟩
abbrev S128x30x1024 : Shape := ⟨3, ![128, 30, 1024]⟩
abbrev S128x26x1024 : Shape := ⟨3, ![128, 26, 1024]⟩

abbrev nBuf : Space → Nat
  | .hbm => 18
  | .vmem => 6
  | .smem => 0
  | _ => 0

abbrev bufTy : (tb : Table) → Fin (tcTables nBuf tb) → BufTy
  | .hbm, ⟨0, _⟩ => ⟨S8704x2048, .bf16⟩
  | .hbm, ⟨1, _⟩ => ⟨S1x2048x7232, .f32⟩
  | .hbm, ⟨2, _⟩ => ⟨S1x128x30x1024, .f32⟩
  | .hbm, ⟨3, _⟩ => ⟨S2048x7232, .f32⟩
  | .hbm, ⟨4, _⟩ => ⟨S2048x1024, .f32⟩
  | .hbm, ⟨5, _⟩ => ⟨S2048x1024, .bf16⟩
  | .hbm, ⟨6, _⟩ => ⟨S2048x7232, .f32⟩
  | .hbm, ⟨7, _⟩ => ⟨S2048x1024, .f32⟩
  | .hbm, ⟨8, _⟩ => ⟨S2048x1024, .bf16⟩
  | .hbm, ⟨9, _⟩ => ⟨S8704x1024, .f32⟩
  | .hbm, ⟨10, _⟩ => ⟨S512x1024, .f32⟩
  | .hbm, ⟨11, _⟩ => ⟨S128x4x1024, .f32⟩
  | .hbm, ⟨12, _⟩ => ⟨S30x1024, .f32⟩
  | .hbm, ⟨13, _⟩ => ⟨S1x1x30x1024, .f32⟩
  | .hbm, ⟨14, _⟩ => ⟨S128x30x1024, .f32⟩
  | .hbm, ⟨15, _⟩ => ⟨S128x26x1024, .f32⟩
  | .hbm, ⟨16, _⟩ => ⟨S128x30x1024, .f32⟩
  | .hbm, ⟨17, _⟩ => ⟨S1x128x30x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluRefIdeal.lean ====
abbrev S8704x2048 : Shape := ⟨2, ![8704, 2048]⟩
abbrev S1x2048x7232 : Shape := ⟨3, ![1, 2048, 7232]⟩
abbrev S1x128x30x1024 : Shape := ⟨4, ![1, 128, 30, 1024]⟩
abbrev S2048x7232 : Shape := ⟨2, ![2048, 7232]⟩
abbrev S8704x7232 : Shape := ⟨2, ![8704, 7232]⟩
abbrev S8704x1024 : Shape := ⟨2, ![8704, 1024]⟩
abbrev S_ : Shape := ⟨0, ![]⟩
abbrev S1x30x1024 : Shape := ⟨3, ![1, 30, 1024]⟩
abbrev S8192x1024 : Shape := ⟨2, ![8192, 1024]⟩
abbrev S1x8192x1024 : Shape := ⟨3, ![1, 8192, 1024]⟩
abbrev S1x8222x1024 : Shape := ⟨3, ![1, 8222, 1024]⟩
abbrev S128x30x1024 : Shape := ⟨3, ![128, 30, 1024]⟩
abbrev S512x1024 : Shape := ⟨2, ![512, 1024]⟩
abbrev S128x4x1024 : Shape := ⟨3, ![128, 4, 1024]⟩
abbrev S128x34x1024 : Shape := ⟨3, ![128, 34, 1024]⟩
abbrev S1x1x30x1024 : Shape := ⟨4, ![1, 1, 30, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S1x2048x7232, .f32⟩
  | .hbm, ⟨2, _⟩ => ⟨S1x128x30x1024, .f32⟩
  | .hbm, ⟨3, _⟩ => ⟨S8704x2048, .f32⟩
  | .hbm, ⟨4, _⟩ => ⟨S2048x7232, .f32⟩
  | .hbm, ⟨5, _⟩ => ⟨S8704x7232, .f32⟩
  | .hbm, ⟨6, _⟩ => ⟨S8704x1024, .f32⟩
  | .hbm, ⟨7, _⟩ => ⟨S8704x1024, .f32⟩
  | .hbm, ⟨8, _⟩ => ⟨S8704x1024, .f32⟩
  | .hbm, ⟨9, _⟩ => ⟨S8704x1024, .f32⟩
  | .hbm, ⟨10, _⟩ => ⟨S_, .f32⟩
  | .hbm, ⟨11, _⟩ => ⟨S8704x1024, .f32⟩
  | .hbm, ⟨12, _⟩ => ⟨S8704x1024, .f32⟩
  | .hbm, ⟨13, _⟩ => ⟨S_, .f32⟩
  | .hbm, ⟨14, _⟩ => ⟨S8704x1024, .f32⟩
  | .hbm, ⟨15, _⟩ => ⟨S8704x1024, .f32⟩
  | .hbm, ⟨16, _⟩ => ⟨S8704x1024, .f32⟩
  | .hbm, ⟨17, _⟩ => ⟨S_, .f32⟩
  | .hbm, ⟨18, _⟩ => ⟨S1x30x1024, .f32⟩
  | .hbm, ⟨19, _⟩ => ⟨S8192x1024, .f32⟩
  | .hbm, ⟨20, _⟩ => ⟨S1x8192x1024, .f32⟩
  | .hbm, ⟨21, _⟩ => ⟨S1x8222x1024, .f32⟩
  | .hbm, ⟨22, _⟩ => ⟨S128x30x1024, .f32⟩
  | .hbm, ⟨23, _⟩ => ⟨S512x1024, .f32⟩
  | .hbm, ⟨24, _⟩ => ⟨S128x4x1024, .f32⟩
  | .hbm, ⟨25, _⟩ => ⟨S128x34x1024, .f32⟩
  | .hbm, ⟨26, _⟩ => ⟨S1x30x1024, .f32⟩
  | .hbm, ⟨27, _⟩ => ⟨S1x1x30x1024, .f32⟩
  | .hbm, ⟨28, _⟩ => ⟨S128x30x1024, .f32⟩
  | .hbm, ⟨29, _⟩ => ⟨S1x128x30x1024, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Out.lean ====
abbrev S8704x2048 : Shape := ⟨2, ![8704, 2048]⟩
abbrev S8704x1024 : Shape := ⟨2, ![8704, 1024]⟩
abbrev S8704x4096 : Shape := ⟨2, ![8704, 4096]⟩
abbrev S1x1024x2048 : Shape := ⟨3, ![1, 1024, 2048]⟩
abbrev S1x2048x2048 : Shape := ⟨3, ![1, 2048, 2048]⟩
abbrev S1x2048 : Shape := ⟨2, ![1, 2048]⟩
abbrev S1024x2048 : Shape := ⟨2, ![1024, 2048]⟩
abbrev S2048x2048 : Shape := ⟨2, ![2048, 2048]⟩
abbrev S2048 : Shape := ⟨1, ![2048]⟩
abbrev S256x2048 : Shape := ⟨2, ![256, 2048]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 15
  | .vmem => 15
  | .smem => 0
  | _ => 0

abbrev bufTy : (tb : Table) → Fin (tcTables nBuf tb) → BufTy
  | .hbm, ⟨0, _⟩ => ⟨S8704x2048, .f32⟩
  | .hbm, ⟨1, _⟩ => ⟨S8704x1024, .bf16⟩
  | .hbm, ⟨2, _⟩ => ⟨S8704x2048, .bf16⟩
  | .hbm, ⟨3, _⟩ => ⟨S8704x4096, .bf16⟩
  | .hbm, ⟨4, _⟩ => ⟨S1x1024x2048, .f32⟩
  | .hbm, ⟨5, _⟩ => ⟨S1x2048x2048, .f32⟩
  | .hbm, ⟨6, _⟩ => ⟨S1x2048, .f32⟩
  | .hbm, ⟨7, _⟩ => ⟨S1024x2048, .f32⟩
  | .hbm, ⟨8, _⟩ => ⟨S1024x2048, .bf16⟩
  | .hbm, ⟨9, _⟩ => ⟨S2048x2048, .f32⟩
  | .hbm, ⟨10, _⟩ => ⟨S2048x2048, .bf16⟩
  | .hbm, ⟨11, _⟩ => ⟨S2048, .f32⟩
  | .hbm, ⟨12, _⟩ => ⟨S1x2048, .f32⟩
  | .hbm, ⟨13, _⟩ => ⟨S8704x2048, .f32⟩
  | .hbm, ⟨14, _⟩ => ⟨S8704x2048, .bf16⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x4096, .bf16⟩
  | .local _ .vmem, ⟨7, _⟩ => ⟨S256x4096, .bf16⟩
  | .local _ .vmem, ⟨8, _⟩ => ⟨S1024x2048, .bf16⟩
  | .local _ .vmem, ⟨9, _⟩ => ⟨S2048x2048, .bf16⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutRefIdeal.lean ====
abbrev S8704x2048 : Shape := ⟨2, ![8704, 2048]⟩
abbrev S8704x1024 : Shape := ⟨2, ![8704, 1024]⟩
abbrev S8704x4096 : Shape := ⟨2, ![8704, 4096]⟩
abbrev S1x1024x2048 : Shape := ⟨3, ![1, 1024, 2048]⟩
abbrev S1x2048x2048 : Shape := ⟨3, ![1, 2048, 2048]⟩
abbrev S1x2048 : Shape := ⟨2, ![1, 2048]⟩
abbrev S1024x2048 : Shape := ⟨2, ![1024, 2048]⟩
abbrev S2048x2048 : Shape := ⟨2, ![2048, 2048]⟩
abbrev S2048 : Shape := ⟨1, ![2048]⟩
abbrev S_ : Shape := ⟨0, ![]⟩
abbrev S8704 : Shape := ⟨1, ![8704]⟩
abbrev S8704x1 : Shape := ⟨2, ![8704, 1]⟩

abbrev nBuf : Space → Nat
  | .hbm => 38
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S8704x1024, .bf16⟩
  | .hbm, ⟨2, _⟩ => ⟨S8704x2048, .bf16⟩
  | .hbm, ⟨3, _⟩ => ⟨S8704x4096, .bf16⟩
  | .hbm, ⟨4, _⟩ => ⟨S1x1024x2048, .f32⟩
  | .hbm, ⟨5, _⟩ => ⟨S1x2048x2048, .f32⟩
  | .hbm, ⟨6, _⟩ => ⟨S1x2048, .f32⟩
  | .hbm, ⟨7, _⟩ => ⟨S8704x4096, .f32⟩
  | .hbm, ⟨8, _⟩ => ⟨S8704x1024, .f32⟩
  | .hbm, ⟨9, _⟩ => ⟨S1024x2048, .f32⟩
  | .hbm, ⟨10, _⟩ => ⟨S8704x2048, .f32⟩
  | .hbm, ⟨11, _⟩ => ⟨S8704x2048, .f32⟩
  | .hbm, ⟨12, _⟩ => ⟨S8704x2048, .f32⟩
  | .hbm, ⟨13, _⟩ => ⟨S8704x2048, .f32⟩
  | .hbm, ⟨14, _⟩ => ⟨S8704x2048, .f32⟩
  | .hbm, ⟨15, _⟩ => ⟨S8704x2048, .f32⟩
  | .hbm, ⟨16, _⟩ => ⟨S8704x2048, .f32⟩
  | .hbm, ⟨17, _⟩ => ⟨S2048x2048, .f32⟩
  | .hbm, ⟨18, _⟩ => ⟨S8704x2048, .f32⟩
  | .hbm, ⟨19, _⟩ => ⟨S8704x2048, .f32⟩
  | .hbm, ⟨20, _⟩ => ⟨S2048, .f32⟩
  | .hbm, ⟨21, _⟩ => ⟨S8704x2048, .f32⟩
  | .hbm, ⟨22, _⟩ => ⟨S_, .f32⟩
  | .hbm, ⟨23, _⟩ => ⟨S8704, .f32⟩
  | .hbm, ⟨24, _⟩ => ⟨S8704x1, .f32⟩
  | .hbm, ⟨25, _⟩ => ⟨S_, .f32⟩
  | .hbm, ⟨26, _⟩ => ⟨S8704x1, .f32⟩
  | .hbm, ⟨27, _⟩ => ⟨S8704x1, .f32⟩
  | .hbm, ⟨28, _⟩ => ⟨S_, .f32⟩
  | .hbm, ⟨29, _⟩ => ⟨S8704x1, .f32⟩
  | .hbm, ⟨30, _⟩ => ⟨S8704x1, .f32⟩
  | .hbm, ⟨31, _⟩ => ⟨S8704x1, .f32⟩
  | .hbm, ⟨32, _⟩ => ⟨S8704x2048, .f32⟩
  | .hbm, ⟨33, _⟩ => ⟨S8704x2048, .f32⟩
  | .hbm, ⟨34, _⟩ => ⟨S1x2048, .f32⟩
  | .hbm, ⟨35, _⟩ => ⟨S8704x2048, .f32⟩
  | .hbm, ⟨36, _⟩ => ⟨S8704x2048, .f32⟩
  | .hbm, ⟨37, _⟩ => ⟨S8704x2048, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Ple.lean ====
abbrev S8704x2048 : Shape := ⟨2, ![8704, 2048]⟩
abbrev S1x1x8192x256 : Shape := ⟨4, ![1, 1, 8192, 256]⟩
abbrev S1x2048x2048 : Shape := ⟨3, ![1, 2048, 2048]⟩
abbrev S1x256x2048 : Shape := ⟨3, ![1, 256, 2048]⟩
abbrev S2048 : Shape := ⟨1, ![2048]⟩
abbrev S1x8192x256 : Shape := ⟨3, ![1, 8192, 256]⟩
abbrev S8192x256 : Shape := ⟨2, ![8192, 256]⟩
abbrev S2048x2048 : Shape := ⟨2, ![2048, 2048]⟩
abbrev S256x2048 : Shape := ⟨2, ![256, 2048]⟩
abbrev S1x2048 : Shape := ⟨2, ![1, 2048]⟩
abbrev S8192x2048 : Shape := ⟨2, ![8192, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 14
  | .vmem => 11
  | .smem => 0
  | _ => 0

abbrev bufTy : (tb : Table) → Fin (tcTables nBuf tb) → BufTy
  | .hbm, ⟨0, _⟩ => ⟨S8704x2048, .bf16⟩
  | .hbm, ⟨1, _⟩ => ⟨S8704x2048, .f32⟩
  | .hbm, ⟨2, _⟩ => ⟨S1x1x8192x256, .f32⟩
  | .hbm, ⟨3, _⟩ => ⟨S1x2048x2048, .f32⟩
  | .hbm, ⟨4, _⟩ => ⟨S1x256x2048, .f32⟩
  | .hbm, ⟨5, _⟩ => ⟨S2048, .f32⟩
  | .hbm, ⟨6, _⟩ => ⟨S1x8192x256, .f32⟩
  | .hbm, ⟨7, _⟩ => ⟨S8192x256, .f32⟩
  | .hbm, ⟨8, _⟩ => ⟨S2048x2048, .f32⟩
  | .hbm, ⟨9, _⟩ => ⟨S2048x2048, .bf16⟩
  | .hbm, ⟨10, _⟩ => ⟨S256x2048, .f32⟩
  | .hbm, ⟨11, _⟩ => ⟨S256x2048, .bf16⟩
  | .hbm, ⟨12, _⟩ => ⟨S1x2048, .f32⟩
  | .hbm, ⟨13, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S512x256, .f32⟩
  | .local _ .vmem, ⟨5, _⟩ => ⟨S512x256, .f32⟩
  | .local _ .vmem, ⟨6, _⟩ => ⟨S2048x2048, .bf16⟩
  | .local _ .vmem, ⟨7, _⟩ => ⟨S256x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleRefIdeal.lean ====
abbrev S8704x2048 : Shape := ⟨2, ![8704, 2048]⟩
abbrev S1x1x8192x256 : Shape := ⟨4, ![1, 1, 8192, 256]⟩
abbrev S1x2048x2048 : Shape := ⟨3, ![1, 2048, 2048]⟩
abbrev S1x256x2048 : Shape := ⟨3, ![1, 256, 2048]⟩
abbrev S2048 : Shape := ⟨1, ![2048]⟩
abbrev S8192x2048 : Shape := ⟨2, ![8192, 2048]⟩
abbrev S1x8192x256 : Shape := ⟨3, ![1, 8192, 256]⟩
abbrev S8192x256 : Shape := ⟨2, ![8192, 256]⟩
abbrev S2048x2048 : Shape := ⟨2, ![2048, 2048]⟩
abbrev S_ : Shape := ⟨0, ![]⟩
abbrev S256x2048 : Shape := ⟨2, ![256, 2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S8704x2048, .f32⟩
  | .hbm, ⟨2, _⟩ => ⟨S1x1x8192x256, .f32⟩
  | .hbm, ⟨3, _⟩ => ⟨S1x2048x2048, .f32⟩
  | .hbm, ⟨4, _⟩ => ⟨S1x256x2048, .f32⟩
  | .hbm, ⟨5, _⟩ => ⟨S2048, .f32⟩
  | .hbm, ⟨6, _⟩ => ⟨S8192x2048, .bf16⟩
  | .hbm, ⟨7, _⟩ => ⟨S8192x2048, .f32⟩
  | .hbm, ⟨8, _⟩ => ⟨S1x8192x256, .f32⟩
  | .hbm, ⟨9, _⟩ => ⟨S8192x256, .f32⟩
  | .hbm, ⟨10, _⟩ => ⟨S8192x2048, .f32⟩
  | .hbm, ⟨11, _⟩ => ⟨S2048x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S256x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S1x2048, .f32⟩
  | .hbm, ⟨39, _⟩ => ⟨S8192x2048, .f32⟩
  | .hbm, ⟨40, _⟩ => ⟨S8192x2048, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== PleS.lean ====
abbrev S8704x2048 : Shape := ⟨2, ![8704, 2048]⟩
abbrev S1x128x4x256 : Shape := ⟨4, ![1, 128, 4, 256]⟩
abbrev S1x2048x2048 : Shape := ⟨3, ![1, 2048, 2048]⟩
abbrev S1x256x2048 : Shape := ⟨3, ![1, 256, 2048]⟩
abbrev S2048 : Shape := ⟨1, ![2048]⟩
abbrev S128x4x256 : Shape := ⟨3, ![128, 4, 256]⟩
abbrev S512x256 : Shape := ⟨2, ![512, 256]⟩
abbrev S2048x2048 : Shape := ⟨2, ![2048, 2048]⟩
abbrev S256x2048 : Shape := ⟨2, ![256, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 7
  | .smem => 0
  | _ => 0

abbrev bufTy : (tb : Table) → Fin (tcTables nBuf tb) → BufTy
  | .hbm, ⟨0, _⟩ => ⟨S8704x2048, .bf16⟩
  | .hbm, ⟨1, _⟩ => ⟨S8704x2048, .f32⟩
  | .hbm, ⟨2, _⟩ => ⟨S1x128x4x256, .f32⟩
  | .hbm, ⟨3, _⟩ => ⟨S1x2048x2048, .f32⟩
  | .hbm, ⟨4, _⟩ => ⟨S1x256x2048, .f32⟩
  | .hbm, ⟨5, _⟩ => ⟨S2048, .f32⟩
  | .hbm, ⟨6, _⟩ => ⟨S128x4x256, .f32⟩
  | .hbm, ⟨7, _⟩ => ⟨S512x256, .f32⟩
  | .hbm, ⟨8, _⟩ => ⟨S2048x2048, .f32⟩
  | .hbm, ⟨9, _⟩ => ⟨S2048x2048, .bf16⟩
  | .hbm, ⟨10, _⟩ => ⟨S256x2048, .f32⟩
  | .hbm, ⟨11, _⟩ => ⟨S256x2048, .bf16⟩
  | .hbm, ⟨12, _⟩ => ⟨S1x2048, .f32⟩
  | .hbm, ⟨13, _⟩ => ⟨S512x2048, .f32⟩
  | .local _ .vmem, ⟨0, _⟩ => ⟨S512x2048, .bf16⟩
  | .local _ .vmem, ⟨1, _⟩ => ⟨S512x2048, .f32⟩
  | .local _ .vmem, ⟨2, _⟩ => ⟨S512x256, .f32⟩
  | .local _ .vmem, ⟨3, _⟩ => ⟨S2048x2048, .bf16⟩
  | .local _ .vmem, ⟨4, _⟩ => ⟨S256x2048, .bf16⟩
  | .local _ .vmem, ⟨5, _⟩ => ⟨S1x2048, .f32⟩
  | .local _ .vmem, ⟨6, _⟩ => ⟨S512x2048, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== PleSRefIdeal.lean ====
abbrev S8704x2048 : Shape := ⟨2, ![8704, 2048]⟩
abbrev S1x128x4x256 : Shape := ⟨4, ![1, 128, 4, 256]⟩
abbrev S1x2048x2048 : Shape := ⟨3, ![1, 2048, 2048]⟩
abbrev S1x256x2048 : Shape := ⟨3, ![1, 256, 2048]⟩
abbrev S2048 : Shape := ⟨1, ![2048]⟩
abbrev S512x2048 : Shape := ⟨2, ![512, 2048]⟩
abbrev S128x4x256 : Shape := ⟨3, ![128, 4, 256]⟩
abbrev S512x256 : Shape := ⟨2, ![512, 256]⟩
abbrev S2048x2048 : Shape := ⟨2, ![2048, 2048]⟩
abbrev S_ : Shape := ⟨0, ![]⟩
abbrev S256x2048 : Shape := ⟨2, ![256, 2048]⟩
abbrev S512 : Shape := ⟨1, ![512]⟩
abbrev S512x1 : Shape := ⟨2, ![512, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S8704x2048, .f32⟩
  | .hbm, ⟨2, _⟩ => ⟨S1x128x4x256, .f32⟩
  | .hbm, ⟨3, _⟩ => ⟨S1x2048x2048, .f32⟩
  | .hbm, ⟨4, _⟩ => ⟨S1x256x2048, .f32⟩
  | .hbm, ⟨5, _⟩ => ⟨S2048, .f32⟩
  | .hbm, ⟨6, _⟩ => ⟨S512x2048, .bf16⟩
  | .hbm, ⟨7, _⟩ => ⟨S512x2048, .f32⟩
  | .hbm, ⟨8, _⟩ => ⟨S128x4x256, .f32⟩
  | .hbm, ⟨9, _⟩ => ⟨S512x256, .f32⟩
  | .hbm, ⟨10, _⟩ => ⟨S512x2048, .f32⟩
  | .hbm, ⟨11, _⟩ => ⟨S2048x2048, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S_, .f32⟩
  | .hbm, ⟨19, _⟩ => ⟨S512x2048, .f32⟩
  | .hbm, ⟨20, _⟩ => ⟨S512x2048, .f32⟩
  | .hbm, ⟨21, _⟩ => ⟨S256x2048, .f32⟩
  | .hbm, ⟨22, _⟩ => ⟨S512x2048, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512, .f32⟩
  | .hbm, ⟨28, _⟩ => ⟨S512x1, .f32⟩
  | .hbm, ⟨29, _⟩ => ⟨S_, .f32⟩
  | .hbm, ⟨30, _⟩ => ⟨S512x1, .f32⟩
  | .hbm, ⟨31, _⟩ => ⟨S512x1, .f32⟩
  | .hbm, ⟨32, _⟩ => ⟨S_, .f32⟩
  | .hbm, ⟨33, _⟩ => ⟨S512x1, .f32⟩
  | .hbm, ⟨34, _⟩ => ⟨S512x1, .f32⟩
  | .hbm, ⟨35, _⟩ => ⟨S512x1, .f32⟩
  | .hbm, ⟨36, _⟩ => ⟨S512x2048, .f32⟩
  | .hbm, ⟨37, _⟩ => ⟨S512x2048, .f32⟩
  | .hbm, ⟨38, _⟩ => ⟨S1x2048, .f32⟩
  | .hbm, ⟨39, _⟩ => ⟨S512x2048, .f32⟩
  | .hbm, ⟨40, _⟩ => ⟨S512x2048, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Norm.lean ====
abbrev S8704x2048 : Shape := ⟨2, ![8704, 2048]⟩
abbrev S1x2048 : Shape := ⟨2, ![1, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S8704x2048, .f32⟩
  | .hbm, ⟨1, _⟩ => ⟨S1x2048, .f32⟩
  | .hbm, ⟨2, _⟩ => ⟨S2048, .f32⟩
  | .hbm, ⟨3, _⟩ => ⟨S1x2048, .f32⟩
  | .hbm, ⟨4, _⟩ => ⟨S8704x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8704x2048 : Shape := ⟨2, ![8704, 2048]⟩
abbrev S1x2048 : Shape := ⟨2, ![1, 2048]⟩
abbrev S2048 : Shape := ⟨1, ![2048]⟩
abbrev S_ : Shape := ⟨0, ![]⟩
abbrev S8704 : Shape := ⟨1, ![8704]⟩
abbrev S8704x1 : Shape := ⟨2, ![8704, 1]⟩

abbrev nBuf : Space → Nat
  | .hbm => 20
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S1x2048, .f32⟩
  | .hbm, ⟨2, _⟩ => ⟨S2048, .f32⟩
  | .hbm, ⟨3, _⟩ => ⟨S8704x2048, .f32⟩
  | .hbm, ⟨4, _⟩ => ⟨S_, .f32⟩
  | .hbm, ⟨5, _⟩ => ⟨S8704, .f32⟩
  | .hbm, ⟨6, _⟩ => ⟨S8704x1, .f32⟩
  | .hbm, ⟨7, _⟩ => ⟨S_, .f32⟩
  | .hbm, ⟨8, _⟩ => ⟨S8704x1, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S8704x1, .f32⟩
  | .hbm, ⟨14, _⟩ => ⟨S8704x2048, .f32⟩
  | .hbm, ⟨15, _⟩ => ⟨S8704x2048, .f32⟩
  | .hbm, ⟨16, _⟩ => ⟨S1x2048, .f32⟩
  | .hbm, ⟨17, _⟩ => ⟨S8704x2048, .f32⟩
  | .hbm, ⟨18, _⟩ => ⟨S8704x2048, .f32⟩
  | .hbm, ⟨19, _⟩ => ⟨S8704x2048, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kv.lean ====
abbrev S8704x2048 : Shape := ⟨2, ![8704, 2048]⟩
abbrev S1x2048x7232 : Shape := ⟨3, ![1, 2048, 7232]⟩
abbrev S1x512 : Shape := ⟨2, ![1, 512]⟩
abbrev S1x512x16x256 : Shape := ⟨4, ![1, 512, 16, 256]⟩
abbrev S8192 : Shape := ⟨1, ![8192]⟩
abbrev S4 : Shape := ⟨1, ![4]⟩
abbrev S_ : Shape := ⟨0, ![]⟩
abbrev S1x4 : Shape := ⟨2, ![1, 4]⟩
abbrev S128x4 : Shape := ⟨2, ![128, 4]⟩
abbrev S512 : Shape := ⟨1, ![512]⟩
abbrev S8704 : Shape := ⟨1, ![8704]⟩
abbrev S32 : Shape := ⟨1, ![32]⟩
abbrev S8704x1 : Shape := ⟨2, ![8704, 1]⟩
abbrev S1x32 : Shape := ⟨2, ![1, 32]⟩
abbrev S8704x32 : Shape := ⟨2, ![8704, 32]⟩
abbrev S8704x64 : Shape := ⟨2, ![8704, 64]⟩
abbrev S8704x128 : Shape := ⟨2, ![8704, 128]⟩
abbrev S2048x7232 : Shape := ⟨2, ![2048, 7232]⟩
abbrev S2048x64 : Shape := ⟨2, ![2048, 64]⟩
abbrev S2048x512 : Shape := ⟨2, ![2048, 512]⟩
abbrev S2048x128 : Shape := ⟨2, ![2048, 128]⟩
abbrev S2048x32 : Shape := ⟨2, ![2048, 32]⟩
abbrev S512x16x256 : Shape := ⟨3, ![512, 16, 256]⟩
abbrev S512x16x128 : Shape := ⟨3, ![512, 16, 128]⟩
abbrev S512x2048 : Shape := ⟨2, ![512, 2048]⟩
abbrev S8704x512 : Shape := ⟨2, ![8704, 512]⟩
abbrev S8704x4096 : Shape := ⟨2, ![8704, 4096]⟩
abbrev S512x128 : Shape := ⟨2, ![512, 128]⟩
abbrev S512x512 : Shape := ⟨2, ![512, 512]⟩
abbrev S512x64 : Shape := ⟨2, ![512, 64]⟩
abbrev S512x4096 : Shape := ⟨2, ![512, 4096]⟩
abbrev S512x1 : Shape := ⟨2, ![512, 1]⟩

abbrev nBuf : Space → Nat
  | .hbm => 69
  | .vmem => 20
  | .smem => 0
  | _ => 0

abbrev bufTy : (tb : Table) → Fin (tcTables nBuf tb) → BufTy
  | .hbm, ⟨0, _⟩ => ⟨S8704x2048, .bf16⟩
  | .hbm, ⟨1, _⟩ => ⟨S1x2048x7232, .f32⟩
  | .hbm, ⟨2, _⟩ => ⟨S1x512, .f32⟩
  | .hbm, ⟨3, _⟩ => ⟨S1x512x16x256, .f32⟩
  | .hbm, ⟨4, _⟩ => ⟨S8192, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S1x4, .f32⟩
  | .hbm, ⟨10, _⟩ => ⟨S128x4, .f32⟩
  | .hbm, ⟨11, _⟩ => ⟨S512, .f32⟩
  | .hbm, ⟨12, _⟩ => ⟨S8704, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S8704x1, .f32⟩
  | .hbm, ⟨22, _⟩ => ⟨S1x32, .f32⟩
  | .hbm, ⟨23, _⟩ => ⟨S8704x32, .f32⟩
  | .hbm, ⟨24, _⟩ => ⟨S8704x32, .f32⟩
  | .hbm, ⟨25, _⟩ => ⟨S8704x32, .f32⟩
  | .hbm, ⟨26, _⟩ => ⟨S8704x32, .f32⟩
  | .hbm, ⟨27, _⟩ => ⟨S8704x32, .f32⟩
  | .hbm, ⟨28, _⟩ => ⟨S_, .f32⟩
  | .hbm, ⟨29, _⟩ => ⟨S8704x64, .f32⟩
  | .hbm, ⟨30, _⟩ => ⟨S8704x128, .f32⟩
  | .hbm, ⟨31, _⟩ => ⟨S8704x128, .f32⟩
  | .hbm, ⟨32, _⟩ => ⟨S_, .f32⟩
  | .hbm, ⟨33, _⟩ => ⟨S8704x128, .f32⟩
  | .hbm, ⟨34, _⟩ => ⟨S8704x128, .f32⟩
  | .hbm, ⟨35, _⟩ => ⟨S_, .f32⟩
  | .hbm, ⟨36, _⟩ => ⟨S8704x128, .f32⟩
  | .hbm, ⟨37, _⟩ => ⟨S8704x128, .f32⟩
  | .hbm, ⟨38, _⟩ => ⟨S2048x7232, .f32⟩
  | .hbm, ⟨39, _⟩ => ⟨S2048x64, .f32⟩
  | .hbm, ⟨40, _⟩ => ⟨S2048x7232, .f32⟩
  | .hbm, ⟨41, _⟩ => ⟨S2048x512, .f32⟩
  | .hbm, ⟨42, _⟩ => ⟨S2048x512, .bf16⟩
  | .hbm, ⟨43, _⟩ => ⟨S512, .f32⟩
  | .hbm, ⟨44, _⟩ => ⟨S1x512, .f32⟩
  | .hbm, ⟨45, _⟩ => ⟨S_, .f32⟩
  | .hbm, ⟨46, _⟩ => ⟨S2048x64, .f32⟩
  | .hbm, ⟨47, _⟩ => ⟨S2048x128, .f32⟩
  | .hbm, ⟨48, _⟩ => ⟨S2048x128, .bf16⟩
  | .hbm, ⟨49, _⟩ => ⟨S2048x32, .f32⟩
  | .hbm, ⟨50, _⟩ => ⟨S2048x32, .f32⟩
  | .hbm, ⟨51, _⟩ => ⟨S2048x32, .f32⟩
  | .hbm, ⟨52, _⟩ => ⟨S2048x64, .f32⟩
  | .hbm, ⟨53, _⟩ => ⟨S_, .f32⟩
  | .hbm, ⟨54, _⟩ => ⟨S2048x64, .f32⟩
  | .hbm, ⟨55, _⟩ => ⟨S2048x128, .f32⟩
  | .hbm, ⟨56, _⟩ => ⟨S2048x128, .bf16⟩
  | .hbm, ⟨57, _⟩ => ⟨S512x16x256, .f32⟩
  | .hbm, ⟨58, _⟩ => ⟨S512x16x128, .f32⟩
  | .hbm, ⟨59, _⟩ => ⟨S512x2048, .f32⟩
  | .hbm, ⟨60, _⟩ => ⟨S512x2048, .bf16⟩
  | .hbm, ⟨61, _⟩ => ⟨S512x16x256, .f32⟩
  | .hbm, ⟨62, _⟩ => ⟨S512x16x128, .f32⟩
  | .hbm, ⟨63, _⟩ => ⟨S512x2048, .f32⟩
  | .hbm, ⟨64, _⟩ => ⟨S512x2048, .bf16⟩
  | .hbm, ⟨65, _⟩ => ⟨S8704x512, .f32⟩
  | .hbm, ⟨66, _⟩ => ⟨S8704x64, .f32⟩
  | .hbm, ⟨67, _⟩ => ⟨S8704x4096, .bf16⟩
  | .hbm, ⟨68, _⟩ => ⟨S8704x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S1x512, .f32⟩
  | .local _ .vmem, ⟨4, _⟩ => ⟨S2048x128, .bf16⟩
  | .local _ .vmem, ⟨5, _⟩ => ⟨S2048x128, .bf16⟩
  | .local _ .vmem, ⟨6, _⟩ => ⟨S512x2048, .bf16⟩
  | .local _ .vmem, ⟨7, _⟩ => ⟨S512x2048, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x512, .f32⟩
  | .local _ .vmem, ⟨13, _⟩ => ⟨S512x512, .f32⟩
  | .local _ .vmem, ⟨14, _⟩ => ⟨S512x64, .f32⟩
  | .local _ .vmem, ⟨15, _⟩ => ⟨S512x64, .f32⟩
  | .local _ .vmem, ⟨16, _⟩ => ⟨S512x4096, .bf16⟩
  | .local _ .vmem, ⟨17, _⟩ => ⟨S512x4096, .bf16⟩
  | .local _ .vmem, ⟨18, _⟩ => ⟨S512x2048, .bf16⟩
  | .local _ .vmem, ⟨19, _⟩ => ⟨S512x2048, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53_0 : Ref sig .tc := ⟨.hbm, 65, rfl⟩
abbrev main_v53_1 : Ref sig .tc := ⟨.hbm, 66, rfl⟩
abbrev main_v53_2 : Ref sig .tc := ⟨.hbm, 67, rfl⟩
abbrev main_v53_3 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KvRefIdeal.lean ====
abbrev S8704x2048 : Shape := ⟨2, ![8704, 2048]⟩
abbrev S1x2048x7232 : Shape := ⟨3, ![1, 2048, 7232]⟩
abbrev S1x512 : Shape := ⟨2, ![1, 512]⟩
abbrev S1x512x16x256 : Shape := ⟨4, ![1, 512, 16, 256]⟩
abbrev S2048x7232 : Shape := ⟨2, ![2048, 7232]⟩
abbrev S8704x7232 : Shape := ⟨2, ![8704, 7232]⟩
abbrev S8704x512 : Shape := ⟨2, ![8704, 512]⟩
abbrev S512 : Shape := ⟨1, ![512]⟩
abbrev S_ : Shape := ⟨0, ![]⟩
abbrev S8704 : Shape := ⟨1, ![8704]⟩
abbrev S8704x1 : Shape := ⟨2, ![8704, 1]⟩
abbrev S8704x64 : Shape := ⟨2, ![8704, 64]⟩
abbrev S8704x1x64 : Shape := ⟨3, ![8704, 1, 64]⟩
abbrev S8192 : Shape := ⟨1, ![8192]⟩
abbrev S4 : Shape := ⟨1, ![4]⟩
abbrev S1x4 : Shape := ⟨2, ![1, 4]⟩
abbrev S128x4 : Shape := ⟨2, ![128, 4]⟩
abbrev S32 : Shape := ⟨1, ![32]⟩
abbrev S1x32 : Shape := ⟨2, ![1, 32]⟩
abbrev S8704x32 : Shape := ⟨2, ![8704, 32]⟩
abbrev S8704x1x32 : Shape := ⟨3, ![8704, 1, 32]⟩
abbrev S512x16x256 : Shape := ⟨3, ![512, 16, 256]⟩
abbrev S512x16x128 : Shape := ⟨3, ![512, 16, 128]⟩
abbrev S8704x16x128 : Shape := ⟨3, ![8704, 16, 128]⟩
abbrev S8704x16x64 : Shape := ⟨3, ![8704, 16, 64]⟩
abbrev S8704x16x256 : Shape := ⟨3, ![8704, 16, 256]⟩
abbrev S8704x4096 : Shape := ⟨2, ![8704, 4096]⟩

abbrev nBuf : Space → Nat
  | .hbm => 77
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S1x2048x7232, .f32⟩
  | .hbm, ⟨2, _⟩ => ⟨S1x512, .f32⟩
  | .hbm, ⟨3, _⟩ => ⟨S1x512x16x256, .f32⟩
  | .hbm, ⟨4, _⟩ => ⟨S8704x2048, .f32⟩
  | .hbm, ⟨5, _⟩ => ⟨S2048x7232, .f32⟩
  | .hbm, ⟨6, _⟩ => ⟨S8704x7232, .f32⟩
  | .hbm, ⟨7, _⟩ => ⟨S8704x512, .f32⟩
  | .hbm, ⟨8, _⟩ => ⟨S512, .f32⟩
  | .hbm, ⟨9, _⟩ => ⟨S8704x512, .f32⟩
  | .hbm, ⟨10, _⟩ => ⟨S_, .f32⟩
  | .hbm, ⟨11, _⟩ => ⟨S8704, .f32⟩
  | .hbm, ⟨12, _⟩ => ⟨S8704x1, .f32⟩
  | .hbm, ⟨13, _⟩ => ⟨S_, .f32⟩
  | .hbm, ⟨14, _⟩ => ⟨S8704x1, .f32⟩
  | .hbm, ⟨15, _⟩ => ⟨S8704x1, .f32⟩
  | .hbm, ⟨16, _⟩ => ⟨S_, .f32⟩
  | .hbm, ⟨17, _⟩ => ⟨S8704x1, .f32⟩
  | .hbm, ⟨18, _⟩ => ⟨S8704x1, .f32⟩
  | .hbm, ⟨19, _⟩ => ⟨S8704x1, .f32⟩
  | .hbm, ⟨20, _⟩ => ⟨S8704x512, .f32⟩
  | .hbm, ⟨21, _⟩ => ⟨S8704x512, .f32⟩
  | .hbm, ⟨22, _⟩ => ⟨S1x512, .f32⟩
  | .hbm, ⟨23, _⟩ => ⟨S8704x512, .f32⟩
  | .hbm, ⟨24, _⟩ => ⟨S8704x512, .f32⟩
  | .hbm, ⟨25, _⟩ => ⟨S8704x64, .f32⟩
  | .hbm, ⟨26, _⟩ => ⟨S8704x1x64, .f32⟩
  | .hbm, ⟨27, _⟩ => ⟨S8192, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S1x4, .f32⟩
  | .hbm, ⟨33, _⟩ => ⟨S128x4, .f32⟩
  | .hbm, ⟨34, _⟩ => ⟨S512, .f32⟩
  | .hbm, ⟨35, _⟩ => ⟨S8704, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S8704x1, .f32⟩
  | .hbm, ⟨45, _⟩ => ⟨S1x32, .f32⟩
  | .hbm, ⟨46, _⟩ => ⟨S8704x32, .f32⟩
  | .hbm, ⟨47, _⟩ => ⟨S8704x32, .f32⟩
  | .hbm, ⟨48, _⟩ => ⟨S8704x32, .f32⟩
  | .hbm, ⟨49, _⟩ => ⟨S8704x32, .f32⟩
  | .hbm, ⟨50, _⟩ => ⟨S8704x1x32, .f32⟩
  | .hbm, ⟨51, _⟩ => ⟨S8704x32, .f32⟩
  | .hbm, ⟨52, _⟩ => ⟨S8704x1x32, .f32⟩
  | .hbm, ⟨53, _⟩ => ⟨S8704x1x32, .f32⟩
  | .hbm, ⟨54, _⟩ => ⟨S8704x1x32, .f32⟩
  | .hbm, ⟨55, _⟩ => ⟨S8704x1x32, .f32⟩
  | .hbm, ⟨56, _⟩ => ⟨S8704x1x32, .f32⟩
  | .hbm, ⟨57, _⟩ => ⟨S8704x1x32, .f32⟩
  | .hbm, ⟨58, _⟩ => ⟨S8704x1x32, .f32⟩
  | .hbm, ⟨59, _⟩ => ⟨S8704x1x32, .f32⟩
  | .hbm, ⟨60, _⟩ => ⟨S8704x1x32, .f32⟩
  | .hbm, ⟨61, _⟩ => ⟨S8704x1x64, .f32⟩
  | .hbm, ⟨62, _⟩ => ⟨S512x16x256, .f32⟩
  | .hbm, ⟨63, _⟩ => ⟨S512x16x128, .f32⟩
  | .hbm, ⟨64, _⟩ => ⟨S8704x16x128, .f32⟩
  | .hbm, ⟨65, _⟩ => ⟨S512x16x256, .f32⟩
  | .hbm, ⟨66, _⟩ => ⟨S512x16x128, .f32⟩
  | .hbm, ⟨67, _⟩ => ⟨S8704x16x128, .f32⟩
  | .hbm, ⟨68, _⟩ => ⟨S8704x16x64, .f32⟩
  | .hbm, ⟨69, _⟩ => ⟨S_, .f32⟩
  | .hbm, ⟨70, _⟩ => ⟨S8704x16x64, .f32⟩
  | .hbm, ⟨71, _⟩ => ⟨S8704x16x256, .f32⟩
  | .hbm, ⟨72, _⟩ => ⟨S8704x64, .f32⟩
  | .hbm, ⟨73, _⟩ => ⟨S8704x4096, .f32⟩
  | .hbm, ⟨74, _⟩ => ⟨S8704x4096, .bf16⟩
  | .hbm, ⟨75, _⟩ => ⟨S8704x2048, .f32⟩
  | .hbm, ⟨76, _⟩ => ⟨S8704x2048, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_5 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩

abbrev nD : Nat := 1
abbrev τ : Topo := Topo.v7x

variable {F : FTy → Type} [FloatOps F]
-- ==== Qp.lean ====
abbrev S8704x2048 : Shape := ⟨2, ![8704, 2048]⟩
abbrev S1x2048x7232 : Shape := ⟨3, ![1, 2048, 7232]⟩
abbrev S1x512 : Shape := ⟨2, ![1, 512]⟩
abbrev S1x512x16x192 : Shape := ⟨4, ![1, 512, 16, 192]⟩
abbrev S8192 : Shape := ⟨1, ![8192]⟩
abbrev S4 : Shape := ⟨1, ![4]⟩
abbrev S_ : Shape := ⟨0, ![]⟩
abbrev S1x4 : Shape := ⟨2, ![1, 4]⟩
abbrev S128x4 : Shape := ⟨2, ![128, 4]⟩
abbrev S512 : Shape := ⟨1, ![512]⟩
abbrev S8704 : Shape := ⟨1, ![8704]⟩
abbrev S32 : Shape := ⟨1, ![32]⟩
abbrev S8704x1 : Shape := ⟨2, ![8704, 1]⟩
abbrev S1x32 : Shape := ⟨2, ![1, 32]⟩
abbrev S8704x32 : Shape := ⟨2, ![8704, 32]⟩
abbrev S8704x64 : Shape := ⟨2, ![8704, 64]⟩
abbrev S8704x128 : Shape := ⟨2, ![8704, 128]⟩
abbrev S512x16x192 : Shape := ⟨3, ![512, 16, 192]⟩
abbrev S512x16x64 : Shape := ⟨3, ![512, 16, 64]⟩
abbrev S2048x7232 : Shape := ⟨2, ![2048, 7232]⟩
abbrev S2048x512 : Shape := ⟨2, ![2048, 512]⟩
abbrev S512x16x128 : Shape := ⟨3, ![512, 16, 128]⟩
abbrev S512x2048 : Shape := ⟨2, ![512, 2048]⟩
abbrev S512x16x32 : Shape := ⟨3, ![512, 16, 32]⟩
abbrev S8704x4096 : Shape := ⟨2, ![8704, 4096]⟩
abbrev S512x128 : Shape := ⟨2, ![512, 128]⟩
abbrev S512x4096 : Shape := ⟨2, ![512, 4096]⟩
abbrev S512x512 : Shape := ⟨2, ![512, 512]⟩
abbrev S512x1 : Shape := ⟨2, ![512, 1]⟩

abbrev nBuf : Space → Nat
  | .hbm => 64
  | .vmem => 13
  | .smem => 0
  | _ => 0

abbrev bufTy : (tb : Table) → Fin (tcTables nBuf tb) → BufTy
  | .hbm, ⟨0, _⟩ => ⟨S8704x2048, .bf16⟩
  | .hbm, ⟨1, _⟩ => ⟨S1x2048x7232, .f32⟩
  | .hbm, ⟨2, _⟩ => ⟨S1x512, .f32⟩
  | .hbm, ⟨3, _⟩ => ⟨S1x512x16x192, .f32⟩
  | .hbm, ⟨4, _⟩ => ⟨S8192, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S1x4, .f32⟩
  | .hbm, ⟨10, _⟩ => ⟨S128x4, .f32⟩
  | .hbm, ⟨11, _⟩ => ⟨S512, .f32⟩
  | .hbm, ⟨12, _⟩ => ⟨S8704, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S8704x1, .f32⟩
  | .hbm, ⟨22, _⟩ => ⟨S1x32, .f32⟩
  | .hbm, ⟨23, _⟩ => ⟨S8704x32, .f32⟩
  | .hbm, ⟨24, _⟩ => ⟨S8704x32, .f32⟩
  | .hbm, ⟨25, _⟩ => ⟨S8704x32, .f32⟩
  | .hbm, ⟨26, _⟩ => ⟨S8704x32, .f32⟩
  | .hbm, ⟨27, _⟩ => ⟨S8704x32, .f32⟩
  | .hbm, ⟨28, _⟩ => ⟨S_, .f32⟩
  | .hbm, ⟨29, _⟩ => ⟨S8704x64, .f32⟩
  | .hbm, ⟨30, _⟩ => ⟨S8704x128, .f32⟩
  | .hbm, ⟨31, _⟩ => ⟨S8704x128, .f32⟩
  | .hbm, ⟨32, _⟩ => ⟨S_, .f32⟩
  | .hbm, ⟨33, _⟩ => ⟨S8704x128, .f32⟩
  | .hbm, ⟨34, _⟩ => ⟨S8704x128, .f32⟩
  | .hbm, ⟨35, _⟩ => ⟨S_, .f32⟩
  | .hbm, ⟨36, _⟩ => ⟨S8704x128, .f32⟩
  | .hbm, ⟨37, _⟩ => ⟨S8704x128, .f32⟩
  | .hbm, ⟨38, _⟩ => ⟨S512x16x192, .f32⟩
  | .hbm, ⟨39, _⟩ => ⟨S512x16x64, .f32⟩
  | .hbm, ⟨40, _⟩ => ⟨S2048x7232, .f32⟩
  | .hbm, ⟨41, _⟩ => ⟨S2048x512, .f32⟩
  | .hbm, ⟨42, _⟩ => ⟨S2048x512, .bf16⟩
  | .hbm, ⟨43, _⟩ => ⟨S512, .f32⟩
  | .hbm, ⟨44, _⟩ => ⟨S1x512, .f32⟩
  | .hbm, ⟨45, _⟩ => ⟨S512x16x192, .f32⟩
  | .hbm, ⟨46, _⟩ => ⟨S512x16x128, .f32⟩
  | .hbm, ⟨47, _⟩ => ⟨S512x2048, .f32⟩
  | .hbm, ⟨48, _⟩ => ⟨S512x2048, .bf16⟩
  | .hbm, ⟨49, _⟩ => ⟨S_, .f32⟩
  | .hbm, ⟨50, _⟩ => ⟨S512x16x64, .f32⟩
  | .hbm, ⟨51, _⟩ => ⟨S512x16x128, .f32⟩
  | .hbm, ⟨52, _⟩ => ⟨S512x2048, .f32⟩
  | .hbm, ⟨53, _⟩ => ⟨S512x2048, .bf16⟩
  | .hbm, ⟨54, _⟩ => ⟨S512x16x32, .f32⟩
  | .hbm, ⟨55, _⟩ => ⟨S512x16x32, .f32⟩
  | .hbm, ⟨56, _⟩ => ⟨S512x16x32, .f32⟩
  | .hbm, ⟨57, _⟩ => ⟨S512x16x64, .f32⟩
  | .hbm, ⟨58, _⟩ => ⟨S_, .f32⟩
  | .hbm, ⟨59, _⟩ => ⟨S512x16x64, .f32⟩
  | .hbm, ⟨60, _⟩ => ⟨S512x16x128, .f32⟩
  | .hbm, ⟨61, _⟩ => ⟨S512x2048, .f32⟩
  | .hbm, ⟨62, _⟩ => ⟨S512x2048, .bf16⟩
  | .hbm, ⟨63, _⟩ => ⟨S8704x4096, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S1x512, .f32⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x4096, .bf16⟩
  | .local _ .vmem, ⟨12, _⟩ => ⟨S512x4096, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== QpRefIdeal.lean ====
abbrev S8704x2048 : Shape := ⟨2, ![8704, 2048]⟩
abbrev S1x2048x7232 : Shape := ⟨3, ![1, 2048, 7232]⟩
abbrev S1x512 : Shape := ⟨2, ![1, 512]⟩
abbrev S1x512x16x192 : Shape := ⟨4, ![1, 512, 16, 192]⟩
abbrev S2048x7232 : Shape := ⟨2, ![2048, 7232]⟩
abbrev S8704x7232 : Shape := ⟨2, ![8704, 7232]⟩
abbrev S8704x512 : Shape := ⟨2, ![8704, 512]⟩
abbrev S512 : Shape := ⟨1, ![512]⟩
abbrev S_ : Shape := ⟨0, ![]⟩
abbrev S8704 : Shape := ⟨1, ![8704]⟩
abbrev S8704x1 : Shape := ⟨2, ![8704, 1]⟩
abbrev S512x16x192 : Shape := ⟨3, ![512, 16, 192]⟩
abbrev S8704x16x192 : Shape := ⟨3, ![8704, 16, 192]⟩
abbrev S8704x16x128 : Shape := ⟨3, ![8704, 16, 128]⟩
abbrev S8704x16x64 : Shape := ⟨3, ![8704, 16, 64]⟩
abbrev S8192 : Shape := ⟨1, ![8192]⟩
abbrev S4 : Shape := ⟨1, ![4]⟩
abbrev S1x4 : Shape := ⟨2, ![1, 4]⟩
abbrev S128x4 : Shape := ⟨2, ![128, 4]⟩
abbrev S32 : Shape := ⟨1, ![32]⟩
abbrev S1x32 : Shape := ⟨2, ![1, 32]⟩
abbrev S8704x32 : Shape := ⟨2, ![8704, 32]⟩
abbrev S8704x1x32 : Shape := ⟨3, ![8704, 1, 32]⟩
abbrev S8704x16x32 : Shape := ⟨3, ![8704, 16, 32]⟩
abbrev S8704x16x256 : Shape := ⟨3, ![8704, 16, 256]⟩
abbrev S8704x4096 : Shape := ⟨2, ![8704, 4096]⟩

abbrev nBuf : Space → Nat
  | .hbm => 79
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S1x2048x7232, .f32⟩
  | .hbm, ⟨2, _⟩ => ⟨S1x512, .f32⟩
  | .hbm, ⟨3, _⟩ => ⟨S1x512x16x192, .f32⟩
  | .hbm, ⟨4, _⟩ => ⟨S8704x2048, .f32⟩
  | .hbm, ⟨5, _⟩ => ⟨S2048x7232, .f32⟩
  | .hbm, ⟨6, _⟩ => ⟨S8704x7232, .f32⟩
  | .hbm, ⟨7, _⟩ => ⟨S8704x512, .f32⟩
  | .hbm, ⟨8, _⟩ => ⟨S512, .f32⟩
  | .hbm, ⟨9, _⟩ => ⟨S8704x512, .f32⟩
  | .hbm, ⟨10, _⟩ => ⟨S_, .f32⟩
  | .hbm, ⟨11, _⟩ => ⟨S8704, .f32⟩
  | .hbm, ⟨12, _⟩ => ⟨S8704x1, .f32⟩
  | .hbm, ⟨13, _⟩ => ⟨S_, .f32⟩
  | .hbm, ⟨14, _⟩ => ⟨S8704x1, .f32⟩
  | .hbm, ⟨15, _⟩ => ⟨S8704x1, .f32⟩
  | .hbm, ⟨16, _⟩ => ⟨S_, .f32⟩
  | .hbm, ⟨17, _⟩ => ⟨S8704x1, .f32⟩
  | .hbm, ⟨18, _⟩ => ⟨S8704x1, .f32⟩
  | .hbm, ⟨19, _⟩ => ⟨S8704x1, .f32⟩
  | .hbm, ⟨20, _⟩ => ⟨S8704x512, .f32⟩
  | .hbm, ⟨21, _⟩ => ⟨S8704x512, .f32⟩
  | .hbm, ⟨22, _⟩ => ⟨S1x512, .f32⟩
  | .hbm, ⟨23, _⟩ => ⟨S8704x512, .f32⟩
  | .hbm, ⟨24, _⟩ => ⟨S8704x512, .f32⟩
  | .hbm, ⟨25, _⟩ => ⟨S512x16x192, .f32⟩
  | .hbm, ⟨26, _⟩ => ⟨S8704x16x192, .f32⟩
  | .hbm, ⟨27, _⟩ => ⟨S8704x16x128, .f32⟩
  | .hbm, ⟨28, _⟩ => ⟨S8704x16x64, .f32⟩
  | .hbm, ⟨29, _⟩ => ⟨S8192, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S4, .f32⟩
  | .hbm, ⟨34, _⟩ => ⟨S1x4, .f32⟩
  | .hbm, ⟨35, _⟩ => ⟨S128x4, .f32⟩
  | .hbm, ⟨36, _⟩ => ⟨S512, .f32⟩
  | .hbm, ⟨37, _⟩ => ⟨S8704, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S8704x1, .f32⟩
  | .hbm, ⟨47, _⟩ => ⟨S1x32, .f32⟩
  | .hbm, ⟨48, _⟩ => ⟨S8704x32, .f32⟩
  | .hbm, ⟨49, _⟩ => ⟨S8704x32, .f32⟩
  | .hbm, ⟨50, _⟩ => ⟨S8704x32, .f32⟩
  | .hbm, ⟨51, _⟩ => ⟨S8704x32, .f32⟩
  | .hbm, ⟨52, _⟩ => ⟨S8704x1x32, .f32⟩
  | .hbm, ⟨53, _⟩ => ⟨S8704x32, .f32⟩
  | .hbm, ⟨54, _⟩ => ⟨S8704x1x32, .f32⟩
  | .hbm, ⟨55, _⟩ => ⟨S8704x16x32, .f32⟩
  | .hbm, ⟨56, _⟩ => ⟨S8704x16x32, .f32⟩
  | .hbm, ⟨57, _⟩ => ⟨S8704x16x32, .f32⟩
  | .hbm, ⟨58, _⟩ => ⟨S8704x16x32, .f32⟩
  | .hbm, ⟨59, _⟩ => ⟨S8704x16x32, .f32⟩
  | .hbm, ⟨60, _⟩ => ⟨S8704x16x32, .f32⟩
  | .hbm, ⟨61, _⟩ => ⟨S8704x16x32, .f32⟩
  | .hbm, ⟨62, _⟩ => ⟨S8704x16x32, .f32⟩
  | .hbm, ⟨63, _⟩ => ⟨S8704x16x32, .f32⟩
  | .hbm, ⟨64, _⟩ => ⟨S8704x16x32, .f32⟩
  | .hbm, ⟨65, _⟩ => ⟨S8704x16x32, .f32⟩
  | .hbm, ⟨66, _⟩ => ⟨S8704x16x32, .f32⟩
  | .hbm, ⟨67, _⟩ => ⟨S8704x16x64, .f32⟩
  | .hbm, ⟨68, _⟩ => ⟨S_, .f32⟩
  | .hbm, ⟨69, _⟩ => ⟨S8704x16x128, .f32⟩
  | .hbm, ⟨70, _⟩ => ⟨S8704x16x128, .f32⟩
  | .hbm, ⟨71, _⟩ => ⟨S_, .f32⟩
  | .hbm, ⟨72, _⟩ => ⟨S8704x16x64, .f32⟩
  | .hbm, ⟨73, _⟩ => ⟨S8704x16x64, .f32⟩
  | .hbm, ⟨74, _⟩ => ⟨S_, .f32⟩
  | .hbm, ⟨75, _⟩ => ⟨S8704x16x64, .f32⟩
  | .hbm, ⟨76, _⟩ => ⟨S8704x16x256, .f32⟩
  | .hbm, ⟨77, _⟩ => ⟨S8704x4096, .f32⟩
  | .hbm, ⟨78, _⟩ => ⟨S8704x4096, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_5 : Ref sig .tc := ⟨.hbm, 68, rfl⟩
abbrev main_v58 : Ref sig .tc := ⟨.hbm, 69, rfl⟩
abbrev main_v59 : Ref sig .tc := ⟨.hbm, 70, rfl⟩
abbrev main_cst_6 : Ref sig .tc := ⟨.hbm, 71, rfl⟩
abbrev main_v60 : Ref sig .tc := ⟨.hbm, 72, rfl⟩
abbrev main_v61 : Ref sig .tc := ⟨.hbm, 73, rfl⟩
abbrev main_cst_7 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩

abbrev nD : Nat := 1
abbrev τ : Topo := Topo.v7x

variable {F : FTy → Type} [FloatOps F]
-- ==== Absorb.lean ====
abbrev S8704x4096 : Shape := ⟨2, ![8704, 4096]⟩
abbrev S1x512x16x256 : Shape := ⟨4, ![1, 512, 16, 256]⟩
abbrev S512x16x256 : Shape := ⟨3, ![512, 16, 256]⟩
abbrev S512x16x128 : Shape := ⟨3, ![512, 16, 128]⟩
abbrev S16x128x512 : Shape := ⟨3, ![16, 128, 512]⟩
abbrev S512x8192 : Shape := ⟨2, ![512, 8192]⟩
abbrev S512x128 : Shape := ⟨2, ![512, 128]⟩
abbrev S1x128x512 : Shape := ⟨3, ![1, 128, 512]⟩
abbrev S512x512 : Shape := ⟨2, ![512, 512]⟩
abbrev S128x512 : Shape := ⟨2, ![128, 512]⟩

abbrev nBuf : Space → Nat
  | .hbm => 7
  | .vmem => 6
  | .smem => 0
  | _ => 0

abbrev bufTy : (tb : Table) → Fin (tcTables nBuf tb) → BufTy
  | .hbm, ⟨0, _⟩ => ⟨S8704x4096, .bf16⟩
  | .hbm, ⟨1, _⟩ => ⟨S1x512x16x256, .f32⟩
  | .hbm, ⟨2, _⟩ => ⟨S512x16x256, .f32⟩
  | .hbm, ⟨3, _⟩ => ⟨S512x16x128, .f32⟩
  | .hbm, ⟨4, _⟩ => ⟨S16x128x512, .f32⟩
  | .hbm, ⟨5, _⟩ => ⟨S16x128x512, .bf16⟩
  | .hbm, ⟨6, _⟩ => ⟨S512x8192, .bf16⟩
  | .local _ .vmem, ⟨0, _⟩ => ⟨S512x128, .bf16⟩
  | .local _ .vmem, ⟨1, _⟩ => ⟨S512x128, .bf16⟩
  | .local _ .vmem, ⟨2, _⟩ => ⟨S1x128x512, .bf16⟩
  | .local _ .vmem, ⟨3, _⟩ => ⟨S1x128x512, .bf16⟩
  | .local _ .vmem, ⟨4, _⟩ => ⟨S512x512, .bf16⟩
  | .local _ .vmem, ⟨5, _⟩ => ⟨S512x512, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c16_i32 : BitVec 32 := 16#32
  let c0_i32 : BitVec 32 := 0#32
  ![c16_i32.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AbsorbRefIdeal.lean ====
abbrev S8704x4096 : Shape := ⟨2, ![8704, 4096]⟩
abbrev S1x512x16x256 : Shape := ⟨4, ![1, 512, 16, 256]⟩
abbrev S512x4096 : Shape := ⟨2, ![512, 4096]⟩
abbrev S512x16x256 : Shape := ⟨3, ![512, 16, 256]⟩
abbrev S512x16x128 : Shape := ⟨3, ![512, 16, 128]⟩
abbrev S16x512x512 : Shape := ⟨3, ![16, 512, 512]⟩
abbrev S512x16x512 : Shape := ⟨3, ![512, 16, 512]⟩
abbrev S512x8192 : Shape := ⟨2, ![512, 8192]⟩

abbrev nBuf : Space → Nat
  | .hbm => 12
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S1x512x16x256, .f32⟩
  | .hbm, ⟨2, _⟩ => ⟨S8704x4096, .f32⟩
  | .hbm, ⟨3, _⟩ => ⟨S512x4096, .f32⟩
  | .hbm, ⟨4, _⟩ => ⟨S512x16x256, .f32⟩
  | .hbm, ⟨5, _⟩ => ⟨S512x16x128, .f32⟩
  | .hbm, ⟨6, _⟩ => ⟨S512x16x256, .f32⟩
  | .hbm, ⟨7, _⟩ => ⟨S512x16x128, .f32⟩
  | .hbm, ⟨8, _⟩ => ⟨S16x512x512, .f32⟩
  | .hbm, ⟨9, _⟩ => ⟨S512x16x512, .f32⟩
  | .hbm, ⟨10, _⟩ => ⟨S512x8192, .f32⟩
  | .hbm, ⟨11, _⟩ => ⟨S512x8192, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Uv.lean ====
abbrev S8704x2048 : Shape := ⟨2, ![8704, 2048]⟩
abbrev S512x8192 : Shape := ⟨2, ![512, 8192]⟩
abbrev S1x512x16x256 : Shape := ⟨4, ![1, 512, 16, 256]⟩
abbrev S512x16x256 : Shape := ⟨3, ![512, 16, 256]⟩
abbrev S512x16x128 : Shape := ⟨3, ![512, 16, 128]⟩
abbrev S16x512x128 : Shape := ⟨3, ![16, 512, 128]⟩
abbrev S512x512 : Shape := ⟨2, ![512, 512]⟩
abbrev S1x512x128 : Shape := ⟨3, ![1, 512, 128]⟩
abbrev S512x128 : Shape := ⟨2, ![512, 128]⟩

abbrev nBuf : Space → Nat
  | .hbm => 8
  | .vmem => 6
  | .smem => 0
  | _ => 0

abbrev bufTy : (tb : Table) → Fin (tcTables nBuf tb) → BufTy
  | .hbm, ⟨0, _⟩ => ⟨S8704x2048, .bf16⟩
  | .hbm, ⟨1, _⟩ => ⟨S512x8192, .bf16⟩
  | .hbm, ⟨2, _⟩ => ⟨S1x512x16x256, .f32⟩
  | .hbm, ⟨3, _⟩ => ⟨S512x16x256, .f32⟩
  | .hbm, ⟨4, _⟩ => ⟨S512x16x128, .f32⟩
  | .hbm, ⟨5, _⟩ => ⟨S16x512x128, .f32⟩
  | .hbm, ⟨6, _⟩ => ⟨S16x512x128, .bf16⟩
  | .hbm, ⟨7, _⟩ => ⟨S8704x2048, .bf16⟩
  | .local _ .vmem, ⟨0, _⟩ => ⟨S512x512, .bf16⟩
  | .local _ .vmem, ⟨1, _⟩ => ⟨S512x512, .bf16⟩
  | .local _ .vmem, ⟨2, _⟩ => ⟨S1x512x128, .bf16⟩
  | .local _ .vmem, ⟨3, _⟩ => ⟨S1x512x128, .bf16⟩
  | .local _ .vmem, ⟨4, _⟩ => ⟨S512x128, .bf16⟩
  | .local _ .vmem, ⟨5, _⟩ => ⟨S512x128, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c16_i32 : BitVec 32 := 16#32
  let c0_i32 : BitVec 32 := 0#32
  ![c16_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== UvRefIdeal.lean ====
abbrev S8704x2048 : Shape := ⟨2, ![8704, 2048]⟩
abbrev S512x8192 : Shape := ⟨2, ![512, 8192]⟩
abbrev S1x512x16x256 : Shape := ⟨4, ![1, 512, 16, 256]⟩
abbrev S512x16x512 : Shape := ⟨3, ![512, 16, 512]⟩
abbrev S512x16x256 : Shape := ⟨3, ![512, 16, 256]⟩
abbrev S512x16x128 : Shape := ⟨3, ![512, 16, 128]⟩
abbrev S16x128x512 : Shape := ⟨3, ![16, 128, 512]⟩
abbrev S8192x2048 : Shape := ⟨2, ![8192, 2048]⟩
abbrev S512x2048 : Shape := ⟨2, ![512, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S512x8192, .bf16⟩
  | .hbm, ⟨2, _⟩ => ⟨S1x512x16x256, .f32⟩
  | .hbm, ⟨3, _⟩ => ⟨S512x8192, .f32⟩
  | .hbm, ⟨4, _⟩ => ⟨S512x16x512, .f32⟩
  | .hbm, ⟨5, _⟩ => ⟨S512x16x256, .f32⟩
  | .hbm, ⟨6, _⟩ => ⟨S512x16x128, .f32⟩
  | .hbm, ⟨7, _⟩ => ⟨S16x128x512, .f32⟩
  | .hbm, ⟨8, _⟩ => ⟨S512x16x128, .f32⟩
  | .hbm, ⟨9, _⟩ => ⟨S8704x2048, .f32⟩
  | .hbm, ⟨10, _⟩ => ⟨S8192x2048, .f32⟩
  | .hbm, ⟨11, _⟩ => ⟨S512x2048, .f32⟩
  | .hbm, ⟨12, _⟩ => ⟨S8704x2048, .f32⟩
  | .hbm, ⟨13, _⟩ => ⟨S8704x2048, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== ConvS.lean ====
abbrev S8704x1024 : Shape := ⟨2, ![8704, 1024]⟩
abbrev S1x128x30x1024 : Shape := ⟨4, ![1, 128, 30, 1024]⟩
abbrev S1x31x1024 : Shape := ⟨3, ![1, 31, 1024]⟩
abbrev S1x1024 : Shape := ⟨2, ![1, 1024]⟩
abbrev S128x30x1024 : Shape := ⟨3, ![128, 30, 1024]⟩
abbrev S31x1024 : Shape := ⟨2, ![31, 1024]⟩
abbrev S1024 : Shape := ⟨1, ![1024]⟩
abbrev S2176x4x1024 : Shape := ⟨3, ![2176, 4, 1024]⟩
abbrev S_ : Shape := ⟨0, ![]⟩
abbrev S40x1024 : Shape := ⟨2, ![40, 1024]⟩
abbrev S30x1024 : Shape := ⟨2, ![30, 1024]⟩
abbrev S1 : Shape := ⟨1, ![1]⟩
abbrev S29x1024 : Shape := ⟨2, ![29, 1024]⟩
abbrev S2x1024 : Shape := ⟨2, ![2, 1024]⟩
abbrev S28x1024 : Shape := ⟨2, ![28, 1024]⟩
abbrev S3x1024 : Shape := ⟨2, ![3, 1024]⟩
abbrev S27x1024 : Shape := ⟨2, ![27, 1024]⟩
abbrev S4x1024 : Shape := ⟨2, ![4, 1024]⟩
abbrev S1x40x1024 : Shape := ⟨3, ![1, 40, 1024]⟩
abbrev S4x40x1024 : Shape := ⟨3, ![4, 40, 1024]⟩
abbrev S8x30x1024 : Shape := ⟨3, ![8, 30, 1024]⟩
abbrev S8x4x1024 : Shape := ⟨3, ![8, 4, 1024]⟩
abbrev S32x1024 : Shape := ⟨2, ![32, 1024]⟩
abbrev S16x1024 : Shape := ⟨2, ![16, 1024]⟩
abbrev S1x30x1024 : Shape := ⟨3, ![1, 30, 1024]⟩
abbrev S1x4x1024 : Shape := ⟨3, ![1, 4, 1024]⟩
abbrev S32 : Shape := ⟨1, ![32]⟩
abbrev S32x1 : Shape := ⟨2, ![32, 1]⟩

abbrev nBuf : Space → Nat
  | .hbm => 62
  | .vmem => 12
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .f32⟩
  | .hbm, ⟨2, _⟩ => ⟨S1x128x30x1024, .f32⟩
  | .hbm, ⟨3, _⟩ => ⟨S1x31x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S128x30x1024, .f32⟩
  | .hbm, ⟨8, _⟩ => ⟨S31x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S2176x4x1024, .f32⟩
  | .hbm, ⟨16, _⟩ => ⟨S_, .f32⟩
  | .hbm, ⟨17, _⟩ => ⟨S40x1024, .f32⟩
  | .hbm, ⟨18, _⟩ => ⟨S30x1024, .f32⟩
  | .hbm, ⟨19, _⟩ => ⟨S_, .i32⟩
  | .hbm, ⟨20, _⟩ => ⟨S1, .i32⟩
  | .hbm, ⟨21, _⟩ => ⟨S40x1024, .f32⟩
  | .hbm, ⟨22, _⟩ => ⟨S1x1024, .f32⟩
  | .hbm, ⟨23, _⟩ => ⟨S_, .i32⟩
  | .hbm, ⟨24, _⟩ => ⟨S1, .i32⟩
  | .hbm, ⟨25, _⟩ => ⟨S40x1024, .f32⟩
  | .hbm, ⟨26, _⟩ => ⟨S_, .f32⟩
  | .hbm, ⟨27, _⟩ => ⟨S40x1024, .f32⟩
  | .hbm, ⟨28, _⟩ => ⟨S29x1024, .f32⟩
  | .hbm, ⟨29, _⟩ => ⟨S_, .i32⟩
  | .hbm, ⟨30, _⟩ => ⟨S1, .i32⟩
  | .hbm, ⟨31, _⟩ => ⟨S40x1024, .f32⟩
  | .hbm, ⟨32, _⟩ => ⟨S2x1024, .f32⟩
  | .hbm, ⟨33, _⟩ => ⟨S_, .i32⟩
  | .hbm, ⟨34, _⟩ => ⟨S1, .i32⟩
  | .hbm, ⟨35, _⟩ => ⟨S40x1024, .f32⟩
  | .hbm, ⟨36, _⟩ => ⟨S_, .f32⟩
  | .hbm, ⟨37, _⟩ => ⟨S40x1024, .f32⟩
  | .hbm, ⟨38, _⟩ => ⟨S28x1024, .f32⟩
  | .hbm, ⟨39, _⟩ => ⟨S_, .i32⟩
  | .hbm, ⟨40, _⟩ => ⟨S1, .i32⟩
  | .hbm, ⟨41, _⟩ => ⟨S40x1024, .f32⟩
  | .hbm, ⟨42, _⟩ => ⟨S3x1024, .f32⟩
  | .hbm, ⟨43, _⟩ => ⟨S_, .i32⟩
  | .hbm, ⟨44, _⟩ => ⟨S1, .i32⟩
  | .hbm, ⟨45, _⟩ => ⟨S40x1024, .f32⟩
  | .hbm, ⟨46, _⟩ => ⟨S_, .f32⟩
  | .hbm, ⟨47, _⟩ => ⟨S40x1024, .f32⟩
  | .hbm, ⟨48, _⟩ => ⟨S27x1024, .f32⟩
  | .hbm, ⟨49, _⟩ => ⟨S_, .i32⟩
  | .hbm, ⟨50, _⟩ => ⟨S1, .i32⟩
  | .hbm, ⟨51, _⟩ => ⟨S40x1024, .f32⟩
  | .hbm, ⟨52, _⟩ => ⟨S4x1024, .f32⟩
  | .hbm, ⟨53, _⟩ => ⟨S_, .i32⟩
  | .hbm, ⟨54, _⟩ => ⟨S1, .i32⟩
  | .hbm, ⟨55, _⟩ => ⟨S40x1024, .f32⟩
  | .hbm, ⟨56, _⟩ => ⟨S1x40x1024, .f32⟩
  | .hbm, ⟨57, _⟩ => ⟨S1x40x1024, .f32⟩
  | .hbm, ⟨58, _⟩ => ⟨S1x40x1024, .f32⟩
  | .hbm, ⟨59, _⟩ => ⟨S1x40x1024, .f32⟩
  | .hbm, ⟨60, _⟩ => ⟨S4x40x1024, .f32⟩
  | .hbm, ⟨61, _⟩ => ⟨S8704x1024, .bf16⟩
  | .local _ .vmem, ⟨0, _⟩ => ⟨S8x30x1024, .f32⟩
  | .local _ .vmem, ⟨1, _⟩ => ⟨S8x30x1024, .f32⟩
  | .local _ .vmem, ⟨2, _⟩ => ⟨S8x4x1024, .f32⟩
  | .local _ .vmem, ⟨3, _⟩ => ⟨S8x4x1024, .f32⟩
  | .local _ .vmem, ⟨4, _⟩ => ⟨S4x40x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S32x1024, .bf16⟩
  | .local _ .vmem, ⟨9, _⟩ => ⟨S32x1024, .bf16⟩
  | .local _ .vmem, ⟨10, _⟩ => ⟨S40x1024, .f32⟩
  | .local _ .vmem, ⟨11, _⟩ => ⟨S32x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_9 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

abbrev stage0_0 : Fin 2 → Memref sig .tc .vmem S8x30x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x40x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvSRefIdeal.lean ====
abbrev S8704x1024 : Shape := ⟨2, ![8704, 1024]⟩
abbrev S1x128x30x1024 : Shape := ⟨4, ![1, 128, 30, 1024]⟩
abbrev S1x31x1024 : Shape := ⟨3, ![1, 31, 1024]⟩
abbrev S1x1024 : Shape := ⟨2, ![1, 1024]⟩
abbrev S128x30x1024 : Shape := ⟨3, ![128, 30, 1024]⟩
abbrev S512x1024 : Shape := ⟨2, ![512, 1024]⟩
abbrev S128x4x1024 : Shape := ⟨3, ![128, 4, 1024]⟩
abbrev S128x34x1024 : Shape := ⟨3, ![128, 34, 1024]⟩
abbrev S31x1024 : Shape := ⟨2, ![31, 1024]⟩
abbrev S1024 : Shape := ⟨1, ![1024]⟩
abbrev S1x1x1024 : Shape := ⟨3, ![1, 1, 1024]⟩
abbrev S_ : Shape := ⟨0, ![]⟩
abbrev S128x4 : Shape := ⟨2, ![128, 4]⟩
abbrev S128x4x1 : Shape := ⟨3, ![128, 4, 1]⟩
abbrev S8192x1024 : Shape := ⟨2, ![8192, 1024]⟩

abbrev nBuf : Space → Nat
  | .hbm => 309
  | .vmem => 0
  | .smem => 0
  | _ => 0

abbrev hbmTy0_0 (i : Nat) : BufTy := match i % 128 with
  | 0 => ⟨S8704x1024, .bf16⟩
  | 1 => ⟨S8704x1024, .f32⟩
  | 2 => ⟨S1x128x30x1024, .f32⟩
  | 3 => ⟨S1x31x1024, .f32⟩
  | 4 => ⟨S1x1024, .f32⟩
  | 5 => ⟨S1x1024, .f32⟩
  | 6 => ⟨S1x1024, .f32⟩
  | 7 => ⟨S128x30x1024, .f32⟩
  | 8 => ⟨S512x1024, .f32⟩
  | 9 => ⟨S128x4x1024, .f32⟩
  | 10 => ⟨S128x34x1024, .f32⟩
  | 11 => ⟨S128x4x1024, .f32⟩
  | 12 => ⟨S31x1024, .f32⟩
  | 13 => ⟨S1x1024, .f32⟩
  | 14 => ⟨S1024, .f32⟩
  | 15 => ⟨S1x1x1024, .f32⟩
  | 16 => ⟨S128x4x1024, .f32⟩
  | 17 => ⟨S128x4x1024, .f32⟩
  | 18 => ⟨S_, .f32⟩
  | 19 => ⟨S128x4x1024, .f32⟩
  | 20 => ⟨S128x4x1024, .f32⟩
  | 21 => ⟨S128x4x1024, .f32⟩
  | 22 => ⟨S31x1024, .f32⟩
  | 23 => ⟨S1x1024, .f32⟩
  | 24 => ⟨S1024, .f32⟩
  | 25 => ⟨S1x1x1024, .f32⟩
  | 26 => ⟨S128x4x1024, .f32⟩
  | 27 => ⟨S128x4x1024, .f32⟩
  | 28 => ⟨S128x4x1024, .f32⟩
  | 29 => ⟨S128x4x1024, .f32⟩
  | 30 => ⟨S31x1024, .f32⟩
  | 31 => ⟨S1x1024, .f32⟩
  | 32 => ⟨S1024, .f32⟩
  | 33 => ⟨S1x1x1024, .f32⟩
  | 34 => ⟨S128x4x1024, .f32⟩
  | 35 => ⟨S128x4x1024, .f32⟩
  | 36 => ⟨S128x4x1024, .f32⟩
  | 37 => ⟨S128x4x1024, .f32⟩
  | 38 => ⟨S31x1024, .f32⟩
  | 39 => ⟨S1x1024, .f32⟩
  | 40 => ⟨S1024, .f32⟩
  | 41 => ⟨S1x1x1024, .f32⟩
  | 42 => ⟨S128x4x1024, .f32⟩
  | 43 => ⟨S128x4x1024, .f32⟩
  | 44 => ⟨S128x4x1024, .f32⟩
  | 45 => ⟨S128x4x1024, .f32⟩
  | 46 => ⟨S31x1024, .f32⟩
  | 47 => ⟨S1x1024, .f32⟩
  | 48 => ⟨S1024, .f32⟩
  | 49 => ⟨S1x1x1024, .f32⟩
  | 50 => ⟨S128x4x1024, .f32⟩
  | 51 => ⟨S128x4x1024, .f32⟩
  | 52 => ⟨S128x4x1024, .f32⟩
  | 53 => ⟨S128x4x1024, .f32⟩
  | 54 => ⟨S31x1024, .f32⟩
  | 55 => ⟨S1x1024, .f32⟩
  | 56 => ⟨S1024, .f32⟩
  | 57 => ⟨S1x1x1024, .f32⟩
  | 58 => ⟨S128x4x1024, .f32⟩
  | 59 => ⟨S128x4x1024, .f32⟩
  | 60 => ⟨S128x4x1024, .f32⟩
  | 61 => ⟨S128x4x1024, .f32⟩
  | 62 => ⟨S31x1024, .f32⟩
  | 63 => ⟨S1x1024, .f32⟩
  | 64 => ⟨S1024, .f32⟩
  | 65 => ⟨S1x1x1024, .f32⟩
  | 66 => ⟨S128x4x1024, .f32⟩
  | 67 => ⟨S128x4x1024, .f32⟩
  | 68 => ⟨S128x4x1024, .f32⟩
  | 69 => ⟨S128x4x1024, .f32⟩
  | 70 => ⟨S31x1024, .f32⟩
  | 71 => ⟨S1x1024, .f32⟩
  | 72 => ⟨S1024, .f32⟩
  | 73 => ⟨S1x1x1024, .f32⟩
  | 74 => ⟨S128x4x1024, .f32⟩
  | 75 => ⟨S128x4x1024, .f32⟩
  | 76 => ⟨S128x4x1024, .f32⟩
  | 77 => ⟨S128x4x1024, .f32⟩
  | 78 => ⟨S31x1024, .f32⟩
  | 79 => ⟨S1x1024, .f32⟩
  | 80 => ⟨S1024, .f32⟩
  | 81 => ⟨S1x1x1024, .f32⟩
  | 82 => ⟨S128x4x1024, .f32⟩
  | 83 => ⟨S128x4x1024, .f32⟩
  | 84 => ⟨S128x4x1024, .f32⟩
  | 85 => ⟨S128x4x1024, .f32⟩
  | 86 => ⟨S31x1024, .f32⟩
  | 87 => ⟨S1x1024, .f32⟩
  | 88 => ⟨S1024, .f32⟩
  | 89 => ⟨S1x1x1024, .f32⟩
  | 90 => ⟨S128x4x1024, .f32⟩
  | 91 => ⟨S128x4x1024, .f32⟩
  | 92 => ⟨S128x4x1024, .f32⟩
  | 93 => ⟨S128x4x1024, .f32⟩
  | 94 => ⟨S31x1024, .f32⟩
  | 95 => ⟨S1x1024, .f32⟩
  | 96 => ⟨S1024, .f32⟩
  | 97 => ⟨S1x1x1024, .f32⟩
  | 98 => ⟨S128x4x1024, .f32⟩
  | 99 => ⟨S128x4x1024, .f32⟩
  | 100 => ⟨S128x4x1024, .f32⟩
  | 101 => ⟨S128x4x1024, .f32⟩
  | 102 => ⟨S31x1024, .f32⟩
  | 103 => ⟨S1x1024, .f32⟩
  | 104 => ⟨S1024, .f32⟩
  | 105 => ⟨S1x1x1024, .f32⟩
  | 106 => ⟨S128x4x1024, .f32⟩
  | 107 => ⟨S128x4x1024, .f32⟩
  | 108 => ⟨S128x4x1024, .f32⟩
  | 109 => ⟨S128x4x1024, .f32⟩
  | 110 => ⟨S31x1024, .f32⟩
  | 111 => ⟨S1x1024, .f32⟩
  | 112 => ⟨S1024, .f32⟩
  | 113 => ⟨S1x1x1024, .f32⟩
  | 114 => ⟨S128x4x1024, .f32⟩
  | 115 => ⟨S128x4x1024, .f32⟩
  | 116 => ⟨S128x4x1024, .f32⟩
  | 117 => ⟨S128x4x1024, .f32⟩
  | 118 => ⟨S31x1024, .f32⟩
  | 119 => ⟨S1x1024, .f32⟩
  | 120 => ⟨S1024, .f32⟩
  | 121 => ⟨S1x1x1024, .f32⟩
  | 122 => ⟨S128x4x1024, .f32⟩
  | 123 => ⟨S128x4x1024, .f32⟩
  | 124 => ⟨S128x4x1024, .f32⟩
  | 125 => ⟨S128x4x1024, .f32⟩
  | 126 => ⟨S31x1024, .f32⟩
  | 127 => ⟨S1x1024, .f32⟩
  | _ => ⟨S8704x1024, .bf16⟩

abbrev hbmTy0_1 (i : Nat) : BufTy := match i % 128 with
  | 0 => ⟨S1024, .f32⟩
  | 1 => ⟨S1x1x1024, .f32⟩
  | 2 => ⟨S128x4x1024, .f32⟩
  | 3 => ⟨S128x4x1024, .f32⟩
  | 4 => ⟨S128x4x1024, .f32⟩
  | 5 => ⟨S128x4x1024, .f32⟩
  | 6 => ⟨S31x1024, .f32⟩
  | 7 => ⟨S1x1024, .f32⟩
  | 8 => ⟨S1024, .f32⟩
  | 9 => ⟨S1x1x1024, .f32⟩
  | 10 => ⟨S128x4x1024, .f32⟩
  | 11 => ⟨S128x4x1024, .f32⟩
  | 12 => ⟨S128x4x1024, .f32⟩
  | 13 => ⟨S128x4x1024, .f32⟩
  | 14 => ⟨S31x1024, .f32⟩
  | 15 => ⟨S1x1024, .f32⟩
  | 16 => ⟨S1024, .f32⟩
  | 17 => ⟨S1x1x1024, .f32⟩
  | 18 => ⟨S128x4x1024, .f32⟩
  | 19 => ⟨S128x4x1024, .f32⟩
  | 20 => ⟨S128x4x1024, .f32⟩
  | 21 => ⟨S128x4x1024, .f32⟩
  | 22 => ⟨S31x1024, .f32⟩
  | 23 => ⟨S1x1024, .f32⟩
  | 24 => ⟨S1024, .f32⟩
  | 25 => ⟨S1x1x1024, .f32⟩
  | 26 => ⟨S128x4x1024, .f32⟩
  | 27 => ⟨S128x4x1024, .f32⟩
  | 28 => ⟨S128x4x1024, .f32⟩
  | 29 => ⟨S128x4x1024, .f32⟩
  | 30 => ⟨S31x1024, .f32⟩
  | 31 => ⟨S1x1024, .f32⟩
  | 32 => ⟨S1024, .f32⟩
  | 33 => ⟨S1x1x1024, .f32⟩
  | 34 => ⟨S128x4x1024, .f32⟩
  | 35 => ⟨S128x4x1024, .f32⟩
  | 36 => ⟨S128x4x1024, .f32⟩
  | 37 => ⟨S128x4x1024, .f32⟩
  | 38 => ⟨S31x1024, .f32⟩
  | 39 => ⟨S1x1024, .f32⟩
  | 40 => ⟨S1024, .f32⟩
  | 41 => ⟨S1x1x1024, .f32⟩
  | 42 => ⟨S128x4x1024, .f32⟩
  | 43 => ⟨S128x4x1024, .f32⟩
  | 44 => ⟨S128x4x1024, .f32⟩
  | 45 => ⟨S128x4x1024, .f32⟩
  | 46 => ⟨S31x1024, .f32⟩
  | 47 => ⟨S1x1024, .f32⟩
  | 48 => ⟨S1024, .f32⟩
  | 49 => ⟨S1x1x1024, .f32⟩
  | 50 => ⟨S128x4x1024, .f32⟩
  | 51 => ⟨S128x4x1024, .f32⟩
  | 52 => ⟨S128x4x1024, .f32⟩
  | 53 => ⟨S128x4x1024, .f32⟩
  | 54 => ⟨S31x1024, .f32⟩
  | 55 => ⟨S1x1024, .f32⟩
  | 56 => ⟨S1024, .f32⟩
  | 57 => ⟨S1x1x1024, .f32⟩
  | 58 => ⟨S128x4x1024, .f32⟩
  | 59 => ⟨S128x4x1024, .f32⟩
  | 60 => ⟨S128x4x1024, .f32⟩
  | 61 => ⟨S128x4x1024, .f32⟩
  | 62 => ⟨S31x1024, .f32⟩
  | 63 => ⟨S1x1024, .f32⟩
  | 64 => ⟨S1024, .f32⟩
  | 65 => ⟨S1x1x1024, .f32⟩
  | 66 => ⟨S128x4x1024, .f32⟩
  | 67 => ⟨S128x4x1024, .f32⟩
  | 68 => ⟨S128x4x1024, .f32⟩
  | 69 => ⟨S128x4x1024, .f32⟩
  | 70 => ⟨S31x1024, .f32⟩
  | 71 => ⟨S1x1024, .f32⟩
  | 72 => ⟨S1024, .f32⟩
  | 73 => ⟨S1x1x1024, .f32⟩
  | 74 => ⟨S128x4x1024, .f32⟩
  | 75 => ⟨S128x4x1024, .f32⟩
  | 76 => ⟨S128x4x1024, .f32⟩
  | 77 => ⟨S128x4x1024, .f32⟩
  | 78 => ⟨S31x1024, .f32⟩
  | 79 => ⟨S1x1024, .f32⟩
  | 80 => ⟨S1024, .f32⟩
  | 81 => ⟨S1x1x1024, .f32⟩
  | 82 => ⟨S128x4x1024, .f32⟩
  | 83 => ⟨S128x4x1024, .f32⟩
  | 84 => ⟨S128x4x1024, .f32⟩
  | 85 => ⟨S128x4x1024, .f32⟩
  | 86 => ⟨S31x1024, .f32⟩
  | 87 => ⟨S1x1024, .f32⟩
  | 88 => ⟨S1024, .f32⟩
  | 89 => ⟨S1x1x1024, .f32⟩
  | 90 => ⟨S128x4x1024, .f32⟩
  | 91 => ⟨S128x4x1024, .f32⟩
  | 92 => ⟨S128x4x1024, .f32⟩
  | 93 => ⟨S128x4x1024, .f32⟩
  | 94 => ⟨S31x1024, .f32⟩
  | 95 => ⟨S1x1024, .f32⟩
  | 96 => ⟨S1024, .f32⟩
  | 97 => ⟨S1x1x1024, .f32⟩
  | 98 => ⟨S128x4x1024, .f32⟩
  | 99 => ⟨S128x4x1024, .f32⟩
  | 100 => ⟨S128x4x1024, .f32⟩
  | 101 => ⟨S128x4x1024, .f32⟩
  | 102 => ⟨S31x1024, .f32⟩
  | 103 => ⟨S1x1024, .f32⟩
  | 104 => ⟨S1024, .f32⟩
  | 105 => ⟨S1x1x1024, .f32⟩
  | 106 => ⟨S128x4x1024, .f32⟩
  | 107 => ⟨S128x4x1024, .f32⟩
  | 108 => ⟨S128x4x1024, .f32⟩
  | 109 => ⟨S128x4x1024, .f32⟩
  | 110 => ⟨S31x1024, .f32⟩
  | 111 => ⟨S1x1024, .f32⟩
  | 112 => ⟨S1024, .f32⟩
  | 113 => ⟨S1x1x1024, .f32⟩
  | 114 => ⟨S128x4x1024, .f32⟩
  | 115 => ⟨S128x4x1024, .f32⟩
  | 116 => ⟨S128x4x1024, .f32⟩
  | 117 => ⟨S128x4x1024, .f32⟩
  | 118 => ⟨S31x1024, .f32⟩
  | 119 => ⟨S1x1024, .f32⟩
  | 120 => ⟨S1024, .f32⟩
  | 121 => ⟨S1x1x1024, .f32⟩
  | 122 => ⟨S128x4x1024, .f32⟩
  | 123 => ⟨S128x4x1024, .f32⟩
  | 124 => ⟨S128x4x1024, .f32⟩
  | 125 => ⟨S128x4x1024, .f32⟩
  | 126 => ⟨S31x1024, .f32⟩
  | 127 => ⟨S1x1024, .f32⟩
  | _ => ⟨S8704x1024, .bf16⟩

abbrev hbmTy0_2 (i : Nat) : BufTy := match i % 128 with
  | 0 => ⟨S1024, .f32⟩
  | 1 => ⟨S1x1x1024, .f32⟩
  | 2 => ⟨S128x4x1024, .f32⟩
  | 3 => ⟨S128x4x1024, .f32⟩
  | 4 => ⟨S128x4x1024, .f32⟩
  | 5 => ⟨S1024, .f32⟩
  | 6 => ⟨S1x1x1024, .f32⟩
  | 7 => ⟨S128x4x1024, .f32⟩
  | 8 => ⟨S128x4x1024, .f32⟩
  | 9 => ⟨S1024, .f32⟩
  | 10 => ⟨S1024, .f32⟩
  | 11 => ⟨S_, .f32⟩
  | 12 => ⟨S128x4, .f32⟩
  | 13 => ⟨S128x4x1, .f32⟩
  | 14 => ⟨S_, .f32⟩
  | 15 => ⟨S128x4x1, .f32⟩
  | 16 => ⟨S128x4x1, .f32⟩
  | 17 => ⟨S128x4x1024, .f32⟩
  | 18 => ⟨S128x4x1024, .f32⟩
  | 19 => ⟨S128x4x1024, .f32⟩
  | 20 => ⟨S_, .f32⟩
  | 21 => ⟨S128x4, .f32⟩
  | 22 => ⟨S128x4x1, .f32⟩
  | 23 => ⟨S_, .f32⟩
  | 24 => ⟨S128x4x1, .f32⟩
  | 25 => ⟨S128x4x1, .f32⟩
  | 26 => ⟨S128x4x1024, .f32⟩
  | 27 => ⟨S128x4x1024, .f32⟩
  | 28 => ⟨S_, .f32⟩
  | 29 => ⟨S128x4x1, .f32⟩
  | 30 => ⟨S128x4x1, .f32⟩
  | 31 => ⟨S128x4x1, .f32⟩
  | 32 => ⟨S128x4x1024, .f32⟩
  | 33 => ⟨S128x4x1024, .f32⟩
  | 34 => ⟨S1x1x1024, .f32⟩
  | 35 => ⟨S128x4x1024, .f32⟩
  | 36 => ⟨S128x4x1024, .f32⟩
  | 37 => ⟨S1x1x1024, .f32⟩
  | 38 => ⟨S128x4x1024, .f32⟩
  | 39 => ⟨S128x4x1024, .f32⟩
  | 40 => ⟨S128x4x1024, .f32⟩
  | 41 => ⟨S128x4x1024, .f32⟩
  | 42 => ⟨S_, .f32⟩
  | 43 => ⟨S128x4x1024, .f32⟩
  | 44 => ⟨S128x4x1024, .f32⟩
  | 45 => ⟨S_, .f32⟩
  | 46 => ⟨S128x4x1024, .f32⟩
  | 47 => ⟨S128x4x1024, .f32⟩
  | 48 => ⟨S128x4x1024, .f32⟩
  | 49 => ⟨S8192x1024, .bf16⟩
  | 50 => ⟨S512x1024, .f32⟩
  | 51 => ⟨S512x1024, .bf16⟩
  | 52 => ⟨S8704x1024, .bf16⟩
  | _ => ⟨S8704x1024, .bf16⟩

abbrev hbmTy (i : Nat) : BufTy := match i / 128 with
  | 0 => hbmTy0_0 i
  | 1 => hbmTy0_1 i
  | 2 => hbmTy0_2 i
  | _ => ⟨S8704x1024, .bf16⟩

abbrev bufTy : (tb : Table) → Fin (tcTables nBuf tb) → BufTy
  | .hbm, ⟨i, _⟩ => hbmTy i
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_v231 : Ref sig .tc := ⟨.hbm, 239, rfl⟩
abbrev main_v232 : Ref sig .tc := ⟨.hbm, 240, rfl⟩
abbrev main_v233 : Ref sig .tc := ⟨.hbm, 241, rfl⟩
abbrev main_v234 : Ref sig .tc := ⟨.hbm, 242, rfl⟩
abbrev main_v235 : Ref sig .tc := ⟨.hbm, 243, rfl⟩
abbrev main_v236 : Ref sig .tc := ⟨.hbm, 244, rfl⟩
abbrev main_v237 : Ref sig .tc := ⟨.hbm, 245, rfl⟩
abbrev main_v238 : Ref sig .tc := ⟨.hbm, 246, rfl⟩
abbrev main_v239 : Ref sig .tc := ⟨.hbm, 247, rfl⟩
abbrev main_v240 : Ref sig .tc := ⟨.hbm, 248, rfl⟩
abbrev main_v241 : Ref sig .tc := ⟨.hbm, 249, rfl⟩
abbrev main_v242 : Ref sig .tc := ⟨.hbm, 250, rfl⟩
abbrev main_v243 : Ref sig .tc := ⟨.hbm, 251, rfl⟩
abbrev main_v244 : Ref sig .tc := ⟨.hbm, 252, rfl⟩
abbrev main_v245 : Ref sig .tc := ⟨.hbm, 253, rfl⟩
abbrev main_v246 : Ref sig .tc := ⟨.hbm, 254, rfl⟩
abbrev main_v247 : Ref sig .tc := ⟨.hbm, 255, rfl⟩
abbrev main_v248 : Ref sig .tc := ⟨.hbm, 256, rfl⟩
abbrev main_v249 : Ref sig .tc := ⟨.hbm, 257, rfl⟩
abbrev main_v250 : Ref sig .tc := ⟨.hbm, 258, rfl⟩
abbrev main_v251 : Ref sig .tc := ⟨.hbm, 259, rfl⟩
abbrev main_v252 : Ref sig .tc := ⟨.hbm, 260, rfl⟩
abbrev main_v253 : Ref sig .tc := ⟨.hbm, 261, rfl⟩
abbrev main_v254 : Ref sig .tc := ⟨.hbm, 262, rfl⟩
abbrev main_v255 : Ref sig .tc := ⟨.hbm, 263, rfl⟩
abbrev main_v256 : Ref sig .tc := ⟨.hbm, 264, rfl⟩
abbrev main_v257 : Ref sig .tc := ⟨.hbm, 265, rfl⟩
abbrev main_v258 : Ref sig .tc := ⟨.hbm, 266, rfl⟩
abbrev main_cst_0 : Ref sig .tc := ⟨.hbm, 267, rfl⟩
abbrev main_v259 : Ref sig .tc := ⟨.hbm, 268, rfl⟩
abbrev main_v260 : Ref sig .tc := ⟨.hbm, 269, rfl⟩
abbrev main_cst_1 : Ref sig .tc := ⟨.hbm, 270, rfl⟩
abbrev main_v261 : Ref sig .tc := ⟨.hbm, 271, rfl⟩
abbrev main_v262 : Ref sig .tc := ⟨.hbm, 272, rfl⟩
abbrev main_v263 : Ref sig .tc := ⟨.hbm, 273, rfl⟩
abbrev main_v264 : Ref sig .tc := ⟨.hbm, 274, rfl⟩
abbrev main_v265 : Ref sig .tc := ⟨.hbm, 275, rfl⟩
abbrev main_cst_2 : Ref sig .tc := ⟨.hbm, 276, rfl⟩
abbrev main_v266 : Ref sig .tc := ⟨.hbm, 277, rfl⟩
abbrev main_v267 : Ref sig .tc := ⟨.hbm, 278, rfl⟩
abbrev main_cst_3 : Ref sig .tc := ⟨.hbm, 279, rfl⟩
abbrev main_v268 : Ref sig .tc := ⟨.hbm, 280, rfl⟩
abbrev main_v269 : Ref sig .tc := ⟨.hbm, 281, rfl⟩
abbrev main_v270 : Ref sig .tc := ⟨.hbm, 282, rfl⟩
abbrev main_v271 : Ref sig .tc := ⟨.hbm, 283, rfl⟩
abbrev main_cst_4 : Ref sig .tc := ⟨.hbm, 284, rfl⟩
abbrev main_v272 : Ref sig .tc := ⟨.hbm, 285, rfl⟩
abbrev main_v273 : Ref sig .tc := ⟨.hbm, 286, rfl⟩
abbrev main_v274 : Ref sig .tc := ⟨.hbm, 287, rfl⟩
abbrev main_v275 : Ref sig .tc := ⟨.hbm, 288, rfl⟩
abbrev main_v276 : Ref sig .tc := ⟨.hbm, 289, rfl⟩
abbrev main_v277 : Ref sig .tc := ⟨.hbm, 290, rfl⟩
abbrev main_v278 : Ref sig .tc := ⟨.hbm, 291, rfl⟩
abbrev main_v279 : Ref sig .tc := ⟨.hbm, 292, rfl⟩
abbrev main_v280 : Ref sig .tc := ⟨.hbm, 293, rfl⟩
abbrev main_v281 : Ref sig .tc := ⟨.hbm, 294, rfl⟩
abbrev main_v282 : Ref sig .tc := ⟨.hbm, 295, rfl⟩
abbrev main_call0_v0 : Ref sig .tc := ⟨.hbm, 296, rfl⟩
abbrev main_call0_v1 : Ref sig .tc := ⟨.hbm, 297, rfl⟩
abbrev main_call0_cst : Ref sig .tc := ⟨.hbm, 298, rfl⟩
abbrev main_call0_v2 : Ref sig .tc := ⟨.hbm, 299, rfl⟩
abbrev main_call0_v3 : Ref sig .tc := ⟨.hbm, 300, rfl⟩
abbrev main_call0_cst_0 : Ref sig .tc := ⟨.hbm, 301, rfl⟩
abbrev main_call0_v4 : Ref sig .tc := ⟨.hbm, 302, rfl⟩
abbrev main_call0_v5 : Ref sig .tc := ⟨.hbm, 303, rfl⟩
abbrev main_v283 : Ref sig .tc := ⟨.hbm, 304, rfl⟩
abbrev main_v284 : Ref sig .tc := ⟨.hbm, 305, rfl⟩
abbrev main_v285 : Ref sig .tc := ⟨.hbm, 306, rfl⟩
abbrev main_v286 : Ref sig .tc := ⟨.hbm, 307, rfl⟩
abbrev main_v287 : Ref sig .tc := ⟨.hbm, 308, rfl⟩

abbrev nD : Nat := 1
abbrev τ : Topo := Topo.v7x

variable {F : FTy → Type} [FloatOps F]
-- ==== Proof.FlashOpen.lean ====
module

public import proofs.«01_k».proof.Proof.Gen.FlashIdeal.Value
public import Idealize.ShloMosaic.Lib.Pointwise

@[expose] public section

set_option maxRecDepth 16384

noncomputable section

namespace Cert.Proof.Flash

open Cert.FlashIdeal Cert.FlashIdeal.Gen
open Idealize.ShloMosaic Idealize.ShloMosaic.TcCoe
open Idealize.SL Idealize.SL.RA Idealize.SL.BI Idealize.SL.Sem

variable {F : FTy → Type} [FloatOps F]

/-- What the running maximum, denominator and accumulator of a query block become when one more block of
    keys `K` and values `V` is taken in. -/
def stepF (q K : Vec F S512x256 .bf16) (V : Vec F S512x128 .bf16)
    (s : FVec F S512x1 .f32 × FVec F S512x1 .f32 × FVec F S512x128 .f32) :
    FVec F S512x1 .f32 × FVec F S512x1 .f32 × FVec F S512x128 .f32 :=
  (k0_pay6 q s.1 K, k0_pay9 q s.1 s.2.1 K, k0_pay10 q s.1 s.2.2 K V)

/-- Rows `512 k … 512 k + 511` of the head's keys. -/
def keysAt (x1 : Vec F S8192x256 .bf16) (k : ℕ) : Vec F S512x256 .bf16 :=
  fun y => x1 (ix2 (⟨(512 * k + (y 0).val) % 8192, Nat.mod_lt _ (by decide)⟩ : Fin 8192) (⟨(y 1).val, (y 1).isLt⟩ : Fin 256))

/-- Rows `512 k … 512 k + 511` of the head's values. -/
def valsAt (x2 : Vec F S8192x128 .bf16) (k : ℕ) : Vec F S512x128 .bf16 :=
  fun y => x2 (ix2 (⟨(512 * k + (y 0).val) % 8192, Nat.mod_lt _ (by decide)⟩ : Fin 8192) (⟨(y 1).val, (y 1).isLt⟩ : Fin 128))

/-- The running maximum, denominator and accumulator before block `k`. -/
def carry (q : Vec F S512x256 .bf16) (x1 : Vec F S8192x256 .bf16) (x2 : Vec F S8192x128 .bf16) :
    ℕ → FVec F S512x1 .f32 × FVec F S512x1 .f32 × FVec F S512x128 .f32
  | 0 => (k0_pay2, k0_pay3, k0_pay4)
  | k + 1 => stepF q (keysAt x1 k) (valsAt x2 k) (carry q x1 x2 k)

/-- A load of 512 rows of the keys' buffer reads rows `512 k …` of what it holds. -/
theorem read_keys (arg3 : Memref sig .tc .vmem S8192x256 .bf16) (harg3 : arg3.IsWhole) (x1 : Vec F S8192x256 .bf16)
    (off : Fin 2 → ℕ) (k : ℕ) (e : off = ![512 * k, 0]) (inb : ∀ a, off a + S512x256.size a ≤ S8192x256.size a) :
    arg3.view.readAt (Elt F) (Rect.unit (s := S8192x256) off S512x256.size inb).toLoadRect (harg3.unread x1) = keysAt x1 k := by
  subst e
  funext y
  rw [View.readAt_apply, harg3.read_unread]
  refine congrArg x1 (funext fun a => Fin.ext ?_)
  have h0 : 512 * k + 512 ≤ 8192 := inb 0
  have h1 : (y 0).val < 512 := (y 0).isLt
  match a with
  | ⟨0, _⟩ => show 512 * k + 1 * (y 0).val = (512 * k + (y 0).val) % 8192; omega
  | ⟨1, _⟩ => show 0 + 1 * (y 1).val = (y 1).val; omega

/-- A load of 512 rows of the values' buffer reads rows `512 k …` of what it holds. -/
theorem read_vals (arg4 : Memref sig .tc .vmem S8192x128 .bf16) (harg4 : arg4.IsWhole) (x2 : Vec F S8192x128 .bf16)
    (off : Fin 2 → ℕ) (k : ℕ) (e : off = ![512 * k, 0]) (inb : ∀ a, off a + S512x128.size a ≤ S8192x128.size a) :
    arg4.view.readAt (Elt F) (Rect.unit (s := S8192x128) off S512x128.size inb).toLoadRect (harg4.unread x2) = valsAt x2 k := by
  subst e
  funext y
  rw [View.readAt_apply, harg4.read_unread]
  refine congrArg x2 (funext fun a => Fin.ext ?_)
  have h0 : 512 * k + 512 ≤ 8192 := inb 0
  have h1 : (y 0).val < 512 := (y 0).isLt
  match a with
  | ⟨0, _⟩ => show 512 * k + 1 * (y 0).val = (512 * k + (y 0).val) % 8192; omega
  | ⟨1, _⟩ => show 0 + 1 * (y 1).val = (y 1).val; omega

/-- One trip of the loop over the blocks before the diagonal takes in the loaded block. -/
theorem trip_open (𝒱 : Variants) (c : Dev nD) (bd : Option 𝒱.V) (i : grid0.Coords) (arg2 : Memref sig .tc .vmem S512x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S512x128 .bf16) (harg5 : arg5.IsWhole) (v0 : Vec F S512x256 .bf16)
    (X3 : BufTy.Contents (Elt F) arg3.view.ty) (X4 : BufTy.Contents (Elt F) arg4.view.ty) (k : Fin (k0_t1_loop i).trips)
    (s : FVec F S512x1 .f32 × FVec F S512x1 .f32 × FVec F S512x128 .f32) :
    tripR_k0_t1 𝒱 c bd i arg2 harg2 arg3 harg3 arg4 harg4 arg5 harg5 v0 X3 X4 k s
      = stepF v0 (arg3.view.readAt (Elt F) (Rect.unit (s := S8192x256) (k0_off1 i k) S512x256.size (k0_off1_inb i k)).toLoadRect X3)
          (arg4.view.readAt (Elt F) (Rect.unit (s := S8192x128) (k0_off2 i k) S512x128.size (k0_off2_inb i k)).toLoadRect X4) s := by
  unfold tripR_k0_t1 trip_k0_t1
  rfl

/-- What the loop carries before trip `k`, for every `k` up to the number of trips. -/
theorem state_eq (𝒱 : Variants) (c : Dev nD) (bd : Option 𝒱.V) (i : grid0.Coords) (arg2 : Memref sig .tc .vmem S512x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S512x128 .bf16) (harg5 : arg5.IsWhole)
    (q : Vec F S512x256 .bf16) (x1 : Vec F S8192x256 .bf16) (x2 : Vec F S8192x128 .bf16) :
    ∀ k, k ≤ (k0_t1_loop i).trips →
      st_k0_t1 𝒱 c bd i arg2 harg2 arg3 harg3 arg4 harg4 arg5 harg5 q (harg3.unread x1) (harg4.unread x2) (k0_pay2, k0_pay3, k0_pay4) k
        = carry q x1 x2 k
  | 0, _ => rfl
  | k + 1, h => by
    rw [st_k0_t1_succ 𝒱 c bd i arg2 harg2 arg3 harg3 arg4 harg4 arg5 harg5 q (harg3.unread x1) (harg4.unread x2) _ ⟨k, h⟩,
      trip_open, state_eq 𝒱 c bd i arg2 harg2 arg3 harg3 arg4 harg4 arg5 harg5 q x1 x2 k (Nat.le_of_succ_le h),
      read_keys arg3 harg3 x1 _ k (k0_off1_eq i ⟨k, h⟩), read_vals arg4 harg4 x2 _ k (k0_off2_eq i ⟨k, h⟩)]
    rfl

/-- The loop before the diagonal goes over as many blocks as precede the query block. -/
theorem trips_eq (i : grid0.Coords) : (k0_t1_loop i).trips = (i 1).val := by
  have h : ∀ n : Fin 16, (⟨0#32, Scalar.addi 0#32 (Scalar.muli (Scalar.divsi (Scalar.subi (BitVec.ofNat 32 n.val) 0#32) 1#32) 1#32), 1#32⟩ : Scf.Loop 32).trips = n.val := by
    decide +kernel
  exact h (i 1)

/-- The second loop makes no trip. -/
theorem trips_two (i : grid0.Coords) : (k0_t2_loop i).trips = 0 := Nat.le_zero.1 (k0_t2_abs i).2.1

theorem hz : (![0, 0] : Fin 2 → ℕ) = fun _ => 0 := funext fun a => by fin_cases a <;> rfl

/-- WHAT A POINT LEAVES in its output block: the accumulator over the denominator after the blocks before the diagonal and
    the masked block on it. -/
theorem out_open (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S512x128 .bf16) (harg5 : arg5.IsWhole)
    (q : Vec F S512x256 .bf16) (x1 : Vec F S8192x256 .bf16) (x2 : Vec F S8192x128 .bf16) :
    out0_A_3 c i arg2 harg2 arg3 harg3 arg4 harg4 arg5 harg5 q x1 x2
      = k0_pay1 (k0_pay21 q (carry q x1 x2 (i 1).val).1 (carry q x1 x2 (i 1).val).2.2 (keysAt x1 (i 1).val) (valsAt x2 (i 1).val))
          (k0_pay22 q (carry q x1 x2 (i 1).val).1 (carry q x1 x2 (i 1).val).2.1 (keysAt x1 (i 1).val)) := by
  have e1 := state_eq Variants.none c none i arg2 harg2 arg3 harg3 arg4 harg4 arg5 harg5 q x1 x2 _ (le_of_eq (trips_eq i).symm)
  unfold out0_A_3
  rw [View.read_writes_eq_canon _ _ _ (cover0_A_3 c i arg2 harg2 arg3 harg3 arg4 harg4 arg5 harg5 q x1 x2)]
  unfold kernelRun0_A
  dsimp only
  sl_unfold_words
  rw [View.canon_unit_zero hz]
  rw [show Scf.trips (k0_t2_loop i).lb (k0_t2_loop i).ub (k0_t2_loop i).st = 0 from trips_two i,
    show Scf.trips (k0_t1_loop i).lb (k0_t1_loop i).ub (k0_t1_loop i).st = (i 1).val from trips_eq i]
  simp only [st_k0_t2_zero]
  rw [show View.readAt (Elt F) arg2.view (Rect.unit ![0, 0] S512x256.size inb_S512x256_S512x256_0_0).toLoadRect (harg2.unread q) = q from by
    simp only [View.readAt_eq_ld, harg2.read_unread, View.ld_unit_zero (S := S512x256) hz], e1]
  have hk := read_keys arg3 harg3 x1 _ (i 1).val (k0_off5_eq i) (k0_off5_inb i)
  have hv := read_vals arg4 harg4 x2 _ (i 1).val (k0_off6_eq i) (k0_off6_inb i)
  exact congrArg₂ k0_pay1 (congrArg₂ (k0_pay21 q _ _) hk hv) (congrArg (k0_pay22 q _ _) hk)

end Cert.Proof.Flash

end
-- ==== Proof.Softmax.lean ====
module

public import Idealize.ShloMosaic.Lib.Pointwise

@[expose] public section

noncomputable section

namespace Cert.Proof.Softmax

open Idealize.ShloMosaic Finset

/-! ## A softmax-weighted sum, taken block by block

The scores `s` and the values `v` are sequences of extended reals. A masked score is `⊥`. -/

/-- The largest of the first `n` scores. -/
def top (s : ℕ → EReal) (n : ℕ) : EReal := (range n).sup s

/-- The sum of the first `n` weights, each taken relative to the score `m`. -/
def den (s : ℕ → EReal) (m : EReal) (n : ℕ) : EReal := ∑ i ∈ range n, Ideal.exp (s i - m)

/-- The weighted sum of the first `n` values, each weight taken relative to the score `m`. -/
def acc (s v : ℕ → EReal) (m : EReal) (n : ℕ) : EReal := ∑ i ∈ range n, Ideal.exp (s i - m) * v i

theorem exp_bot : Ideal.exp ⊥ = 0 := rfl

theorem exp_coe (r : ℝ) : Ideal.exp (r : EReal) = (Real.exp r : EReal) := rfl

/-- Nothing is added by a masked score. -/
theorem exp_bot_sub (m : EReal) : Ideal.exp (⊥ - m) = 0 := by
  rw [sub_eq_add_neg, EReal.bot_add]; rfl

/-- A weight is never negative. -/
theorem exp_nonneg (x : EReal) : 0 ≤ Ideal.exp x := by
  induction x with
  | bot => exact le_refl _
  | top => exact le_top
  | coe r => exact EReal.coe_nonneg.2 (Real.exp_pos r).le

/-- A weight relative to a score that is at least as large is finite. -/
theorem exp_sub_ne_top {a m : EReal} (h : a ≤ m) (hm : m ≠ ⊤) : Ideal.exp (a - m) ≠ ⊤ := by
  induction a with
  | bot => rw [exp_bot_sub]; exact EReal.zero_ne_top
  | top => exact absurd (top_le_iff.1 h) hm
  | coe r =>
    induction m with
    | bot => exact absurd h (by simp)
    | top => exact absurd rfl hm
    | coe t => rw [← EReal.coe_sub, exp_coe]; exact EReal.coe_ne_top _

/-- Taking a weight relative to a larger score multiplies it by one factor for all scores. -/
theorem exp_rescale {a m m' : EReal} (ha : a ≤ m) (hm : m ≤ m') (ht : m' ≠ ⊤) :
    Ideal.exp (m - m') * Ideal.exp (a - m) = Ideal.exp (a - m') := by
  induction a with
  | bot => rw [exp_bot_sub, exp_bot_sub, mul_zero]
  | top => exact absurd (top_le_iff.1 (ha.trans hm)) ht
  | coe r =>
    induction m with
    | bot => exact absurd ha (by simp)
    | top => exact absurd (top_le_iff.1 hm) ht
    | coe t =>
      induction m' with
      | bot => exact absurd hm (by simp)
      | top => exact absurd rfl ht
      | coe u =>
        rw [← EReal.coe_sub, ← EReal.coe_sub, ← EReal.coe_sub, exp_coe, exp_coe, exp_coe, ← EReal.coe_mul, ← Real.exp_add]
        congr 2; ring

/-- A finite factor that is not negative goes into a sum. -/
theorem mul_sum {ι : Type} {c : EReal} (h0 : 0 ≤ c) (ht : c ≠ ⊤) (T : Finset ι) (f : ι → EReal) :
    c * ∑ i ∈ T, f i = ∑ i ∈ T, c * f i := by
  classical
  induction T using Finset.induction_on with
  | empty => simp
  | insert i T hi ih => rw [sum_insert hi, sum_insert hi, EReal.left_distrib_of_nonneg_of_ne_top h0 ht, ih]

theorem le_top_of_lt {s : ℕ → EReal} {n i : ℕ} (h : i < n) : s i ≤ top s n := le_sup (mem_range.2 h)

theorem top_ne_top {s : ℕ → EReal} (hs : ∀ i, s i ≠ ⊤) (n : ℕ) : top s n ≠ ⊤ := by
  refine ((Finset.sup_lt_iff (by exact bot_lt_top)).2 fun i _ => lt_top_iff_ne_top.2 (hs i)).ne

/-- The largest score, when `t` more are seen. -/
theorem top_add (s : ℕ → EReal) (n t : ℕ) :
    top s (n + t) = max (top s n) ((range t).sup fun i => s (n + i)) := by
  unfold top
  apply le_antisymm
  · refine Finset.sup_le fun i hi => ?_
    rcases lt_or_ge i n with h | h
    · exact le_max_of_le_left (le_sup (mem_range.2 h))
    · refine le_max_of_le_right ?_
      obtain ⟨j, rfl⟩ := Nat.exists_eq_add_of_le h
      exact le_sup (f := fun i => s (n + i)) (mem_range.2 (by have := mem_range.1 hi; omega))
  · refine max_le (Finset.sup_mono (range_mono (by omega))) (Finset.sup_le fun i hi => ?_)
    exact le_sup (f := s) (mem_range.2 (by have := mem_range.1 hi; omega))

theorem top_mono (s : ℕ → EReal) (n t : ℕ) : top s n ≤ top s (n + t) := Finset.sup_mono (range_mono (by omega))

/-- The sum of the weights, when `t` more scores are seen. -/
theorem den_add {s : ℕ → EReal} (hs : ∀ i, s i ≠ ⊤) (n t : ℕ) :
    den s (top s (n + t)) (n + t)
      = Ideal.exp (top s n - top s (n + t)) * den s (top s n) n + ∑ i ∈ range t, Ideal.exp (s (n + i) - top s (n + t)) := by
  have hm := top_mono s n t
  have ht := top_ne_top hs (n + t)
  unfold den
  rw [sum_range_add, mul_sum (exp_nonneg _) (exp_sub_ne_top hm ht)]
  refine congrArg (· + _) (sum_congr rfl fun i hi => ?_)
  exact (exp_rescale (le_top_of_lt (mem_range.1 hi)) hm ht).symm

/-- The weighted sum, when `t` more scores are seen. -/
theorem acc_add {s : ℕ → EReal} (hs : ∀ i, s i ≠ ⊤) (v : ℕ → EReal) (n t : ℕ) :
    acc s v (top s (n + t)) (n + t)
      = Ideal.exp (top s n - top s (n + t)) * acc s v (top s n) n
        + ∑ i ∈ range t, Ideal.exp (s (n + i) - top s (n + t)) * v (n + i) := by
  have hm := top_mono s n t
  have ht := top_ne_top hs (n + t)
  unfold acc
  rw [sum_range_add, mul_sum (exp_nonneg _) (exp_sub_ne_top hm ht)]
  refine congrArg (· + _) (sum_congr rfl fun i hi => ?_)
  rw [← mul_assoc, exp_rescale (le_top_of_lt (mem_range.1 hi)) hm ht]

/-- Masked scores after the first `n` change neither the largest score, … -/
theorem top_masked {s : ℕ → EReal} {n N : ℕ} (hn : n ≤ N) (hs : ∀ i, n ≤ i → s i = ⊥) : top s N = top s n := by
  obtain ⟨t, rfl⟩ := Nat.exists_eq_add_of_le hn
  rw [top_add, max_eq_left]
  refine Finset.sup_le fun i _ => ?_
  rw [hs _ (Nat.le_add_right n i)]; exact bot_le

/-- … nor the sum of the weights, … -/
theorem den_masked {s : ℕ → EReal} (m : EReal) {n N : ℕ} (hn : n ≤ N) (hs : ∀ i, n ≤ i → s i = ⊥) : den s m N = den s m n := by
  obtain ⟨t, rfl⟩ := Nat.exists_eq_add_of_le hn
  unfold den
  rw [sum_range_add, sum_eq_zero (s := range t), add_zero]
  intro i _
  rw [hs _ (Nat.le_add_right n i), exp_bot_sub]

/-- The weights of the first `n` scores sum to something positive when one of them is no mask. -/
theorem den_pos {s : ℕ → EReal} (hs : ∀ i, s i ≠ ⊤) {n i : ℕ} (hi : i < n) (hb : s i ≠ ⊥) : 0 < den s (top s n) n := by
  obtain ⟨j, hj, e⟩ := Finset.exists_mem_eq_sup (range n) ⟨i, mem_range.2 hi⟩ s
  have hle : s i ≤ s j := e ▸ le_sup (mem_range.2 hi)
  have h1 : Ideal.exp (s j - top s n) = 1 := by
    rw [show top s n = s j from e]
    have hjb : s j ≠ ⊥ := fun h => hb (le_bot_iff.1 (h ▸ hle))
    rw [EReal.sub_self (hs j) hjb]
    exact (exp_coe 0).trans (by rw [Real.exp_zero]; rfl)
  refine lt_of_lt_of_le (by rw [h1]; exact zero_lt_one) (single_le_sum (fun k _ => exp_nonneg (s k - top s n)) hj)

theorem inv_ne_top (x : EReal) : x⁻¹ ≠ ⊤ := by
  induction x with
  | bot => simp
  | top => simp
  | coe r => rw [← EReal.coe_inv]; exact EReal.coe_ne_top _

/-- THE WEIGHTED SUM DIVIDED BY THE SUM OF THE WEIGHTS over the first `n` scores is the sum over the first `N` of the values
    each times its weight divided by that sum, when every score from the `n`-th on is masked. -/
theorem quotient {s : ℕ → EReal} (hs : ∀ i, s i ≠ ⊤) (v : ℕ → EReal) {n N i : ℕ} (hn : n ≤ N) (hi : i < n) (hb : s i ≠ ⊥)
    (hmask : ∀ i, n ≤ i → s i = ⊥) :
    Ideal.div (acc s v (top s n) n) (den s (top s n) n)
      = ∑ k ∈ range N, Ideal.div (Ideal.exp (s k - top s N)) (den s (top s N) N) * v k := by
  rw [top_masked hn hmask, den_masked _ hn hmask]
  have hd := den_pos hs hi hb
  generalize hD : den s (top s n) n = D at hd
  have hdiv : ∀ x, Ideal.div x D = x * D⁻¹ := fun x => if_neg hd.ne'
  simp only [hdiv]
  obtain ⟨t, rfl⟩ := Nat.exists_eq_add_of_le hn
  rw [sum_range_add, sum_eq_zero (s := range t), add_zero, acc, mul_comm,
    mul_sum (EReal.inv_nonneg_of_nonneg hd.le) (inv_ne_top D)]
  · refine sum_congr rfl fun k _ => ?_
    rw [← mul_assoc, mul_comm D⁻¹]
  · intro k _
    rw [hmask _ (Nat.le_add_right n k), exp_bot_sub, zero_mul, zero_mul]

/-- The largest of `t` scores as a fold. -/
theorem fold_eq_sup (t : ℕ) (f : ℕ → EReal) :
    Finset.fold max (⊥ : EReal) (fun k : Fin t => f k) Finset.univ = (range t).sup f := by
  show Finset.univ.sup (fun k : Fin t => f k) = _
  apply le_antisymm
  · exact Finset.sup_le fun k _ => le_sup (f := f) (mem_range.2 k.isLt)
  · exact Finset.sup_le fun i hi => le_sup (f := fun k : Fin t => f k) (Finset.mem_univ ⟨i, mem_range.1 hi⟩)

end Cert.Proof.Softmax

end
-- ==== Proof.FlashPay.lean ====
module

public import proofs.«01_k».proof.Proof.FlashOpen
public import proofs.«01_k».proof.Proof.Softmax
public import Idealize.ShloMosaic.Lib.Pointwise

@[expose] public section

set_option maxRecDepth 16384

noncomputable section

namespace Cert.Proof.Flash

open Cert.FlashIdeal Cert.FlashIdeal.Gen
open Idealize.ShloMosaic Idealize.ShloMosaic.TcCoe
open Cert.Proof.Softmax (top den acc)

/-- The pattern of minus infinity. -/
theorem neg_inf : Ideal.ofBits FTy.f32 0xFF800000#32 = ⊥ := by
  simp [Ideal.ofBits, Ideal.ieee]

/-- The score of key `j` for row `r` of query block `b`: masked when the key comes after the query. -/
def score (b : ℕ) (q : FVec Ideal S512x256 .bf16) (x1 : FVec Ideal S8192x256 .bf16) (r : Fin 512) (j : ℕ) : EReal :=
  if j ≤ 512 * b + r.val then ∑ x : Fin 256, q (ix2 r x) * x1 (ix2 (⟨j % 8192, Nat.mod_lt _ (by decide)⟩ : Fin 8192) x) else ⊥

/-- Channel `d` of value `j`. -/
def value (x2 : FVec Ideal S8192x128 .bf16) (d : Fin 128) (j : ℕ) : EReal :=
  x2 (ix2 (⟨j % 8192, Nat.mod_lt _ (by decide)⟩ : Fin 8192) d)

/-- Before the diagonal no score of a block is masked. -/
theorem score_before (b : ℕ) (q : FVec Ideal S512x256 .bf16) (x1 : FVec Ideal S8192x256 .bf16) (r : Fin 512) (k : ℕ) (hk : k < b) (t : Fin 512) :
    ∑ x : Fin 256, q (ix2 r x) * keysAt (F := Ideal) x1 k (ix2 t x) = score b q x1 r (512 * k + t.val) := by
  have ht := t.isLt
  unfold score
  rw [if_pos (by omega)]
  rfl

/-- On the diagonal the scores of the keys after the query are masked. -/
theorem score_diag (b : ℕ) (q : FVec Ideal S512x256 .bf16) (x1 : FVec Ideal S8192x256 .bf16) (r t : Fin 512) :
    k0_pay17 (F := Ideal) q (keysAt x1 b) (ix2 r t) = score b q x1 r (512 * b + t.val) := by
  have hr := r.isLt
  have ht := t.isLt
  have hc : IntOp.cmpi CmpIPredicate.sle (BitVec.ofNat 32 t.val) (BitVec.ofNat 32 r.val) = if t.val ≤ r.val then 1#1 else 0#1 := by
    rw [WordCmp.cmpi_sle_ofNat (by omega) (by omega)]
    by_cases h : t.val ≤ r.val <;> simp [h]
  pointwise [k0_pay17]
  unfold score
  rw [hc, neg_inf]
  by_cases h : t.val ≤ r.val
  · rw [if_pos h, if_pos (by omega)]
    rfl
  · rw [if_neg h, if_neg (by omega)]
    rfl

/-- The new maximum of a row, of a block whose scores are `f`. -/
theorem fold_block (m : EReal) (s : ℕ → EReal) (n : ℕ) (f : Fin 512 → EReal) (hf : ∀ t, f t = s (n + t.val)) (hm : m = top s n) :
    max m (Finset.fold max (Ideal.ofBits FTy.f32 0xFF800000#32) f Finset.univ) = top s (n + 512) := by
  rw [neg_inf, Softmax.top_add, hm, ← Softmax.fold_eq_sup 512 (fun i => s (n + i))]
  exact congrArg (fun g => max _ (Finset.fold max ⊥ g Finset.univ)) (funext hf)

/-- WHAT THE LOOP CARRIES, row by row: the largest score so far, and the sums of the weights and of the weighted values
    relative to it. -/
theorem carry_eq (b : ℕ) (q : FVec Ideal S512x256 .bf16) (x1 : FVec Ideal S8192x256 .bf16) (x2 : FVec Ideal S8192x128 .bf16) (r : Fin 512)
    (hs : ∀ j, score b q x1 r j ≠ ⊤) : ∀ k, k ≤ b →
      (carry (F := Ideal) q x1 x2 k).1 (ix2 r 0) = top (score b q x1 r) (512 * k)
      ∧ (carry (F := Ideal) q x1 x2 k).2.1 (ix2 r 0) = den (score b q x1 r) (top (score b q x1 r) (512 * k)) (512 * k)
      ∧ ∀ d : Fin 128, (carry (F := Ideal) q x1 x2 k).2.2 (ix2 r d)
          = acc (score b q x1 r) (value x2 d) (top (score b q x1 r) (512 * k)) (512 * k)
  | 0, _ => by
    refine ⟨?_, ?_, fun d => ?_⟩
    · exact neg_inf
    · show k0_pay3 (F := Ideal) (ix2 r 0) = 0
      pointwise [k0_pay3]
    · show k0_pay4 (F := Ideal) (ix2 r d) = 0
      pointwise [k0_pay4]
  | k + 1, h => by
    obtain ⟨hm, hl, ha⟩ := carry_eq b q x1 x2 r hs k (Nat.le_of_succ_le h)
    have hb := score_before b q x1 r k h
    have hm' : k0_pay6 (F := Ideal) q (carry (F := Ideal) q x1 x2 k).1 (keysAt x1 k) (ix2 r 0) = top (score b q x1 r) (512 * k + 512) := by
      pointwise [k0_pay6, k0_pay5]
      exact fold_block _ _ _ _ hb hm
    refine ⟨hm', ?_, fun d => ?_⟩
    · show k0_pay9 (F := Ideal) q (carry (F := Ideal) q x1 x2 k).1 (carry (F := Ideal) q x1 x2 k).2.1 (keysAt x1 k) (ix2 r 0) = _
      rw [show 512 * (k + 1) = 512 * k + 512 from by omega, Softmax.den_add hs, Finset.sum_range]
      pointwise [k0_pay9, k0_pay7, k0_pay8, k0_pay5]
      rw [hm', hm, hl]
      refine congrArg (HAdd.hAdd _) (Finset.sum_congr rfl fun t _ => ?_)
      rw [hb t]
    · show k0_pay10 (F := Ideal) q (carry (F := Ideal) q x1 x2 k).1 (carry (F := Ideal) q x1 x2 k).2.2 (keysAt x1 k) (valsAt x2 k) (ix2 r d) = _
      rw [show 512 * (k + 1) = 512 * k + 512 from by omega, Softmax.acc_add hs, Finset.sum_range]
      pointwise [k0_pay10, k0_pay7, k0_pay8, k0_pay5]
      rw [hm', hm, ha]
      refine congrArg (HAdd.hAdd _) (Finset.sum_congr rfl fun t _ => ?_)
      rw [hb t]
      rfl

/-- WHAT A POINT LEAVES, at an index: the weighted sum of the values over the sum of the weights, over the keys up to the
    diagonal block. -/
theorem out_apply (b : ℕ) (q : FVec Ideal S512x256 .bf16) (x1 : FVec Ideal S8192x256 .bf16) (x2 : FVec Ideal S8192x128 .bf16)
    (r : Fin 512) (d : Fin 128) (hs : ∀ j, score b q x1 r j ≠ ⊤) :
    k0_pay1 (F := Ideal) (k0_pay21 q (carry (F := Ideal) q x1 x2 b).1 (carry (F := Ideal) q x1 x2 b).2.2 (keysAt x1 b) (valsAt x2 b))
        (k0_pay22 q (carry (F := Ideal) q x1 x2 b).1 (carry (F := Ideal) q x1 x2 b).2.1 (keysAt x1 b)) (ix2 r d)
      = Ideal.div (acc (score b q x1 r) (value x2 d) (top (score b q x1 r) (512 * b + 512)) (512 * b + 512))
          (den (score b q x1 r) (top (score b q x1 r) (512 * b + 512)) (512 * b + 512)) := by
  obtain ⟨hm, hl, ha⟩ := carry_eq b q x1 x2 r hs b le_rfl
  have hb := score_diag b q x1 r
  have hm' : k0_pay18 (F := Ideal) q (carry (F := Ideal) q x1 x2 b).1 (keysAt x1 b) (ix2 r 0) = top (score b q x1 r) (512 * b + 512) := by
    pointwise [k0_pay18]
    exact fold_block _ _ _ _ hb hm
  rw [Softmax.den_add hs, Softmax.acc_add hs, Finset.sum_range, Finset.sum_range]
  pointwise [k0_pay1, k0_pay21, k0_pay22, k0_pay19, k0_pay20]
  rw [hm', hm, hl, ha]
  refine congrArg₂ Ideal.div (congrArg (HAdd.hAdd _) (Finset.sum_congr rfl fun t _ => ?_)) (congrArg (HAdd.hAdd _) (Finset.sum_congr rfl fun t _ => ?_))
  · rw [hb t]
    rfl
  · rw [hb t]

end Cert.Proof.Flash

end
-- ==== Proof.FlashBlocks.lean ====
module

public import proofs.«01_k».proof.Proof.FlashPay
public import proofs.«01_k».proof.Proof.Gen.FlashIdeal.Value
public import Idealize.ShloMosaic.Lib.Pipeline.ValueKit
public import Idealize.ShloMosaic.Lib.Pipeline.ValueKit.Partial

@[expose] public section

set_option maxRecDepth 16384

noncomputable section

namespace Cert.Proof.Flash

open Cert.FlashIdeal Cert.FlashIdeal.Gen
open Idealize.ShloMosaic Idealize.ShloMosaic.TcCoe Idealize.SL.Sem
open Idealize.ShloMosaic.Pipeline (Dat)
open Cert.Proof.Softmax (top den acc)

/-- The score of key `j` for the query of row `i` of head `h`. -/
def scores (q k : FVec Ideal S8704x4096 .bf16) (h : Fin 16) (i : ℕ) (j : ℕ) : EReal :=
  if j ≤ i then ∑ x : Fin 256, q (ix2 (⟨i % 8704, Nat.mod_lt _ (by decide)⟩ : Fin 8704) (⟨256 * h.val + x.val, by omega⟩ : Fin 4096))
      * k (ix2 (⟨j % 8192, lt_trans (Nat.mod_lt _ (by decide)) (by decide)⟩ : Fin 8704) (⟨256 * h.val + x.val, by omega⟩ : Fin 4096)) else ⊥

/-- Channel `d` of head `h` of value `j`. -/
def values (v : FVec Ideal S8704x2048 .bf16) (h : Fin 16) (d : Fin 128) (j : ℕ) : EReal :=
  v (ix2 (⟨j % 8192, lt_trans (Nat.mod_lt _ (by decide)) (by decide)⟩ : Fin 8704) (⟨128 * h.val + d.val, by omega⟩ : Fin 2048))

/-- What the call leaves at row `i` and channel `d` of head `h`. -/
def quot (q k : FVec Ideal S8704x4096 .bf16) (v : FVec Ideal S8704x2048 .bf16) (i : ℕ) (h : Fin 16) (d : Fin 128) : EReal :=
  Ideal.div (acc (scores q k h i) (values v h d) (top (scores q k h i) (512 * (i / 512) + 512)) (512 * (i / 512) + 512))
    (den (scores q k h i) (top (scores q k h i) (512 * (i / 512) + 512)) (512 * (i / 512) + 512))

/-- The same, as one array. -/
def quotArr (q k : FVec Ideal S8704x4096 .bf16) (v : FVec Ideal S8704x2048 .bf16) : FVec Ideal S8704x2048 .bf16 := fun y =>
  quot q k v (y 0).val ⟨(y 1).val / 128, by have := (y 1).isLt; simp at this; omega⟩ ⟨(y 1).val % 128, Nat.mod_lt _ (by decide)⟩

/-- The block indices of the four windows at a point. -/
theorem idx_facts : ∀ t : Fin cfg0.N, win0_0.index t = ![(grid0.coords t 1).val, (grid0.coords t 0).val]
    ∧ win0_1.index t = ![0, (grid0.coords t 0).val] ∧ win0_2.index t = ![0, (grid0.coords t 0).val]
    ∧ win0_3.index t = ![(grid0.coords t 1).val, (grid0.coords t 0).val] :=
  (by decide +kernel : ∀ t : Fin grid0.N, _)

/-- Every block of the prompt's rows is written. -/
theorem covers : win0_3.CoversWhere (fun β => β (0 : Fin 2) < 16) := by decide +kernel

variable (m : (ℓ : Loc nD τ sig) → Buf (Elt Ideal) ℓ)

/-- A block of the queries, at an index. -/
theorem q_apply (c : Dev nD) (t : Fin cfg0.N) (r : Fin 512) (x : Fin 256) (i : S8704x4096.Idx)
    (h0 : (i 0).val = 512 * (grid0.coords t 1).val + r.val) (h1 : (i 1).val = 256 * (grid0.coords t 0).val + x.val) :
    iblk m c 0 t (ix2 r x) = m ((c : Thread nD τ).loc main_arg0) i := by
  show V m c main_arg0 (((cfg0.win 0).blk t).view.emb (ix2 r x)) = _
  refine congrArg (m ((c : Thread nD τ).loc main_arg0)) (funext fun a => Fin.ext ?_)
  have e := (idx_facts t).1
  fin_cases a
  · show win0_0.index t (0 : Fin 2) * 512 + 1 * r.val = (i 0).val
    rw [e]; show (grid0.coords t 1).val * 512 + 1 * r.val = _; omega
  · show win0_0.index t (1 : Fin 2) * 256 + 1 * x.val = (i 1).val
    rw [e]; show (grid0.coords t 0).val * 256 + 1 * x.val = _; omega

/-- The block of the keys, at an index. -/
theorem k_apply (c : Dev nD) (t : Fin cfg0.N) (r : Fin 8192) (x : Fin 256) (i : S8704x4096.Idx)
    (h0 : (i 0).val = r.val) (h1 : (i 1).val = 256 * (grid0.coords t 0).val + x.val) :
    X0_1 m c t (ix2 r x) = m ((c : Thread nD τ).loc main_arg1) i := by
  unfold X0_1 Pipeline.Window.fill
  rw [dif_pos (moved0_1 t _)]
  show V m c main_arg1 (((cfg0.win 1).blk t).view.emb _) = _
  refine congrArg (m ((c : Thread nD τ).loc main_arg1)) (funext fun a => Fin.ext ?_)
  have e := (idx_facts t).2.1
  fin_cases a
  · show win0_1.index t (0 : Fin 2) * 8192 + 1 * r.val = (i 0).val
    rw [e]; show 0 * 8192 + 1 * r.val = _; omega
  · show win0_1.index t (1 : Fin 2) * 256 + 1 * x.val = (i 1).val
    rw [e]; show (grid0.coords t 0).val * 256 + 1 * x.val = _; omega

/-- The block of the values, at an index. -/
theorem v_apply (c : Dev nD) (t : Fin cfg0.N) (r : Fin 8192) (x : Fin 128) (i : S8704x2048.Idx)
    (h0 : (i 0).val = r.val) (h1 : (i 1).val = 128 * (grid0.coords t 0).val + x.val) :
    X0_2 m c t (ix2 r x) = m ((c : Thread nD τ).loc main_arg2) i := by
  unfold X0_2 Pipeline.Window.fill
  rw [dif_pos (moved0_2 t _)]
  show V m c main_arg2 (((cfg0.win 2).blk t).view.emb _) = _
  refine congrArg (m ((c : Thread nD τ).loc main_arg2)) (funext fun a => Fin.ext ?_)
  have e := (idx_facts t).2.2.1
  fin_cases a
  · show win0_2.index t (0 : Fin 2) * 8192 + 1 * r.val = (i 0).val
    rw [e]; show 0 * 8192 + 1 * r.val = _; omega
  · show win0_2.index t (1 : Fin 2) * 128 + 1 * x.val = (i 1).val
    rw [e]; show (grid0.coords t 0).val * 128 + 1 * x.val = _; omega

/-- A point's scores are those of its row and head. -/
theorem score_eq (c : Dev nD) (t : Fin cfg0.N) (h : Fin 16) (b : ℕ) (hh : (grid0.coords t 0).val = h.val) (hb : (grid0.coords t 1).val = b)
    (hb16 : b < 16) (r : Fin 512) :
    score b (iblk m c 0 t) (X0_1 m c t) r
      = scores (m ((c : Thread nD τ).loc main_arg0)) (m ((c : Thread nD τ).loc main_arg1)) h (512 * b + r.val) := by
  funext j
  unfold score scores
  refine if_congr Iff.rfl (Finset.sum_congr rfl fun x _ => ?_) rfl
  have hr := r.isLt
  rw [q_apply m c t r x (ix2 (⟨(512 * b + r.val) % 8704, Nat.mod_lt _ (by decide)⟩ : Fin 8704) (⟨256 * h.val + x.val, by omega⟩ : Fin 4096))
      (by show (512 * b + r.val) % 8704 = _; rw [hb]; omega) (by show 256 * h.val + x.val = _; rw [hh]),
    k_apply m c t _ x (ix2 (⟨j % 8192, lt_trans (Nat.mod_lt _ (by decide)) (by decide)⟩ : Fin 8704) (⟨256 * h.val + x.val, by omega⟩ : Fin 4096))
      rfl (by show 256 * h.val + x.val = _; rw [hh])]

/-- A point's values are those of its head. -/
theorem value_eq (c : Dev nD) (t : Fin cfg0.N) (h : Fin 16) (hh : (grid0.coords t 0).val = h.val) (d : Fin 128) :
    value (X0_2 m c t) d = values (m ((c : Thread nD τ).loc main_arg2)) h d := by
  funext j
  exact v_apply m c t _ d _ rfl (by show 128 * h.val + d.val = _; rw [hh])

/-- WHAT A POINT LEAVES, at an index of its block. -/
theorem point (c : Dev nD) (t : Fin cfg0.N)
    (hs : ∀ (h : Fin 16) (i j : ℕ), i < 8192 → scores (m ((c : Thread nD τ).loc main_arg0)) (m ((c : Thread nD τ).loc main_arg1)) h i j ≠ ⊤)
    (r : Fin 512) (d : Fin 128) (y : S8704x2048.Idx) (h0 : (y 0).val = (grid0.coords t 1).val * 512 + r.val)
    (h1 : (y 1).val = (grid0.coords t 0).val * 128 + d.val) :
    outsAt0 m c t (ix2 r d)
      = quotArr (m ((c : Thread nD τ).loc main_arg0)) (m ((c : Thread nD τ).loc main_arg1)) (m ((c : Thread nD τ).loc main_arg2)) y := by
  have hr := r.isLt
  have hd := d.isLt
  have hb16 : (grid0.coords t 1).val < 16 := (grid0.coords t 1).isLt
  have hh16 : (grid0.coords t 0).val < 16 := (grid0.coords t 0).isLt
  obtain ⟨b, hb⟩ : ∃ b, (grid0.coords t 1).val = b := ⟨_, rfl⟩
  obtain ⟨h, hh⟩ : ∃ h : Fin 16, (grid0.coords t 0).val = h.val := ⟨⟨_, hh16⟩, rfl⟩
  have hsc := score_eq m c t h b hh hb (hb ▸ hb16) r
  have ei : (y 0).val = 512 * b + r.val := by omega
  have eh : (⟨(y 1).val / 128, by omega⟩ : Fin 16) = h := Fin.ext (by show (y 1).val / 128 = h.val; omega)
  have ed : (⟨(y 1).val % 128, by omega⟩ : Fin 128) = d := Fin.ext (by show (y 1).val % 128 = d.val; omega)
  have en : 512 * ((512 * b + r.val) / 512) + 512 = 512 * b + 512 := by omega
  unfold outsAt0 quotArr quot
  rw [out_open, hb, out_apply b _ _ _ r d (fun j => by rw [hsc]; exact hs h _ j (by omega)), hsc, value_eq m c t h hh, ei, eh, ed, en]

/-- THE ARRAY AFTER THE RUN, at a row of the prompt. -/
theorem arr_apply (c : Dev nD)
    (hs : ∀ (h : Fin 16) (i j : ℕ), i < 8192 → scores (m ((c : Thread nD τ).loc main_arg0)) (m ((c : Thread nD τ).loc main_arg1)) h i j ≠ ⊤)
    (y : S8704x2048.Idx) : (y 0).val < 8192 →
    (dats m 0 c).arrAt 3 cfg0.N y
      = quotArr (m ((c : Thread nD τ).loc main_arg0)) (m ((c : Thread nD τ).loc main_arg1)) (m ((c : Thread nD τ).loc main_arg2)) y := by
  refine (dats m 0 c).arrAt_forall_of_coversWhere 3 (fun i v => (i 0).val < 8192 → v = quotArr _ _ _ i) (fun β => β (0 : Fin 2) < 16) covers ?_ ?_ y
  · intro t _ z _
    show (dats m 0 c).after 3 t z = _
    have e := (idx_facts t).2.2.2
    rw [after0_3]
    refine (congrArg (outsAt0 m c t) (eq_ix2 (z : S512x128.Idx))).trans (point m c t hs _ _ _ ?_ ?_)
    · show win0_3.index t (0 : Fin 2) * 512 + 1 * (z 0).val = _
      rw [e]; show (grid0.coords t 1).val * 512 + 1 * (z 0).val = _; omega
    · show win0_3.index t (1 : Fin 2) * 128 + 1 * (z 1).val = _
      rw [e]; show (grid0.coords t 0).val * 128 + 1 * (z 1).val = _; omega
  · intro j hj hj'
    exact absurd (show (j 0).val / 512 < 16 from Nat.div_lt_of_lt_mul hj') hj

end Cert.Proof.Flash

end
-- ==== Proof.FlashPre.lean ====
module

public import proofs.«01_k».proof.Proof.FlashBlocks
public import proofs.«01_k».proof.Pre_finite_scores
public import proofs.«01_k».proof.Proof.Gen.On_prompt_rows

@[expose] public section

set_option maxRecDepth 16384

noncomputable section

namespace Cert.Proof.Flash

open Idealize.ShloMosaic Idealize.ShloMosaic.TcCoe Idealize.SL.Sem
open Cert.FlashIdeal (S8704x4096 S8704x2048)

/-- The shapes of the precondition fit. -/
theorem pre_facts : Cert.Pre_finite_scores.Facts where
  slices_S8704x4096_S8192x4096_0_0 := by decide
  bitsLt_bf16_f32 := by decide
  bcast_S_S8192x4096 := by decide

/-- The mask's rows are the prompt's. -/
theorem rows_of_mask [Cert.On_prompt_rows.Facts] (q k : FVec Ideal S8704x4096 .bf16) (v : FVec Ideal S8704x2048 .bf16) (y : S8704x2048.Idx)
    (h : Cert.On_prompt_rows.fn (F := Ideal) q k v y = 1#1) : (y 0).val < 8192 := by
  have h8 : (y 0).val < 8704 := (y 0).isLt
  unfold Cert.On_prompt_rows.fn at h
  revert h
  pointwise []
  rw [show (8192#32 : BitVec 32) = BitVec.ofNat 32 8192 from rfl, WordCmp.cmpi_slt_ofNat (by omega) (by omega)]
  intro h
  by_contra hn
  rw [decide_eq_false hn] at h
  exact absurd h (by decide)

/-- An extended real whose absolute value is below infinity is neither infinity. -/
theorem finite_of_abs (x : EReal) (h : FloatOps.absf (F := Ideal) (φ := .f32) x < Ideal.ofBits FTy.f32 0x7F800000#32) : x ≠ ⊤ ∧ x ≠ ⊥ := by
  rw [show Ideal.ofBits FTy.f32 0x7F800000#32 = ⊤ from by simp [Ideal.ofBits, Ideal.ieee]] at h
  refine ⟨fun e => ?_, fun e => ?_⟩ <;> subst e <;> exact absurd h (by simp [FloatOps.absf])

/-- A conjunction of two truth values that holds, one by one. -/
theorem both_of_andi (a b : Bool) (h : IntOp.andi (BitVec.ofBool a) (BitVec.ofBool b) = 1#1) : a = true ∧ b = true := by
  revert h
  cases a <;> cases b <;> decide

/-- Under the precondition the queries and the keys of the prompt are finite. -/
theorem finite_of_pre [Cert.Pre_finite_scores.Facts] (q k : FVec Ideal S8704x4096 .bf16) (v : FVec Ideal S8704x2048 .bf16)
    (h : Cert.Pre_finite_scores.fn (F := Ideal) q k v = fun _ => 1#1) (i : Fin 8704) (hi : i.val < 8192) (x : Fin 4096) :
    (q (ix2 i x) ≠ (⊤ : EReal) ∧ q (ix2 i x) ≠ (⊥ : EReal)) ∧ k (ix2 i x) ≠ (⊤ : EReal) ∧ k (ix2 i x) ≠ (⊥ : EReal) := by
  have h' := congrFun h (ix2 (⟨i.val, hi⟩ : Fin 8192) x)
  unfold Cert.Pre_finite_scores.fn at h'
  revert h'
  pointwise []
  intro h'
  have e := both_of_andi _ _ h'
  exact ⟨finite_of_abs _ (of_decide_eq_true e.1), finite_of_abs _ (of_decide_eq_true e.2)⟩

/-- A finite sum of products of finite numbers is finite. -/
theorem sum_finite {n : ℕ} (a b : Fin n → EReal) (ha : ∀ x, a x ≠ ⊤ ∧ a x ≠ ⊥) (hb : ∀ x, b x ≠ ⊤ ∧ b x ≠ ⊥) :
    (∑ x, a x * b x) ≠ ⊤ ∧ (∑ x, a x * b x) ≠ ⊥ := by
  suffices h : ∃ y : ℝ, (∑ x, a x * b x) = (y : EReal) by
    obtain ⟨y, e⟩ := h
    rw [e]
    exact ⟨EReal.coe_ne_top _, EReal.coe_ne_bot _⟩
  refine Finset.sum_induction _ (fun z : EReal => ∃ y : ℝ, z = (y : EReal)) ?_ ⟨0, rfl⟩ fun x _ => ?_
  · rintro _ _ ⟨y, rfl⟩ ⟨z, rfl⟩
    exact ⟨y + z, (EReal.coe_add y z).symm⟩
  · refine ⟨(a x).toReal * (b x).toReal, ?_⟩
    rw [EReal.coe_mul, EReal.coe_toReal (ha x).1 (ha x).2, EReal.coe_toReal (hb x).1 (hb x).2]

/-- So no score of the prompt is infinite, and a query's score with its own key is a number. -/
theorem scores_of_pre [Cert.Pre_finite_scores.Facts] (q k : FVec Ideal S8704x4096 .bf16) (v : FVec Ideal S8704x2048 .bf16)
    (hp : Cert.Pre_finite_scores.fn (F := Ideal) q k v = fun _ => 1#1) (h : Fin 16) (i : ℕ) (hi : i < 8192) :
    (∀ j, scores q k h i j ≠ ⊤) ∧ scores q k h i i ≠ ⊥ := by
  have hf := fun j => sum_finite _ _
    (fun x : Fin 256 => (finite_of_pre q k v hp (⟨i % 8704, Nat.mod_lt _ (by decide)⟩ : Fin 8704) (by show i % 8704 < 8192; omega)
      (⟨256 * h.val + x.val, by omega⟩ : Fin 4096)).1)
    (fun x : Fin 256 => (finite_of_pre q k v hp (⟨j % 8192, lt_trans (Nat.mod_lt _ (by decide)) (by decide)⟩ : Fin 8704) (Nat.mod_lt _ (by decide))
      (⟨256 * h.val + x.val, by omega⟩ : Fin 4096)).2)
  refine ⟨fun j => ?_, ?_⟩
  · unfold scores
    split
    · exact (hf j).1
    · exact bot_ne_top
  · unfold scores
    rw [if_pos le_rfl]
    exact (hf i).2

end Cert.Proof.Flash

end
-- ==== Proof.FlashRef.lean ====
module

public import proofs.«01_k».proof.Proof.FlashBlocks
public import proofs.«01_k».proof.Proof.Gen.FlashRefIdeal.Run
public import Idealize.ShloMosaic.Lib.Pointwise

@[expose] public section

set_option maxRecDepth 16384

noncomputable section

namespace Cert.Proof.FlashRef

open Cert.FlashRefIdeal Cert.FlashRefIdeal.Gen
open Idealize.ShloMosaic Idealize.ShloMosaic.TcCoe Idealize.SL.Sem
open Cert.Proof.Softmax (top den acc)
open Cert.Proof.Flash (scores values quotArr quot)

/-- The reference's masked score: the two halves of the channels are one sum. -/
theorem masked (q k : FVec Ideal S8704x4096 .bf16) (h : Fin 16) (i t : Fin 8192) (b : EReal) (hb : b = ⊥) :
    Scalar.select (IntOp.cmpi CmpIPredicate.sle (BitVec.ofNat 32 t.val) (BitVec.ofNat 32 i.val))
        ((∑ x : Fin 128, q (ix2 (⟨i.val, lt_trans i.isLt (by decide)⟩ : Fin 8704) (⟨h.val * 256 + x.val, by omega⟩ : Fin 4096))
            * k (ix2 (⟨t.val, lt_trans t.isLt (by decide)⟩ : Fin 8704) (⟨h.val * 256 + x.val, by omega⟩ : Fin 4096)))
          + ∑ x : Fin 128, q (ix2 (⟨i.val, lt_trans i.isLt (by decide)⟩ : Fin 8704) (⟨h.val * 256 + (128 + x.val), by omega⟩ : Fin 4096))
            * k (ix2 (⟨t.val, lt_trans t.isLt (by decide)⟩ : Fin 8704) (⟨h.val * 256 + (128 + x.val), by omega⟩ : Fin 4096))) b
      = scores q k h i.val t.val := by
  have ht := t.isLt
  have hi := i.isLt
  have hc : IntOp.cmpi CmpIPredicate.sle (BitVec.ofNat 32 t.val) (BitVec.ofNat 32 i.val) = if t.val ≤ i.val then 1#1 else 0#1 := by
    rw [WordCmp.cmpi_sle_ofNat (by omega) (by omega)]
    by_cases h : t.val ≤ i.val <;> simp [h]
  unfold scores
  rw [hc, hb]
  by_cases h' : t.val ≤ i.val
  · rw [if_pos h', if_pos h', Fin.sum_univ_two_halves 128 128 rfl]
    have e0 : (⟨i.val % 8704, Nat.mod_lt _ (by decide)⟩ : Fin 8704) = ⟨i.val, lt_trans hi (by decide)⟩ := Fin.ext (Nat.mod_eq_of_lt (lt_trans hi (by decide)))
    have e1 : (⟨t.val % 8192, lt_trans (Nat.mod_lt _ (by decide)) (by decide)⟩ : Fin 8704) = ⟨t.val, lt_trans ht (by decide)⟩ := Fin.ext (Nat.mod_eq_of_lt ht)
    simp only [e0, e1, Nat.mul_comm 256 h.val]
    rfl
  · rw [if_neg h', if_neg h']
    rfl

/-- The reference's scores, masked. -/
def scoreArr (q k : FVec Ideal S8704x4096 .bf16) : FVec Ideal S16x8192x8192 .f32 :=
  select (broadcastInDim S16x8192x8192 ![0, 1, 2] bcast_S1x8192x8192_S16x8192x8192_0_1_2 (broadcastInDim S1x8192x8192 ![1, 2] bcast_S8192x8192_S1x8192x8192_1_2
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0))))))
    (addf (Host.dotGeneral dot_S8192x16x128_S8192x16x128_S16x8192x8192_2_2_0_0_1_1 none
        (extractStridedSlice S8192x16x128 ![0, 0, 0] (shapeCast S8192x16x256 (extractStridedSlice S8192x4096 ![0, 0] (extf .f32 q bitsLt_bf16_f32) slices_S8704x4096_S8192x4096_0_0) shapeCasts_S8192x4096_S8192x16x256) slices_S8192x16x256_S8192x16x128_0_0_0)
        (extractStridedSlice S8192x16x128 ![0, 0, 0] (shapeCast S8192x16x256 (extractStridedSlice S8192x4096 ![0, 0] (extf .f32 k bitsLt_bf16_f32) slices_S8704x4096_S8192x4096_0_0) shapeCasts_S8192x4096_S8192x16x256) slices_S8192x16x256_S8192x16x128_0_0_0))
      (Host.dotGeneral dot_S8192x16x128_S8192x16x128_S16x8192x8192_2_2_0_0_1_1 none
        (extractStridedSlice S8192x16x128 ![0, 0, 128] (shapeCast S8192x16x256 (extractStridedSlice S8192x4096 ![0, 0] (extf .f32 q bitsLt_bf16_f32) slices_S8704x4096_S8192x4096_0_0) shapeCasts_S8192x4096_S8192x16x256) slices_S8192x16x256_S8192x16x128_0_0_128)
        (extractStridedSlice S8192x16x128 ![0, 0, 128] (shapeCast S8192x16x256 (extractStridedSlice S8192x4096 ![0, 0] (extf .f32 k bitsLt_bf16_f32) slices_S8704x4096_S8192x4096_0_0) shapeCasts_S8192x4096_S8192x16x256) slices_S8192x16x256_S8192x16x128_0_0_128)))
    (broadcastInDim S16x8192x8192 ![] bcast_S_S16x8192x8192 (id (constant S_ .f32 0xFF800000#32)))

/-- The largest score of every row. -/
def topArr (s : FVec Ideal S16x8192x8192 .f32) : FVec Ideal S16x8192 .f32 :=
  maximumf (broadcastInDim S16x8192 ![] bcast_S_S16x8192 (constant S_ .f32 0xFF800000#32))
    (Host.reduce FloatOps.maximumf s (constant S_ .f32 0xFF800000#32) reducesTo_S16x8192x8192_S16x8192_d2 h_S_)

/-- The weights before their division. -/
def expArr (s : FVec Ideal S16x8192x8192 .f32) (t : FVec Ideal S16x8192 .f32) : FVec Ideal S16x8192x8192 .f32 :=
  Host.exp (subf s (broadcastInDim S16x8192x8192 ![0, 1, 2] bcast_S16x8192x1_S16x8192x8192_0_1_2 (broadcastInDim S16x8192x1 ![0, 1] bcast_S16x8192_S16x8192x1_0_1 t)))

/-- The weights. -/
def weightArr (e : FVec Ideal S16x8192x8192 .f32) : FVec Ideal S16x8192x8192 .f32 :=
  extf .f32 (truncf .bf16 (Host.divf e (broadcastInDim S16x8192x8192 ![0, 1, 2] bcast_S16x8192x1_S16x8192x8192_0_1_2 (broadcastInDim S16x8192x1 ![0, 1] bcast_S16x8192_S16x8192x1_0_1
    (Host.reduceAdd e (constant S_ .f32 0x00000000#32) reducesTo_S16x8192x8192_S16x8192_d2 h_S_)))) bitsLt_bf16_f32) bitsLt_bf16_f32

/-- The weighted values, laid out as the result. -/
def outArr (p : FVec Ideal S16x8192x8192 .f32) (v : FVec Ideal S8704x2048 .bf16) : FVec Ideal S8704x2048 .bf16 :=
  truncf .bf16 (concatenate S8704x2048 0 [⟨S8192x2048, (shapeCast S8192x2048 (transpose S8192x16x128 [2, 0, 1] (Host.dotGeneral dot_S8192x16x128_S16x8192x8192_S16x128x8192_0_2_2_1_1_0 none
      (shapeCast S8192x16x128 (extractStridedSlice S8192x2048 ![0, 0] (extf .f32 v bitsLt_bf16_f32) slices_S8704x2048_S8192x2048_0_0) shapeCasts_S8192x2048_S8192x16x128) p)
      transposes_S16x128x8192_S8192x16x128_2_0_1) shapeCasts_S8192x16x128_S8192x2048)⟩,
    ⟨S512x2048, (broadcastInDim S512x2048 ![] bcast_S_S512x2048 (constant S_ .f32 0x00000000#32))⟩] concatenates_S8192x2048_S512x2048_S8704x2048_d0) bitsLt_bf16_f32

/-- A masked score at an index. -/
theorem scoreArr_apply (q k : FVec Ideal S8704x4096 .bf16) (h : Fin 16) (i j : Fin 8192) :
    scoreArr q k (ix3 h i j) = scores q k h i.val j.val := by
  have hb : id (constant (F := Ideal) S_ FTy.f32 4286578688#32) ix0 = (⊥ : EReal) := Flash.neg_inf
  unfold scoreArr
  pointwise []
  exact masked q k h i j _ hb

/-- The largest element along the last axis, at an index. -/
theorem max_reduce (n : ℕ) (s : FVec Ideal ⟨3, ![16, n, n]⟩ .f32) (b b' : FVec Ideal S_ .f32) (hc : S_.BroadcastsInDim ⟨2, ![16, n]⟩ ![])
    (hr : (⟨3, ![16, n, n]⟩ : Shape).ReducesTo [2] ⟨2, ![16, n]⟩) (hu : 0 < S_.numel) (h : Fin 16) (i : Fin n)
    (hb : b = fun _ => (⊥ : EReal)) (hb' : b' = fun _ => (⊥ : EReal)) (f : ℕ → EReal) (hf : ∀ t : Fin n, s (ix3 h i t) = f t.val) :
    maximumf (broadcastInDim ⟨2, ![16, n]⟩ ![] hc b') (Host.reduce FloatOps.maximumf s b hr hu) (ix2 h i) = top f n := by
  pointwise []
  rw [hb, hb']
  simp only [hf]
  rw [Softmax.fold_eq_sup n f]
  exact max_eq_right bot_le

/-- The largest score of a row. -/
theorem topArr_apply (s : FVec Ideal S16x8192x8192 .f32) (h : Fin 16) (i : Fin 8192) (f : ℕ → EReal) (hf : ∀ t : Fin 8192, s (ix3 h i t) = f t.val) :
    topArr s (ix2 h i) = top f 8192 := by
  unfold topArr
  exact max_reduce 8192 s _ _ _ _ _ h i (funext fun _ => Flash.neg_inf) (funext fun _ => Flash.neg_inf) f hf

/-- A weight before its division. -/
theorem expArr_apply (s : FVec Ideal S16x8192x8192 .f32) (t : FVec Ideal S16x8192 .f32) (h : Fin 16) (i j : Fin 8192) :
    expArr s t (ix3 h i j) = Ideal.exp (s (ix3 h i j) - t (ix2 h i)) := by
  unfold expArr
  pointwise []

/-- A weight. -/
theorem weightArr_apply (e : FVec Ideal S16x8192x8192 .f32) (h : Fin 16) (i j : Fin 8192) :
    weightArr e (ix3 h i j) = Ideal.div (e (ix3 h i j)) (∑ t : Fin 8192, e (ix3 h i t)) := by
  unfold weightArr
  pointwise []

/-- A result of the prompt's rows: the weighted sum of the values. -/
theorem outArr_apply (p : FVec Ideal S16x8192x8192 .f32) (v : FVec Ideal S8704x2048 .bf16) (i : Fin 8704) (l : Fin 2048) (hy : i.val < 8192) (h : Fin 16)
    (d : Fin 128) (h1 : l.val = 128 * h.val + d.val) :
    outArr p v (ix2 i l) = ∑ t : Fin 8192, values v h d t.val * p (ix3 h (⟨i.val, hy⟩ : Fin 8192) t) := by
  have hd := d.isLt
  have eh : (⟨l.val / 128, by omega⟩ : Fin 16) = h := Fin.ext (by show l.val / 128 = h.val; omega)
  unfold outArr
  pointwise []
  rw [dif_pos hy]
  refine Finset.sum_congr rfl fun t _ => congrArg₂ HMul.hMul (congrArg v (funext fun a => Fin.ext ?_)) (by rw [eh])
  fin_cases a
  · exact (Nat.mod_eq_of_lt t.isLt).symm
  · exact h1

/-- THE ATTENTION at a row of the prompt: the values weighted by the softmax of the row's scores. -/
theorem attn_apply (q k : FVec Ideal S8704x4096 .bf16) (v : FVec Ideal S8704x2048 .bf16) (i : Fin 8704) (l : Fin 2048) (hy : i.val < 8192)
    (h : Fin 16) (d : Fin 128) (h1 : l.val = 128 * h.val + d.val) (s : ℕ → EReal) (hs : s = scores q k h i.val) :
    outArr (weightArr (expArr (scoreArr q k) (topArr (scoreArr q k)))) v (ix2 i l)
      = ∑ j ∈ Finset.range 8192, Ideal.div (Ideal.exp (s j - top s 8192)) (den s (top s 8192) 8192) * values v h d j := by
  have hS : ∀ t : Fin 8192, scoreArr q k (ix3 h (⟨i.val, hy⟩ : Fin 8192) t) = s t.val := fun t => by rw [scoreArr_apply, hs]
  have hden : den s (top s 8192) 8192 = ∑ t : Fin 8192, Ideal.exp (s t.val - top s 8192) := Finset.sum_range _
  rw [outArr_apply _ _ i l hy h d h1, Finset.sum_range]
  refine Finset.sum_congr rfl fun t _ => ?_
  rw [weightArr_apply, mul_comm, hden]
  simp only [expArr_apply, hS, topArr_apply _ h _ s hS]

variable (m : (ℓ : Loc nD τ sig) → Buf (Elt Ideal) ℓ)

/-- The reference's result is that array. -/
theorem ref_eq (c : Dev nD) :
    Value.res_main_v42 (F := Ideal) m c
      = outArr (weightArr (expArr (scoreArr (m ((c.tc : Thread nD τ).loc main_arg0)) (m ((c.tc : Thread nD τ).loc main_arg1)))
          (topArr (scoreArr (m ((c.tc : Thread nD τ).loc main_arg0)) (m ((c.tc : Thread nD τ).loc main_arg1))))))
        (m ((c.tc : Thread nD τ).loc main_arg2)) := rfl

end Cert.Proof.FlashRef

end
-- ==== Proof.FlashClaim.lean ====
module

public import proofs.«01_k».proof.Defs
public import proofs.«01_k».proof.Proof.FlashPre
public import proofs.«01_k».proof.Proof.FlashRef

@[expose] public section

set_option maxRecDepth 16384

noncomputable section

namespace Cert.Proof.Flash

open Idealize.ShloMosaic Idealize.ShloMosaic.TcCoe Idealize.SL.Sem
open Cert.FlashIdeal (S8704x4096 S8704x2048)

/-- THE TWO RESULTS MEET at a row of the prompt. -/
theorem meet (q k : FVec Ideal S8704x4096 .bf16) (v : FVec Ideal S8704x2048 .bf16) [Cert.Pre_finite_scores.Facts]
    (hp : Cert.Pre_finite_scores.fn (F := Ideal) q k v = fun _ => 1#1) (y : S8704x2048.Idx) (hy : (y 0).val < 8192) :
    FlashRef.outArr (FlashRef.weightArr (FlashRef.expArr (FlashRef.scoreArr q k) (FlashRef.topArr (FlashRef.scoreArr q k)))) v y
      = quotArr q k v y := by
  obtain ⟨i, l, rfl⟩ : ∃ (i : Fin 8704) (l : Fin 2048), y = ix2 i l := ⟨y 0, y 1, eq_ix2 y⟩
  have hi : i.val < 8192 := hy
  obtain ⟨ht, hb⟩ := scores_of_pre q k v hp (⟨l.val / 128, by omega⟩ : Fin 16) i.val hi
  rw [FlashRef.attn_apply q k v i l hi (⟨l.val / 128, by omega⟩ : Fin 16) (⟨l.val % 128, by omega⟩ : Fin 128) (by show l.val = 128 * (l.val / 128) + l.val % 128; omega) _ rfl]
  refine (Softmax.quotient ht _ (n := 512 * (i.val / 512) + 512) (N := 8192) (i := i.val) (by omega) (by omega) hb fun j hj => ?_).symm
  unfold scores
  exact if_neg (by omega)

/-- THE VALUE CLAIM of the prompt's attention. -/
theorem algebraic : Cert.algebraic_FlashIdeal_FlashRefIdeal_on_prompt_rows_pre_finite_scores (hFlashIdeal := Cert.FlashIdeal.Gen.facts)
    (hFlashRefIdeal := Cert.FlashRefIdeal.Gen.facts) (hPre_finite_scores := pre_facts) (hOn_prompt_rows := Cert.On_prompt_rows.Gen.facts) := by
  intro m g m' g' hp hargs
  refine ⟨fun c => quotArr (m ((c.tc : Thread Cert.FlashIdeal.nD Cert.FlashIdeal.τ).loc Cert.FlashIdeal.main_arg0))
    (m ((c.tc : Thread Cert.FlashIdeal.nD Cert.FlashIdeal.τ).loc Cert.FlashIdeal.main_arg1))
    (m ((c.tc : Thread Cert.FlashIdeal.nD Cert.FlashIdeal.τ).loc Cert.FlashIdeal.main_arg2)), ?_, ?_⟩
  · refine (θ_run _ _ _).mono (fun r h c => ⟨fun y hy => ?_, (h c).2⟩) (Cert.FlashIdeal.Value.run_blocks m g)
    refine (congrFun (h c).1 y).trans (arr_apply m c (fun h i j hi => ?_) y (@rows_of_mask Cert.On_prompt_rows.Gen.facts _ _ _ y hy))
    exact (@scores_of_pre pre_facts _ _ _ (hp c) h i hi).1 j
  · refine (θ_run _ _ _).mono (fun r h c => ⟨fun y hy => ?_, (h c).2⟩) (Cert.FlashRefIdeal.Value.run m' g')
    refine (congrFun ((h c).1.trans (FlashRef.ref_eq m' c)) y).trans ?_
    obtain ⟨e0, e1, e2⟩ := hargs c
    rw [e0, e1, e2]
    exact @meet _ _ _ pre_facts (hp c) y (@rows_of_mask Cert.On_prompt_rows.Gen.facts _ _ _ y hy)

end Cert.Proof.Flash

end
-- ==== Proof.Rms.lean ====
module

public import Idealize.ShloMosaic.PureOps.Ideal
public import Idealize.ShloMosaic.Lib.Pointwise

@[expose] public section

noncomputable section

namespace Cert.Proof

open Idealize.ShloMosaic

/-- One entry of a row of 2048 numbers divided by the root of its mean square and scaled. -/
def rmsAt (x : Fin 2048 → EReal) (g : EReal) (l : Fin 2048) : EReal :=
  x l * Ideal.rsqrt (Ideal.div (∑ k, x k * x k) (Ideal.ofBits FTy.f32 0x45000000#32) + Ideal.ofBits FTy.f32 0x358637BD#32) * g

end Cert.Proof

end
-- ==== Proof.PleRow.lean ====
module

public import proofs.«01_k».proof.Proof.Rms
public import proofs.«01_k».proof.Proof.Gen.PleIdeal.Value
public import proofs.«01_k».proof.Proof.Gen.PleSIdeal.Value

@[expose] public section

set_option maxRecDepth 16384

noncomputable section

namespace Cert.Proof

open Idealize.ShloMosaic

/-- One entry of a row's last residual: the residual plus its gated input per layer. -/
def pleAt (h x : Fin 2048 → EReal) (p : Fin 256 → EReal) (wg : Fin 2048 → Fin 2048 → EReal) (wp : Fin 256 → Fin 2048 → EReal)
    (l : Fin 2048) : EReal :=
  x l + Ideal.logistic (∑ k, h k * wg k l) * ∑ k, p k * wp k l

/-- An entry of what the body stores, for the prompt's rows. -/
theorem ple_pay (v0 : FVec Ideal Cert.PleIdeal.S512x2048 .bf16) (v1 : FVec Ideal Cert.PleIdeal.S2048x2048 .bf16)
    (v5 : FVec Ideal Cert.PleIdeal.S512x2048 .f32) (v6 : FVec Ideal Cert.PleIdeal.S512x256 .f32)
    (v9 : FVec Ideal Cert.PleIdeal.S256x2048 .bf16) (v14 : FVec Ideal Cert.PleIdeal.S1x2048 .f32) (r : Fin 512) (l : Fin 2048) :
    Cert.PleIdeal.Gen.k0_pay1 (F := Ideal) v0 v1 v5 v6 v9 v14 (ix2 r l)
      = rmsAt (pleAt (fun k => v0 (ix2 r k)) (fun k => v5 (ix2 r k)) (fun k => v6 (ix2 r k)) (fun k j => v1 (ix2 k j)) (fun k j => v9 (ix2 k j)))
          (v14 (ix2 0 l)) l := by
  pointwise [Cert.PleIdeal.Gen.k0_pay1]
  rfl

/-- An entry of what the body stores, for the samples' rows. -/
theorem pleS_pay (v0 : FVec Ideal Cert.PleIdeal.S512x2048 .bf16) (v1 : FVec Ideal Cert.PleIdeal.S2048x2048 .bf16)
    (v5 : FVec Ideal Cert.PleIdeal.S512x2048 .f32) (v6 : FVec Ideal Cert.PleIdeal.S512x256 .f32)
    (v9 : FVec Ideal Cert.PleIdeal.S256x2048 .bf16) (v14 : FVec Ideal Cert.PleIdeal.S1x2048 .f32) (r : Fin 512) (l : Fin 2048) :
    Cert.PleSIdeal.Gen.k0_pay1 (F := Ideal) v0 v1 v5 v6 v9 v14 (ix2 r l)
      = rmsAt (pleAt (fun k => v0 (ix2 r k)) (fun k => v5 (ix2 r k)) (fun k => v6 (ix2 r k)) (fun k j => v1 (ix2 k j)) (fun k j => v9 (ix2 k j)))
          (v14 (ix2 0 l)) l :=
  ple_pay v0 v1 v5 v6 v9 v14 r l

end Cert.Proof

end
-- ==== Proof.PleS.lean ====
module

public import proofs.«01_k».proof.Defs
public import proofs.«01_k».proof.Proof.PleRow
public import proofs.«01_k».proof.Proof.Gen.PleSIdeal.Value
public import proofs.«01_k».proof.Proof.Gen.PleSRefIdeal.Run
public import Idealize.ShloMosaic.Lib.Pipeline.ValueKit
public import Idealize.ShloMosaic.Lib.Pointwise

@[expose] public section

set_option maxRecDepth 16384

noncomputable section

namespace Cert.Proof.PleS

open Idealize.ShloMosaic Idealize.ShloMosaic.TcCoe Idealize.SL.Sem
open Idealize.ShloMosaic.Pipeline (Dat)

section Reference

open Cert.PleSRefIdeal Cert.PleSRefIdeal.Gen

/-- The samples' inputs per layer as rows. -/
def inArr (p : FVec Ideal S1x128x4x256 .f32) : FVec Ideal S512x256 .f32 :=
  shapeCast _ (shapeCast _ p shapeCasts_S1x128x4x256_S128x4x256) shapeCasts_S128x4x256_S512x256

/-- The last residual, as the reference writes it. -/
def sumArr (h : FVec Ideal S8704x2048 .bf16) (x : FVec Ideal S8704x2048 .f32) (p : FVec Ideal S512x256 .f32)
    (wg : FVec Ideal S1x2048x2048 .f32) (wp : FVec Ideal S1x256x2048 .f32) : FVec Ideal S512x2048 .f32 :=
  addf (extractStridedSlice S512x2048 ![8192, 0] x slices_S8704x2048_S512x2048_8192_0) (mulf (Host.divf (broadcastInDim S512x2048 ![] bcast_S_S512x2048 (constant S_ .f32 0x3F800000#32)) (addf (broadcastInDim S512x2048 ![] bcast_S_S512x2048 (constant S_ .f32 0x3F800000#32)) (Host.exp (Host.negf (Host.dotGeneral dot_S512x2048_S2048x2048_S512x2048_1_0_0_1_n_n none (extf .f32 (extractStridedSlice S512x2048 ![8192, 0] h slices_S8704x2048_S512x2048_8192_0) bitsLt_bf16_f32) (shapeCast _ wg shapeCasts_S1x2048x2048_S2048x2048)))))) (Host.dotGeneral dot_S512x256_S256x2048_S512x2048_1_0_0_1_n_n none p (shapeCast _ wp shapeCasts_S1x256x2048_S256x2048)))

/-- The normalisation of a residual, as the reference writes it. -/
def normArr (y : FVec Ideal S512x2048 .f32) (g : FVec Ideal S2048 .f32) : FVec Ideal S512x2048 .f32 :=
  mulf (mulf y (broadcastInDim S512x2048 ![0, 1] bcast_S512x1_S512x2048_0_1 (Host.rsqrt (addf (Host.divf (broadcastInDim S512x1 ![0] bcast_S512_S512x1_0 (Host.reduceAdd (mulf y y) (constant S_ .f32 0x00000000#32) reducesTo_S512x2048_S512_d1 h_S_)) (broadcastInDim S512x1 ![] bcast_S_S512x1 (constant S_ .f32 0x45000000#32))) (broadcastInDim S512x1 ![] bcast_S_S512x1 (constant S_ .f32 0x358637BD#32)))))) (broadcastInDim S512x2048 ![0, 1] bcast_S1x2048_S512x2048_0_1 (broadcastInDim S1x2048 ![1] bcast_S2048_S1x2048_1 g))

/-- A row of the samples' as a row of all. -/
def rowIn (i : Fin 512) : Fin 8704 := ⟨8192 + i.val, by omega⟩

/-- An entry of the last residual. -/
theorem sum_apply (h : FVec Ideal S8704x2048 .bf16) (x : FVec Ideal S8704x2048 .f32) (p : FVec Ideal S512x256 .f32)
    (wg : FVec Ideal S1x2048x2048 .f32) (wp : FVec Ideal S1x256x2048 .f32) (i : Fin 512) (l : Fin 2048) : sumArr h x p wg wp (ix2 i l)
      = pleAt (fun k => h (ix2 (rowIn i) k)) (fun k => x (ix2 (rowIn i) k)) (fun k => p (ix2 i k)) (fun k j => wg (ix3 0 k j))
          (fun k j => wp (ix3 0 k j)) l := by
  pointwise [sumArr]
  unfold pleAt Ideal.logistic
  blk_point [rowIn]

/-- An entry of the normalised residual. -/
theorem norm_apply (y : FVec Ideal S512x2048 .f32) (g : FVec Ideal S2048 .f32) (i : Fin 512) (l : Fin 2048) :
    normArr y g (ix2 i l) = rmsAt (fun k => y (ix2 i k)) (g (ix1 l)) l := by
  pointwise [normArr]
  rfl

end Reference

section Kernel

open Cert.PleSIdeal Cert.PleSIdeal.Gen

variable (m : (ℓ : Loc nD τ sig) → Buf (Elt Ideal) ℓ)

/-- The blocks of the windows at a point. -/
theorem idx : ∀ t : Fin cfg0.N, win0_0.index t = ![16 + t.val, 0] ∧ win0_1.index t = ![16 + t.val, 0] ∧ win0_2.index t = ![t.val, 0]
    ∧ win0_3.index t = ![0, 0] ∧ win0_4.index t = ![0, 0] ∧ win0_5.index t = ![0, 0] ∧ win0_6.index t = ![t.val, 0] :=
  (by decide +kernel : ∀ t : Fin grid0.N, _)

/-- The array the call is to leave, of the arguments in memory. -/
def goal (c : Dev nD) : FVec Ideal S512x2048 .f32 :=
  normArr (sumArr (m ((c : Thread nD τ).loc main_arg0)) (m ((c : Thread nD τ).loc main_arg1)) (inArr (m ((c : Thread nD τ).loc main_arg2)))
    (m ((c : Thread nD τ).loc main_arg3)) (m ((c : Thread nD τ).loc main_arg4))) (m ((c : Thread nD τ).loc main_arg5))

/-- A row of a point's block, as a row of the samples'. -/
def rowOf (t : Fin cfg0.N) (r : Fin 512) : Fin 512 :=
  ⟨t.val * 512 + r.val, by have := t.isLt; have : t.val < 1 := this; omega⟩

/-- Window 0 stages the normalised rows. -/
theorem blk0 (c : Dev nD) (t : Fin cfg0.N) (r : Fin 512) (k : Fin 2048) :
    iblk m c 0 t (ix2 r k) = m ((c : Thread nD τ).loc main_arg0) (ix2 (rowIn (rowOf t r)) k) := by
  blk_point [iblk, idx t, rowIn, rowOf]

/-- Window 1 stages the residual's rows. -/
theorem blk1 (c : Dev nD) (t : Fin cfg0.N) (r : Fin 512) (k : Fin 2048) :
    iblk m c 1 t (ix2 r k) = m ((c : Thread nD τ).loc main_arg1) (ix2 (rowIn (rowOf t r)) k) := by
  blk_point [iblk, idx t, rowIn, rowOf]

/-- Window 2 stages the rows of inputs per layer. -/
theorem blk2 (c : Dev nD) (t : Fin cfg0.N) (r : Fin 512) (k : Fin 256) :
    iblk m c 2 t (ix2 r k) = inArr (m ((c : Thread nD τ).loc main_arg2)) (ix2 (rowOf t r) k) := by
  blk_simp [iblk]
  entry_read
  unfold inArr
  blk_ext [idx t, rowOf]

/-- Window 3 stages the gate's projection. -/
theorem blk3 (c : Dev nD) (t : Fin cfg0.N) (k : Fin 2048) (l : Fin 2048) :
    iblk m c 3 t (ix2 k l) = m ((c : Thread nD τ).loc main_arg3) (ix3 (0 : Fin 1) k l) := by
  blk_simp [iblk]
  entry_read
  pointwise
  blk_ext [idx t]

/-- Window 4 stages the inputs' projection. -/
theorem blk4 (c : Dev nD) (t : Fin cfg0.N) (k : Fin 256) (l : Fin 2048) :
    iblk m c 4 t (ix2 k l) = m ((c : Thread nD τ).loc main_arg4) (ix3 (0 : Fin 1) k l) := by
  blk_simp [iblk]
  entry_read
  pointwise
  blk_ext [idx t]

/-- Window 5 stages the normalisation's scale. -/
theorem blk5 (c : Dev nD) (t : Fin cfg0.N) (l : Fin 2048) :
    iblk m c 5 t (ix2 (0 : Fin 1) l) = m ((c : Thread nD τ).loc main_arg5) (ix1 l) := by
  blk_simp [iblk]
  entry_read
  pointwise
  blk_ext [idx t]

/-- What the body stores at a point is the array under the point's block. -/
theorem point (c : Dev nD) (t : Fin cfg0.N) (r : Fin 512) (l : Fin 2048) :
    k0_pay1 (iblk m c 0 t) (iblk m c 3 t) (iblk m c 1 t) (iblk m c 2 t) (iblk m c 4 t) (iblk m c 5 t) (ix2 r l)
      = goal m c (ix2 (rowOf t r) l) := by
  refine (pleS_pay _ _ _ _ _ _ r l).trans (Eq.trans ?_ (norm_apply _ _ _ _).symm)
  simp only [blk0, blk1, blk2, blk3, blk4, blk5, sum_apply]

/-- The call's result. -/
theorem final (c : Dev nD) : (dats m 0 c).arrAt 6 (cfgs 0).N = goal m c := by
  refine (dats m 0 c).arrAt_eq_of_covers 6 _ (by decide +kernel) fun t _ y => ?_
  blk_simp
  rw [after0_6]; frame_out
  refine (congrArg _ (eq_ix2 y)).trans ((point m c t (y 0) (y 1)).trans (congrArg _ ?_))
  blk_ext [idx t, rowOf]

/-- THE VALUE CLAIM of the samples' result. -/
theorem algebraic : Cert.algebraic_PleSIdeal_PleSRefIdeal (hPleSIdeal := Cert.PleSIdeal.Gen.facts) (hPleSRefIdeal := Cert.PleSRefIdeal.Gen.facts) := by
  intro m g m' g' _ hargs
  refine ⟨fun c => goal m c, ?_, ?_⟩
  · exact (θ_run _ _ _).mono (fun r h c => ⟨(h c).1.trans (final m c), (h c).2⟩) (Cert.PleSIdeal.Value.run_blocks m g)
  · refine (θ_run _ _ _).mono (fun r h c => ⟨(h c).1.trans ?_, (h c).2⟩) (Cert.PleSRefIdeal.Value.run m' g')
    obtain ⟨e0, e1, e2, e3, e4, e5⟩ := hargs c
    rw [e0, e1, e2, e3, e4, e5]; rfl

end Kernel

end Cert.Proof.PleS

end
-- ==== Proof.Ple.lean ====
module

public import proofs.«01_k».proof.Defs
public import proofs.«01_k».proof.Proof.PleRow
public import proofs.«01_k».proof.Proof.Gen.PleIdeal.Value
public import proofs.«01_k».proof.Proof.Gen.PleRefIdeal.Run
public import Idealize.ShloMosaic.Lib.Pipeline.ValueKit
public import Idealize.ShloMosaic.Lib.Pointwise

@[expose] public section

set_option maxRecDepth 16384

noncomputable section

namespace Cert.Proof.Ple

open Idealize.ShloMosaic Idealize.ShloMosaic.TcCoe Idealize.SL.Sem
open Idealize.ShloMosaic.Pipeline (Dat)

section Reference

open Cert.PleRefIdeal Cert.PleRefIdeal.Gen

/-- The prompt's inputs per layer as rows. -/
def inArr (p : FVec Ideal S1x1x8192x256 .f32) : FVec Ideal S8192x256 .f32 :=
  shapeCast _ (shapeCast _ p shapeCasts_S1x1x8192x256_S1x8192x256) shapeCasts_S1x8192x256_S8192x256

/-- The last residual, as the reference writes it. -/
def sumArr (h : FVec Ideal S8704x2048 .bf16) (x : FVec Ideal S8704x2048 .f32) (p : FVec Ideal S8192x256 .f32)
    (wg : FVec Ideal S1x2048x2048 .f32) (wp : FVec Ideal S1x256x2048 .f32) : FVec Ideal S8192x2048 .f32 :=
  addf (extractStridedSlice S8192x2048 ![0, 0] x slices_S8704x2048_S8192x2048_0_0) (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none (extf .f32 (extractStridedSlice S8192x2048 ![0, 0] h slices_S8704x2048_S8192x2048_0_0) bitsLt_bf16_f32) (shapeCast _ wg shapeCasts_S1x2048x2048_S2048x2048)))))) (Host.dotGeneral dot_S8192x256_S256x2048_S8192x2048_1_0_0_1_n_n none p (shapeCast _ wp shapeCasts_S1x256x2048_S256x2048)))

/-- The normalisation of a residual, as the reference writes it. -/
def normArr (y : FVec Ideal S8192x2048 .f32) (g : FVec Ideal S2048 .f32) : FVec Ideal S8192x2048 .f32 :=
  mulf (mulf y (broadcastInDim S8192x2048 ![0, 1] bcast_S8192x1_S8192x2048_0_1 (Host.rsqrt (addf (Host.divf (broadcastInDim S8192x1 ![0] bcast_S8192_S8192x1_0 (Host.reduceAdd (mulf y y) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))

/-- A row of the prompt's as a row of all. -/
def rowIn (i : Fin 8192) : Fin 8704 := ⟨i.val, lt_trans i.isLt (by decide)⟩

/-- An entry of the last residual. -/
theorem sum_apply (h : FVec Ideal S8704x2048 .bf16) (x : FVec Ideal S8704x2048 .f32) (p : FVec Ideal S8192x256 .f32)
    (wg : FVec Ideal S1x2048x2048 .f32) (wp : FVec Ideal S1x256x2048 .f32) (i : Fin 8192) (l : Fin 2048) : sumArr h x p wg wp (ix2 i l)
      = pleAt (fun k => h (ix2 (rowIn i) k)) (fun k => x (ix2 (rowIn i) k)) (fun k => p (ix2 i k)) (fun k j => wg (ix3 0 k j))
          (fun k j => wp (ix3 0 k j)) l := by
  pointwise [sumArr]
  unfold pleAt Ideal.logistic
  blk_point [rowIn]

/-- An entry of the normalised residual. -/
theorem norm_apply (y : FVec Ideal S8192x2048 .f32) (g : FVec Ideal S2048 .f32) (i : Fin 8192) (l : Fin 2048) :
    normArr y g (ix2 i l) = rmsAt (fun k => y (ix2 i k)) (g (ix1 l)) l := by
  pointwise [normArr]
  rfl

end Reference

section Kernel

open Cert.PleIdeal Cert.PleIdeal.Gen

variable (m : (ℓ : Loc nD τ sig) → Buf (Elt Ideal) ℓ)

/-- The blocks of the windows at a point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0] :=
  (by decide +kernel : ∀ t : Fin grid0.N, _)

/-- The array the call is to leave, of the arguments in memory. -/
def goal (c : Dev nD) : FVec Ideal S8192x2048 .f32 :=
  normArr (sumArr (m ((c : Thread nD τ).loc main_arg0)) (m ((c : Thread nD τ).loc main_arg1)) (inArr (m ((c : Thread nD τ).loc main_arg2)))
    (m ((c : Thread nD τ).loc main_arg3)) (m ((c : Thread nD τ).loc main_arg4))) (m ((c : Thread nD τ).loc main_arg5))

/-- A row of a point's block, as a row of the prompt's. -/
def rowOf (t : Fin cfg0.N) (r : Fin 512) : Fin 8192 :=
  ⟨t.val * 512 + r.val, by have := t.isLt; have : t.val < 16 := this; omega⟩

/-- Window 0 stages the normalised rows. -/
theorem blk0 (c : Dev nD) (t : Fin cfg0.N) (r : Fin 512) (k : Fin 2048) :
    iblk m c 0 t (ix2 r k) = m ((c : Thread nD τ).loc main_arg0) (ix2 (rowIn (rowOf t r)) k) := by
  blk_point [iblk, idx t, rowIn, rowOf]

/-- Window 1 stages the residual's rows. -/
theorem blk1 (c : Dev nD) (t : Fin cfg0.N) (r : Fin 512) (k : Fin 2048) :
    iblk m c 1 t (ix2 r k) = m ((c : Thread nD τ).loc main_arg1) (ix2 (rowIn (rowOf t r)) k) := by
  blk_point [iblk, idx t, rowIn, rowOf]

/-- Window 2 stages the rows of inputs per layer. -/
theorem blk2 (c : Dev nD) (t : Fin cfg0.N) (r : Fin 512) (k : Fin 256) :
    iblk m c 2 t (ix2 r k) = inArr (m ((c : Thread nD τ).loc main_arg2)) (ix2 (rowOf t r) k) := by
  blk_simp [iblk]
  entry_read
  unfold inArr
  blk_ext [idx t, rowOf]

/-- Window 3 stages the gate's projection. -/
theorem blk3 (c : Dev nD) (t : Fin cfg0.N) (k : Fin 2048) (l : Fin 2048) :
    iblk m c 3 t (ix2 k l) = m ((c : Thread nD τ).loc main_arg3) (ix3 (0 : Fin 1) k l) := by
  blk_simp [iblk]
  entry_read
  pointwise
  blk_ext [idx t]

/-- Window 4 stages the inputs' projection. -/
theorem blk4 (c : Dev nD) (t : Fin cfg0.N) (k : Fin 256) (l : Fin 2048) :
    iblk m c 4 t (ix2 k l) = m ((c : Thread nD τ).loc main_arg4) (ix3 (0 : Fin 1) k l) := by
  blk_simp [iblk]
  entry_read
  pointwise
  blk_ext [idx t]

/-- Window 5 stages the normalisation's scale. -/
theorem blk5 (c : Dev nD) (t : Fin cfg0.N) (l : Fin 2048) :
    iblk m c 5 t (ix2 (0 : Fin 1) l) = m ((c : Thread nD τ).loc main_arg5) (ix1 l) := by
  blk_simp [iblk]
  entry_read
  pointwise
  blk_ext [idx t]

/-- What the body stores at a point is the array under the point's block. -/
theorem point (c : Dev nD) (t : Fin cfg0.N) (r : Fin 512) (l : Fin 2048) :
    k0_pay1 (iblk m c 0 t) (iblk m c 3 t) (iblk m c 1 t) (iblk m c 2 t) (iblk m c 4 t) (iblk m c 5 t) (ix2 r l)
      = goal m c (ix2 (rowOf t r) l) := by
  refine (ple_pay _ _ _ _ _ _ r l).trans (Eq.trans ?_ (norm_apply _ _ _ _).symm)
  simp only [blk0, blk1, blk2, blk3, blk4, blk5, sum_apply]

/-- The call's result. -/
theorem final (c : Dev nD) : (dats m 0 c).arrAt 6 (cfgs 0).N = goal m c := by
  refine (dats m 0 c).arrAt_eq_of_covers 6 _ (by decide +kernel) fun t _ y => ?_
  blk_simp
  rw [after0_6]; frame_out
  refine (congrArg _ (eq_ix2 y)).trans ((point m c t (y 0) (y 1)).trans (congrArg _ ?_))
  blk_ext [idx t, rowOf]

/-- THE VALUE CLAIM of the prompt's result. -/
theorem algebraic : Cert.algebraic_PleIdeal_PleRefIdeal (hPleIdeal := Cert.PleIdeal.Gen.facts) (hPleRefIdeal := Cert.PleRefIdeal.Gen.facts) := by
  intro m g m' g' _ hargs
  refine ⟨fun c => goal m c, ?_, ?_⟩
  · exact (θ_run _ _ _).mono (fun r h c => ⟨(h c).1.trans (final m c), (h c).2⟩) (Cert.PleIdeal.Value.run_blocks m g)
  · refine (θ_run _ _ _).mono (fun r h c => ⟨(h c).1.trans ?_, (h c).2⟩) (Cert.PleRefIdeal.Value.run m' g')
    obtain ⟨e0, e1, e2, e3, e4, e5⟩ := hargs c
    rw [e0, e1, e2, e3, e4, e5]; rfl

end Kernel

end Cert.Proof.Ple

end
-- ==== Proof.Out.lean ====
module

public import proofs.«01_k».proof.Defs
public import proofs.«01_k».proof.Proof.Rms
public import proofs.«01_k».proof.Proof.Gen.OutIdeal.Value
public import proofs.«01_k».proof.Proof.Gen.OutRefIdeal.Run
public import Idealize.ShloMosaic.Lib.Pipeline.ValueKit
public import Idealize.ShloMosaic.Lib.Pointwise

@[expose] public section

set_option maxRecDepth 16384

noncomputable section

namespace Cert.Proof.Out

open Idealize.ShloMosaic Idealize.ShloMosaic.TcCoe Idealize.SL.Sem
open Idealize.ShloMosaic.Pipeline (Dat)

section Reference

open Cert.OutRefIdeal Cert.OutRefIdeal.Gen

/-- The residual after the two branches, as the reference writes it. -/
def sumArr (x : FVec Ideal S8704x2048 .f32) (z : FVec Ideal S8704x1024 .bf16) (ya : FVec Ideal S8704x2048 .bf16) (g : FVec Ideal S8704x4096 .bf16)
    (wc : FVec Ideal S1x1024x2048 .f32) (wo : FVec Ideal S1x2048x2048 .f32) : FVec Ideal S8704x2048 .f32 :=
  addf x (Host.dotGeneral dot_S8704x2048_S2048x2048_S8704x2048_1_0_0_1_n_n none (addf (mulf (extractStridedSlice S8704x2048 ![0, 0] (extf .f32 g bitsLt_bf16_f32) slices_S8704x4096_S8704x2048_0_0) (Host.dotGeneral dot_S8704x1024_S1024x2048_S8704x2048_1_0_0_1_n_n none (extf .f32 z bitsLt_bf16_f32) (shapeCast _ wc shapeCasts_S1x1024x2048_S1024x2048))) (mulf (extractStridedSlice S8704x2048 ![0, 2048] (extf .f32 g bitsLt_bf16_f32) slices_S8704x4096_S8704x2048_0_2048) (extf .f32 ya bitsLt_bf16_f32))) (shapeCast _ wo shapeCasts_S1x2048x2048_S2048x2048))

/-- The normalisation of a residual, as the reference writes it. -/
def normArr (x : FVec Ideal S8704x2048 .f32) (gn : FVec Ideal S1x2048 .f32) : FVec Ideal S8704x2048 .bf16 :=
  truncf .bf16 (mulf (mulf x (broadcastInDim S8704x2048 ![0, 1] bcast_S8704x1_S8704x2048_0_1 (Host.rsqrt (addf (Host.divf (broadcastInDim S8704x1 ![0] bcast_S8704_S8704x1_0 (Host.reduceAdd (mulf x x) (constant S_ .f32 0x00000000#32) reducesTo_S8704x2048_S8704_d1 h_S_)) (broadcastInDim S8704x1 ![] bcast_S_S8704x1 (constant S_ .f32 0x45000000#32))) (broadcastInDim S8704x1 ![] bcast_S_S8704x1 (constant S_ .f32 0x358637BD#32)))))) (broadcastInDim S8704x2048 ![0, 1] bcast_S1x2048_S8704x2048_0_1 (broadcastInDim S1x2048 ![1] bcast_S2048_S1x2048_1 (shapeCast _ gn shapeCasts_S1x2048_S2048)))) bitsLt_bf16_f32

/-- An entry of the normalised residual. -/
theorem norm_apply (x : FVec Ideal S8704x2048 .f32) (gn : FVec Ideal S1x2048 .f32) (i : Fin 8704) (l : Fin 2048) :
    normArr x gn (ix2 i l) = rmsAt (fun k => x (ix2 i k)) (gn (ix2 0 l)) l := by
  pointwise [normArr]
  rfl

end Reference

section Kernel

open Cert.OutIdeal Cert.OutIdeal.Gen

variable (m : (ℓ : Loc nD τ sig) → Buf (Elt Ideal) ℓ)

/-- The blocks of the windows at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] ∧ win0_8.index t = ![t.val, 0] :=
  (by decide +kernel : ∀ t : Fin grid0.N, _)

/-- The sum the call is to leave, of the arguments in memory. -/
def goal1 (c : Dev nD) : FVec Ideal S8704x2048 .f32 :=
  sumArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The normalised sum the call is to leave, of the arguments in memory. -/
def goal2 (c : Dev nD) : FVec Ideal S8704x2048 .bf16 := normArr (goal1 m c) (m ((c : Thread nD τ).loc main_arg6))

/-- Window 4 stages the convolution's output projection. -/
theorem blk4 (c : Dev nD) (t : Fin cfg0.N) (k : Fin 1024) (l : Fin 2048) :
    iblk m c 4 t (ix2 k l) = m ((c : Thread nD τ).loc main_arg4) (ix3 (0 : Fin 1) k l) := by
  blk_simp [iblk]
  entry_read
  pointwise
  blk_ext [idx t]

/-- Window 5 stages the layer's output projection. -/
theorem blk5 (c : Dev nD) (t : Fin cfg0.N) (k : Fin 2048) (l : Fin 2048) :
    iblk m c 5 t (ix2 k l) = m ((c : Thread nD τ).loc main_arg5) (ix3 (0 : Fin 1) k l) := by
  blk_simp [iblk]
  entry_read
  pointwise
  blk_ext [idx t]

/-- Window 6 stages the normalisation's scale. -/
theorem blk6 (c : Dev nD) (t : Fin cfg0.N) (l : Fin 2048) :
    iblk m c 6 t (ix2 (0 : Fin 1) l) = m ((c : Thread nD τ).loc main_arg6) (ix2 (0 : Fin 1) l) := by
  blk_simp [iblk]
  entry_read
  pointwise
  blk_ext [idx t]

/-- A row of a point's block, as a row of the arrays. -/
def rowOf (t : Fin cfg0.N) (r : Fin 256) : Fin 8704 :=
  ⟨t.val * 256 + r.val, by have := t.isLt; have : t.val < 34 := this; omega⟩

/-- The sum the body stores at a point is the array under the point's block. -/
theorem point1 (c : Dev nD) (t : Fin cfg0.N) (r : Fin 256) (l : Fin 2048) :
    k0_pay1 (iblk m c 1 t) (iblk m c 4 t) (View.ld (iblk m c 3 t) r0_2) (View.ld (iblk m c 3 t) r0_3) (iblk m c 2 t) (iblk m c 0 t)
      (iblk m c 5 t) (ix2 r l) = goal1 m c (ix2 (rowOf t r) l) := by
  unfold goal1
  pointwise [k0_pay1, sumArr]
  blk_point [iblk, idx t, rowOf]

/-- The normalised sum the body stores at a point is the array under the point's block. -/
theorem point2 (c : Dev nD) (t : Fin cfg0.N) (r : Fin 256) (l : Fin 2048) :
    k0_pay2 (iblk m c 1 t) (iblk m c 4 t) (View.ld (iblk m c 3 t) r0_2) (View.ld (iblk m c 3 t) r0_3) (iblk m c 2 t) (iblk m c 0 t)
      (iblk m c 5 t) (iblk m c 6 t) (ix2 r l) = goal2 m c (ix2 (rowOf t r) l) := by
  pointwise [k0_pay2]
  simp only [point1, blk6]
  exact (norm_apply _ _ _ _).symm

/-- An index of a point's block, as an index of the arrays. -/
theorem emb_eq (t : Fin cfg0.N) (y : S256x2048.Idx) :
    ((cfg0.win 7).blk t).view.emb y = ix2 (rowOf t (y 0)) (y 1) ∧ ((cfg0.win 8).blk t).view.emb y = ix2 (rowOf t (y 0)) (y 1) := by
  constructor <;> blk_simp <;> blk_ext [idx t, rowOf]

/-- The call's first result. -/
theorem final1 (c : Dev nD) : (dats m 0 c).arrAt 7 (cfgs 0).N = goal1 m c := by
  refine (dats m 0 c).arrAt_eq_of_covers 7 _ (by decide +kernel) fun t _ y => ?_
  blk_simp
  rw [after0_7]; frame_out
  exact (congrArg _ (eq_ix2 y)).trans ((point1 m c t (y 0) (y 1)).trans (congrArg _ (emb_eq t y).1.symm))

/-- The call's second result. -/
theorem final2 (c : Dev nD) : (dats m 0 c).arrAt 8 (cfgs 0).N = goal2 m c := by
  refine (dats m 0 c).arrAt_eq_of_covers 8 _ (by decide +kernel) fun t _ y => ?_
  blk_simp
  rw [after0_8]; frame_out
  exact (congrArg _ (eq_ix2 y)).trans ((point2 m c t (y 0) (y 1)).trans (congrArg _ (emb_eq t y).2.symm))

/-- THE VALUE CLAIM of the output projections. -/
theorem algebraic : Cert.algebraic_OutIdeal_OutRefIdeal (hOutIdeal := Cert.OutIdeal.Gen.facts) (hOutRefIdeal := Cert.OutRefIdeal.Gen.facts) := by
  intro m g m' g' _ hargs
  refine ⟨fun c => goal1 m c, fun c => goal2 m c, ?_, ?_⟩
  · exact (θ_run _ _ _).mono (fun r h c => ⟨(h c).1.trans (final1 m c), (h c).2.1.trans (final2 m c), (h c).2.2⟩)
      (Cert.OutIdeal.Value.run_blocks m g)
  · refine (θ_run _ _ _).mono (fun r h c => ⟨(h c).1.trans ?_, (h c).2.1.trans ?_, (h c).2.2⟩) (Cert.OutRefIdeal.Value.run m' g')
    all_goals obtain ⟨e0, e1, e2, e3, e4, e5, e6⟩ := hargs c
    · rw [e0, e1, e2, e3, e4, e5]; rfl
    · rw [e0, e1, e2, e3, e4, e5, e6]; rfl

end Kernel

end Cert.Proof.Out

end
-- ==== Proof.Glu.lean ====
module

public import proofs.«01_k».proof.Defs
public import proofs.«01_k».proof.Proof.Gen.GluIdeal.Frame
public import proofs.«01_k».proof.Proof.Gen.GluRefIdeal.Run
public import Idealize.ShloMosaic.Lib.Pipeline.ValueKit
public import Idealize.ShloMosaic.Lib.Pointwise

@[expose] public section

set_option maxRecDepth 16384

noncomputable section

namespace Cert.Proof.Glu

open Cert.GluIdeal Cert.GluIdeal.Gen
open Idealize.ShloMosaic Idealize.ShloMosaic.TcCoe Idealize.SL.Sem
open Idealize.ShloMosaic.Pipeline (Dat)

/-- The gated linear unit as one array. -/
def gluArr (h : FVec Ideal S8704x2048 .bf16) (w : FVec Ideal S1x2048x7232 .f32) : FVec Ideal S8704x1024 .f32 := fun y =>
  (∑ k : Fin 2048, h (ix2 (y 0) k) * w (ix3 (0 : Fin 1) k (⟨(y 1).val, lt_trans (y 1).isLt (by decide)⟩ : Fin 7232)))
    * Ideal.logistic (∑ k : Fin 2048, h (ix2 (y 0) k) * w (ix3 (0 : Fin 1) k (⟨1024 + (y 1).val, Nat.add_lt_of_lt_sub' (lt_trans (y 1).isLt (by decide))⟩ : Fin 7232)))

/-- The reference's result is that array. -/
theorem ref_apply (h : FVec Ideal S8704x2048 .bf16) (w : FVec Ideal S1x2048x7232 .f32) (i : Fin 8704) (l : Fin 1024) :
    (mulf (extractStridedSlice Cert.GluRefIdeal.S8704x1024 ![0, 0] (Host.dotGeneral Cert.GluRefIdeal.dot_S8704x2048_S2048x7232_S8704x7232_1_0_0_1_n_n none (extf .f32 h Cert.GluRefIdeal.Gen.bitsLt_bf16_f32) (shapeCast _ w Cert.GluRefIdeal.Gen.shapeCasts_S1x2048x7232_S2048x7232)) Cert.GluRefIdeal.Gen.slices_S8704x7232_S8704x1024_0_0) (Host.divf (broadcastInDim Cert.GluRefIdeal.S8704x1024 ![] Cert.GluRefIdeal.Gen.bcast_S_S8704x1024 (constant Cert.GluRefIdeal.S_ .f32 0x3F800000#32)) (addf (broadcastInDim Cert.GluRefIdeal.S8704x1024 ![] Cert.GluRefIdeal.Gen.bcast_S_S8704x1024 (constant Cert.GluRefIdeal.S_ .f32 0x3F800000#32)) (Host.exp (Host.negf (extractStridedSlice Cert.GluRefIdeal.S8704x1024 ![0, 1024] (Host.dotGeneral Cert.GluRefIdeal.dot_S8704x2048_S2048x7232_S8704x7232_1_0_0_1_n_n none (extf .f32 h Cert.GluRefIdeal.Gen.bitsLt_bf16_f32) (shapeCast _ w Cert.GluRefIdeal.Gen.shapeCasts_S1x2048x7232_S2048x7232)) Cert.GluRefIdeal.Gen.slices_S8704x7232_S8704x1024_0_1024))))) : FVec Ideal S8704x1024 .f32) (ix2 i l)
      = gluArr h w (ix2 i l) := by
  pointwise [gluArr]
  unfold Ideal.logistic
  blk_point []

variable (m : (ℓ : Loc nD τ sig) → Buf (Elt Ideal) ℓ)

/-- The blocks of the windows at a point. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- An entry of the first half of a projection. -/
theorem halfA (w : FVec Ideal S1x2048x7232 .f32) (k : Fin 2048) (l : Fin 1024) :
    (truncf .bf16 (extractStridedSlice S2048x1024 ![0, 0] (shapeCast S2048x7232 w shapeCasts_S1x2048x7232_S2048x7232) slices_S2048x7232_S2048x1024_0_0) bitsLt_bf16_f32 : FVec Ideal S2048x1024 .bf16) (ix2 k l)
      = w (ix3 (0 : Fin 1) k (⟨l.val, by omega⟩ : Fin 7232)) := by
  pointwise

/-- The first half of the projection, as the region finds it. -/
theorem entryA (c : Dev nD) : V m c main_v2 = truncf (F := Ideal) .bf16 (extractStridedSlice S2048x1024 ![0, 0] (shapeCast S2048x7232 (m ((c : Thread nD τ).loc main_arg1)) shapeCasts_S1x2048x7232_S2048x7232) slices_S2048x7232_S2048x1024_0_0) bitsLt_bf16_f32 := by
  show StableHlo.after ([hostOps0] : List (List (HloOp τ sig (Elt Ideal)))).flatten _ _ = _
  simp only [List.flatten_cons, List.flatten_nil, List.append_nil]
  after_results <;> rfl

/-- An entry of the second half of a projection. -/
theorem halfB (w : FVec Ideal S1x2048x7232 .f32) (k : Fin 2048) (l : Fin 1024) :
    (truncf .bf16 (extractStridedSlice S2048x1024 ![0, 1024] (shapeCast S2048x7232 w shapeCasts_S1x2048x7232_S2048x7232) slices_S2048x7232_S2048x1024_0_1024) bitsLt_bf16_f32 : FVec Ideal S2048x1024 .bf16) (ix2 k l)
      = w (ix3 (0 : Fin 1) k (⟨1024 + l.val, by omega⟩ : Fin 7232)) := by
  pointwise

/-- The second half of the projection, as the region finds it. -/
theorem entryB (c : Dev nD) : V m c main_v5 = truncf (F := Ideal) .bf16 (extractStridedSlice S2048x1024 ![0, 1024] (shapeCast S2048x7232 (m ((c : Thread nD τ).loc main_arg1)) shapeCasts_S1x2048x7232_S2048x7232) slices_S2048x7232_S2048x1024_0_1024) bitsLt_bf16_f32 := by
  show StableHlo.after ([hostOps0] : List (List (HloOp τ sig (Elt Ideal)))).flatten _ _ = _
  simp only [List.flatten_cons, List.flatten_nil, List.append_nil]
  after_results <;> rfl

/-- Window 1 stages the first half of the projection. -/
theorem blk1 (c : Dev nD) (t : Fin cfg0.N) (k : Fin 2048) (l : Fin 1024) :
    iblk m c 1 t (ix2 k l) = m ((c : Thread nD τ).loc main_arg1) (ix3 (0 : Fin 1) k (⟨l.val, by omega⟩ : Fin 7232)) := by
  blk_simp [iblk]
  have e : (win0_1.blk t).view.emb (ix2 k l) = ix2 k l := by blk_ext [idx t]
  rw [entryA m c, e]
  exact halfA _ k l

/-- Window 2 stages the second half of the projection. -/
theorem blk2 (c : Dev nD) (t : Fin cfg0.N) (k : Fin 2048) (l : Fin 1024) :
    iblk m c 2 t (ix2 k l) = m ((c : Thread nD τ).loc main_arg1) (ix3 (0 : Fin 1) k (⟨1024 + l.val, by omega⟩ : Fin 7232)) := by
  blk_simp [iblk]
  have e : (win0_2.blk t).view.emb (ix2 k l) = ix2 k l := by blk_ext [idx t]
  rw [entryB m c, e]
  exact halfB _ k l

/-- What the body stores at a point is the array under the point's block. -/
theorem point (c : Dev nD) (t : Fin cfg0.N) (y) : k0_pay1 (iblk m c 0 t) (iblk m c 1 t) (iblk m c 2 t) y
    = gluArr (m ((c : Thread nD τ).loc main_arg0)) (m ((c : Thread nD τ).loc main_arg1)) (((cfg0.win 3).blk t).view.emb y) := by
  pointwise [k0_pay1]
  unfold gluArr
  blk_point [iblk, idx t]
  · exact blk1 m c t k (y 1)
  · exact blk2 m c t k (y 1)

/-- The call's result. -/
theorem final (c : Dev nD) : (dats m 0 c).arrAt 3 (cfgs 0).N
    = gluArr (m ((c : Thread nD τ).loc main_arg0)) (m ((c : Thread nD τ).loc main_arg1)) := by
  refine (dats m 0 c).arrAt_eq_of_covers 3 _ (by decide +kernel) fun t _ y => ?_
  blk_simp
  rw [after0_3]; frame_out
  exact point m c t y

/-- The prompt's last rows, as the host cuts them out of the array. -/
def rowsP (u : FVec Ideal S8704x1024 .f32) : FVec Ideal S1x1x30x1024 .f32 :=
  shapeCast _ (extractStridedSlice S30x1024 ![8162, 0] u slices_S8704x1024_S30x1024_8162_0) shapeCasts_S30x1024_S1x1x30x1024

/-- The samples' last rows, as the host joins them. -/
def rowsS (u : FVec Ideal S8704x1024 .f32) (st : FVec Ideal S1x128x30x1024 .f32) : FVec Ideal S1x128x30x1024 .f32 :=
  broadcastInDim S1x128x30x1024 ![1, 2, 3] bcast_S128x30x1024_S1x128x30x1024_1_2_3
    (concatenate S128x30x1024 1 [⟨S128x26x1024, extractStridedSlice S128x26x1024 ![0, 4, 0] (shapeCast S128x30x1024 st shapeCasts_S1x128x30x1024_S128x30x1024) slices_S128x30x1024_S128x26x1024_0_4_0⟩,
      ⟨S128x4x1024, shapeCast S128x4x1024 (extractStridedSlice S512x1024 ![8192, 0] u slices_S8704x1024_S512x1024_8192_0) shapeCasts_S512x1024_S128x4x1024⟩] concatenates_S128x26x1024_S128x4x1024_S128x30x1024_d1)

/-- What the host's lines leave in the two buffers of rows, from any contents they start at. -/
theorem rows_after (W : Valuation τ sig (Elt Ideal)) :
    StableHlo.after ([hostOps1] : List (List (HloOp τ sig (Elt Ideal)))).flatten W (Proc.devRef .tc main_v10) = rowsP (W (Proc.devRef .tc main_v6))
    ∧ StableHlo.after ([hostOps1] : List (List (HloOp τ sig (Elt Ideal)))).flatten W (Proc.devRef .tc main_v14)
      = rowsS (W (Proc.devRef .tc main_v6)) (W (Proc.devRef .tc main_arg2)) := by
  simp only [List.flatten_cons, List.flatten_nil, List.append_nil]
  constructor
  · after_results <;> rfl
  · after_results <;> rfl

/-- The prompt's last rows after the run. -/
theorem tailP (c : Dev nD) : Pipeline.afterTail₀ cfgs (dats m) 0 (V0 m) [hostOps1] c main_v10
    = rowsP (gluArr (m ((c : Thread nD τ).loc main_arg0)) (m ((c : Thread nD τ).loc main_arg1))) := by
  unfold Pipeline.afterTail₀
  exact (rows_after _).1.trans (congrArg rowsP ((Pipeline.withArrays_arr _ launch0.win.arr_inj c (V0 m c) _ 3).trans (final m c)))

/-- The samples' last rows after the run. -/
theorem tailS (c : Dev nD) : Pipeline.afterTail₀ cfgs (dats m) 0 (V0 m) [hostOps1] c main_v14
    = rowsS (gluArr (m ((c : Thread nD τ).loc main_arg0)) (m ((c : Thread nD τ).loc main_arg1))) (m ((c : Thread nD τ).loc main_arg2)) := by
  unfold Pipeline.afterTail₀
  exact (rows_after _).2.trans (congrArg₂ rowsS ((Pipeline.withArrays_arr _ launch0.win.arr_inj c (V0 m c) _ 3).trans (final m c))
    ((Pipeline.withArrays_of_ne _ c (V0 m c) _ main_arg2 (by exact (by decide : ∀ w, Pipeline.arrRef spec0 w ≠ main_arg2))).trans (V_main_arg2 m c)))

/-- The reference's last rows of the prompt are the host's: the zeros before them are cut off. -/
theorem rowsP_ref (u : FVec Ideal S8704x1024 .f32) :
    broadcastInDim Cert.GluRefIdeal.S1x1x30x1024 ![1, 2, 3] Cert.GluRefIdeal.Gen.bcast_S1x30x1024_S1x1x30x1024_1_2_3 (extractStridedSlice Cert.GluRefIdeal.S1x30x1024 ![0, 8192, 0] (concatenate Cert.GluRefIdeal.S1x8222x1024 1 [⟨Cert.GluRefIdeal.S1x30x1024, (broadcastInDim Cert.GluRefIdeal.S1x30x1024 ![] Cert.GluRefIdeal.Gen.bcast_S_S1x30x1024 (constant (F := Ideal) Cert.GluRefIdeal.S_ .f32 0x00000000#32))⟩, ⟨Cert.GluRefIdeal.S1x8192x1024, (shapeCast Cert.GluRefIdeal.S1x8192x1024 (extractStridedSlice Cert.GluRefIdeal.S8192x1024 ![0, 0] u Cert.GluRefIdeal.Gen.slices_S8704x1024_S8192x1024_0_0) Cert.GluRefIdeal.Gen.shapeCasts_S8192x1024_S1x8192x1024)⟩] Cert.GluRefIdeal.Gen.concatenates_S1x30x1024_S1x8192x1024_S1x8222x1024_d1) Cert.GluRefIdeal.Gen.slices_S1x8222x1024_S1x30x1024_0_8192_0)
      = rowsP u := by
  funext y
  obtain ⟨a, b, i, l, rfl⟩ : ∃ (a b : Fin 1) (i : Fin 30) (l : Fin 1024), y = ix4 a b i l := ⟨y 0, y 1, y 2, y 3, eq_ix4 y⟩
  obtain rfl : a = 0 := Subsingleton.elim _ _
  obtain rfl : b = 0 := Subsingleton.elim _ _
  pointwise [rowsP]
  rw [dif_neg (by omega)]
  exact congrArg u (congrArg (ix2 · l) (Fin.ext (by show 8192 + i.val - 30 = 8162 + i.val; omega)))

/-- The reference's last rows of the samples are the host's. -/
theorem rowsS_ref (u : FVec Ideal S8704x1024 .f32) (st : FVec Ideal S1x128x30x1024 .f32) :
    broadcastInDim Cert.GluRefIdeal.S1x128x30x1024 ![1, 2, 3] Cert.GluRefIdeal.Gen.bcast_S128x30x1024_S1x128x30x1024_1_2_3 (extractStridedSlice Cert.GluRefIdeal.S128x30x1024 ![0, 4, 0] (concatenate Cert.GluRefIdeal.S128x34x1024 1 [⟨Cert.GluRefIdeal.S128x30x1024, (shapeCast Cert.GluRefIdeal.S128x30x1024 st Cert.GluRefIdeal.Gen.shapeCasts_S1x128x30x1024_S128x30x1024)⟩, ⟨Cert.GluRefIdeal.S128x4x1024, (shapeCast Cert.GluRefIdeal.S128x4x1024 (extractStridedSlice Cert.GluRefIdeal.S512x1024 ![8192, 0] u Cert.GluRefIdeal.Gen.slices_S8704x1024_S512x1024_8192_0) Cert.GluRefIdeal.Gen.shapeCasts_S512x1024_S128x4x1024)⟩] Cert.GluRefIdeal.Gen.concatenates_S128x30x1024_S128x4x1024_S128x34x1024_d1) Cert.GluRefIdeal.Gen.slices_S128x34x1024_S128x30x1024_0_4_0)
      = rowsS u st := by
  funext y
  obtain ⟨a, b, i, l, rfl⟩ : ∃ (a : Fin 1) (b : Fin 128) (i : Fin 30) (l : Fin 1024), y = ix4 a b i l := ⟨y 0, y 1, y 2, y 3, eq_ix4 y⟩
  obtain rfl : a = 0 := Subsingleton.elim _ _
  pointwise [rowsS]
  by_cases hi : i.val < 26
  · rw [dif_pos hi, dif_pos (by omega)]
  · rw [dif_neg hi, dif_neg (by omega)]
    exact congrArg u (congrArg (ix2 · l) (Fin.ext (by show 8192 + (b.val * 4 + (4 + i.val - 30)) = 8192 + (b.val * 4 + (i.val - 26)); omega)))

/-- THE VALUE CLAIM of the convolution's input and its last rows. -/
theorem algebraic : Cert.algebraic_GluIdeal_GluRefIdeal (hGluIdeal := Cert.GluIdeal.Gen.facts) (hGluRefIdeal := Cert.GluRefIdeal.Gen.facts) := by
  intro m g m' g' _ hargs
  refine ⟨fun c => gluArr (m ((c.tc : Thread nD τ).loc main_arg0)) (m ((c.tc : Thread nD τ).loc main_arg1)),
    fun c => rowsP (gluArr (m ((c.tc : Thread nD τ).loc main_arg0)) (m ((c.tc : Thread nD τ).loc main_arg1))),
    fun c => rowsS (gluArr (m ((c.tc : Thread nD τ).loc main_arg0)) (m ((c.tc : Thread nD τ).loc main_arg1))) (m ((c.tc : Thread nD τ).loc main_arg2)), ?_, ?_⟩
  · exact (θ_run _ _ _).mono (fun r h c => ⟨((h c).1 3).trans (final m c),
      ((h c).2 main_v10 (Pipeline.mem_restRefs_of main_v10 (by decide) (by decide))).trans (tailP m c),
      ((h c).2 main_v14 (Pipeline.mem_restRefs_of main_v14 (by decide) (by decide))).trans (tailS m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c))⟩) (run_main m g)
  · refine (θ_run _ _ _).mono (fun r h c => ?_) (Cert.GluRefIdeal.Value.run m' g')
    obtain ⟨h0, h1, h2, h3⟩ := h c
    obtain ⟨e0, e1, e2⟩ := hargs c
    rw [e0, e1] at h0 h1 h2
    rw [e2] at h2
    have hu := funext fun y : S8704x1024.Idx => (congrArg _ (eq_ix2 y)).trans
      ((ref_apply (m ((c.tc : Thread nD τ).loc main_arg0)) (m ((c.tc : Thread nD τ).loc main_arg1)) (y 0) (y 1)).trans (congrArg _ (eq_ix2 y).symm))
    exact ⟨h0.trans hu, (h1.trans (rowsP_ref _)).trans (congrArg rowsP hu), (h2.trans (rowsS_ref _ _)).trans (congrArg (rowsS · _) hu), h3⟩

end Cert.Proof.Glu

end
-- ==== Proof.Gates.lean ====
module

public import proofs.«01_k».proof.Defs
public import proofs.«01_k».proof.Proof.Gen.GatesIdeal.Value
public import proofs.«01_k».proof.Proof.Gen.GatesRefIdeal.Run
public import Idealize.ShloMosaic.Lib.Pipeline.ValueKit
public import Idealize.ShloMosaic.Lib.Pointwise

@[expose] public section

set_option maxRecDepth 16384

noncomputable section

namespace Cert.Proof.Gates

open Cert.GatesIdeal Cert.GatesIdeal.Gen
open Idealize.ShloMosaic Idealize.ShloMosaic.TcCoe Idealize.SL.Sem
open Idealize.ShloMosaic.Pipeline (Dat)

/-- The gates as one array: the reference's own operations over typed arguments. -/
def gateArr (h : FVec Ideal S8704x2048 .bf16) (w : FVec Ideal S1x2048x7232 .f32) (b : FVec Ideal S1x4096 .f32) : FVec Ideal S8704x4096 .bf16 :=
  truncf .bf16 (Host.divf (broadcastInDim Cert.GatesRefIdeal.S8704x4096 ![] Cert.GatesRefIdeal.Gen.bcast_S_S8704x4096 (constant Cert.GatesRefIdeal.S_ .f32 0x3F800000#32)) (addf (broadcastInDim Cert.GatesRefIdeal.S8704x4096 ![] Cert.GatesRefIdeal.Gen.bcast_S_S8704x4096 (constant Cert.GatesRefIdeal.S_ .f32 0x3F800000#32)) (Host.exp (Host.negf (addf (extractStridedSlice Cert.GatesRefIdeal.S8704x4096 ![0, 3136] (Host.dotGeneral Cert.GatesRefIdeal.dot_S8704x2048_S2048x7232_S8704x7232_1_0_0_1_n_n none (extf .f32 h Cert.GatesRefIdeal.Gen.bitsLt_bf16_f32) (shapeCast _ w Cert.GatesRefIdeal.Gen.shapeCasts_S1x2048x7232_S2048x7232)) Cert.GatesRefIdeal.Gen.slices_S8704x7232_S8704x4096_0_3136) (broadcastInDim Cert.GatesRefIdeal.S8704x4096 ![0, 1] Cert.GatesRefIdeal.Gen.bcast_S1x4096_S8704x4096_0_1 (broadcastInDim Cert.GatesRefIdeal.S1x4096 ![1] Cert.GatesRefIdeal.Gen.bcast_S4096_S1x4096_1 (shapeCast _ b Cert.GatesRefIdeal.Gen.shapeCasts_S1x4096_S4096)))))))) Cert.GatesRefIdeal.Gen.bitsLt_bf16_f32

variable (m : (ℓ : Loc nD τ sig) → Buf (Elt Ideal) ℓ)

/-- The blocks of the windows at a point. -/
theorem idx : ∀ t : Fin cfg0.N, win0_0.index t = ![t.val / 4, 0] ∧ win0_1.index t = ![0, t.val % 4] ∧ win0_2.index t = ![0, t.val % 4]
    ∧ win0_3.index t = ![t.val / 4, t.val % 4] :=
  (by decide +kernel : ∀ t : Fin grid0.N, _)

/-- Window 1 stages the gates' columns of the projection. -/
theorem blk1 (c : Dev nD) (t : Fin cfg0.N) (k : Fin 2048) (l : Fin 1024) :
    iblk m c 1 t (ix2 k l) = m ((c : Thread nD τ).loc main_arg1) (ix3 (0 : Fin 1) k (⟨3136 + (t.val % 4 * 1024 + l.val), by omega⟩ : Fin 7232)) := by
  blk_simp [iblk]
  entry_read
  pointwise
  blk_ext [idx t]

/-- Window 2 stages the gates' offsets. -/
theorem blk2 (c : Dev nD) (t : Fin cfg0.N) (l : Fin 1024) :
    iblk m c 2 t (ix2 (0 : Fin 1) l) = m ((c : Thread nD τ).loc main_arg2) (ix2 (0 : Fin 1) (⟨t.val % 4 * 1024 + l.val, by omega⟩ : Fin 4096)) := by
  blk_simp [iblk]
  entry_read
  pointwise
  blk_ext [idx t]

/-- What the body stores at a point is the array under the point's block. -/
theorem point (c : Dev nD) (t : Fin cfg0.N) (y) : k0_pay1 (iblk m c 0 t) (iblk m c 1 t) (iblk m c 2 t) y
    = gateArr (m ((c : Thread nD τ).loc main_arg0)) (m ((c : Thread nD τ).loc main_arg1)) (m ((c : Thread nD τ).loc main_arg2))
        (((cfg0.win 3).blk t).view.emb y) := by
  pointwise [k0_pay1, gateArr]
  unfold Ideal.logistic
  blk_point [iblk, idx t]

/-- The call's result. -/
theorem final (c : Dev nD) : (dats m 0 c).arrAt 3 (cfgs 0).N
    = gateArr (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- THE VALUE CLAIM of the gates. -/
theorem algebraic : Cert.algebraic_GatesIdeal_GatesRefIdeal (hGatesIdeal := Cert.GatesIdeal.Gen.facts)
    (hGatesRefIdeal := Cert.GatesRefIdeal.Gen.facts) := by
  intro m g m' g' _ hargs
  refine ⟨fun c => gateArr (m ((c.tc : Thread nD τ).loc main_arg0)) (m ((c.tc : Thread nD τ).loc main_arg1))
    (m ((c.tc : Thread nD τ).loc main_arg2)), ?_, ?_⟩
  · exact (θ_run _ _ _).mono (fun r h c => ⟨(h c).1.trans (final m c), (h c).2⟩) (Cert.GatesIdeal.Value.run_blocks m g)
  · refine (θ_run _ _ _).mono (fun r h c => ⟨(h c).1.trans ?_, (h c).2⟩) (Cert.GatesRefIdeal.Value.run m' g')
    obtain ⟨e0, e1, e2⟩ := hargs c
    rw [e0, e1, e2]
    rfl

end Cert.Proof.Gates

end
-- ==== Proof.Ffn.lean ====
module

public import proofs.«01_k».proof.Defs
public import proofs.«01_k».proof.Proof.Rms
public import proofs.«01_k».proof.Proof.Gen.FfnIdeal.Value
public import proofs.«01_k».proof.Proof.Gen.FfnRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Ffn

open Idealize.ShloMosaic Idealize.ShloMosaic.TcCoe Idealize.SL.Sem
open Idealize.ShloMosaic.Pipeline (Dat)

section Reference

open Cert.FfnRefIdeal Cert.FfnRefIdeal.Gen

/-- The residual after the channel mixer, as the reference writes it. -/
def sumArr (h : FVec Ideal S8704x2048 .bf16) (x : FVec Ideal S8704x2048 .f32) (wg wu : FVec Ideal S1x2048x5632 .f32)
    (wd : FVec Ideal S1x5632x2048 .f32) : FVec Ideal S8704x2048 .f32 :=
  addf x (Host.dotGeneral dot_S8704x5632_S5632x2048_S8704x2048_1_0_0_1_n_n none (mulf (mulf (Host.dotGeneral dot_S8704x2048_S2048x5632_S8704x5632_1_0_0_1_n_n none (extf .f32 h bitsLt_bf16_f32) (shapeCast _ wg shapeCasts_S1x2048x5632_S2048x5632)) (Host.divf (broadcastInDim S8704x5632 ![] bcast_S_S8704x5632 (constant S_ .f32 0x3F800000#32)) (addf (broadcastInDim S8704x5632 ![] bcast_S_S8704x5632 (constant S_ .f32 0x3F800000#32)) (Host.exp (Host.negf (Host.dotGeneral dot_S8704x2048_S2048x5632_S8704x5632_1_0_0_1_n_n none (extf .f32 h bitsLt_bf16_f32) (shapeCast _ wg shapeCasts_S1x2048x5632_S2048x5632))))))) (Host.dotGeneral dot_S8704x2048_S2048x5632_S8704x5632_1_0_0_1_n_n none (extf .f32 h bitsLt_bf16_f32) (shapeCast _ wu shapeCasts_S1x2048x5632_S2048x5632))) (shapeCast _ wd shapeCasts_S1x5632x2048_S5632x2048))

/-- The normalisation of a residual, as the reference writes it. -/
def normArr (y : FVec Ideal S8704x2048 .f32) (g : FVec Ideal S1x2048 .f32) : FVec Ideal S8704x2048 .bf16 :=
  truncf .bf16 (mulf (mulf y (broadcastInDim S8704x2048 ![0, 1] bcast_S8704x1_S8704x2048_0_1 (Host.rsqrt (addf (Host.divf (broadcastInDim S8704x1 ![0] bcast_S8704_S8704x1_0 (Host.reduceAdd (mulf y y) (constant S_ .f32 0x00000000#32) reducesTo_S8704x2048_S8704_d1 h_S_)) (broadcastInDim S8704x1 ![] bcast_S_S8704x1 (constant S_ .f32 0x45000000#32))) (broadcastInDim S8704x1 ![] bcast_S_S8704x1 (constant S_ .f32 0x358637BD#32)))))) (broadcastInDim S8704x2048 ![0, 1] bcast_S1x2048_S8704x2048_0_1 (broadcastInDim S1x2048 ![1] bcast_S2048_S1x2048_1 (shapeCast _ g shapeCasts_S1x2048_S2048)))) bitsLt_bf16_f32

/-- An entry of the mixer's hidden row: the gate's part times its logistic, times the other part. -/
def actAt (h : Fin 2048 → EReal) (wg wu : FVec Ideal S1x2048x5632 .f32) (q : Fin 5632) : EReal :=
  (∑ k, h k * wg (ix3 0 k q)) * Ideal.logistic (∑ k, h k * wg (ix3 0 k q)) * ∑ k, h k * wu (ix3 0 k q)

/-- An entry of the residual after the channel mixer. -/
theorem sum_apply (h : FVec Ideal S8704x2048 .bf16) (x : FVec Ideal S8704x2048 .f32) (wg wu : FVec Ideal S1x2048x5632 .f32)
    (wd : FVec Ideal S1x5632x2048 .f32) (i : Fin 8704) (l : Fin 2048) : sumArr h x wg wu wd (ix2 i l)
      = x (ix2 i l) + ∑ q : Fin 5632, actAt (fun k => h (ix2 i k)) wg wu q * wd (ix3 0 q l) := by
  pointwise [sumArr]
  unfold actAt Ideal.logistic
  blk_point []

/-- An entry of the normalised residual. -/
theorem norm_apply (y : FVec Ideal S8704x2048 .f32) (g : FVec Ideal S1x2048 .f32) (i : Fin 8704) (l : Fin 2048) :
    normArr y g (ix2 i l) = rmsAt (fun k => y (ix2 i k)) (g (ix2 0 l)) l := by
  pointwise [normArr]
  rfl

end Reference

section Kernel

open Cert.FfnIdeal Cert.FfnIdeal.Gen

/-- An entry of the accumulator after a tile: what it held plus the tile's part. -/
theorem pay2_apply (h : FVec Ideal S512x2048 .bf16) (wg wu : FVec Ideal S2048x512 .bf16) (acc : FVec Ideal S512x2048 .f32)
    (wd : FVec Ideal S512x2048 .bf16) (r : Fin 512) (l : Fin 2048) : k0_pay2 (F := Ideal) h wg wu acc wd (ix2 r l)
      = acc (ix2 r l) + ∑ q : Fin 512, ((∑ k, h (ix2 r k) * wg (ix2 k q)) * Ideal.logistic (∑ k, h (ix2 r k) * wg (ix2 k q))
          * ∑ k, h (ix2 r k) * wu (ix2 k q)) * wd (ix2 q l) := by
  pointwise [k0_pay2]

/-- The residual is stored as it is. -/
theorem pay1_eq (v : FVec Ideal S512x2048 .f32) : k0_pay1 (F := Ideal) v = v := by
  funext y
  obtain ⟨r, l, rfl⟩ : ∃ (r : Fin 512) (l : Fin 2048), y = ix2 r l := ⟨y 0, y 1, eq_ix2 y⟩
  pointwise [k0_pay1]

/-- An entry of the normalised residual the body stores. -/
theorem pay3_apply (v : FVec Ideal S512x2048 .f32) (g : FVec Ideal S1x2048 .f32) (r : Fin 512) (l : Fin 2048) :
    k0_pay3 (F := Ideal) v g (ix2 r l) = rmsAt (fun k => v (ix2 r k)) (g (ix2 0 l)) l := by
  pointwise [k0_pay3]
  rfl

variable (m : (ℓ : Loc nD τ sig) → Buf (Elt Ideal) ℓ)

/-- The blocks of the windows at a point. -/
theorem idx : ∀ t : Fin cfg0.N, win0_0.index t = ![t.val / 11, 0] ∧ win0_1.index t = ![t.val / 11, 0] ∧ win0_2.index t = ![0, t.val % 11]
    ∧ win0_3.index t = ![0, t.val % 11] ∧ win0_4.index t = ![t.val % 11, 0] ∧ win0_5.index t = ![0, 0]
    ∧ win0_6.index t = ![t.val / 11, 0] ∧ win0_7.index t = ![t.val / 11, 0] :=
  (by decide +kernel : ∀ t : Fin grid0.N, _)

/-- A row of a point's block, as a row of the arrays. -/
def rowOf (t : Fin cfg0.N) (r : Fin 512) : Fin 8704 :=
  ⟨t.val / 11 * 512 + r.val, by have := t.isLt; have : t.val < 187 := this; omega⟩

/-- A hidden lane of a point's tile, as a lane of the whole. -/
def laneOf (s : Fin 11) (q : Fin 512) : Fin 5632 := ⟨s.val * 512 + q.val, by omega⟩

/-- The residual the call is to leave, of the arguments in memory. -/
def goal1 (c : Dev nD) : FVec Ideal S8704x2048 .f32 :=
  sumArr (m ((c : Thread nD τ).loc main_arg0)) (m ((c : Thread nD τ).loc main_arg1)) (m ((c : Thread nD τ).loc main_arg2))
    (m ((c : Thread nD τ).loc main_arg3)) (m ((c : Thread nD τ).loc main_arg4))

/-- The normalised residual the call is to leave, of the arguments in memory. -/
def goal2 (c : Dev nD) : FVec Ideal S8704x2048 .bf16 := normArr (goal1 m c) (m ((c : Thread nD τ).loc main_arg5))

/-- One hidden lane's part of an entry of the residual. -/
def lane (c : Dev nD) (i : Fin 8704) (l : Fin 2048) (q : Fin 5632) : EReal :=
  actAt (fun k => m ((c : Thread nD τ).loc main_arg0) (ix2 i k)) (m ((c : Thread nD τ).loc main_arg2)) (m ((c : Thread nD τ).loc main_arg3)) q
    * m ((c : Thread nD τ).loc main_arg4) (ix3 (0 : Fin 1) q l)

/-- Window 0 stages the normalised rows. -/
theorem blk0 (c : Dev nD) (t : Fin cfg0.N) (r : Fin 512) (k : Fin 2048) :
    iblk m c 0 t (ix2 r k) = m ((c : Thread nD τ).loc main_arg0) (ix2 (rowOf t r) k) := by
  blk_point [iblk, idx t, rowOf]

/-- Window 1 stages the residual's rows. -/
theorem blk1 (c : Dev nD) (t : Fin cfg0.N) (r : Fin 512) (k : Fin 2048) :
    iblk m c 1 t (ix2 r k) = m ((c : Thread nD τ).loc main_arg1) (ix2 (rowOf t r) k) := by
  blk_point [iblk, idx t, rowOf]

/-- Window 2 stages a tile of the gate's projection. -/
theorem blk2 (c : Dev nD) (t : Fin cfg0.N) (s : Fin 11) (hs : s.val = t.val % 11) (k : Fin 2048) (q : Fin 512) :
    iblk m c 2 t (ix2 k q) = m ((c : Thread nD τ).loc main_arg2) (ix3 (0 : Fin 1) k (laneOf s q)) := by
  blk_simp [iblk]
  entry_read
  pointwise
  blk_ext [idx t, laneOf]

/-- Window 3 stages a tile of the other projection. -/
theorem blk3 (c : Dev nD) (t : Fin cfg0.N) (s : Fin 11) (hs : s.val = t.val % 11) (k : Fin 2048) (q : Fin 512) :
    iblk m c 3 t (ix2 k q) = m ((c : Thread nD τ).loc main_arg3) (ix3 (0 : Fin 1) k (laneOf s q)) := by
  blk_simp [iblk]
  entry_read
  pointwise
  blk_ext [idx t, laneOf]

/-- Window 4 stages a tile of the projection back. -/
theorem blk4 (c : Dev nD) (t : Fin cfg0.N) (s : Fin 11) (hs : s.val = t.val % 11) (q : Fin 512) (l : Fin 2048) :
    iblk m c 4 t (ix2 q l) = m ((c : Thread nD τ).loc main_arg4) (ix3 (0 : Fin 1) (laneOf s q) l) := by
  blk_simp [iblk]
  entry_read
  pointwise
  blk_ext [idx t, laneOf]

/-- Window 5 stages the normalisation's scale. -/
theorem blk5 (c : Dev nD) (t : Fin cfg0.N) (l : Fin 2048) :
    iblk m c 5 t (ix2 (0 : Fin 1) l) = m ((c : Thread nD τ).loc main_arg5) (ix2 (0 : Fin 1) l) := by
  blk_simp [iblk]
  entry_read
  pointwise
  blk_ext [idx t]

/-- A point adds its tile's lanes to the accumulator. -/
theorem pay2_point (c : Dev nD) (t : Fin cfg0.N) (s : Fin 11) (hs : s.val = t.val % 11) (acc : FVec Ideal S512x2048 .f32) (r : Fin 512)
    (l : Fin 2048) : k0_pay2 (iblk m c 0 t) (iblk m c 2 t) (iblk m c 3 t) acc (iblk m c 4 t) (ix2 r l)
      = acc (ix2 r l) + ∑ q : Fin 512, lane m c (rowOf t r) l (laneOf s q) := by
  refine (pay2_apply _ _ _ _ _ r l).trans ?_
  simp only [blk0, blk2 m c t s hs, blk3 m c t s hs, blk4 m c t s hs]
  rfl

/-- The residual before the mixer. -/
def resid (c : Dev nD) : FVec Ideal S8704x2048 .f32 := m ((c : Thread nD τ).loc main_arg1)

/-- What a point adds to an entry of the accumulator: at a run's first point the residual, at each its tile's lanes. -/
def term (c : Dev nD) (t : Fin cfg0.N) (y : Fin 512 × Fin 2048) : EReal :=
  (if t.val % 11 = 0 then resid m c (ix2 (rowOf t y.1) y.2) else 0)
    + ∑ q : Fin 512, lane m c (rowOf t y.1) y.2 (laneOf ⟨t.val % 11, Nat.mod_lt _ (by decide)⟩ q)

/-- The accumulator after a point, by entries. -/
def accAt (c : Dev nD) (n : ℕ) (h : n < cfg0.N) (y : Fin 512 × Fin 2048) : EReal := (outsAt0 m c n h).2.2 (ix2 y.1 y.2)

/-- The first point of a run. -/
theorem acc_first (c : Dev nD) (t : Fin cfg0.N) (h0 : t.val % 11 = 0) (y : Fin 512 × Fin 2048) :
    accAt m c t.val t.isLt y = 0 + term m c t y := by
  unfold accAt term
  rw [outsAt0_A m c t h0 (by omega)]; frame_out
  rw [pay1_eq, if_pos h0, zero_add]
  refine (pay2_point m c t ⟨t.val % 11, Nat.mod_lt _ (by decide)⟩ rfl _ y.1 y.2).trans ?_
  rw [blk1]
  rfl

/-- A later point of a run. -/
theorem acc_next (c : Dev nD) (t : Fin cfg0.N) (h0 : ¬t.val % 11 = 0) (y : Fin 512 × Fin 2048) :
    accAt m c t.val t.isLt y = accAt m c (t.val - 1) (Nat.lt_of_le_of_lt (Nat.sub_le _ _) t.isLt) y + term m c t y := by
  unfold accAt term
  rw [if_neg h0, zero_add]
  by_cases h1 : t.val % 11 = 10
  · rw [outsAt0_C m c t h0 h1]; frame_out
    rw [read_unread_whole]
    exact pay2_point m c t ⟨t.val % 11, Nat.mod_lt _ (by decide)⟩ rfl _ y.1 y.2
  · rw [outsAt0_B m c t h0 h1]; frame_out
    rw [read_unread_whole]
    exact pay2_point m c t ⟨t.val % 11, Nat.mod_lt _ (by decide)⟩ rfl _ y.1 y.2

/-- The accumulator at a run's last point holds the residual's block. -/
theorem acc_last (c : Dev nD) (t : Fin cfg0.N) (h1 : t.val % 11 = 10) (r : Fin 512) (l : Fin 2048) :
    (outsAt0 m c t.val t.isLt).2.2 (ix2 r l) = goal1 m c (ix2 (rowOf t r) l) := by
  refine (Pipeline.eq_sum_fin_of_reset_step_apply_of_flush (accAt m c) 11 (fun _ => 0) (term m c) (acc_first m c) (acc_next m c) t h1
    (r, l)).trans ?_
  have hrow : ∀ s : Fin 11, rowOf ⟨11 * (t.val / 11) + s.val, Pipeline.run_point_lt_of_flush t h1 s⟩ r = rowOf t r := fun s => by
    apply Fin.ext
    show (11 * (t.val / 11) + s.val) / 11 * 512 + r.val = t.val / 11 * 512 + r.val
    omega
  have hs : ∀ s : Fin 11, (11 * (t.val / 11) + s.val) % 11 = s.val := fun s => by omega
  unfold term goal1
  simp only [hrow, hs, sum_apply, zero_add]
  rw [Finset.sum_add_distrib]
  refine congr (congrArg HAdd.hAdd ?_) (Fin.sum_mul_add_fin 11 512 (fun q : Fin 5632 => lane m c (rowOf t r) l q))
  rw [Fin.sum_univ_succ]
  simp
  rfl

/-- At a run's last point the two stored blocks are the accumulator and its normalisation. -/
theorem outs_last (c : Dev nD) (t : Fin cfg0.N) (h1 : t.val % 11 = 10) :
    (outsAt0 m c t.val t.isLt).1 = (outsAt0 m c t.val t.isLt).2.2
      ∧ (outsAt0 m c t.val t.isLt).2.1 = k0_pay3 (outsAt0 m c t.val t.isLt).2.2 (iblk m c 5 t) := by
  rw [outsAt0_C m c t (by omega) h1]
  constructor <;> (funext y; frame_out)

/-- The normalised block at a run's last point is the array under it. -/
theorem point2 (c : Dev nD) (t : Fin cfg0.N) (h1 : t.val % 11 = 10) (r : Fin 512) (l : Fin 2048) :
    k0_pay3 (outsAt0 m c t.val t.isLt).2.2 (iblk m c 5 t) (ix2 r l) = goal2 m c (ix2 (rowOf t r) l) := by
  refine (pay3_apply _ _ r l).trans ?_
  simp only [acc_last m c t h1, blk5]
  exact (norm_apply _ _ _ _).symm

/-- The call's first result. -/
theorem final1 (c : Dev nD) : (dats m 0 c).arrAt 6 (cfgs 0).N = goal1 m c := by
  refine (dats m 0 c).arrAt_eq_of_covers 6 _ (by decide +kernel) fun t hf y => ?_
  have h1 := (flush0_6 t).mp hf
  blk_simp
  rw [after0_6, (outs_last m c t h1).1]
  refine (congrArg _ (eq_ix2 y)).trans ((acc_last m c t h1 (y 0) (y 1)).trans (congrArg _ ?_))
  blk_ext [idx t, rowOf]

/-- The call's second result. -/
theorem final2 (c : Dev nD) : (dats m 0 c).arrAt 7 (cfgs 0).N = goal2 m c := by
  refine (dats m 0 c).arrAt_eq_of_covers 7 _ (by decide +kernel) fun t hf y => ?_
  have h1 := (flush0_7 t).mp hf
  blk_simp
  rw [after0_7, (outs_last m c t h1).2]
  refine (congrArg _ (eq_ix2 y)).trans ((point2 m c t h1 (y 0) (y 1)).trans (congrArg _ ?_))
  blk_ext [idx t, rowOf]

/-- THE VALUE CLAIM of the channel mixer. -/
theorem algebraic : Cert.algebraic_FfnIdeal_FfnRefIdeal (hFfnIdeal := Cert.FfnIdeal.Gen.facts) (hFfnRefIdeal := Cert.FfnRefIdeal.Gen.facts) := by
  intro m g m' g' _ hargs
  refine ⟨fun c => goal1 m c, fun c => goal2 m c, ?_, ?_⟩
  · exact (θ_run _ _ _).mono (fun r h c => ⟨(h c).1.trans (final1 m c), (h c).2.1.trans (final2 m c), (h c).2.2⟩)
      (Cert.FfnIdeal.Value.run_blocks m g)
  · refine (θ_run _ _ _).mono (fun r h c => ⟨(h c).1.trans ?_, (h c).2.1.trans ?_, (h c).2.2⟩) (Cert.FfnRefIdeal.Value.run m' g')
    all_goals obtain ⟨e0, e1, e2, e3, e4, e5⟩ := hargs c
    · rw [e0, e1, e2, e3, e4]; rfl
    · unfold Cert.FfnRefIdeal.Value.res_main_v24; rw [e0, e1, e2, e3, e4, e5]; rfl

end Kernel

end Cert.Proof.Ffn

end
-- ==== Proof.Norm.lean ====
module

public import proofs.«01_k».proof.Defs
public import proofs.«01_k».proof.Proof.Rms
public import proofs.«01_k».proof.Proof.Gen.NormIdeal.Value
public import proofs.«01_k».proof.Proof.Gen.NormRefIdeal.Run
public import Idealize.ShloMosaic.Lib.Pipeline.ValueKit
public import Idealize.ShloMosaic.Lib.Pointwise

@[expose] public section

set_option maxRecDepth 16384

noncomputable section

namespace Cert.Proof.Norm

open Idealize.ShloMosaic Idealize.ShloMosaic.TcCoe Idealize.SL.Sem
open Idealize.ShloMosaic.Pipeline (Dat)

section Reference

open Cert.NormRefIdeal Cert.NormRefIdeal.Gen

/-- The normalised input, as the reference writes it. -/
def normArr (x : FVec Ideal S8704x2048 .f32) (g : FVec Ideal S1x2048 .f32) : FVec Ideal S8704x2048 .bf16 :=
  truncf .bf16 (mulf (mulf x (broadcastInDim S8704x2048 ![0, 1] bcast_S8704x1_S8704x2048_0_1 (Host.rsqrt (addf (Host.divf (broadcastInDim S8704x1 ![0] bcast_S8704_S8704x1_0 (Host.reduceAdd (mulf x x) (constant S_ .f32 0x00000000#32) reducesTo_S8704x2048_S8704_d1 h_S_)) (broadcastInDim S8704x1 ![] bcast_S_S8704x1 (constant S_ .f32 0x45000000#32))) (broadcastInDim S8704x1 ![] bcast_S_S8704x1 (constant S_ .f32 0x358637BD#32)))))) (broadcastInDim S8704x2048 ![0, 1] bcast_S1x2048_S8704x2048_0_1 (broadcastInDim S1x2048 ![1] bcast_S2048_S1x2048_1 (shapeCast _ g shapeCasts_S1x2048_S2048)))) bitsLt_bf16_f32

/-- An entry of the normalised input. -/
theorem norm_apply (x : FVec Ideal S8704x2048 .f32) (g : FVec Ideal S1x2048 .f32) (i : Fin 8704) (l : Fin 2048) :
    normArr x g (ix2 i l) = rmsAt (fun k => x (ix2 i k)) (g (ix2 0 l)) l := by
  pointwise [normArr]
  rfl

end Reference

section Kernel

open Cert.NormIdeal Cert.NormIdeal.Gen

variable (m : (ℓ : Loc nD τ sig) → Buf (Elt Ideal) ℓ)

/-- The blocks of the windows at a point. -/
theorem idx : ∀ t : Fin cfg0.N, win0_0.index t = ![t.val, 0] ∧ win0_1.index t = ![0, 0] ∧ win0_2.index t = ![t.val, 0] :=
  (by decide +kernel : ∀ t : Fin grid0.N, _)

/-- The result the call is to leave, of the arguments in memory. -/
def goal (c : Dev nD) : FVec Ideal S8704x2048 .bf16 :=
  normArr (m ((c : Thread nD τ).loc main_arg0)) (m ((c : Thread nD τ).loc main_arg1))

/-- A row of a point's block, as a row of the arrays. -/
def rowOf (t : Fin cfg0.N) (r : Fin 512) : Fin 8704 :=
  ⟨t.val * 512 + r.val, by have := t.isLt; have : t.val < 17 := this; omega⟩

/-- Window 0 stages the rows of the point. -/
theorem blk0 (c : Dev nD) (t : Fin cfg0.N) (r : Fin 512) (k : Fin 2048) :
    iblk m c 0 t (ix2 r k) = m ((c : Thread nD τ).loc main_arg0) (ix2 (rowOf t r) k) := by
  blk_simp [iblk]
  entry_read
  blk_ext [idx t, rowOf]

/-- Window 1 stages the scale. -/
theorem blk1 (c : Dev nD) (t : Fin cfg0.N) (l : Fin 2048) :
    iblk m c 1 t (ix2 (0 : Fin 1) l) = m ((c : Thread nD τ).loc main_arg1) (ix2 (0 : Fin 1) l) := by
  blk_simp [iblk]
  entry_read
  pointwise
  blk_ext [idx t]

/-- What the body stores at a point is the array under the point's block. -/
theorem point (c : Dev nD) (t : Fin cfg0.N) (r : Fin 512) (l : Fin 2048) :
    k0_pay1 (F := Ideal) (iblk m c 0 t) (iblk m c 1 t) (ix2 r l) = goal m c (ix2 (rowOf t r) l) := by
  refine Eq.trans ?_ (norm_apply _ _ _ _).symm
  pointwise [k0_pay1]
  simp only [blk0, blk1]
  rfl

/-- An index of a point's block, as an index of the array. -/
theorem emb_eq (t : Fin cfg0.N) (y : S512x2048.Idx) : ((cfg0.win 2).blk t).view.emb y = ix2 (rowOf t (y 0)) (y 1) := by
  blk_simp
  blk_ext [idx t, rowOf]

/-- The call's result. -/
theorem final (c : Dev nD) : (dats m 0 c).arrAt 2 (cfgs 0).N = goal m c := by
  refine (dats m 0 c).arrAt_eq_of_covers 2 _ (by decide +kernel) fun t _ y => ?_
  blk_simp
  rw [after0_2]; frame_out
  exact (congrArg _ (eq_ix2 y)).trans ((point m c t (y 0) (y 1)).trans (congrArg _ (emb_eq t y).symm))

/-- THE VALUE CLAIM of the layer's first normalisation. -/
theorem algebraic : Cert.algebraic_NormIdeal_NormRefIdeal (hNormIdeal := Cert.NormIdeal.Gen.facts) (hNormRefIdeal := Cert.NormRefIdeal.Gen.facts) := by
  intro m g m' g' _ hargs
  refine ⟨fun c => goal m c, ?_, ?_⟩
  · exact (θ_run _ _ _).mono (fun r h c => ⟨(h c).1.trans (final m c), (h c).2⟩) (Cert.NormIdeal.Value.run_blocks m g)
  · refine (θ_run _ _ _).mono (fun r h c => ⟨(h c).1.trans ?_, (h c).2⟩) (Cert.NormRefIdeal.Value.run m' g')
    obtain ⟨e0, e1⟩ := hargs c
    rw [e0, e1]
    rfl

end Kernel

end Cert.Proof.Norm

end
-- ==== Proof.KvRef.lean ====
module

public import proofs.«01_k».proof.Defs
public import proofs.«01_k».proof.Proof.FlashPre
public import proofs.«01_k».proof.Proof.Gen.KvRefIdeal.Run
public import Idealize.ShloMosaic.Lib.Pipeline.ValueKit
public import Idealize.ShloMosaic.Lib.Pointwise

@[expose] public section

set_option maxRecDepth 16384

noncomputable section

namespace Cert.Proof.Kv

open Cert.KvRefIdeal Cert.KvRefIdeal.Gen
open Idealize.ShloMosaic Idealize.ShloMosaic.TcCoe Idealize.SL.Sem

/-- One entry of a row of 512 numbers divided by the root of its mean square and scaled. -/
def latentAt (x : Fin 512 → EReal) (g : EReal) (l : Fin 512) : EReal :=
  x l * Ideal.rsqrt (Ideal.div (∑ k, x k * x k) (Ideal.ofBits FTy.f32 0x44000000#32) + Ideal.ofBits FTy.f32 0x358637BD#32) * g

/-- The input's projections, as the reference writes them. -/
def projArr (h : FVec Ideal S8704x2048 .bf16) (w : FVec Ideal S1x2048x7232 .f32) : FVec Ideal S8704x7232 .f32 :=
  Host.dotGeneral dot_S8704x2048_S2048x7232_S8704x7232_1_0_0_1_n_n none (extf .f32 h bitsLt_bf16_f32) (shapeCast _ w shapeCasts_S1x2048x7232_S2048x7232)

/-- An entry of the projections. -/
def projAt (h : FVec Ideal S8704x2048 .bf16) (w : FVec Ideal S1x2048x7232 .f32) (i : Fin 8704) (j : Fin 7232) : EReal :=
  ∑ k : Fin 2048, h (ix2 i k) * w (ix3 (0 : Fin 1) k j)

/-- The projections, entry by entry. -/
theorem proj_apply (h : FVec Ideal S8704x2048 .bf16) (w : FVec Ideal S1x2048x7232 .f32) (i : Fin 8704) (j : Fin 7232) :
    projArr h w (ix2 i j) = projAt h w i j := by
  unfold projAt
  pointwise [projArr]

/-- The angles of the positions, as the reference writes them. -/
def angArr : FVec Ideal S8704x32 .f32 :=
  mulf (broadcastInDim S8704x32 ![0, 1] bcast_S8704x1_S8704x32_0_1 (broadcastInDim S8704x1 ![0] bcast_S8704_S8704x1_0 (concatenate S8704 0 [⟨S8192, (sitofp .f32 (iotaInDim S8192 32 0))⟩, ⟨S512, (shapeCast _ (broadcastInDim S128x4 ![0, 1] bcast_S1x4_S128x4_0_1 (shapeCast _ (addf (broadcastInDim S4 ![] bcast_S_S4 (constant S_ .f32 0x46800000#32)) (sitofp .f32 (iotaInDim S4 32 0))) shapeCasts_S4_S1x4)) shapeCasts_S128x4_S512)⟩] concatenates_S8192_S512_S8704_d0))) (broadcastInDim S8704x32 ![0, 1] bcast_S1x32_S8704x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- A normalised latent, as the reference writes it. -/
def normArr (x : FVec Ideal S8704x512 .f32) (g : FVec Ideal S1x512 .f32) : FVec Ideal S8704x512 .f32 :=
  mulf (mulf x (broadcastInDim S8704x512 ![0, 1] bcast_S8704x1_S8704x512_0_1 (Host.rsqrt (addf (Host.divf (broadcastInDim S8704x1 ![0] bcast_S8704_S8704x1_0 (Host.reduceAdd (mulf x x) (constant S_ .f32 0x00000000#32) reducesTo_S8704x512_S8704_d1 h_S_)) (broadcastInDim S8704x1 ![] bcast_S_S8704x1 (constant S_ .f32 0x44000000#32))) (broadcastInDim S8704x1 ![] bcast_S_S8704x1 (constant S_ .f32 0x358637BD#32)))))) (broadcastInDim S8704x512 ![0, 1] bcast_S1x512_S8704x512_0_1 (broadcastInDim S1x512 ![1] bcast_S512_S1x512_1 (shapeCast _ g shapeCasts_S1x512_S512)))

/-- The normalised latent, entry by entry. -/
theorem norm_apply (x : FVec Ideal S8704x512 .f32) (g : FVec Ideal S1x512 .f32) (i : Fin 8704) (l : Fin 512) :
    normArr x g (ix2 i l) = latentAt (fun k => x (ix2 i k)) (g (ix2 (0 : Fin 1) l)) l := by
  pointwise [normArr]
  rfl

/-- The latent of keys and values, as the reference writes it. -/
def latentArr (h : FVec Ideal S8704x2048 .bf16) (w : FVec Ideal S1x2048x7232 .f32) (g : FVec Ideal S1x512 .f32) : FVec Ideal S8704x512 .f32 :=
  normArr (extractStridedSlice S8704x512 ![0, 2560] (projArr h w) slices_S8704x7232_S8704x512_0_2560) g

/-- The latent of keys and values, entry by entry. -/
theorem latent_apply (h : FVec Ideal S8704x2048 .bf16) (w : FVec Ideal S1x2048x7232 .f32) (g : FVec Ideal S1x512 .f32) (i : Fin 8704) (l : Fin 512) :
    latentArr h w g (ix2 i l)
      = latentAt (fun k => projAt h w i (⟨2560 + k.val, by omega⟩ : Fin 7232)) (g (ix2 (0 : Fin 1) l)) l := by
  unfold latentArr
  rw [norm_apply]
  refine congrArg (fun x => latentAt x _ _) (funext fun k => ?_)
  rw [← proj_apply]
  pointwise
  blk_ext

/-- The rotated key, as the reference writes it. -/
def turnArr (h : FVec Ideal S8704x2048 .bf16) (w : FVec Ideal S1x2048x7232 .f32) : FVec Ideal S8704x1x64 .f32 :=
  concatenate S8704x1x64 2 [⟨S8704x1x32, (subf (mulf (extractStridedSlice S8704x1x32 ![0, 0, 0] (broadcastInDim S8704x1x64 ![0, 2] bcast_S8704x64_S8704x1x64_0_2 (extractStridedSlice S8704x64 ![0, 3072] (projArr h w) slices_S8704x7232_S8704x64_0_3072)) slices_S8704x1x64_S8704x1x32_0_0_0) (broadcastInDim S8704x1x32 ![0, 2] bcast_S8704x32_S8704x1x32_0_2 (Host.cos angArr))) (mulf (extractStridedSlice S8704x1x32 ![0, 0, 32] (broadcastInDim S8704x1x64 ![0, 2] bcast_S8704x64_S8704x1x64_0_2 (extractStridedSlice S8704x64 ![0, 3072] (projArr h w) slices_S8704x7232_S8704x64_0_3072)) slices_S8704x1x64_S8704x1x32_0_0_32) (broadcastInDim S8704x1x32 ![0, 2] bcast_S8704x32_S8704x1x32_0_2 (Host.sin angArr))))⟩, ⟨S8704x1x32, (addf (mulf (extractStridedSlice S8704x1x32 ![0, 0, 32] (broadcastInDim S8704x1x64 ![0, 2] bcast_S8704x64_S8704x1x64_0_2 (extractStridedSlice S8704x64 ![0, 3072] (projArr h w) slices_S8704x7232_S8704x64_0_3072)) slices_S8704x1x64_S8704x1x32_0_0_32) (broadcastInDim S8704x1x32 ![0, 2] bcast_S8704x32_S8704x1x32_0_2 (Host.cos angArr))) (mulf (extractStridedSlice S8704x1x32 ![0, 0, 0] (broadcastInDim S8704x1x64 ![0, 2] bcast_S8704x64_S8704x1x64_0_2 (extractStridedSlice S8704x64 ![0, 3072] (projArr h w) slices_S8704x7232_S8704x64_0_3072)) slices_S8704x1x64_S8704x1x32_0_0_0) (broadcastInDim S8704x1x32 ![0, 2] bcast_S8704x32_S8704x1x32_0_2 (Host.sin angArr))))⟩] concatenates_S8704x1x32_S8704x1x32_S8704x1x64_d2

/-- The rotated key's first half. -/
theorem turn_low (h : FVec Ideal S8704x2048 .bf16) (w : FVec Ideal S1x2048x7232 .f32) (i : Fin 8704) (l : Fin 32) :
    turnArr h w (ix3 i (0 : Fin 1) (⟨l.val, by omega⟩ : Fin 64))
      = projAt h w i (⟨3072 + l.val, by omega⟩ : Fin 7232) * Ideal.cos (angArr (ix2 i l))
        - projAt h w i (⟨3072 + (32 + l.val), by omega⟩ : Fin 7232) * Ideal.sin (angArr (ix2 i l)) := by
  rw [← proj_apply, ← proj_apply]
  pointwise [turnArr]

/-- The rotated key's second half. -/
theorem turn_high (h : FVec Ideal S8704x2048 .bf16) (w : FVec Ideal S1x2048x7232 .f32) (i : Fin 8704) (l : Fin 32) :
    turnArr h w (ix3 i (0 : Fin 1) (⟨32 + l.val, by omega⟩ : Fin 64))
      = projAt h w i (⟨3072 + (32 + l.val), by omega⟩ : Fin 7232) * Ideal.cos (angArr (ix2 i l))
        + projAt h w i (⟨3072 + l.val, by omega⟩ : Fin 7232) * Ideal.sin (angArr (ix2 i l)) := by
  rw [← proj_apply, ← proj_apply]
  pointwise [turnArr]

/-- The rotated key as a row. -/
def ropeArr (h : FVec Ideal S8704x2048 .bf16) (w : FVec Ideal S1x2048x7232 .f32) : FVec Ideal S8704x64 .f32 :=
  shapeCast _ (turnArr h w) shapeCasts_S8704x1x64_S8704x64

/-- The row of the rotated key, entry by entry. -/
theorem rope_apply (h : FVec Ideal S8704x2048 .bf16) (w : FVec Ideal S1x2048x7232 .f32) (i : Fin 8704) (l : Fin 64) :
    ropeArr h w (ix2 i l) = turnArr h w (ix3 i (0 : Fin 1) l) := by
  pointwise [ropeArr]

/-- Every head's key, as the reference writes it. -/
def keyArr (h : FVec Ideal S8704x2048 .bf16) (w : FVec Ideal S1x2048x7232 .f32) (g : FVec Ideal S1x512 .f32) (u : FVec Ideal S1x512x16x256 .f32) : FVec Ideal S8704x4096 .bf16 :=
  truncf .bf16 (shapeCast _ ((concatenate S8704x16x256 2 [⟨S8704x16x128, ((Host.dotGeneral dot_S8704x512_S512x16x128_S8704x16x128_1_0_0_12_n_n none (latentArr h w g) (extractStridedSlice S512x16x128 ![0, 0, 0] (shapeCast _ u shapeCasts_S1x512x16x256_S512x16x256) slices_S512x16x256_S512x16x128_0_0_0)))⟩, ⟨S8704x16x64, ((broadcastInDim S8704x16x64 ![0, 1, 2] bcast_S8704x1x64_S8704x16x64_0_1_2 (turnArr h w)))⟩, ⟨S8704x16x64, ((broadcastInDim S8704x16x64 ![] bcast_S_S8704x16x64 (constant S_ .f32 0x00000000#32)))⟩] concatenates_S8704x16x128_S8704x16x64_S8704x16x64_S8704x16x256_d2)) shapeCasts_S8704x16x256_S8704x4096) bitsLt_bf16_f32

/-- A head's key without position. -/
theorem key_nope (h : FVec Ideal S8704x2048 .bf16) (w : FVec Ideal S1x2048x7232 .f32) (g : FVec Ideal S1x512 .f32) (u : FVec Ideal S1x512x16x256 .f32)
    (i : Fin 8704) (n : Fin 16) (l : Fin 128) :
    keyArr h w g u (ix2 i (⟨n.val * 256 + l.val, by omega⟩ : Fin 4096))
      = ∑ k : Fin 512, latentArr h w g (ix2 i k) * u (ix4 (0 : Fin 1) k n (⟨l.val, by omega⟩ : Fin 256)) := by
  pointwise [keyArr]
  rw [dif_pos (by omega)]
  simp only [show (n.val * 256 + l.val) % 256 = l.val from by omega]

/-- A head's key with position: the rotated key. -/
theorem key_rope (h : FVec Ideal S8704x2048 .bf16) (w : FVec Ideal S1x2048x7232 .f32) (g : FVec Ideal S1x512 .f32) (u : FVec Ideal S1x512x16x256 .f32)
    (i : Fin 8704) (n : Fin 16) (l : Fin 64) :
    keyArr h w g u (ix2 i (⟨n.val * 256 + (128 + l.val), by omega⟩ : Fin 4096)) = turnArr h w (ix3 i (0 : Fin 1) l) := by
  pointwise [keyArr]
  rw [dif_neg (by omega), dif_pos (by omega)]
  blk_ext

/-- A head's key is zero past the rotated key. -/
theorem key_pad (h : FVec Ideal S8704x2048 .bf16) (w : FVec Ideal S1x2048x7232 .f32) (g : FVec Ideal S1x512 .f32) (u : FVec Ideal S1x512x16x256 .f32)
    (i : Fin 8704) (n : Fin 16) (l : Fin 64) :
    keyArr h w g u (ix2 i (⟨n.val * 256 + (192 + l.val), by omega⟩ : Fin 4096)) = (0 : EReal) := by
  pointwise [keyArr]
  rw [dif_neg (by omega), dif_neg (by omega)]

/-- Every head's value, as the reference writes it. -/
def valArr (h : FVec Ideal S8704x2048 .bf16) (w : FVec Ideal S1x2048x7232 .f32) (g : FVec Ideal S1x512 .f32) (u : FVec Ideal S1x512x16x256 .f32) : FVec Ideal S8704x2048 .bf16 :=
  truncf .bf16 (shapeCast _ (Host.dotGeneral dot_S8704x512_S512x16x128_S8704x16x128_1_0_0_12_n_n none (latentArr h w g) (extractStridedSlice S512x16x128 ![0, 0, 128] (shapeCast _ u shapeCasts_S1x512x16x256_S512x16x256) slices_S512x16x256_S512x16x128_0_0_128)) shapeCasts_S8704x16x128_S8704x2048) bitsLt_bf16_f32

/-- The values, entry by entry. -/
theorem val_apply (h : FVec Ideal S8704x2048 .bf16) (w : FVec Ideal S1x2048x7232 .f32) (g : FVec Ideal S1x512 .f32) (u : FVec Ideal S1x512x16x256 .f32)
    (i : Fin 8704) (j : Fin 2048) :
    valArr h w g u (ix2 i j) = ∑ k : Fin 512, latentArr h w g (ix2 i k)
      * u (ix4 (0 : Fin 1) k (⟨j.val / 128, by omega⟩ : Fin 16) (⟨128 + j.val % 128, by omega⟩ : Fin 256)) := by
  pointwise [valArr]
  blk_ext

/-- The precondition's side conditions hold. -/
theorem pre_facts : Cert.Pre_finite_rope.Facts where
  bitsLt_bf16_f32 := by decide
  shapeCasts_S1x2048x7232_S2048x7232 := by decide
  slices_S2048x7232_S2048x32_0_3104 := by decide
  transposes_S2048x32_S32x2048_1_0 := by decide
  concatenates_S8704x2048_S32x2048_S8736x2048_d0 := by decide
  bcast_S_S8736x2048 := by decide

/-- A truth value that holds. -/
theorem of_bit (b : Bool) (h : BitVec.ofBool b = 1#1) : b = true := by
  revert h
  cases b <;> decide

/-- Under the precondition the input is finite. -/
theorem input_finite [Cert.Pre_finite_rope.Facts] (h : FVec Ideal S8704x2048 .bf16) (w : FVec Ideal S1x2048x7232 .f32) (g : FVec Ideal S1x512 .f32) (u : FVec Ideal S1x512x16x256 .f32)
    (hp : Cert.Pre_finite_rope.fn (F := Ideal) h w g u = fun _ => 1#1) (i : Fin 8704) (k : Fin 2048) :
    h (ix2 i k) ≠ (⊤ : EReal) ∧ h (ix2 i k) ≠ (⊥ : EReal) := by
  have h' := congrFun hp (ix2 (⟨i.val, by omega⟩ : Fin 8736) k)
  unfold Cert.Pre_finite_rope.fn at h'
  revert h'
  pointwise []
  intro h'
  exact Flash.finite_of_abs _ (of_decide_eq_true (of_bit _ h'))

/-- Under the precondition the weights of the key's second half are finite. -/
theorem weight_finite [Cert.Pre_finite_rope.Facts] (h : FVec Ideal S8704x2048 .bf16) (w : FVec Ideal S1x2048x7232 .f32) (g : FVec Ideal S1x512 .f32) (u : FVec Ideal S1x512x16x256 .f32)
    (hp : Cert.Pre_finite_rope.fn (F := Ideal) h w g u = fun _ => 1#1) (k : Fin 2048) (l : Fin 32) :
    w (ix3 (0 : Fin 1) k (⟨3072 + (32 + l.val), by omega⟩ : Fin 7232)) ≠ (⊤ : EReal)
      ∧ w (ix3 (0 : Fin 1) k (⟨3072 + (32 + l.val), by omega⟩ : Fin 7232)) ≠ (⊥ : EReal) := by
  have h' := congrFun hp (ix2 (⟨8704 + l.val, by omega⟩ : Fin 8736) k)
  unfold Cert.Pre_finite_rope.fn at h'
  revert h'
  pointwise []
  intro h'
  have e : (⟨3072 + (32 + l.val), by omega⟩ : Fin 7232) = ⟨3104 + l.val, by omega⟩ := Fin.ext (by show 3072 + (32 + l.val) = 3104 + l.val; omega)
  rw [e]
  exact Flash.finite_of_abs _ (of_decide_eq_true (of_bit _ h'))

/-- A sum of finite numbers negated one by one is the sum negated. -/
theorem sum_neg {n : ℕ} (f : Fin n → EReal) (hf : ∀ x, f x ≠ ⊤ ∧ f x ≠ ⊥) : ∑ x, -f x = -∑ x, f x := by
  suffices h : ∀ s : Finset (Fin n), ∑ x ∈ s, -f x = -∑ x ∈ s, f x from h _
  intro s
  induction s using Finset.induction_on with
  | empty => simp
  | insert a s ha ih =>
    rw [Finset.sum_insert ha, Finset.sum_insert ha, ih, EReal.neg_add (.inl (hf a).2) (.inl (hf a).1), sub_eq_add_neg]

/-- So is a sum of products of finite numbers, the second factors negated. -/
theorem sum_mul_neg {n : ℕ} (a b : Fin n → EReal) (ha : ∀ x, a x ≠ ⊤ ∧ a x ≠ ⊥) (hb : ∀ x, b x ≠ ⊤ ∧ b x ≠ ⊥) :
    ∑ x, a x * -b x = -∑ x, a x * b x := by
  rw [← sum_neg]
  · exact Finset.sum_congr rfl fun x _ => mul_neg _ _
  · intro x
    rw [← EReal.coe_toReal (ha x).1 (ha x).2, ← EReal.coe_toReal (hb x).1 (hb x).2, ← EReal.coe_mul]
    exact ⟨EReal.coe_ne_top _, EReal.coe_ne_bot _⟩

end Cert.Proof.Kv

end
-- ==== Proof.RopeTab.lean ====
module

public import proofs.«01_k».proof.Defs
public import proofs.«01_k».proof.Proof.Gen.KvIdeal.Value
public import Idealize.ShloMosaic.Lib.Pipeline.ValueKit
public import Idealize.ShloMosaic.Lib.Pointwise

@[expose] public section

set_option maxRecDepth 16384

noncomputable section

namespace Cert.Proof.Kv

open Cert.KvIdeal Cert.KvIdeal.Gen
open Idealize.ShloMosaic Idealize.ShloMosaic.TcCoe Idealize.SL.Sem

/-- A table of one entry per position and frequency, twice, with lanes of zeros. -/
def tabArr (f : FVec Ideal S8704x32 .f32) : FVec Ideal S8704x128 .f32 :=
  concatenate S8704x128 1 [⟨S8704x32, f⟩, ⟨S8704x32, f⟩, ⟨S8704x64, broadcastInDim S8704x64 ![] bcast_S_S8704x64 (constant S_ .f32 0x00000000#32)⟩] concatenates_S8704x32_S8704x32_S8704x64_S8704x128_d1

/-- The table's entries, the first time. -/
theorem tab_low (f : FVec Ideal S8704x32 .f32) (i : Fin 8704) (l : Fin 32) : tabArr f (ix2 i (⟨l.val, by omega⟩ : Fin 128)) = f (ix2 i l) := by
  pointwise [tabArr]

/-- The table's entries, the second time. -/
theorem tab_high (f : FVec Ideal S8704x32 .f32) (i : Fin 8704) (l : Fin 32) : tabArr f (ix2 i (⟨32 + l.val, by omega⟩ : Fin 128)) = f (ix2 i l) := by
  pointwise [tabArr]

/-- The table's zeros. -/
theorem tab_pad (f : FVec Ideal S8704x32 .f32) (i : Fin 8704) (l : Fin 64) : tabArr f (ix2 i (⟨64 + l.val, by omega⟩ : Fin 128)) = (0 : EReal) := by
  pointwise [tabArr]
  rw [dif_neg (by omega), dif_neg (by omega)]

end Cert.Proof.Kv

end
-- ==== Proof.Kv.lean ====
module

public import proofs.«01_k».proof.Defs
public import proofs.«01_k».proof.Proof.KvRef
public import proofs.«01_k».proof.Proof.RopeTab
public import proofs.«01_k».proof.Proof.Gen.KvIdeal.Value
public import Idealize.ShloMosaic.Lib.Pipeline.ValueKit
public import Idealize.ShloMosaic.Lib.Pointwise

@[expose] public section

set_option maxRecDepth 16384

noncomputable section

namespace Cert.Proof.Kv

open Cert.KvIdeal Cert.KvIdeal.Gen
open Idealize.ShloMosaic Idealize.ShloMosaic.TcCoe Idealize.SL.Sem
open Idealize.ShloMosaic.Pipeline (Dat)

section Payloads

/-- The latent the body stores, entry by entry. -/
theorem pay_latent (x0 : Vec Ideal S512x2048 .bf16) (x1 : Vec Ideal S2048x512 .bf16) (x2 : Vec Ideal S1x512 .f32) (r l : Fin 512) :
    k0_pay6 (F := Ideal) x0 x1 x2 (ix2 r l)
      = latentAt (fun j => ∑ k : Fin 2048, x0 (ix2 r k) * x1 (ix2 k j)) (x2 (ix2 (0 : Fin 1) l)) l := by
  pointwise [k0_pay6]
  rfl

/-- The rotated key the body computes, lane by lane. -/
theorem pay_turn (x0 : Vec Ideal S512x2048 .bf16) (x3 x4 : Vec Ideal S2048x128 .bf16) (x7 x8 : Vec Ideal S512x128 .f32) (r : Fin 512) (l : Fin 128) :
    k0_pay7 (F := Ideal) x0 x3 x7 x4 x8 (ix2 r l)
      = (∑ k : Fin 2048, x0 (ix2 r k) * x3 (ix2 k l)) * x7 (ix2 r l) + (∑ k : Fin 2048, x0 (ix2 r k) * x4 (ix2 k l)) * x8 (ix2 r l) := by
  pointwise [k0_pay7]

/-- The keys without position the body computes, entry by entry. -/
theorem pay_nope (v : FVec Ideal S512x512 .f32) (x5 : Vec Ideal S512x2048 .bf16) (r : Fin 512) (j : Fin 2048) :
    k0_pay11 (F := Ideal) v x5 (ix2 r j) = ∑ k : Fin 512, v (ix2 r k) * x5 (ix2 k j) := by
  pointwise [k0_pay11, k0_pay10]

/-- The values the body computes, entry by entry. -/
theorem pay_val (v : FVec Ideal S512x512 .f32) (x6 : Vec Ideal S512x2048 .bf16) (r : Fin 512) (j : Fin 2048) :
    k0_pay12 (F := Ideal) v x6 (ix2 r j) = ∑ k : Fin 512, v (ix2 r k) * x6 (ix2 k j) := by
  pointwise [k0_pay12, k0_pay10]

/-- The rotated key's lane, of what its operands are. -/
theorem pay_turn_of (x0 : Vec Ideal S512x2048 .bf16) (x3 x4 : Vec Ideal S2048x128 .bf16) (x7 x8 : Vec Ideal S512x128 .f32) (r : Fin 512) (l : Fin 128)
    (a b d : Fin 2048 → EReal) (p q : EReal) (h0 : ∀ k, x0 (ix2 r k) = a k) (h3 : ∀ k, x3 (ix2 k l) = b k) (h4 : ∀ k, x4 (ix2 k l) = d k)
    (h7 : x7 (ix2 r l) = p) (h8 : x8 (ix2 r l) = q) :
    k0_pay7 (F := Ideal) x0 x3 x7 x4 x8 (ix2 r l) = (∑ k, a k * b k) * p + (∑ k, a k * d k) * q := by
  rw [pay_turn]
  simp only [h0, h3, h4, h7, h8]

/-- The rotated key the body stores is its first lanes. -/
theorem pay_rope (x0 : Vec Ideal S512x2048 .bf16) (x3 x4 : Vec Ideal S2048x128 .bf16) (x7 x8 : Vec Ideal S512x128 .f32) (r : Fin 512) (l : Fin 64) :
    k0_pay8 (F := Ideal) x0 x3 x7 x4 x8 (ix2 r l) = k0_pay7 (F := Ideal) x0 x3 x7 x4 x8 (ix2 r (⟨l.val, by omega⟩ : Fin 128)) := by
  pointwise [k0_pay8]

end Payloads

variable (m : (ℓ : Loc nD τ sig) → Buf (Elt Ideal) ℓ)

/-- The blocks of the windows at a point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, _)

/-- A row of a point's block, as a row of the arrays. -/
def rowOf (t : Fin cfg0.N) (r : Fin 512) : Fin 8704 :=
  ⟨t.val * 512 + r.val, by have := t.isLt; have : t.val < 17 := this; omega⟩

/-- Window 0 stages the rows of the point. -/
theorem blk0 (c : Dev nD) (t : Fin cfg0.N) (r : Fin 512) (k : Fin 2048) :
    iblk m c 0 t (ix2 r k) = m ((c : Thread nD τ).loc main_arg0) (ix2 (rowOf t r) k) := by
  blk_simp [iblk]
  entry_read
  blk_ext [idx t, rowOf]

/-- Window 1 stages the latent's columns of the projection. -/
theorem blk1 (c : Dev nD) (t : Fin cfg0.N) (k : Fin 2048) (l : Fin 512) :
    iblk m c 1 t (ix2 k l) = m ((c : Thread nD τ).loc main_arg1) (ix3 (0 : Fin 1) k (⟨2560 + l.val, by omega⟩ : Fin 7232)) := by
  blk_simp [iblk]
  entry_read
  pointwise
  blk_ext [idx t]

/-- Window 2 stages the latent's scale. -/
theorem blk2 (c : Dev nD) (t : Fin cfg0.N) (l : Fin 512) :
    iblk m c 2 t (ix2 (0 : Fin 1) l) = m ((c : Thread nD τ).loc main_arg2) (ix2 (0 : Fin 1) l) := by
  blk_simp [iblk]
  entry_read
  pointwise
  blk_ext [idx t]

/-- The key's columns of the projection with lanes of zeros, as the host lays them out. -/
theorem cols_apply (c : Dev nD) (k : Fin 2048) (l : Fin 64) :
    V m c main_v37 (ix2 k (⟨l.val, by omega⟩ : Fin 128)) = m ((c : Thread nD τ).loc main_arg1) (ix3 (0 : Fin 1) k (⟨3072 + l.val, by omega⟩ : Fin 7232)) := by
  entry_read
  pointwise

/-- The columns the other way round: the second half comes first, negated. -/
theorem turned_low (c : Dev nD) (k : Fin 2048) (l : Fin 32) :
    V m c main_v44 (ix2 k (⟨l.val, by omega⟩ : Fin 128))
      = -(show EReal from m ((c : Thread nD τ).loc main_arg1) (ix3 (0 : Fin 1) k (⟨3072 + (32 + l.val), by omega⟩ : Fin 7232))) := by
  entry_read
  pointwise
  rw [dif_pos (by omega)]

/-- Then comes the first half. -/
theorem turned_high (c : Dev nD) (k : Fin 2048) (l : Fin 32) :
    V m c main_v44 (ix2 k (⟨32 + l.val, by omega⟩ : Fin 128)) = m ((c : Thread nD τ).loc main_arg1) (ix3 (0 : Fin 1) k (⟨3072 + l.val, by omega⟩ : Fin 7232)) := by
  entry_read
  pointwise
  rw [dif_pos (by omega)]

/-- Window 3 stages the key's columns. -/
theorem blk3 (c : Dev nD) (t : Fin cfg0.N) (k : Fin 2048) (l : Fin 128) :
    iblk m c 3 t (ix2 k l) = V m c main_v37 (ix2 k l) := by
  blk_simp [iblk]
  blk_ext [idx t]

/-- Window 4 stages them the other way round. -/
theorem blk4 (c : Dev nD) (t : Fin cfg0.N) (k : Fin 2048) (l : Fin 128) :
    iblk m c 4 t (ix2 k l) = V m c main_v44 (ix2 k l) := by
  blk_simp [iblk]
  blk_ext [idx t]

/-- The host's table of cosines. -/
theorem cos_tab (c : Dev nD) : V m c main_v22 = tabArr (Host.cos angArr) := by
  unfold V; after_results; rfl

/-- The host's table of sines. -/
theorem sin_tab (c : Dev nD) : V m c main_v23 = tabArr (Host.sin angArr) := by
  unfold V; after_results; rfl

/-- Window 7 stages the cosines of the point's positions. -/
theorem blk7 (c : Dev nD) (t : Fin cfg0.N) (r : Fin 512) (l : Fin 128) :
    iblk m c 7 t (ix2 r l) = tabArr (Host.cos angArr) (ix2 (rowOf t r) l) := by
  rw [← cos_tab m c]
  blk_simp [iblk]
  blk_ext [idx t, rowOf]

/-- Window 8 stages the sines of the point's positions. -/
theorem blk8 (c : Dev nD) (t : Fin cfg0.N) (r : Fin 512) (l : Fin 128) :
    iblk m c 8 t (ix2 r l) = tabArr (Host.sin angArr) (ix2 (rowOf t r) l) := by
  rw [← sin_tab m c]
  blk_simp [iblk]
  blk_ext [idx t, rowOf]

/-- The heads' matrices of keys, side by side. -/
theorem keys_apply (c : Dev nD) (k : Fin 512) (n : Fin 16) (l : Fin 128) :
    V m c main_v48 (ix2 k (⟨n.val * 128 + l.val, by omega⟩ : Fin 2048)) = m ((c : Thread nD τ).loc main_arg3) (ix4 (0 : Fin 1) k n (⟨l.val, by omega⟩ : Fin 256)) := by
  entry_read
  pointwise
  blk_ext

/-- Window 5 stages the heads' matrices of keys. -/
theorem blk5 (c : Dev nD) (t : Fin cfg0.N) (k : Fin 512) (j : Fin 2048) :
    iblk m c 5 t (ix2 k j) = V m c main_v48 (ix2 k j) := by
  blk_simp [iblk]
  blk_ext [idx t]

/-- Window 6 stages the heads' matrices of values. -/
theorem blk6 (c : Dev nD) (t : Fin cfg0.N) (k : Fin 512) (j : Fin 2048) :
    iblk m c 6 t (ix2 k j)
      = m ((c : Thread nD τ).loc main_arg3) (ix4 (0 : Fin 1) k (⟨j.val / 128, by omega⟩ : Fin 16) (⟨128 + j.val % 128, by omega⟩ : Fin 256)) := by
  blk_simp [iblk]
  entry_read
  pointwise
  blk_ext [idx t]

/-- The latent a point computes is the reference's. -/
theorem latent_point (c : Dev nD) (t : Fin cfg0.N) (r l : Fin 512) :
    k0_pay6 (F := Ideal) (iblk m c 0 t) (iblk m c 1 t) (iblk m c 2 t) (ix2 r l) = latentArr (m ((c : Thread nD τ).loc main_arg0)) (m ((c : Thread nD τ).loc main_arg1)) (m ((c : Thread nD τ).loc main_arg2)) (ix2 (rowOf t r) l) := by
  rw [pay_latent, latent_apply]
  simp only [blk0, blk1, blk2]
  rfl

/-- What the precondition says of the arguments in memory. -/
abbrev Finite : Prop := ∀ c : Dev nD, (∀ i k, (m ((c : Thread nD τ).loc main_arg0)) (ix2 i k) ≠ (⊤ : EReal) ∧ (m ((c : Thread nD τ).loc main_arg0)) (ix2 i k) ≠ (⊥ : EReal))
  ∧ ∀ (k : Fin 2048) (l : Fin 32), (m ((c : Thread nD τ).loc main_arg1)) (ix3 (0 : Fin 1) k (⟨3072 + (32 + l.val), by omega⟩ : Fin 7232)) ≠ (⊤ : EReal)
    ∧ (m ((c : Thread nD τ).loc main_arg1)) (ix3 (0 : Fin 1) k (⟨3072 + (32 + l.val), by omega⟩ : Fin 7232)) ≠ (⊥ : EReal)

/-- The rotated key's first half: the negated columns give the negated product. -/
theorem turn_point_low (hf : Finite m) (c : Dev nD) (t : Fin cfg0.N) (r : Fin 512) (l : Fin 32) :
    k0_pay7 (F := Ideal) (iblk m c 0 t) (iblk m c 3 t) (iblk m c 7 t) (iblk m c 4 t) (iblk m c 8 t) (ix2 r (⟨l.val, by omega⟩ : Fin 128))
      = turnArr (m ((c : Thread nD τ).loc main_arg0)) (m ((c : Thread nD τ).loc main_arg1)) (ix3 (rowOf t r) (0 : Fin 1) (⟨l.val, by omega⟩ : Fin 64)) := by
  refine (pay_turn_of _ _ _ _ _ r _ _ _ _ _ _ (fun k => blk0 m c t r k)
    (fun k => (blk3 m c t k _).trans (cols_apply m c k (⟨l.val, by omega⟩ : Fin 64))) (fun k => (blk4 m c t k _).trans (turned_low m c k l))
    ((blk7 m c t r _).trans (tab_low _ _ l)) ((blk8 m c t r _).trans (tab_low _ _ l))).trans ?_
  refine Eq.trans ?_ (turn_low _ _ _ _).symm
  rw [sum_mul_neg _ _ (fun k => (hf c).1 (rowOf t r) k) (fun k => (hf c).2 k l), neg_mul, ← sub_eq_add_neg]
  rfl

/-- The rotated key's second half. -/
theorem turn_point_high (c : Dev nD) (t : Fin cfg0.N) (r : Fin 512) (l : Fin 32) :
    k0_pay7 (F := Ideal) (iblk m c 0 t) (iblk m c 3 t) (iblk m c 7 t) (iblk m c 4 t) (iblk m c 8 t) (ix2 r (⟨32 + l.val, by omega⟩ : Fin 128))
      = turnArr (m ((c : Thread nD τ).loc main_arg0)) (m ((c : Thread nD τ).loc main_arg1)) (ix3 (rowOf t r) (0 : Fin 1) (⟨32 + l.val, by omega⟩ : Fin 64)) := by
  refine (pay_turn_of _ _ _ _ _ r _ _ _ _ _ _ (fun k => blk0 m c t r k)
    (fun k => (blk3 m c t k _).trans (cols_apply m c k (⟨32 + l.val, by omega⟩ : Fin 64))) (fun k => (blk4 m c t k _).trans (turned_high m c k l))
    ((blk7 m c t r _).trans (tab_high _ _ l)) ((blk8 m c t r _).trans (tab_high _ _ l))).trans ?_
  exact (turn_high _ _ _ _).symm

/-- The rotated key a point computes is the reference's. -/
theorem turn_point (hf : Finite m) (c : Dev nD) (t : Fin cfg0.N) (r : Fin 512) (l : Fin 64) :
    k0_pay7 (F := Ideal) (iblk m c 0 t) (iblk m c 3 t) (iblk m c 7 t) (iblk m c 4 t) (iblk m c 8 t) (ix2 r (⟨l.val, by omega⟩ : Fin 128))
      = turnArr (m ((c : Thread nD τ).loc main_arg0)) (m ((c : Thread nD τ).loc main_arg1)) (ix3 (rowOf t r) (0 : Fin 1) l) := by
  rcases Nat.lt_or_ge l.val 32 with h | h
  · exact turn_point_low m hf c t r ⟨l.val, h⟩
  · obtain ⟨k, rfl⟩ : ∃ k : Fin 32, l = ⟨32 + k.val, Nat.add_lt_add_left k.isLt 32⟩ :=
      ⟨⟨l.val - 32, by omega⟩, Fin.ext (by show l.val = 32 + (l.val - 32); omega)⟩
    exact turn_point_high m c t r k

/-- The lanes past the rotated key are zero. -/
theorem turn_pad (c : Dev nD) (t : Fin cfg0.N) (r : Fin 512) (l : Fin 64) :
    k0_pay7 (F := Ideal) (iblk m c 0 t) (iblk m c 3 t) (iblk m c 7 t) (iblk m c 4 t) (iblk m c 8 t) (ix2 r (⟨64 + l.val, by omega⟩ : Fin 128)) = (0 : EReal) := by
  refine (pay_turn_of _ _ _ _ _ r _ _ _ _ _ _ (fun k => rfl) (fun k => rfl) (fun k => rfl)
    ((blk7 m c t r _).trans (tab_pad _ _ l)) ((blk8 m c t r _).trans (tab_pad _ _ l))).trans ?_
  rw [mul_zero, mul_zero, add_zero]

/-- A head's key without position. -/
theorem nope_point (c : Dev nD) (t : Fin cfg0.N) (r : Fin 512) (n : Fin 16) (l : Fin 128) :
    k0_pay11 (F := Ideal) (k0_pay6 (F := Ideal) (iblk m c 0 t) (iblk m c 1 t) (iblk m c 2 t)) (iblk m c 5 t) (ix2 r (⟨n.val * 128 + l.val, by omega⟩ : Fin 2048))
      = keyArr (m ((c : Thread nD τ).loc main_arg0)) (m ((c : Thread nD τ).loc main_arg1)) (m ((c : Thread nD τ).loc main_arg2)) (m ((c : Thread nD τ).loc main_arg3)) (ix2 (rowOf t r) (⟨n.val * 256 + l.val, by omega⟩ : Fin 4096)) := by
  rw [pay_nope, key_nope]
  exact Fin.sum_fin_congr fun k => congrArg₂ (· * ·) (latent_point m c t r k) ((blk5 m c t k _).trans (keys_apply m c k n l))

/-- A head's key with position, and the zeros after it. -/
theorem rope_point (hf : Finite m) (c : Dev nD) (t : Fin cfg0.N) (r : Fin 512) (n : Fin 16) (l : Fin 128) :
    k0_pay7 (F := Ideal) (iblk m c 0 t) (iblk m c 3 t) (iblk m c 7 t) (iblk m c 4 t) (iblk m c 8 t) (ix2 r l)
      = keyArr (m ((c : Thread nD τ).loc main_arg0)) (m ((c : Thread nD τ).loc main_arg1)) (m ((c : Thread nD τ).loc main_arg2)) (m ((c : Thread nD τ).loc main_arg3)) (ix2 (rowOf t r) (⟨n.val * 256 + (128 + l.val), by omega⟩ : Fin 4096)) := by
  rcases Nat.lt_or_ge l.val 64 with h | h
  · exact (turn_point m hf c t r ⟨l.val, h⟩).trans (key_rope _ _ _ _ _ n ⟨l.val, h⟩).symm
  · obtain ⟨k, rfl⟩ : ∃ k : Fin 64, l = ⟨64 + k.val, Nat.add_lt_add_left k.isLt 64⟩ :=
      ⟨⟨l.val - 64, by omega⟩, Fin.ext (by show l.val = 64 + (l.val - 64); omega)⟩
    refine (turn_pad m c t r k).trans ((key_pad (m ((c : Thread nD τ).loc main_arg0)) (m ((c : Thread nD τ).loc main_arg1)) (m ((c : Thread nD τ).loc main_arg2)) (m ((c : Thread nD τ).loc main_arg3)) (rowOf t r) n k).symm.trans ?_)
    exact congrArg (fun j => keyArr (m ((c : Thread nD τ).loc main_arg0)) (m ((c : Thread nD τ).loc main_arg1)) (m ((c : Thread nD τ).loc main_arg2)) (m ((c : Thread nD τ).loc main_arg3)) (ix2 (rowOf t r) j)) (Fin.ext (by show n.val * 256 + (192 + k.val) = n.val * 256 + (128 + (64 + k.val)); omega))

/-- The values a point computes are the reference's. -/
theorem val_point (c : Dev nD) (t : Fin cfg0.N) (r : Fin 512) (j : Fin 2048) :
    k0_pay12 (F := Ideal) (k0_pay6 (F := Ideal) (iblk m c 0 t) (iblk m c 1 t) (iblk m c 2 t)) (iblk m c 6 t) (ix2 r j)
      = valArr (m ((c : Thread nD τ).loc main_arg0)) (m ((c : Thread nD τ).loc main_arg1)) (m ((c : Thread nD τ).loc main_arg2)) (m ((c : Thread nD τ).loc main_arg3)) (ix2 (rowOf t r) j) := by
  rw [pay_val, val_apply]
  exact Fin.sum_fin_congr fun k => congrArg₂ (· * ·) (latent_point m c t r k) (blk6 m c t k j)

/-- An index of a point's block of output 0, as an index of the array. -/
theorem emb_eq9 (t : Fin cfg0.N) (y : S512x512.Idx) : ((cfg0.win 9).blk t).view.emb y = ix2 (rowOf t (y 0)) (y 1) := by
  blk_simp
  blk_ext [idx t, rowOf]

/-- An index of a point's block of output 1, as an index of the array. -/
theorem emb_eq10 (t : Fin cfg0.N) (y : S512x64.Idx) : ((cfg0.win 10).blk t).view.emb y = ix2 (rowOf t (y 0)) (y 1) := by
  blk_simp
  blk_ext [idx t, rowOf]

/-- An index of a point's block of output 2, as an index of the array. -/
theorem emb_eq11 (t : Fin cfg0.N) (y : S512x4096.Idx) : ((cfg0.win 11).blk t).view.emb y = ix2 (rowOf t (y 0)) (y 1) := by
  blk_simp
  blk_ext [idx t, rowOf]

/-- An index of a point's block of output 3, as an index of the array. -/
theorem emb_eq12 (t : Fin cfg0.N) (y : S512x2048.Idx) : ((cfg0.win 12).blk t).view.emb y = ix2 (rowOf t (y 0)) (y 1) := by
  blk_simp
  blk_ext [idx t, rowOf]

set_option maxHeartbeats 2000000 in
/-- The tiles a point stores make up every head's key. -/
theorem key_tiles (hf : Finite m) (c : Dev nD) (t : Fin cfg0.N) (y : S512x4096.Idx) :
    out0_11 (F := Ideal) (iblk m c 0 t) (iblk m c 1 t) (iblk m c 2 t) (iblk m c 3 t) (iblk m c 4 t) (iblk m c 5 t) (iblk m c 6 t) (iblk m c 7 t) (iblk m c 8 t) y
      = keyArr (m ((c : Thread nD τ).loc main_arg0)) (m ((c : Thread nD τ).loc main_arg1)) (m ((c : Thread nD τ).loc main_arg2)) (m ((c : Thread nD τ).loc main_arg3)) (ix2 (rowOf t (y 0)) (y 1)) := by
  have hy : (y 1 : ℕ) < 4096 := (y 1).isLt
  refine Eq.trans (b := if (y 1 : ℕ) % 256 < 128
    then (k0_pay11 (F := Ideal) (k0_pay6 (F := Ideal) (iblk m c 0 t) (iblk m c 1 t) (iblk m c 2 t)) (iblk m c 5 t)
      (ix2 (y 0) (⟨(y 1 : ℕ) / 256 * 128 + (y 1 : ℕ) % 128, by omega⟩ : Fin 2048)) : EReal)
    else (k0_pay7 (F := Ideal) (iblk m c 0 t) (iblk m c 3 t) (iblk m c 7 t) (iblk m c 4 t) (iblk m c 8 t)
      (ix2 (y 0) (⟨(y 1 : ℕ) % 128, by omega⟩ : Fin 128)) : EReal)) ?_ ?_
  · canon_tiles x h
    all_goals ((first | rw [if_pos (by omega)] | rw [if_neg (by omega)]); open_payloads; pointwise; blk_ext)
  · split
    · rename_i hq
      refine (nope_point m c t (y 0) (⟨(y 1 : ℕ) / 256, by omega⟩ : Fin 16) (⟨(y 1 : ℕ) % 128, by omega⟩ : Fin 128)).trans ?_
      exact congrArg (fun j => keyArr (m ((c : Thread nD τ).loc main_arg0)) (m ((c : Thread nD τ).loc main_arg1)) (m ((c : Thread nD τ).loc main_arg2)) (m ((c : Thread nD τ).loc main_arg3)) (ix2 (rowOf t (y 0)) j)) (Fin.ext (by show (y 1 : ℕ) / 256 * 256 + (y 1 : ℕ) % 128 = (y 1 : ℕ); omega))
    · rename_i hq
      refine (rope_point m hf c t (y 0) (⟨(y 1 : ℕ) / 256, by omega⟩ : Fin 16) (⟨(y 1 : ℕ) % 128, by omega⟩ : Fin 128)).trans ?_
      exact congrArg (fun j => keyArr (m ((c : Thread nD τ).loc main_arg0)) (m ((c : Thread nD τ).loc main_arg1)) (m ((c : Thread nD τ).loc main_arg2)) (m ((c : Thread nD τ).loc main_arg3)) (ix2 (rowOf t (y 0)) j)) (Fin.ext (by show (y 1 : ℕ) / 256 * 256 + (128 + (y 1 : ℕ) % 128) = (y 1 : ℕ); omega))

/-- The values a point stores. -/
theorem val_tile (c : Dev nD) (t : Fin cfg0.N) (y : S512x2048.Idx) :
    out0_12 (F := Ideal) (iblk m c 0 t) (iblk m c 1 t) (iblk m c 2 t) (iblk m c 3 t) (iblk m c 4 t) (iblk m c 5 t) (iblk m c 6 t) (iblk m c 7 t) (iblk m c 8 t) y
      = valArr (m ((c : Thread nD τ).loc main_arg0)) (m ((c : Thread nD τ).loc main_arg1)) (m ((c : Thread nD τ).loc main_arg2)) (m ((c : Thread nD τ).loc main_arg3)) (ix2 (rowOf t (y 0)) (y 1)) := by
  refine Eq.trans ?_ (val_point m c t (y 0) (y 1))
  canon_tiles x h
  all_goals (open_payloads; pointwise; blk_ext)

/-- The latents the call leaves. -/
theorem final9 (c : Dev nD) : (dats m 0 c).arrAt 9 (cfgs 0).N = latentArr (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]; frame_out
  exact (congrArg _ (eq_ix2 y)).trans ((latent_point m c t (y 0) (y 1)).trans (congrArg _ (emb_eq9 t y).symm))

/-- The rotated keys the call leaves. -/
theorem final10 (hf : Finite m) (c : Dev nD) : (dats m 0 c).arrAt 10 (cfgs 0).N = ropeArr (m ((c : Thread nD τ).loc main_arg0)) (m ((c : Thread nD τ).loc main_arg1)) := by
  refine (dats m 0 c).arrAt_eq_of_covers 10 _ (by decide +kernel) fun t _ y => ?_
  blk_simp
  rw [after0_10]; frame_out
  exact (congrArg _ (eq_ix2 y)).trans ((pay_rope _ _ _ _ _ (y 0) (y 1)).trans ((turn_point m hf c t (y 0) (y 1)).trans
    ((rope_apply _ _ _ _).symm.trans (congrArg _ (emb_eq10 t y).symm))))

/-- Every head's keys the call leaves. -/
theorem final11 (hf : Finite m) (c : Dev nD) : (dats m 0 c).arrAt 11 (cfgs 0).N = keyArr (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t _ y => ?_
  blk_simp
  rw [after0_11]
  exact (key_tiles m hf c t y).trans (congrArg _ (emb_eq11 t y).symm)

/-- Every head's values the call leaves. -/
theorem final12 (c : Dev nD) : (dats m 0 c).arrAt 12 (cfgs 0).N = valArr (m ((c : Thread nD τ).loc main_arg0)) (m ((c : Thread nD τ).loc main_arg1)) (m ((c : Thread nD τ).loc main_arg2)) (m ((c : Thread nD τ).loc main_arg3)) := by
  refine (dats m 0 c).arrAt_eq_of_covers 12 _ (by decide +kernel) fun t _ y => ?_
  blk_simp
  rw [after0_12]
  exact (val_tile m c t y).trans (congrArg _ (emb_eq12 t y).symm)

/-- THE VALUE CLAIM of the keys and values. -/
theorem algebraic : Cert.algebraic_KvIdeal_KvRefIdeal_pre_finite_rope (hKvIdeal := Cert.KvIdeal.Gen.facts) (hKvRefIdeal := Cert.KvRefIdeal.Gen.facts)
    (hPre_finite_rope := pre_facts) := by
  intro m g m' g' hpre hargs
  have hf : Finite m := fun c => ⟨fun i k => @input_finite pre_facts _ _ _ _ (hpre c) i k, fun k l => @weight_finite pre_facts _ _ _ _ (hpre c) k l⟩
  refine ⟨fun c => latentArr (m ((c : Thread nD τ).loc main_arg0)) (m ((c : Thread nD τ).loc main_arg1)) (m ((c : Thread nD τ).loc main_arg2)), fun c => ropeArr (m ((c : Thread nD τ).loc main_arg0)) (m ((c : Thread nD τ).loc main_arg1)), fun c => keyArr (m ((c : Thread nD τ).loc main_arg0)) (m ((c : Thread nD τ).loc main_arg1)) (m ((c : Thread nD τ).loc main_arg2)) (m ((c : Thread nD τ).loc main_arg3)), fun c => valArr (m ((c : Thread nD τ).loc main_arg0)) (m ((c : Thread nD τ).loc main_arg1)) (m ((c : Thread nD τ).loc main_arg2)) (m ((c : Thread nD τ).loc main_arg3)), ?_, ?_⟩
  · exact (θ_run _ _ _).mono (fun r h c => ⟨(h c).1.trans (final9 m c), (h c).2.1.trans (final10 m hf c), (h c).2.2.1.trans (final11 m hf c),
      (h c).2.2.2.1.trans (final12 m c), (h c).2.2.2.2⟩) (Cert.KvIdeal.Value.run_blocks m g)
  · refine (θ_run _ _ _).mono (fun r h c => ?_) (Cert.KvRefIdeal.Value.run m' g')
    obtain ⟨e0, e1, e2, e3⟩ := hargs c
    refine ⟨(h c).1.trans ?_, (h c).2.1.trans ?_, (h c).2.2.1.trans ?_, (h c).2.2.2.1.trans ?_, (h c).2.2.2.2⟩
    · rw [e0, e1, e2]; rfl
    · show _ = ropeArr (m ((c : Thread nD τ).loc main_arg0)) (m ((c : Thread nD τ).loc main_arg1))
      rw [← e0, ← e1]; rfl
    · show _ = keyArr (m ((c : Thread nD τ).loc main_arg0)) (m ((c : Thread nD τ).loc main_arg1)) (m ((c : Thread nD τ).loc main_arg2)) (m ((c : Thread nD τ).loc main_arg3))
      rw [← e0, ← e1, ← e2, ← e3]; rfl
    · rw [e0, e1, e2, e3]; rfl

end Cert.Proof.Kv

end
-- ==== Proof.QpRef.lean ====
module

public import proofs.«01_k».proof.Defs
public import proofs.«01_k».proof.Proof.KvRef
public import proofs.«01_k».proof.Proof.Gen.QpRefIdeal.Run
public import Idealize.ShloMosaic.Lib.Pipeline.ValueKit
public import Idealize.ShloMosaic.Lib.Pointwise

@[expose] public section

set_option maxRecDepth 16384

noncomputable section

namespace Cert.Proof.Qp

open Cert.QpRefIdeal Cert.QpRefIdeal.Gen
open Cert.Proof.Kv (latentAt projArr projAt proj_apply angArr normArr norm_apply of_bit)
open Idealize.ShloMosaic Idealize.ShloMosaic.TcCoe Idealize.SL.Sem

/-- The latent of the queries, as the reference writes it. -/
def latentArr (h : FVec Ideal S8704x2048 .bf16) (w : FVec Ideal S1x2048x7232 .f32) (g : FVec Ideal S1x512 .f32) : FVec Ideal S8704x512 .f32 :=
  normArr (extractStridedSlice S8704x512 ![0, 2048] (projArr h w) slices_S8704x7232_S8704x512_0_2048) g

/-- The latent of the queries, entry by entry. -/
theorem latent_apply (h : FVec Ideal S8704x2048 .bf16) (w : FVec Ideal S1x2048x7232 .f32) (g : FVec Ideal S1x512 .f32) (i : Fin 8704) (l : Fin 512) :
    latentArr h w g (ix2 i l)
      = latentAt (fun k => projAt h w i (⟨2048 + k.val, by omega⟩ : Fin 7232)) (g (ix2 (0 : Fin 1) l)) l := by
  unfold latentArr
  rw [norm_apply]
  refine congrArg (fun x => latentAt x _ _) (funext fun k => ?_)
  rw [← proj_apply]
  pointwise
  blk_ext

/-- Every head's query before its position, as the reference writes it. -/
def queryArr (h : FVec Ideal S8704x2048 .bf16) (w : FVec Ideal S1x2048x7232 .f32) (g : FVec Ideal S1x512 .f32) (u : FVec Ideal S1x512x16x192 .f32) : FVec Ideal S8704x16x192 .f32 :=
  Host.dotGeneral dot_S8704x512_S512x16x192_S8704x16x192_1_0_0_12_n_n none (latentArr h w g) (shapeCast _ u shapeCasts_S1x512x16x192_S512x16x192)

/-- A channel of a head's query. -/
def queryAt (h : FVec Ideal S8704x2048 .bf16) (w : FVec Ideal S1x2048x7232 .f32) (g : FVec Ideal S1x512 .f32) (u : FVec Ideal S1x512x16x192 .f32) (i : Fin 8704) (n : Fin 16) (d : Fin 192) : EReal :=
  ∑ k : Fin 512, latentArr h w g (ix2 i k) * u (ix4 (0 : Fin 1) k n d)

/-- The queries, entry by entry. -/
theorem query_apply (h : FVec Ideal S8704x2048 .bf16) (w : FVec Ideal S1x2048x7232 .f32) (g : FVec Ideal S1x512 .f32) (u : FVec Ideal S1x512x16x192 .f32) (i : Fin 8704) (n : Fin 16) (d : Fin 192) :
    queryArr h w g u (ix3 i n d) = queryAt h w g u i n d := by
  unfold queryAt
  pointwise [queryArr]

/-- The rotated part of the queries, as the reference writes it. -/
def turnArr (h : FVec Ideal S8704x2048 .bf16) (w : FVec Ideal S1x2048x7232 .f32) (g : FVec Ideal S1x512 .f32) (u : FVec Ideal S1x512x16x192 .f32) : FVec Ideal S8704x16x64 .f32 :=
  concatenate S8704x16x64 2 [⟨S8704x16x32, (subf (mulf (extractStridedSlice S8704x16x32 ![0, 0, 0] (extractStridedSlice S8704x16x64 ![0, 0, 128] (queryArr h w g u) slices_S8704x16x192_S8704x16x64_0_0_128) slices_S8704x16x64_S8704x16x32_0_0_0) (broadcastInDim S8704x16x32 ![0, 1, 2] bcast_S8704x1x32_S8704x16x32_0_1_2 (broadcastInDim S8704x1x32 ![0, 2] bcast_S8704x32_S8704x1x32_0_2 (Host.cos angArr)))) (mulf (extractStridedSlice S8704x16x32 ![0, 0, 32] (extractStridedSlice S8704x16x64 ![0, 0, 128] (queryArr h w g u) slices_S8704x16x192_S8704x16x64_0_0_128) slices_S8704x16x64_S8704x16x32_0_0_32) (broadcastInDim S8704x16x32 ![0, 1, 2] bcast_S8704x1x32_S8704x16x32_0_1_2 (broadcastInDim S8704x1x32 ![0, 2] bcast_S8704x32_S8704x1x32_0_2 (Host.sin angArr)))))⟩, ⟨S8704x16x32, (addf (mulf (extractStridedSlice S8704x16x32 ![0, 0, 32] (extractStridedSlice S8704x16x64 ![0, 0, 128] (queryArr h w g u) slices_S8704x16x192_S8704x16x64_0_0_128) slices_S8704x16x64_S8704x16x32_0_0_32) (broadcastInDim S8704x16x32 ![0, 1, 2] bcast_S8704x1x32_S8704x16x32_0_1_2 (broadcastInDim S8704x1x32 ![0, 2] bcast_S8704x32_S8704x1x32_0_2 (Host.cos angArr)))) (mulf (extractStridedSlice S8704x16x32 ![0, 0, 0] (extractStridedSlice S8704x16x64 ![0, 0, 128] (queryArr h w g u) slices_S8704x16x192_S8704x16x64_0_0_128) slices_S8704x16x64_S8704x16x32_0_0_0) (broadcastInDim S8704x16x32 ![0, 1, 2] bcast_S8704x1x32_S8704x16x32_0_1_2 (broadcastInDim S8704x1x32 ![0, 2] bcast_S8704x32_S8704x1x32_0_2 (Host.sin angArr)))))⟩] concatenates_S8704x16x32_S8704x16x32_S8704x16x64_d2

/-- The rotated part's first half. -/
theorem turn_low (h : FVec Ideal S8704x2048 .bf16) (w : FVec Ideal S1x2048x7232 .f32) (g : FVec Ideal S1x512 .f32) (u : FVec Ideal S1x512x16x192 .f32) (i : Fin 8704) (n : Fin 16) (l : Fin 32) :
    turnArr h w g u (ix3 i n (⟨l.val, by omega⟩ : Fin 64))
      = queryAt h w g u i n (⟨128 + l.val, by omega⟩ : Fin 192) * Ideal.cos (angArr (ix2 i l))
        - queryAt h w g u i n (⟨128 + (32 + l.val), by omega⟩ : Fin 192) * Ideal.sin (angArr (ix2 i l)) := by
  rw [← query_apply, ← query_apply]
  pointwise [turnArr]

/-- The rotated part's second half. -/
theorem turn_high (h : FVec Ideal S8704x2048 .bf16) (w : FVec Ideal S1x2048x7232 .f32) (g : FVec Ideal S1x512 .f32) (u : FVec Ideal S1x512x16x192 .f32) (i : Fin 8704) (n : Fin 16) (l : Fin 32) :
    turnArr h w g u (ix3 i n (⟨32 + l.val, by omega⟩ : Fin 64))
      = queryAt h w g u i n (⟨128 + (32 + l.val), by omega⟩ : Fin 192) * Ideal.cos (angArr (ix2 i l))
        + queryAt h w g u i n (⟨128 + l.val, by omega⟩ : Fin 192) * Ideal.sin (angArr (ix2 i l)) := by
  rw [← query_apply, ← query_apply]
  pointwise [turnArr]

/-- The scale of the scores. -/
def scale : EReal := Ideal.ofBits FTy.f32 0x3D93CD3A#32

/-- Every head's query as it meets the keys, as the reference writes it. -/
def outArr (h : FVec Ideal S8704x2048 .bf16) (w : FVec Ideal S1x2048x7232 .f32) (g : FVec Ideal S1x512 .f32) (u : FVec Ideal S1x512x16x192 .f32) : FVec Ideal S8704x4096 .bf16 :=
  truncf .bf16 (shapeCast _ ((concatenate S8704x16x256 2 [⟨S8704x16x128, ((mulf (extractStridedSlice S8704x16x128 ![0, 0, 0] (queryArr h w g u) slices_S8704x16x192_S8704x16x128_0_0_0) (broadcastInDim S8704x16x128 ![] bcast_S_S8704x16x128 (constant S_ .f32 0x3D93CD3A#32))))⟩, ⟨S8704x16x64, ((mulf (turnArr h w g u) (broadcastInDim S8704x16x64 ![] bcast_S_S8704x16x64 (constant S_ .f32 0x3D93CD3A#32))))⟩, ⟨S8704x16x64, ((broadcastInDim S8704x16x64 ![] bcast_S_S8704x16x64 (constant S_ .f32 0x00000000#32)))⟩] concatenates_S8704x16x128_S8704x16x64_S8704x16x64_S8704x16x256_d2)) shapeCasts_S8704x16x256_S8704x4096) bitsLt_bf16_f32

/-- A head's query without position. -/
theorem out_nope (h : FVec Ideal S8704x2048 .bf16) (w : FVec Ideal S1x2048x7232 .f32) (g : FVec Ideal S1x512 .f32) (u : FVec Ideal S1x512x16x192 .f32)
    (i : Fin 8704) (n : Fin 16) (l : Fin 128) :
    outArr h w g u (ix2 i (⟨n.val * 256 + l.val, by omega⟩ : Fin 4096)) = queryAt h w g u i n (⟨l.val, by omega⟩ : Fin 192) * scale := by
  rw [← query_apply]
  pointwise [outArr]
  rw [dif_pos (by omega)]
  simp only [show (n.val * 256 + l.val) % 256 = l.val from by omega]
  rfl

/-- A head's query with position. -/
theorem out_rope (h : FVec Ideal S8704x2048 .bf16) (w : FVec Ideal S1x2048x7232 .f32) (g : FVec Ideal S1x512 .f32) (u : FVec Ideal S1x512x16x192 .f32)
    (i : Fin 8704) (n : Fin 16) (l : Fin 64) :
    outArr h w g u (ix2 i (⟨n.val * 256 + (128 + l.val), by omega⟩ : Fin 4096)) = turnArr h w g u (ix3 i n l) * scale := by
  pointwise [outArr]
  rw [dif_neg (by omega), dif_pos (by omega)]
  simp only [show (n.val * 256 + (128 + l.val)) % 256 - 128 = l.val from by omega]
  rfl

/-- A head's query is zero past the rotated part. -/
theorem out_pad (h : FVec Ideal S8704x2048 .bf16) (w : FVec Ideal S1x2048x7232 .f32) (g : FVec Ideal S1x512 .f32) (u : FVec Ideal S1x512x16x192 .f32)
    (i : Fin 8704) (n : Fin 16) (l : Fin 64) :
    outArr h w g u (ix2 i (⟨n.val * 256 + (192 + l.val), by omega⟩ : Fin 4096)) = (0 : EReal) := by
  pointwise [outArr]
  rw [dif_neg (by omega), dif_neg (by omega)]

/-- The precondition's side conditions hold. -/
theorem pre_facts : Cert.Pre_finite_queries.Facts where
  bitsLt_bf16_f32 := by decide
  shapeCasts_S1x2048x7232_S2048x7232 := by decide
  slices_S2048x7232_S2048x512_0_2048 := by decide
  transposes_S2048x512_S512x2048_1_0 := by decide
  shapeCasts_S1x512_S1x1x1x512 := by decide
  bcast_S1x1x1x512_S1x1x4x512_0_1_2_3 := by decide
  shapeCasts_S1x1x4x512_S1x2048 := by decide
  shapeCasts_S1x512x16x192_S512x16x192 := by decide
  slices_S512x16x192_S512x16x32_0_0_160 := by decide
  shapeCasts_S512x16x32_S128x2048 := by decide
  concatenates_S8704x2048_S512x2048_S1x2048_S128x2048_S9345x2048_d0 := by decide
  bcast_S_S9345x2048 := by decide

/-- The mean's divisor is 512. -/
theorem width : Ideal.ofBits FTy.f32 0x44000000#32 = ((512 : ℝ) : EReal) := by
  simp [Ideal.ofBits, Ideal.ieee]
  norm_num
  rw [← EReal.coe_mul]
  norm_num

/-- The addend under the root is a positive number. -/
theorem addend : ∃ e : ℝ, 0 < e ∧ Ideal.ofBits FTy.f32 0x358637BD#32 = (e : EReal) := by
  refine ⟨_, ?_, by simp [Ideal.ofBits, Ideal.ieee]; rfl⟩
  norm_num

/-- The scale is a number that is not negative. -/
theorem scale_real : ∃ e : ℝ, 0 ≤ e ∧ scale = (e : EReal) := by
  refine ⟨_, ?_, by simp [scale, Ideal.ofBits, Ideal.ieee]; rfl⟩
  norm_num

/-- A row of numbers, normalised and scaled by a number, is a row of numbers. -/
theorem norm_real (x : Fin 512 → ℝ) (g : EReal) (l : Fin 512) (hg : g ≠ ⊤ ∧ g ≠ ⊥) :
    latentAt (fun k => (x k : EReal)) g l ≠ ⊤ ∧ latentAt (fun k => (x k : EReal)) g l ≠ ⊥ := by
  obtain ⟨s, hs0, hs⟩ : ∃ s : ℝ, 0 ≤ s ∧ (∑ k, (x k : EReal) * (x k : EReal)) = (s : EReal) := by
    refine Finset.sum_induction _ (fun z : EReal => ∃ s : ℝ, 0 ≤ s ∧ z = (s : EReal)) ?_ ⟨0, le_rfl, rfl⟩
      fun k _ => ⟨x k * x k, mul_self_nonneg _, (EReal.coe_mul _ _).symm⟩
    rintro _ _ ⟨a, ha, rfl⟩ ⟨b, hb, rfl⟩
    exact ⟨a + b, add_nonneg ha hb, (EReal.coe_add _ _).symm⟩
  obtain ⟨e, he, hE⟩ := addend
  have hd : Ideal.div ((s : ℝ) : EReal) ((512 : ℝ) : EReal) = ((s * (512 : ℝ)⁻¹ : ℝ) : EReal) := by
    unfold Ideal.div
    rw [if_neg (by exact_mod_cast (by norm_num : (512 : ℝ) ≠ 0)), ← EReal.coe_inv, ← EReal.coe_mul]
  have hp : 0 < s * (512 : ℝ)⁻¹ + e := by positivity
  unfold latentAt
  rw [hs, width, hd, hE, ← EReal.coe_add]
  have hr : Ideal.rsqrt ((s * (512 : ℝ)⁻¹ + e : ℝ) : EReal) = (((Real.sqrt (s * (512 : ℝ)⁻¹ + e))⁻¹ : ℝ) : EReal) := by
    show (if s * (512 : ℝ)⁻¹ + e < 0 then (⊥ : EReal) else if s * (512 : ℝ)⁻¹ + e = 0 then ⊤ else _) = _
    rw [if_neg (not_lt.mpr hp.le), if_neg hp.ne']
  rw [hr, ← EReal.coe_mul, ← EReal.coe_toReal hg.1 hg.2, ← EReal.coe_mul]
  exact ⟨EReal.coe_ne_top _, EReal.coe_ne_bot _⟩

/-- Scaling the two terms one by one scales the difference. -/
theorem scale_sub (a b p q : EReal) : a * (p * scale) + -b * (q * scale) = (a * p - b * q) * scale := by
  obtain ⟨e, he, hE⟩ := scale_real
  rw [hE, sub_eq_add_neg, EReal.right_distrib_of_nonneg_of_ne_top (by exact_mod_cast he) (EReal.coe_ne_top _), neg_mul, neg_mul, mul_assoc, mul_assoc]

/-- Scaling the two terms one by one scales the sum. -/
theorem scale_add (a b p q : EReal) : a * (p * scale) + b * (q * scale) = (a * p + b * q) * scale := by
  obtain ⟨e, he, hE⟩ := scale_real
  rw [hE, EReal.right_distrib_of_nonneg_of_ne_top (by exact_mod_cast he) (EReal.coe_ne_top _), mul_assoc, mul_assoc]

section Finite

variable [Cert.Pre_finite_queries.Facts] (h : FVec Ideal S8704x2048 .bf16) (w : FVec Ideal S1x2048x7232 .f32) (g : FVec Ideal S1x512 .f32) (u : FVec Ideal S1x512x16x192 .f32)
  (hp : Cert.Pre_finite_queries.fn (F := Ideal) h w g u = fun _ => 1#1)

include hp

/-- Under the precondition the input is finite. -/
theorem input_finite (i : Fin 8704) (k : Fin 2048) : h (ix2 i k) ≠ (⊤ : EReal) ∧ h (ix2 i k) ≠ (⊥ : EReal) := by
  have h' := congrFun hp (ix2 (⟨i.val, by omega⟩ : Fin 9345) k)
  unfold Cert.Pre_finite_queries.fn at h'
  revert h'
  pointwise []
  intro h'
  exact Flash.finite_of_abs _ (of_decide_eq_true (of_bit _ h'))

/-- Under the precondition the latent's weights are finite. -/
theorem weight_finite (k : Fin 2048) (l : Fin 512) :
    w (ix3 (0 : Fin 1) k (⟨2048 + l.val, by omega⟩ : Fin 7232)) ≠ (⊤ : EReal) ∧ w (ix3 (0 : Fin 1) k (⟨2048 + l.val, by omega⟩ : Fin 7232)) ≠ (⊥ : EReal) := by
  have h' := congrFun hp (ix2 (⟨8704 + l.val, by omega⟩ : Fin 9345) k)
  unfold Cert.Pre_finite_queries.fn at h'
  revert h'
  pointwise []
  intro h'
  exact Flash.finite_of_abs _ (of_decide_eq_true (of_bit _ h'))

/-- Under the precondition the latent's scale is finite. -/
theorem gain_finite (l : Fin 512) : g (ix2 (0 : Fin 1) l) ≠ (⊤ : EReal) ∧ g (ix2 (0 : Fin 1) l) ≠ (⊥ : EReal) := by
  have h' := congrFun hp (ix2 (⟨9216, by omega⟩ : Fin 9345) (⟨l.val, by omega⟩ : Fin 2048))
  unfold Cert.Pre_finite_queries.fn at h'
  revert h'
  pointwise []
  intro h'
  rw [show (⟨l.val % 512, by omega⟩ : Fin 512) = l from Fin.ext (Nat.mod_eq_of_lt l.isLt)] at h'
  exact Flash.finite_of_abs _ (of_decide_eq_true (of_bit _ h'))

/-- Under the precondition the weights of the rotated part's second half are finite. -/
theorem head_finite (k : Fin 512) (n : Fin 16) (l : Fin 32) :
    u (ix4 (0 : Fin 1) k n (⟨128 + (32 + l.val), by omega⟩ : Fin 192)) ≠ (⊤ : EReal)
      ∧ u (ix4 (0 : Fin 1) k n (⟨128 + (32 + l.val), by omega⟩ : Fin 192)) ≠ (⊥ : EReal) := by
  have h' := congrFun hp (ix2 (⟨9217 + k.val / 4, by omega⟩ : Fin 9345) (⟨k.val % 4 * 512 + (n.val * 32 + l.val), by omega⟩ : Fin 2048))
  unfold Cert.Pre_finite_queries.fn at h'
  revert h'
  pointwise []
  intro h'
  rw [dif_neg (by omega), dif_neg (by omega), dif_neg (by omega)] at h'
  have e : (⟨128 + (32 + l.val), by omega⟩ : Fin 192) = ⟨160 + l.val, by omega⟩ := Fin.ext (by show 128 + (32 + l.val) = 160 + l.val; omega)
  rw [e]
  exact Flash.finite_of_abs _ (of_decide_eq_true (of_bit _ h'))

/-- So an entry of the projections to the latent is a real number. -/
theorem proj_real (i : Fin 8704) (l : Fin 512) : ∃ y : ℝ, projAt h w i (⟨2048 + l.val, by omega⟩ : Fin 7232) = (y : EReal) := by
  have e := Flash.sum_finite (fun k => h (ix2 i k)) (fun k => w (ix3 (0 : Fin 1) k (⟨2048 + l.val, by omega⟩ : Fin 7232)))
    (fun k => input_finite h w g u hp i k) (fun k => weight_finite h w g u hp k l)
  exact ⟨_, (EReal.coe_toReal e.1 e.2).symm⟩

/-- So is an entry of the latent. -/
theorem latent_real (i : Fin 8704) (l : Fin 512) : latentArr h w g (ix2 i l) ≠ (⊤ : EReal) ∧ latentArr h w g (ix2 i l) ≠ (⊥ : EReal) := by
  choose x hx using fun l => proj_real h w g u hp i l
  rw [latent_apply, show (fun k : Fin 512 => projAt h w i (⟨2048 + k.val, by omega⟩ : Fin 7232)) = fun k => ((x k : ℝ) : EReal) from funext hx]
  exact norm_real x _ l (gain_finite h w g u hp l)

end Finite

end Cert.Proof.Qp

end
-- ==== Proof.Qp.lean ====
module

public import proofs.«01_k».proof.Defs
public import proofs.«01_k».proof.Proof.QpRef
public import proofs.«01_k».proof.Proof.RopeTab
public import proofs.«01_k».proof.Proof.Gen.QpIdeal.Value
public import Idealize.ShloMosaic.Lib.Pipeline.ValueKit
public import Idealize.ShloMosaic.Lib.Pointwise

@[expose] public section

set_option maxRecDepth 16384

noncomputable section

namespace Cert.Proof.Qp

open Cert.QpIdeal Cert.QpIdeal.Gen
open Cert.Proof.Kv (latentAt projAt angArr tabArr tab_low tab_high tab_pad sum_mul_neg)
open Idealize.ShloMosaic Idealize.ShloMosaic.TcCoe Idealize.SL.Sem
open Idealize.ShloMosaic.Pipeline (Dat)

section Payloads

/-- The latent the body computes, entry by entry. -/
theorem pay_latent (x0 : Vec Ideal S512x2048 .bf16) (x1 : Vec Ideal S2048x512 .bf16) (x2 : Vec Ideal S1x512 .f32) (r l : Fin 512) :
    k0_pay3 (F := Ideal) x0 x1 x2 (ix2 r l)
      = latentAt (fun j => ∑ k : Fin 2048, x0 (ix2 r k) * x1 (ix2 k j)) (x2 (ix2 (0 : Fin 1) l)) l := by
  pointwise [k0_pay3]
  rfl

/-- The queries without position the body computes, of what its operands are. -/
theorem pay_nope (x0 : Vec Ideal S512x2048 .bf16) (x1 : Vec Ideal S2048x512 .bf16) (x2 : Vec Ideal S1x512 .f32) (x3 : Vec Ideal S512x2048 .bf16)
    (r : Fin 512) (j : Fin 2048) (a b : Fin 512 → EReal) (ha : ∀ k, k0_pay3 (F := Ideal) x0 x1 x2 (ix2 r k) = a k) (hb : ∀ k, x3 (ix2 k j) = b k) :
    k0_pay4 (F := Ideal) x0 x1 x2 x3 (ix2 r j) = (∑ k, a k * b k) * scale := by
  pointwise [k0_pay4]
  simp only [ha, hb]
  rfl

/-- The rotated queries' first product, of what its operands are. -/
theorem pay_rope (x0 : Vec Ideal S512x2048 .bf16) (x1 : Vec Ideal S2048x512 .bf16) (x2 : Vec Ideal S1x512 .f32) (x4 : Vec Ideal S512x2048 .bf16)
    (r : Fin 512) (j : Fin 2048) (a b : Fin 512 → EReal) (ha : ∀ k, k0_pay3 (F := Ideal) x0 x1 x2 (ix2 r k) = a k) (hb : ∀ k, x4 (ix2 k j) = b k) :
    k0_pay5 (F := Ideal) x0 x1 x2 x4 (ix2 r j) = ∑ k, a k * b k := by
  pointwise [k0_pay5]
  simp only [ha, hb]

/-- The rotated queries' second product, of what its operands are. -/
theorem pay_turned (x0 : Vec Ideal S512x2048 .bf16) (x1 : Vec Ideal S2048x512 .bf16) (x2 : Vec Ideal S1x512 .f32) (x5 : Vec Ideal S512x2048 .bf16)
    (r : Fin 512) (j : Fin 2048) (a b : Fin 512 → EReal) (ha : ∀ k, k0_pay3 (F := Ideal) x0 x1 x2 (ix2 r k) = a k) (hb : ∀ k, x5 (ix2 k j) = b k) :
    k0_pay6 (F := Ideal) x0 x1 x2 x5 (ix2 r j) = ∑ k, a k * b k := by
  pointwise [k0_pay6]
  simp only [ha, hb]

end Payloads

section Tiles

variable (x0 : Vec Ideal S512x2048 .bf16) (x1 : Vec Ideal S2048x512 .bf16) (x2 : Vec Ideal S1x512 .f32) (x3 x4 x5 : Vec Ideal S512x2048 .bf16) (x6 x7 : Vec Ideal S512x128 .f32)

/-- The queries without position, read from whole windows. -/
theorem open_nope : k0_pay43 (F := Ideal) x0 x1 x2 x3 x4 x5 x6 x7 = k0_pay4 (F := Ideal) x0 x1 x2 x3 := by
  funext y; open_payloads

/-- The first product, read from whole windows. -/
theorem open_rope : k0_pay44 (F := Ideal) x0 x1 x2 x3 x4 x5 x6 x7 = k0_pay5 (F := Ideal) x0 x1 x2 x4 := by
  funext y; open_payloads

/-- The second product, read from whole windows. -/
theorem open_turned : k0_pay45 (F := Ideal) x0 x1 x2 x3 x4 x5 x6 x7 = k0_pay6 (F := Ideal) x0 x1 x2 x5 := by
  funext y; open_payloads

/-- The cosines, read from a whole window. -/
theorem open_cos (y : S512x128.Idx) : k0_pay46 (F := Ideal) x0 x1 x2 x3 x4 x5 x6 x7 y = x6 y := by
  open_payloads; pointwise

/-- The sines, read from a whole window. -/
theorem open_sin (y : S512x128.Idx) : k0_pay47 (F := Ideal) x0 x1 x2 x3 x4 x5 x6 x7 y = x7 y := by
  open_payloads; pointwise

set_option maxHeartbeats 4000000 in
/-- The tiles a point stores: for each head its lanes without position, then its rotated ones. -/
theorem canon_point (y : S512x4096.Idx) (hy : (y 1 : ℕ) < 4096) :
    out0_8 (F := Ideal) x0 x1 x2 x3 x4 x5 x6 x7 y = if (y 1 : ℕ) % 256 < 128
      then (k0_pay43 (F := Ideal) x0 x1 x2 x3 x4 x5 x6 x7 (ix2 (y 0) (⟨(y 1 : ℕ) / 256 * 128 + (y 1 : ℕ) % 128, by omega⟩ : Fin 2048)) : EReal)
      else (k0_pay44 (F := Ideal) x0 x1 x2 x3 x4 x5 x6 x7 (ix2 (y 0) (⟨(y 1 : ℕ) / 256 * 128 + (y 1 : ℕ) % 128, by omega⟩ : Fin 2048)) : EReal) * (k0_pay46 (F := Ideal) x0 x1 x2 x3 x4 x5 x6 x7 (ix2 (y 0) (⟨(y 1 : ℕ) % 128, by omega⟩ : Fin 128)) : EReal)
        + (k0_pay45 (F := Ideal) x0 x1 x2 x3 x4 x5 x6 x7 (ix2 (y 0) (⟨(y 1 : ℕ) / 256 * 128 + (y 1 : ℕ) % 128, by omega⟩ : Fin 2048)) : EReal) * (k0_pay47 (F := Ideal) x0 x1 x2 x3 x4 x5 x6 x7 (ix2 (y 0) (⟨(y 1 : ℕ) % 128, by omega⟩ : Fin 128)) : EReal) := by
  canon_tiles x h
  case piece31 => rw [if_pos (by omega)]; pointwise [k0_pay10, k0_pay9, k0_pay43]; blk_ext
  all_goals first
    | (rw [if_pos (by omega)]; pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42]; blk_ext)
    | (rw [if_neg (by omega)]; pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42]
       refine congrArg₂ (· + ·) (congrArg₂ (· * ·) ?_ ?_) (congrArg₂ (· * ·) ?_ ?_) <;> blk_ext)

end Tiles

variable (m : (ℓ : Loc nD τ sig) → Buf (Elt Ideal) ℓ)

/-- The blocks of the windows at a point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0]
    ∧ win0_6.index t = ![t.val, 0] ∧ win0_7.index t = ![t.val, 0] ∧ win0_8.index t = ![t.val, 0] :=
  (by decide +kernel : ∀ t : Fin grid0.N, _)

/-- A row of a point's block, as a row of the arrays. -/
def rowOf (t : Fin cfg0.N) (r : Fin 512) : Fin 8704 :=
  ⟨t.val * 512 + r.val, by have := t.isLt; have : t.val < 17 := this; omega⟩

/-- Window 0 stages the rows of the point. -/
theorem blk0 (c : Dev nD) (t : Fin cfg0.N) (r : Fin 512) (k : Fin 2048) :
    iblk m c 0 t (ix2 r k) = (m ((c : Thread nD τ).loc main_arg0)) (ix2 (rowOf t r) k) := by
  blk_simp [iblk]
  entry_read
  blk_ext [idx t, rowOf]

/-- Window 1 stages the latent's columns of the projection. -/
theorem blk1 (c : Dev nD) (t : Fin cfg0.N) (k : Fin 2048) (l : Fin 512) :
    iblk m c 1 t (ix2 k l) = (m ((c : Thread nD τ).loc main_arg1)) (ix3 (0 : Fin 1) k (⟨2048 + l.val, by omega⟩ : Fin 7232)) := by
  blk_simp [iblk]
  entry_read
  pointwise
  blk_ext [idx t]

/-- Window 2 stages the latent's scale. -/
theorem blk2 (c : Dev nD) (t : Fin cfg0.N) (l : Fin 512) :
    iblk m c 2 t (ix2 (0 : Fin 1) l) = (m ((c : Thread nD τ).loc main_arg2)) (ix2 (0 : Fin 1) l) := by
  blk_simp [iblk]
  entry_read
  pointwise
  blk_ext [idx t]

/-- Window 3 stages the heads' matrices without position. -/
theorem blk3 (c : Dev nD) (t : Fin cfg0.N) (k : Fin 512) (j : Fin 2048) : iblk m c 3 t (ix2 k j) = V m c main_v38 (ix2 k j) := by
  blk_simp [iblk]
  blk_ext [idx t]

/-- Window 4 stages the heads' matrices of the rotated part. -/
theorem blk4 (c : Dev nD) (t : Fin cfg0.N) (k : Fin 512) (j : Fin 2048) : iblk m c 4 t (ix2 k j) = V m c main_v42 (ix2 k j) := by
  blk_simp [iblk]
  blk_ext [idx t]

/-- Window 5 stages them the other way round. -/
theorem blk5 (c : Dev nD) (t : Fin cfg0.N) (k : Fin 512) (j : Fin 2048) : iblk m c 5 t (ix2 k j) = V m c main_v50 (ix2 k j) := by
  blk_simp [iblk]
  blk_ext [idx t]

/-- The heads' matrices without position, side by side. -/
theorem nope_apply (c : Dev nD) (k : Fin 512) (n : Fin 16) (l : Fin 128) :
    V m c main_v38 (ix2 k (⟨n.val * 128 + l.val, by omega⟩ : Fin 2048)) = (m ((c : Thread nD τ).loc main_arg3)) (ix4 (0 : Fin 1) k n (⟨l.val, by omega⟩ : Fin 192)) := by
  entry_read
  pointwise
  blk_ext

/-- The heads' matrices of the rotated part, side by side, with zeros between. -/
theorem rope_apply (c : Dev nD) (k : Fin 512) (n : Fin 16) (l : Fin 64) :
    V m c main_v42 (ix2 k (⟨n.val * 128 + l.val, by omega⟩ : Fin 2048)) = (m ((c : Thread nD τ).loc main_arg3)) (ix4 (0 : Fin 1) k n (⟨128 + l.val, by omega⟩ : Fin 192)) := by
  entry_read
  pointwise
  rw [dif_pos (by omega)]
  blk_ext

/-- The matrices the other way round: the second half comes first, negated. -/
theorem turned_low (c : Dev nD) (k : Fin 512) (n : Fin 16) (l : Fin 32) :
    V m c main_v50 (ix2 k (⟨n.val * 128 + l.val, by omega⟩ : Fin 2048)) = -(show EReal from (m ((c : Thread nD τ).loc main_arg3)) (ix4 (0 : Fin 1) k n (⟨128 + (32 + l.val), by omega⟩ : Fin 192))) := by
  entry_read
  pointwise
  rw [dif_pos (by omega), dif_pos (by omega)]
  simp only [show (n.val * 128 + l.val) % 128 = l.val from by omega, show (n.val * 128 + l.val) / 128 = n.val from by omega]

/-- Then comes the first half. -/
theorem turned_high (c : Dev nD) (k : Fin 512) (n : Fin 16) (l : Fin 32) :
    V m c main_v50 (ix2 k (⟨n.val * 128 + (32 + l.val), by omega⟩ : Fin 2048)) = (m ((c : Thread nD τ).loc main_arg3)) (ix4 (0 : Fin 1) k n (⟨128 + l.val, by omega⟩ : Fin 192)) := by
  entry_read
  pointwise
  rw [dif_pos (by omega), dif_neg (by omega)]
  blk_ext

/-- The host's table of cosines, scaled. -/
theorem cos_tab (c : Dev nD) : V m c main_v25 = mulf (tabArr (Host.cos angArr)) (broadcastInDim S8704x128 ![] bcast_S_S8704x128 (constant (F := Ideal) S_ .f32 0x3D93CD3A#32)) := by
  unfold V; after_results; rfl

/-- The host's table of sines, scaled. -/
theorem sin_tab (c : Dev nD) : V m c main_v27 = mulf (tabArr (Host.sin angArr)) (broadcastInDim S8704x128 ![] bcast_S_S8704x128 (constant (F := Ideal) S_ .f32 0x3D93CD3A#32)) := by
  unfold V; after_results; rfl

/-- Window 6 stages the scaled cosines of the point's positions. -/
theorem blk6 (c : Dev nD) (t : Fin cfg0.N) (r : Fin 512) (l : Fin 128) :
    iblk m c 6 t (ix2 r l) = (tabArr (Host.cos angArr) (ix2 (rowOf t r) l) : EReal) * scale := by
  have e : iblk m c 6 t (ix2 r l) = V m c main_v25 (ix2 (rowOf t r) l) := by
    blk_simp [iblk]
    blk_ext [idx t, rowOf]
  rw [e, cos_tab]
  rfl

/-- Window 7 stages the scaled sines of the point's positions. -/
theorem blk7 (c : Dev nD) (t : Fin cfg0.N) (r : Fin 512) (l : Fin 128) :
    iblk m c 7 t (ix2 r l) = (tabArr (Host.sin angArr) (ix2 (rowOf t r) l) : EReal) * scale := by
  have e : iblk m c 7 t (ix2 r l) = V m c main_v27 (ix2 (rowOf t r) l) := by
    blk_simp [iblk]
    blk_ext [idx t, rowOf]
  rw [e, sin_tab]
  rfl

/-- The latent a point computes is the reference's. -/
theorem latent_point (c : Dev nD) (t : Fin cfg0.N) (r l : Fin 512) :
    k0_pay3 (F := Ideal) (iblk m c 0 t) (iblk m c 1 t) (iblk m c 2 t) (ix2 r l) = latentArr (m ((c : Thread nD τ).loc main_arg0)) (m ((c : Thread nD τ).loc main_arg1)) (m ((c : Thread nD τ).loc main_arg2)) (ix2 (rowOf t r) l) := by
  rw [pay_latent, latent_apply]
  simp only [blk0, blk1, blk2]
  rfl

/-- A head's query without position. -/
theorem nope_point (c : Dev nD) (t : Fin cfg0.N) (r : Fin 512) (n : Fin 16) (l : Fin 128) :
    k0_pay4 (F := Ideal) (iblk m c 0 t) (iblk m c 1 t) (iblk m c 2 t) (iblk m c 3 t) (ix2 r (⟨n.val * 128 + l.val, by omega⟩ : Fin 2048))
      = outArr (m ((c : Thread nD τ).loc main_arg0)) (m ((c : Thread nD τ).loc main_arg1)) (m ((c : Thread nD τ).loc main_arg2)) (m ((c : Thread nD τ).loc main_arg3)) (ix2 (rowOf t r) (⟨n.val * 256 + l.val, by omega⟩ : Fin 4096)) := by
  refine (pay_nope _ _ _ _ r _ _ _ (fun k => latent_point m c t r k) (fun k => (blk3 m c t k _).trans (nope_apply m c k n l))).trans ?_
  exact (out_nope _ _ _ _ _ n l).symm

/-- What the precondition says of the arguments in memory. -/
abbrev Finite : Prop := ∀ c : Dev nD, (∀ i k, latentArr (m ((c : Thread nD τ).loc main_arg0)) (m ((c : Thread nD τ).loc main_arg1)) (m ((c : Thread nD τ).loc main_arg2)) (ix2 i k) ≠ (⊤ : EReal) ∧ latentArr (m ((c : Thread nD τ).loc main_arg0)) (m ((c : Thread nD τ).loc main_arg1)) (m ((c : Thread nD τ).loc main_arg2)) (ix2 i k) ≠ (⊥ : EReal))
  ∧ ∀ (k : Fin 512) (n : Fin 16) (l : Fin 32), (m ((c : Thread nD τ).loc main_arg3)) (ix4 (0 : Fin 1) k n (⟨128 + (32 + l.val), by omega⟩ : Fin 192)) ≠ (⊤ : EReal) ∧ (m ((c : Thread nD τ).loc main_arg3)) (ix4 (0 : Fin 1) k n (⟨128 + (32 + l.val), by omega⟩ : Fin 192)) ≠ (⊥ : EReal)

/-- The rotated queries' first product, a lane of a head. -/
theorem rope_dot (c : Dev nD) (t : Fin cfg0.N) (r : Fin 512) (n : Fin 16) (l : Fin 64) :
    k0_pay5 (F := Ideal) (iblk m c 0 t) (iblk m c 1 t) (iblk m c 2 t) (iblk m c 4 t) (ix2 r (⟨n.val * 128 + l.val, by omega⟩ : Fin 2048)) = queryAt (m ((c : Thread nD τ).loc main_arg0)) (m ((c : Thread nD τ).loc main_arg1)) (m ((c : Thread nD τ).loc main_arg2)) (m ((c : Thread nD τ).loc main_arg3)) (rowOf t r) n (⟨128 + l.val, by omega⟩ : Fin 192) :=
  pay_rope _ _ _ _ r _ _ _ (fun k => latent_point m c t r k) (fun k => (blk4 m c t k _).trans (rope_apply m c k n l))

/-- The second product, a lane of a head's first half: the negated columns give the negated product. -/
theorem turned_dot_low (hf : Finite m) (c : Dev nD) (t : Fin cfg0.N) (r : Fin 512) (n : Fin 16) (l : Fin 32) :
    k0_pay6 (F := Ideal) (iblk m c 0 t) (iblk m c 1 t) (iblk m c 2 t) (iblk m c 5 t) (ix2 r (⟨n.val * 128 + l.val, by omega⟩ : Fin 2048)) = -queryAt (m ((c : Thread nD τ).loc main_arg0)) (m ((c : Thread nD τ).loc main_arg1)) (m ((c : Thread nD τ).loc main_arg2)) (m ((c : Thread nD τ).loc main_arg3)) (rowOf t r) n (⟨128 + (32 + l.val), by omega⟩ : Fin 192) :=
  (pay_turned _ _ _ _ r _ _ _ (fun k => latent_point m c t r k) (fun k => (blk5 m c t k _).trans (turned_low m c k n l))).trans
    (sum_mul_neg _ _ (fun k => (hf c).1 (rowOf t r) k) (fun k => (hf c).2 k n l))

/-- The second product, a lane of a head's second half. -/
theorem turned_dot_high (c : Dev nD) (t : Fin cfg0.N) (r : Fin 512) (n : Fin 16) (l : Fin 32) :
    k0_pay6 (F := Ideal) (iblk m c 0 t) (iblk m c 1 t) (iblk m c 2 t) (iblk m c 5 t) (ix2 r (⟨n.val * 128 + (32 + l.val), by omega⟩ : Fin 2048)) = queryAt (m ((c : Thread nD τ).loc main_arg0)) (m ((c : Thread nD τ).loc main_arg1)) (m ((c : Thread nD τ).loc main_arg2)) (m ((c : Thread nD τ).loc main_arg3)) (rowOf t r) n (⟨128 + l.val, by omega⟩ : Fin 192) :=
  pay_turned _ _ _ _ r _ _ _ (fun k => latent_point m c t r k) (fun k => (blk5 m c t k _).trans (turned_high m c k n l))

/-- The rotated query's first half: the negated columns give the negated product, and the scale comes out. -/
theorem rope_low (hf : Finite m) (c : Dev nD) (t : Fin cfg0.N) (r : Fin 512) (n : Fin 16) (l : Fin 32) :
    (k0_pay5 (F := Ideal) (iblk m c 0 t) (iblk m c 1 t) (iblk m c 2 t) (iblk m c 4 t) (ix2 r (⟨n.val * 128 + l.val, by omega⟩ : Fin 2048)) : EReal) * (iblk m c 6 t (ix2 r (⟨l.val, by omega⟩ : Fin 128)) : EReal) + (k0_pay6 (F := Ideal) (iblk m c 0 t) (iblk m c 1 t) (iblk m c 2 t) (iblk m c 5 t) (ix2 r (⟨n.val * 128 + l.val, by omega⟩ : Fin 2048)) : EReal) * (iblk m c 7 t (ix2 r (⟨l.val, by omega⟩ : Fin 128)) : EReal)
      = turnArr (m ((c : Thread nD τ).loc main_arg0)) (m ((c : Thread nD τ).loc main_arg1)) (m ((c : Thread nD τ).loc main_arg2)) (m ((c : Thread nD τ).loc main_arg3)) (ix3 (rowOf t r) n (⟨l.val, by omega⟩ : Fin 64)) * scale := by
  rw [turn_low, ← scale_sub]
  exact congrArg₂ (· + ·)
    (congrArg₂ (· * ·) (rope_dot m c t r n (⟨l.val, by omega⟩ : Fin 64)) ((blk6 m c t r _).trans (congrArg (· * scale) (tab_low _ _ l))))
    (congrArg₂ (· * ·) (turned_dot_low m hf c t r n l) ((blk7 m c t r _).trans (congrArg (· * scale) (tab_low _ _ l))))

/-- The rotated query's second half. -/
theorem rope_high (c : Dev nD) (t : Fin cfg0.N) (r : Fin 512) (n : Fin 16) (l : Fin 32) :
    (k0_pay5 (F := Ideal) (iblk m c 0 t) (iblk m c 1 t) (iblk m c 2 t) (iblk m c 4 t) (ix2 r (⟨n.val * 128 + (32 + l.val), by omega⟩ : Fin 2048)) : EReal) * (iblk m c 6 t (ix2 r (⟨32 + l.val, by omega⟩ : Fin 128)) : EReal) + (k0_pay6 (F := Ideal) (iblk m c 0 t) (iblk m c 1 t) (iblk m c 2 t) (iblk m c 5 t) (ix2 r (⟨n.val * 128 + (32 + l.val), by omega⟩ : Fin 2048)) : EReal) * (iblk m c 7 t (ix2 r (⟨32 + l.val, by omega⟩ : Fin 128)) : EReal)
      = turnArr (m ((c : Thread nD τ).loc main_arg0)) (m ((c : Thread nD τ).loc main_arg1)) (m ((c : Thread nD τ).loc main_arg2)) (m ((c : Thread nD τ).loc main_arg3)) (ix3 (rowOf t r) n (⟨32 + l.val, by omega⟩ : Fin 64)) * scale := by
  rw [turn_high, ← scale_add]
  exact congrArg₂ (· + ·)
    (congrArg₂ (· * ·) (rope_dot m c t r n (⟨32 + l.val, by omega⟩ : Fin 64)) ((blk6 m c t r _).trans (congrArg (· * scale) (tab_high _ _ l))))
    (congrArg₂ (· * ·) (turned_dot_high m c t r n l) ((blk7 m c t r _).trans (congrArg (· * scale) (tab_high _ _ l))))

/-- The lanes past the rotated part are zero. -/
theorem rope_pad (c : Dev nD) (t : Fin cfg0.N) (r : Fin 512) (j : Fin 2048) (l : Fin 64) :
    (k0_pay5 (F := Ideal) (iblk m c 0 t) (iblk m c 1 t) (iblk m c 2 t) (iblk m c 4 t) (ix2 r j) : EReal) * (iblk m c 6 t (ix2 r (⟨64 + l.val, by omega⟩ : Fin 128)) : EReal) + (k0_pay6 (F := Ideal) (iblk m c 0 t) (iblk m c 1 t) (iblk m c 2 t) (iblk m c 5 t) (ix2 r j) : EReal) * (iblk m c 7 t (ix2 r (⟨64 + l.val, by omega⟩ : Fin 128)) : EReal) = 0 := by
  rw [blk6, blk7, tab_pad, tab_pad, zero_mul, mul_zero, mul_zero, add_zero]

/-- The rotated query a point computes is the reference's. -/
theorem rope_head (hf : Finite m) (c : Dev nD) (t : Fin cfg0.N) (r : Fin 512) (n : Fin 16) (l : Fin 64) :
    (k0_pay5 (F := Ideal) (iblk m c 0 t) (iblk m c 1 t) (iblk m c 2 t) (iblk m c 4 t) (ix2 r (⟨n.val * 128 + l.val, by omega⟩ : Fin 2048)) : EReal) * (iblk m c 6 t (ix2 r (⟨l.val, by omega⟩ : Fin 128)) : EReal) + (k0_pay6 (F := Ideal) (iblk m c 0 t) (iblk m c 1 t) (iblk m c 2 t) (iblk m c 5 t) (ix2 r (⟨n.val * 128 + l.val, by omega⟩ : Fin 2048)) : EReal) * (iblk m c 7 t (ix2 r (⟨l.val, by omega⟩ : Fin 128)) : EReal)
      = turnArr (m ((c : Thread nD τ).loc main_arg0)) (m ((c : Thread nD τ).loc main_arg1)) (m ((c : Thread nD τ).loc main_arg2)) (m ((c : Thread nD τ).loc main_arg3)) (ix3 (rowOf t r) n l) * scale := by
  rcases Nat.lt_or_ge l.val 32 with h | h
  · exact rope_low m hf c t r n ⟨l.val, h⟩
  · obtain ⟨k, rfl⟩ : ∃ k : Fin 32, l = ⟨32 + k.val, Nat.add_lt_add_left k.isLt 32⟩ :=
      ⟨⟨l.val - 32, by omega⟩, Fin.ext (by show l.val = 32 + (l.val - 32); omega)⟩
    exact rope_high m c t r n k

/-- A head's query with position, and the zeros after it. -/
theorem rope_point (hf : Finite m) (c : Dev nD) (t : Fin cfg0.N) (r : Fin 512) (n : Fin 16) (l : Fin 128) :
    (k0_pay5 (F := Ideal) (iblk m c 0 t) (iblk m c 1 t) (iblk m c 2 t) (iblk m c 4 t) (ix2 r (⟨n.val * 128 + l.val, by omega⟩ : Fin 2048)) : EReal) * (iblk m c 6 t (ix2 r l) : EReal) + (k0_pay6 (F := Ideal) (iblk m c 0 t) (iblk m c 1 t) (iblk m c 2 t) (iblk m c 5 t) (ix2 r (⟨n.val * 128 + l.val, by omega⟩ : Fin 2048)) : EReal) * (iblk m c 7 t (ix2 r l) : EReal)
      = outArr (m ((c : Thread nD τ).loc main_arg0)) (m ((c : Thread nD τ).loc main_arg1)) (m ((c : Thread nD τ).loc main_arg2)) (m ((c : Thread nD τ).loc main_arg3)) (ix2 (rowOf t r) (⟨n.val * 256 + (128 + l.val), by omega⟩ : Fin 4096)) := by
  rcases Nat.lt_or_ge l.val 64 with h | h
  · exact (rope_head m hf c t r n ⟨l.val, h⟩).trans (out_rope _ _ _ _ _ n ⟨l.val, h⟩).symm
  · obtain ⟨k, rfl⟩ : ∃ k : Fin 64, l = ⟨64 + k.val, Nat.add_lt_add_left k.isLt 64⟩ :=
      ⟨⟨l.val - 64, by omega⟩, Fin.ext (by show l.val = 64 + (l.val - 64); omega)⟩
    refine (rope_pad m c t r _ k).trans ((out_pad (m ((c : Thread nD τ).loc main_arg0)) (m ((c : Thread nD τ).loc main_arg1)) (m ((c : Thread nD τ).loc main_arg2)) (m ((c : Thread nD τ).loc main_arg3)) (rowOf t r) n k).symm.trans ?_)
    exact congrArg (fun j => outArr (m ((c : Thread nD τ).loc main_arg0)) (m ((c : Thread nD τ).loc main_arg1)) (m ((c : Thread nD τ).loc main_arg2)) (m ((c : Thread nD τ).loc main_arg3)) (ix2 (rowOf t r) j)) (Fin.ext (by show n.val * 256 + (192 + k.val) = n.val * 256 + (128 + (64 + k.val)); omega))

/-- An index of a point's block of the output, as an index of the array. -/
theorem emb_eq8 (t : Fin cfg0.N) (y : S512x4096.Idx) : ((cfg0.win 8).blk t).view.emb y = ix2 (rowOf t (y 0)) (y 1) := by
  blk_simp
  blk_ext [idx t, rowOf]

/-- The tiles a point stores make up every head's query. -/
theorem query_tiles (hf : Finite m) (c : Dev nD) (t : Fin cfg0.N) (y : S512x4096.Idx) :
    out0_8 (F := Ideal) (iblk m c 0 t) (iblk m c 1 t) (iblk m c 2 t) (iblk m c 3 t) (iblk m c 4 t) (iblk m c 5 t) (iblk m c 6 t) (iblk m c 7 t) y
      = outArr (m ((c : Thread nD τ).loc main_arg0)) (m ((c : Thread nD τ).loc main_arg1)) (m ((c : Thread nD τ).loc main_arg2)) (m ((c : Thread nD τ).loc main_arg3)) (ix2 (rowOf t (y 0)) (y 1)) := by
  have hy : (y 1 : ℕ) < 4096 := (y 1).isLt
  refine Eq.trans (b := if (y 1 : ℕ) % 256 < 128
    then (k0_pay4 (F := Ideal) (iblk m c 0 t) (iblk m c 1 t) (iblk m c 2 t) (iblk m c 3 t) (ix2 (y 0) (⟨(y 1 : ℕ) / 256 * 128 + (y 1 : ℕ) % 128, by omega⟩ : Fin 2048)) : EReal)
    else (k0_pay5 (F := Ideal) (iblk m c 0 t) (iblk m c 1 t) (iblk m c 2 t) (iblk m c 4 t) (ix2 (y 0) (⟨(y 1 : ℕ) / 256 * 128 + (y 1 : ℕ) % 128, by omega⟩ : Fin 2048)) : EReal) * (iblk m c 6 t (ix2 (y 0) (⟨(y 1 : ℕ) % 128, by omega⟩ : Fin 128)) : EReal) + (k0_pay6 (F := Ideal) (iblk m c 0 t) (iblk m c 1 t) (iblk m c 2 t) (iblk m c 5 t) (ix2 (y 0) (⟨(y 1 : ℕ) / 256 * 128 + (y 1 : ℕ) % 128, by omega⟩ : Fin 2048)) : EReal) * (iblk m c 7 t (ix2 (y 0) (⟨(y 1 : ℕ) % 128, by omega⟩ : Fin 128)) : EReal)) ?_ ?_
  · rw [canon_point (iblk m c 0 t) (iblk m c 1 t) (iblk m c 2 t) (iblk m c 3 t) (iblk m c 4 t) (iblk m c 5 t) (iblk m c 6 t) (iblk m c 7 t) y hy, open_nope, open_rope, open_turned, open_cos, open_sin]
  · split
    · rename_i hq
      refine (nope_point m c t (y 0) (⟨(y 1 : ℕ) / 256, by omega⟩ : Fin 16) (⟨(y 1 : ℕ) % 128, by omega⟩ : Fin 128)).trans ?_
      exact congrArg (fun j => outArr (m ((c : Thread nD τ).loc main_arg0)) (m ((c : Thread nD τ).loc main_arg1)) (m ((c : Thread nD τ).loc main_arg2)) (m ((c : Thread nD τ).loc main_arg3)) (ix2 (rowOf t (y 0)) j)) (Fin.ext (by show (y 1 : ℕ) / 256 * 256 + (y 1 : ℕ) % 128 = (y 1 : ℕ); omega))
    · rename_i hq
      refine (rope_point m hf c t (y 0) (⟨(y 1 : ℕ) / 256, by omega⟩ : Fin 16) (⟨(y 1 : ℕ) % 128, by omega⟩ : Fin 128)).trans ?_
      exact congrArg (fun j => outArr (m ((c : Thread nD τ).loc main_arg0)) (m ((c : Thread nD τ).loc main_arg1)) (m ((c : Thread nD τ).loc main_arg2)) (m ((c : Thread nD τ).loc main_arg3)) (ix2 (rowOf t (y 0)) j)) (Fin.ext (by show (y 1 : ℕ) / 256 * 256 + (128 + (y 1 : ℕ) % 128) = (y 1 : ℕ); omega))

/-- Every head's queries the call leaves. -/
theorem final8 (hf : Finite m) (c : Dev nD) : (dats m 0 c).arrAt 8 (cfgs 0).N = outArr (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]
  exact (query_tiles m hf c t y).trans (congrArg _ (emb_eq8 t y).symm)

/-- THE VALUE CLAIM of the queries. -/
theorem algebraic : Cert.algebraic_QpIdeal_QpRefIdeal_pre_finite_queries (hQpIdeal := Cert.QpIdeal.Gen.facts) (hQpRefIdeal := Cert.QpRefIdeal.Gen.facts)
    (hPre_finite_queries := pre_facts) := by
  intro m g m' g' hpre hargs
  have hf : Finite m := fun c => ⟨fun i k => @latent_real pre_facts _ _ _ _ (hpre c) i k, fun k n l => @head_finite pre_facts _ _ _ _ (hpre c) k n l⟩
  refine ⟨fun c => outArr (m ((c : Thread nD τ).loc main_arg0)) (m ((c : Thread nD τ).loc main_arg1)) (m ((c : Thread nD τ).loc main_arg2)) (m ((c : Thread nD τ).loc main_arg3)), ?_, ?_⟩
  · exact (θ_run _ _ _).mono (fun r h c => ⟨(h c).1.trans (final8 m hf c), (h c).2⟩) (Cert.QpIdeal.Value.run_blocks m g)
  · refine (θ_run _ _ _).mono (fun r h c => ?_) (Cert.QpRefIdeal.Value.run m' g')
    obtain ⟨e0, e1, e2, e3⟩ := hargs c
    refine ⟨(h c).1.trans ?_, (h c).2⟩
    show _ = outArr (m ((c : Thread nD τ).loc main_arg0)) (m ((c : Thread nD τ).loc main_arg1)) (m ((c : Thread nD τ).loc main_arg2)) (m ((c : Thread nD τ).loc main_arg3))
    rw [← e0, ← e1, ← e2, ← e3]; rfl

end Cert.Proof.Qp

end
-- ==== Proof.Absorb.lean ====
module

public import proofs.«01_k».proof.Defs
public import proofs.«01_k».proof.Proof.Gen.AbsorbIdeal.Value
public import proofs.«01_k».proof.Proof.Gen.AbsorbRefIdeal.Run
public import Idealize.ShloMosaic.Lib.Pipeline.ValueKit
public import Idealize.ShloMosaic.Lib.Pointwise

@[expose] public section

set_option maxRecDepth 16384

noncomputable section

namespace Cert.Proof.Absorb

open Idealize.ShloMosaic Idealize.ShloMosaic.TcCoe Idealize.SL.Sem
open Idealize.ShloMosaic.Pipeline (Dat)

section Reference

open Cert.AbsorbRefIdeal Cert.AbsorbRefIdeal.Gen

/-- The queries in the latent's space, as the reference writes them. -/
def absArr (q : FVec Ideal S8704x4096 .bf16) (w : FVec Ideal S1x512x16x256 .f32) : FVec Ideal S512x8192 .bf16 :=
  truncf .bf16 (shapeCast _ (transpose S512x16x512 [2, 0, 1] (Host.dotGeneral dot_S512x16x128_S512x16x128_S16x512x512_2_2_0_0_1_1 none (extractStridedSlice S512x16x128 ![0, 0, 0] (shapeCast _ w shapeCasts_S1x512x16x256_S512x16x256) slices_S512x16x256_S512x16x128_0_0_0) (extractStridedSlice S512x16x128 ![0, 0, 0] (shapeCast _ (extractStridedSlice S512x4096 ![8192, 0] (extf .f32 q bitsLt_bf16_f32) slices_S8704x4096_S512x4096_8192_0) shapeCasts_S512x4096_S512x16x256) slices_S512x16x256_S512x16x128_0_0_0)) transposes_S16x512x512_S512x16x512_2_0_1) shapeCasts_S512x16x512_S512x8192) bitsLt_bf16_f32

/-- An entry of them: the row's 128 unrotated channels of the head against the head's key matrix. -/
theorem abs_apply (q : FVec Ideal S8704x4096 .bf16) (w : FVec Ideal S1x512x16x256 .f32) (i : Fin 512) (h : Fin 16) (l : Fin 512) :
    absArr q w (ix2 i (⟨h.val * 512 + l.val, by omega⟩ : Fin 8192))
      = ∑ k : Fin 128, (q (ix2 (⟨8192 + i.val, by omega⟩ : Fin 8704) (⟨h.val * 256 + k.val, by omega⟩ : Fin 4096)) : EReal)
          * w (ix4 (0 : Fin 1) l h (⟨k.val, by omega⟩ : Fin 256)) := by
  pointwise [absArr]
  refine Fin.sum_fin_congr fun k => ?_
  rw [mul_comm]
  blk_ext []

end Reference

section Kernel

open Cert.AbsorbIdeal Cert.AbsorbIdeal.Gen

variable (m : (ℓ : Loc nD τ sig) → Buf (Elt Ideal) ℓ)

/-- The blocks of the windows at a point. -/
theorem idx : ∀ t : Fin cfg0.N, win0_0.index t = ![16, 2 * t.val] ∧ win0_1.index t = ![t.val, 0, 0] ∧ win0_2.index t = ![0, t.val] :=
  (by decide +kernel : ∀ t : Fin grid0.N, _)

/-- The result the call is to leave, of the arguments in memory. -/
def goal (c : Dev nD) : FVec Ideal S512x8192 .bf16 :=
  absArr (m ((c : Thread nD τ).loc main_arg0)) (m ((c : Thread nD τ).loc main_arg1))

/-- The head of a point. -/
def headOf (t : Fin cfg0.N) : Fin 16 := ⟨t.val, t.isLt⟩

/-- Window 0 stages the head's unrotated channels of the sample's rows. -/
theorem blk0 (c : Dev nD) (t : Fin cfg0.N) (r : Fin 512) (k : Fin 128) :
    iblk m c 0 t (ix2 r k) = m ((c : Thread nD τ).loc main_arg0)
      (ix2 (⟨8192 + r.val, by omega⟩ : Fin 8704) (⟨(headOf t).val * 256 + k.val, by have := (headOf t).isLt; omega⟩ : Fin 4096)) := by
  blk_simp [iblk]
  entry_read
  blk_ext [idx t, headOf]

/-- Window 1 stages the head's key matrix. -/
theorem blk1 (c : Dev nD) (t : Fin cfg0.N) (k : Fin 128) (l : Fin 512) :
    iblk m c 1 t (ix3 (0 : Fin 1) k l) = m ((c : Thread nD τ).loc main_arg1) (ix4 (0 : Fin 1) l (headOf t) (⟨k.val, by omega⟩ : Fin 256)) := by
  blk_simp [iblk]
  entry_read
  pointwise
  blk_ext [idx t, headOf]

/-- What the body stores at a point is the array under the point's block. -/
theorem point (c : Dev nD) (t : Fin cfg0.N) (r : Fin 512) (l : Fin 512) :
    k0_pay1 (F := Ideal) (iblk m c 0 t) (iblk m c 1 t) (ix2 r l)
      = goal m c (ix2 r (⟨(headOf t).val * 512 + l.val, by have := (headOf t).isLt; omega⟩ : Fin 8192)) := by
  refine Eq.trans ?_ (abs_apply _ _ _ _ _).symm
  pointwise [k0_pay1]
  simp only [blk0, blk1]

/-- An index of a point's block, as an index of the array. -/
theorem emb_eq (t : Fin cfg0.N) (y : S512x512.Idx) : ((cfg0.win 2).blk t).view.emb y
    = ix2 (y 0) (⟨(headOf t).val * 512 + (y 1).val, by have := (headOf t).isLt; have : (y 1).val < 512 := (y 1).isLt; omega⟩ : Fin 8192) := by
  blk_simp
  blk_ext [idx t, headOf]

/-- The call's result. -/
theorem final (c : Dev nD) : (dats m 0 c).arrAt 2 (cfgs 0).N = goal m c := by
  refine (dats m 0 c).arrAt_eq_of_covers 2 _ (by decide +kernel) fun t _ y => ?_
  blk_simp
  rw [after0_2]; frame_out
  exact (congrArg _ (eq_ix2 y)).trans ((point m c t (y 0) (y 1)).trans (congrArg _ (emb_eq t y).symm))

/-- THE VALUE CLAIM of the sample's queries. -/
theorem algebraic : Cert.algebraic_AbsorbIdeal_AbsorbRefIdeal (hAbsorbIdeal := Cert.AbsorbIdeal.Gen.facts)
    (hAbsorbRefIdeal := Cert.AbsorbRefIdeal.Gen.facts) := by
  intro m g m' g' _ hargs
  refine ⟨fun c => goal m c, ?_, ?_⟩
  · exact (θ_run _ _ _).mono (fun r h c => ⟨(h c).1.trans (final m c), (h c).2⟩) (Cert.AbsorbIdeal.Value.run_blocks m g)
  · refine (θ_run _ _ _).mono (fun r h c => ⟨(h c).1.trans ?_, (h c).2⟩) (Cert.AbsorbRefIdeal.Value.run m' g')
    obtain ⟨e0, e1⟩ := hargs c
    rw [e0, e1]
    rfl

end Kernel

end Cert.Proof.Absorb

end
-- ==== Proof.Uv.lean ====
module

public import proofs.«01_k».proof.Defs
public import proofs.«01_k».proof.Proof.Gen.UvIdeal.Value
public import proofs.«01_k».proof.Proof.Gen.UvRefIdeal.Run
public import Idealize.ShloMosaic.Lib.Pipeline.ValueKit
public import Idealize.ShloMosaic.Lib.Claim
public import Idealize.ShloMosaic.Lib.Pointwise

@[expose] public section

set_option maxRecDepth 16384

noncomputable section

namespace Cert.Proof.Uv

open Idealize.ShloMosaic Idealize.ShloMosaic.TcCoe Idealize.SL.Sem
open Idealize.ShloMosaic.Pipeline (Dat)

section Reference

open Cert.UvRefIdeal Cert.UvRefIdeal.Gen

/-- The attention's output with the sample's rows filled, as the reference writes it. -/
def uvArr (y : FVec Ideal S8704x2048 .bf16) (o : FVec Ideal S512x8192 .bf16) (w : FVec Ideal S1x512x16x256 .f32) : FVec Ideal S8704x2048 .bf16 :=
  truncf .bf16 (concatenate S8704x2048 0 [⟨S8192x2048, (extractStridedSlice S8192x2048 ![0, 0] (extf .f32 y bitsLt_bf16_f32) slices_S8704x2048_S8192x2048_0_0)⟩, ⟨S512x2048, (shapeCast _ (transpose S512x16x128 [2, 0, 1] (Host.dotGeneral dot_S512x16x128_S512x16x512_S16x128x512_0_2_2_0_1_1 none (extractStridedSlice S512x16x128 ![0, 0, 128] (shapeCast _ w shapeCasts_S1x512x16x256_S512x16x256) slices_S512x16x256_S512x16x128_0_0_128) (shapeCast _ (extf .f32 o bitsLt_bf16_f32) shapeCasts_S512x8192_S512x16x512)) transposes_S16x128x512_S512x16x128_2_0_1) shapeCasts_S512x16x128_S512x2048)⟩] concatenates_S8192x2048_S512x2048_S8704x2048_d0) bitsLt_bf16_f32

/-- A row of the prompt stays. -/
theorem uv_low (y : FVec Ideal S8704x2048 .bf16) (o : FVec Ideal S512x8192 .bf16) (w : FVec Ideal S1x512x16x256 .f32) (i : Fin 8704) (l : Fin 2048)
    (hi : i.val < 8192) : uvArr y o w (ix2 i l) = y (ix2 i l) := by
  pointwise [uvArr]
  rw [dif_pos hi]
  blk_ext []

/-- An entry of the sample's rows: the latent's 512 channels of the head against the head's value matrix. -/
theorem uv_high (y : FVec Ideal S8704x2048 .bf16) (o : FVec Ideal S512x8192 .bf16) (w : FVec Ideal S1x512x16x256 .f32) (i : Fin 512) (h : Fin 16)
    (l : Fin 128) : uvArr y o w (ix2 (⟨8192 + i.val, by omega⟩ : Fin 8704) (⟨h.val * 128 + l.val, by omega⟩ : Fin 2048))
      = ∑ k : Fin 512, (o (ix2 i (⟨h.val * 512 + k.val, by omega⟩ : Fin 8192)) : EReal)
          * w (ix4 (0 : Fin 1) k h (⟨128 + l.val, by omega⟩ : Fin 256)) := by
  pointwise [uvArr]
  refine Fin.sum_fin_congr fun k => ?_
  rw [mul_comm]
  blk_ext []

end Reference

section Kernel

open Cert.UvIdeal Cert.UvIdeal.Gen

variable (m : (ℓ : Loc nD τ sig) → Buf (Elt Ideal) ℓ)

/-- The blocks of the windows at a point. -/
theorem idx : ∀ t : Fin cfg0.N, win0_0.index t = ![0, t.val] ∧ win0_1.index t = ![t.val, 0, 0] ∧ win0_2.index t = ![16, t.val] :=
  (by decide +kernel : ∀ t : Fin grid0.N, _)

/-- The result the call is to leave, of the arguments in memory. -/
def goal (c : Dev nD) : FVec Ideal S8704x2048 .bf16 :=
  uvArr (m ((c : Thread nD τ).loc main_arg0)) (m ((c : Thread nD τ).loc main_arg1)) (m ((c : Thread nD τ).loc main_arg2))

/-- The head of a point. -/
def headOf (t : Fin cfg0.N) : Fin 16 := ⟨t.val, t.isLt⟩

/-- Window 0 stages the head's channels of the sample's rows. -/
theorem blk0 (c : Dev nD) (t : Fin cfg0.N) (r : Fin 512) (k : Fin 512) :
    iblk m c 0 t (ix2 r k) = m ((c : Thread nD τ).loc main_arg1)
      (ix2 r (⟨(headOf t).val * 512 + k.val, by have := (headOf t).isLt; omega⟩ : Fin 8192)) := by
  blk_simp [iblk]
  entry_read
  blk_ext [idx t, headOf]

/-- Window 1 stages the head's value matrix. -/
theorem blk1 (c : Dev nD) (t : Fin cfg0.N) (k : Fin 512) (l : Fin 128) :
    iblk m c 1 t (ix3 (0 : Fin 1) k l)
      = m ((c : Thread nD τ).loc main_arg2) (ix4 (0 : Fin 1) k (headOf t) (⟨128 + l.val, by omega⟩ : Fin 256)) := by
  blk_simp [iblk]
  entry_read
  pointwise
  blk_ext [idx t, headOf]

/-- What the body stores at a point is the array under the point's block. -/
theorem point (c : Dev nD) (t : Fin cfg0.N) (r : Fin 512) (l : Fin 128) :
    k0_pay1 (F := Ideal) (iblk m c 0 t) (iblk m c 1 t) (ix2 r l)
      = goal m c (ix2 (⟨8192 + r.val, by omega⟩ : Fin 8704) (⟨(headOf t).val * 128 + l.val, by have := (headOf t).isLt; omega⟩ : Fin 2048)) := by
  refine Eq.trans ?_ (uv_high _ _ _ _ _ _).symm
  pointwise [k0_pay1]
  simp only [blk0, blk1]

/-- An index of a point's block, as an index of the array. -/
theorem emb_eq (t : Fin cfg0.N) (y : S512x128.Idx) : ((cfg0.win 2).blk t).view.emb y
    = ix2 (⟨8192 + (y 0).val, by have : (y 0).val < 512 := (y 0).isLt; omega⟩ : Fin 8704)
        (⟨(headOf t).val * 128 + (y 1).val, by have := (headOf t).isLt; have : (y 1).val < 128 := (y 1).isLt; omega⟩ : Fin 2048) := by
  blk_simp
  blk_ext [idx t, headOf]

/-- The call starts from the attention's output of the prompt. -/
theorem entry (c : Dev nD) : V m c main_v4 = m ((c : Thread nD τ).loc main_arg0) := by
  unfold V; after_results; try rfl

/-- The call's result: the sample's rows as computed, the prompt's as they were. -/
theorem final (c : Dev nD) : (dats m 0 c).arrAt 2 (cfgs 0).N
    = fun i => if 16 * 512 ≤ (i 0 : ℕ) then goal m c i else V m c main_v4 i := by
  refine (dats m 0 c).arrAt_eq_of_coversWhere 2 _ (fun β => 16 ≤ β 0) (by decide +kernel) (fun t _ y => ?_)
    (fun j => by blk_simp [Pipeline.Window.cell_apply]; omega)
  blk_simp
  rw [after0_2]; unfold Gen.outsAt0; frame_out
  exact (congrArg _ (eq_ix2 y)).trans ((point m c t (y 0) (y 1)).trans (congrArg _ (emb_eq t y).symm))

/-- Both kinds of rows are the reference's. -/
theorem final_eq (c : Dev nD) : (dats m 0 c).arrAt 2 (cfgs 0).N = goal m c := by
  rw [final]
  funext i
  split
  · rfl
  · rename_i h
    rw [entry, eq_ix2 i]
    exact (uv_low _ _ _ _ _ (Nat.lt_of_not_le h)).symm

/-- THE VALUE CLAIM of the sample's attention back in the value's space. -/
theorem algebraic : Cert.algebraic_UvIdeal_UvRefIdeal (hUvIdeal := Cert.UvIdeal.Gen.facts) (hUvRefIdeal := Cert.UvRefIdeal.Gen.facts) := by
  intro m g m' g' _ hargs
  refine ⟨fun c => goal m c, ?_, ?_⟩
  · exact (θ_run _ _ _).mono (fun r h c => ⟨(h c).1.trans (final_eq m c), (h c).2⟩) (Cert.UvIdeal.Value.run_blocks m g)
  · refine (θ_run _ _ _).mono (fun r h c => ⟨(h c).1.trans ?_, (h c).2⟩) (Cert.UvRefIdeal.Value.run m' g')
    obtain ⟨e0, e1, e2⟩ := hargs c
    rw [e0, e1, e2]
    rfl

end Kernel

end Cert.Proof.Uv

end
-- ==== Proof.ConvSRef.lean ====
module

public import proofs.«01_k».proof.Defs
public import proofs.«01_k».proof.Proof.Gen.ConvSRefIdeal.Run
public import Idealize.ShloMosaic.Lib.Pipeline.ValueKit
public import Idealize.ShloMosaic.Lib.Claim
public import Idealize.ShloMosaic.Lib.Pointwise

@[expose] public section

set_option maxRecDepth 16384

noncomputable section

namespace Cert.Proof.ConvS

open Idealize.ShloMosaic Idealize.ShloMosaic.TcCoe Idealize.SL.Sem

open Cert.ConvSRefIdeal Cert.ConvSRefIdeal.Gen

/-- A row's layer norm, at one channel. -/
def normAt (y g o : Fin 1024 → EReal) (l : Fin 1024) : EReal :=
  (y l - Ideal.div (∑ k, y k) (Ideal.ofBits FTy.f32 0x44800000#32))
      * Ideal.rsqrt (Ideal.div (∑ k, (y k - Ideal.div (∑ j, y j) (Ideal.ofBits FTy.f32 0x44800000#32)) * (y k - Ideal.div (∑ j, y j) (Ideal.ofBits FTy.f32 0x44800000#32)))
          (Ideal.ofBits FTy.f32 0x44800000#32) + Ideal.ofBits FTy.f32 0x358637BD#32) * g l + o l

/-- The same, times its logistic. -/
def swishAt (y g o : Fin 1024 → EReal) (l : Fin 1024) : EReal := normAt y g o l * Ideal.logistic (normAt y g o l)

/-- A sequence's state and its new rows. -/
def extArr (u : FVec Ideal S8704x1024 .f32) (st : FVec Ideal S1x128x30x1024 .f32) : FVec Ideal S128x34x1024 .f32 :=
  concatenate S128x34x1024 1 [⟨S128x30x1024, (shapeCast _ st shapeCasts_S1x128x30x1024_S128x30x1024)⟩, ⟨S128x4x1024, (shapeCast _ (extractStridedSlice S512x1024 ![8192, 0] u slices_S8704x1024_S512x1024_8192_0) shapeCasts_S512x1024_S128x4x1024)⟩] concatenates_S128x30x1024_S128x4x1024_S128x34x1024_d1

/-- The first ten taps. -/
def sum0 (e : FVec Ideal S128x34x1024 .f32) (w : FVec Ideal S1x31x1024 .f32) : FVec Ideal S128x4x1024 .f32 :=
  addf (addf (addf (addf (addf (addf (addf (addf (addf (addf (broadcastInDim S128x4x1024 ![] bcast_S_S128x4x1024 (constant S_ .f32 0x00000000#32)) (mulf (extractStridedSlice S128x4x1024 ![0, 0, 0] e slices_S128x34x1024_S128x4x1024_0_0_0) (broadcastInDim S128x4x1024 ![0, 1, 2] bcast_S1x1x1024_S128x4x1024_0_1_2 (broadcastInDim S1x1x1024 ![2] bcast_S1024_S1x1x1024_2 (shapeCast _ (extractStridedSlice S1x1024 ![0, 0] (shapeCast _ w shapeCasts_S1x31x1024_S31x1024) slices_S31x1024_S1x1024_0_0) shapeCasts_S1x1024_S1024))))) (mulf (extractStridedSlice S128x4x1024 ![0, 1, 0] e slices_S128x34x1024_S128x4x1024_0_1_0) (broadcastInDim S128x4x1024 ![0, 1, 2] bcast_S1x1x1024_S128x4x1024_0_1_2 (broadcastInDim S1x1x1024 ![2] bcast_S1024_S1x1x1024_2 (shapeCast _ (extractStridedSlice S1x1024 ![1, 0] (shapeCast _ w shapeCasts_S1x31x1024_S31x1024) slices_S31x1024_S1x1024_1_0) shapeCasts_S1x1024_S1024))))) (mulf (extractStridedSlice S128x4x1024 ![0, 2, 0] e slices_S128x34x1024_S128x4x1024_0_2_0) (broadcastInDim S128x4x1024 ![0, 1, 2] bcast_S1x1x1024_S128x4x1024_0_1_2 (broadcastInDim S1x1x1024 ![2] bcast_S1024_S1x1x1024_2 (shapeCast _ (extractStridedSlice S1x1024 ![2, 0] (shapeCast _ w shapeCasts_S1x31x1024_S31x1024) slices_S31x1024_S1x1024_2_0) shapeCasts_S1x1024_S1024))))) (mulf (extractStridedSlice S128x4x1024 ![0, 3, 0] e slices_S128x34x1024_S128x4x1024_0_3_0) (broadcastInDim S128x4x1024 ![0, 1, 2] bcast_S1x1x1024_S128x4x1024_0_1_2 (broadcastInDim S1x1x1024 ![2] bcast_S1024_S1x1x1024_2 (shapeCast _ (extractStridedSlice S1x1024 ![3, 0] (shapeCast _ w shapeCasts_S1x31x1024_S31x1024) slices_S31x1024_S1x1024_3_0) shapeCasts_S1x1024_S1024))))) (mulf (extractStridedSlice S128x4x1024 ![0, 4, 0] e slices_S128x34x1024_S128x4x1024_0_4_0) (broadcastInDim S128x4x1024 ![0, 1, 2] bcast_S1x1x1024_S128x4x1024_0_1_2 (broadcastInDim S1x1x1024 ![2] bcast_S1024_S1x1x1024_2 (shapeCast _ (extractStridedSlice S1x1024 ![4, 0] (shapeCast _ w shapeCasts_S1x31x1024_S31x1024) slices_S31x1024_S1x1024_4_0) shapeCasts_S1x1024_S1024))))) (mulf (extractStridedSlice S128x4x1024 ![0, 5, 0] e slices_S128x34x1024_S128x4x1024_0_5_0) (broadcastInDim S128x4x1024 ![0, 1, 2] bcast_S1x1x1024_S128x4x1024_0_1_2 (broadcastInDim S1x1x1024 ![2] bcast_S1024_S1x1x1024_2 (shapeCast _ (extractStridedSlice S1x1024 ![5, 0] (shapeCast _ w shapeCasts_S1x31x1024_S31x1024) slices_S31x1024_S1x1024_5_0) shapeCasts_S1x1024_S1024))))) (mulf (extractStridedSlice S128x4x1024 ![0, 6, 0] e slices_S128x34x1024_S128x4x1024_0_6_0) (broadcastInDim S128x4x1024 ![0, 1, 2] bcast_S1x1x1024_S128x4x1024_0_1_2 (broadcastInDim S1x1x1024 ![2] bcast_S1024_S1x1x1024_2 (shapeCast _ (extractStridedSlice S1x1024 ![6, 0] (shapeCast _ w shapeCasts_S1x31x1024_S31x1024) slices_S31x1024_S1x1024_6_0) shapeCasts_S1x1024_S1024))))) (mulf (extractStridedSlice S128x4x1024 ![0, 7, 0] e slices_S128x34x1024_S128x4x1024_0_7_0) (broadcastInDim S128x4x1024 ![0, 1, 2] bcast_S1x1x1024_S128x4x1024_0_1_2 (broadcastInDim S1x1x1024 ![2] bcast_S1024_S1x1x1024_2 (shapeCast _ (extractStridedSlice S1x1024 ![7, 0] (shapeCast _ w shapeCasts_S1x31x1024_S31x1024) slices_S31x1024_S1x1024_7_0) shapeCasts_S1x1024_S1024))))) (mulf (extractStridedSlice S128x4x1024 ![0, 8, 0] e slices_S128x34x1024_S128x4x1024_0_8_0) (broadcastInDim S128x4x1024 ![0, 1, 2] bcast_S1x1x1024_S128x4x1024_0_1_2 (broadcastInDim S1x1x1024 ![2] bcast_S1024_S1x1x1024_2 (shapeCast _ (extractStridedSlice S1x1024 ![8, 0] (shapeCast _ w shapeCasts_S1x31x1024_S31x1024) slices_S31x1024_S1x1024_8_0) shapeCasts_S1x1024_S1024))))) (mulf (extractStridedSlice S128x4x1024 ![0, 9, 0] e slices_S128x34x1024_S128x4x1024_0_9_0) (broadcastInDim S128x4x1024 ![0, 1, 2] bcast_S1x1x1024_S128x4x1024_0_1_2 (broadcastInDim S1x1x1024 ![2] bcast_S1024_S1x1x1024_2 (shapeCast _ (extractStridedSlice S1x1024 ![9, 0] (shapeCast _ w shapeCasts_S1x31x1024_S31x1024) slices_S31x1024_S1x1024_9_0) shapeCasts_S1x1024_S1024))))

/-- The first twenty taps. -/
def sum1 (e : FVec Ideal S128x34x1024 .f32) (w : FVec Ideal S1x31x1024 .f32) : FVec Ideal S128x4x1024 .f32 :=
  addf (addf (addf (addf (addf (addf (addf (addf (addf (addf (sum0 e w) (mulf (extractStridedSlice S128x4x1024 ![0, 10, 0] e slices_S128x34x1024_S128x4x1024_0_10_0) (broadcastInDim S128x4x1024 ![0, 1, 2] bcast_S1x1x1024_S128x4x1024_0_1_2 (broadcastInDim S1x1x1024 ![2] bcast_S1024_S1x1x1024_2 (shapeCast _ (extractStridedSlice S1x1024 ![10, 0] (shapeCast _ w shapeCasts_S1x31x1024_S31x1024) slices_S31x1024_S1x1024_10_0) shapeCasts_S1x1024_S1024))))) (mulf (extractStridedSlice S128x4x1024 ![0, 11, 0] e slices_S128x34x1024_S128x4x1024_0_11_0) (broadcastInDim S128x4x1024 ![0, 1, 2] bcast_S1x1x1024_S128x4x1024_0_1_2 (broadcastInDim S1x1x1024 ![2] bcast_S1024_S1x1x1024_2 (shapeCast _ (extractStridedSlice S1x1024 ![11, 0] (shapeCast _ w shapeCasts_S1x31x1024_S31x1024) slices_S31x1024_S1x1024_11_0) shapeCasts_S1x1024_S1024))))) (mulf (extractStridedSlice S128x4x1024 ![0, 12, 0] e slices_S128x34x1024_S128x4x1024_0_12_0) (broadcastInDim S128x4x1024 ![0, 1, 2] bcast_S1x1x1024_S128x4x1024_0_1_2 (broadcastInDim S1x1x1024 ![2] bcast_S1024_S1x1x1024_2 (shapeCast _ (extractStridedSlice S1x1024 ![12, 0] (shapeCast _ w shapeCasts_S1x31x1024_S31x1024) slices_S31x1024_S1x1024_12_0) shapeCasts_S1x1024_S1024))))) (mulf (extractStridedSlice S128x4x1024 ![0, 13, 0] e slices_S128x34x1024_S128x4x1024_0_13_0) (broadcastInDim S128x4x1024 ![0, 1, 2] bcast_S1x1x1024_S128x4x1024_0_1_2 (broadcastInDim S1x1x1024 ![2] bcast_S1024_S1x1x1024_2 (shapeCast _ (extractStridedSlice S1x1024 ![13, 0] (shapeCast _ w shapeCasts_S1x31x1024_S31x1024) slices_S31x1024_S1x1024_13_0) shapeCasts_S1x1024_S1024))))) (mulf (extractStridedSlice S128x4x1024 ![0, 14, 0] e slices_S128x34x1024_S128x4x1024_0_14_0) (broadcastInDim S128x4x1024 ![0, 1, 2] bcast_S1x1x1024_S128x4x1024_0_1_2 (broadcastInDim S1x1x1024 ![2] bcast_S1024_S1x1x1024_2 (shapeCast _ (extractStridedSlice S1x1024 ![14, 0] (shapeCast _ w shapeCasts_S1x31x1024_S31x1024) slices_S31x1024_S1x1024_14_0) shapeCasts_S1x1024_S1024))))) (mulf (extractStridedSlice S128x4x1024 ![0, 15, 0] e slices_S128x34x1024_S128x4x1024_0_15_0) (broadcastInDim S128x4x1024 ![0, 1, 2] bcast_S1x1x1024_S128x4x1024_0_1_2 (broadcastInDim S1x1x1024 ![2] bcast_S1024_S1x1x1024_2 (shapeCast _ (extractStridedSlice S1x1024 ![15, 0] (shapeCast _ w shapeCasts_S1x31x1024_S31x1024) slices_S31x1024_S1x1024_15_0) shapeCasts_S1x1024_S1024))))) (mulf (extractStridedSlice S128x4x1024 ![0, 16, 0] e slices_S128x34x1024_S128x4x1024_0_16_0) (broadcastInDim S128x4x1024 ![0, 1, 2] bcast_S1x1x1024_S128x4x1024_0_1_2 (broadcastInDim S1x1x1024 ![2] bcast_S1024_S1x1x1024_2 (shapeCast _ (extractStridedSlice S1x1024 ![16, 0] (shapeCast _ w shapeCasts_S1x31x1024_S31x1024) slices_S31x1024_S1x1024_16_0) shapeCasts_S1x1024_S1024))))) (mulf (extractStridedSlice S128x4x1024 ![0, 17, 0] e slices_S128x34x1024_S128x4x1024_0_17_0) (broadcastInDim S128x4x1024 ![0, 1, 2] bcast_S1x1x1024_S128x4x1024_0_1_2 (broadcastInDim S1x1x1024 ![2] bcast_S1024_S1x1x1024_2 (shapeCast _ (extractStridedSlice S1x1024 ![17, 0] (shapeCast _ w shapeCasts_S1x31x1024_S31x1024) slices_S31x1024_S1x1024_17_0) shapeCasts_S1x1024_S1024))))) (mulf (extractStridedSlice S128x4x1024 ![0, 18, 0] e slices_S128x34x1024_S128x4x1024_0_18_0) (broadcastInDim S128x4x1024 ![0, 1, 2] bcast_S1x1x1024_S128x4x1024_0_1_2 (broadcastInDim S1x1x1024 ![2] bcast_S1024_S1x1x1024_2 (shapeCast _ (extractStridedSlice S1x1024 ![18, 0] (shapeCast _ w shapeCasts_S1x31x1024_S31x1024) slices_S31x1024_S1x1024_18_0) shapeCasts_S1x1024_S1024))))) (mulf (extractStridedSlice S128x4x1024 ![0, 19, 0] e slices_S128x34x1024_S128x4x1024_0_19_0) (broadcastInDim S128x4x1024 ![0, 1, 2] bcast_S1x1x1024_S128x4x1024_0_1_2 (broadcastInDim S1x1x1024 ![2] bcast_S1024_S1x1x1024_2 (shapeCast _ (extractStridedSlice S1x1024 ![19, 0] (shapeCast _ w shapeCasts_S1x31x1024_S31x1024) slices_S31x1024_S1x1024_19_0) shapeCasts_S1x1024_S1024))))

/-- The first thirty taps. -/
def sum2 (e : FVec Ideal S128x34x1024 .f32) (w : FVec Ideal S1x31x1024 .f32) : FVec Ideal S128x4x1024 .f32 :=
  addf (addf (addf (addf (addf (addf (addf (addf (addf (addf (sum1 e w) (mulf (extractStridedSlice S128x4x1024 ![0, 20, 0] e slices_S128x34x1024_S128x4x1024_0_20_0) (broadcastInDim S128x4x1024 ![0, 1, 2] bcast_S1x1x1024_S128x4x1024_0_1_2 (broadcastInDim S1x1x1024 ![2] bcast_S1024_S1x1x1024_2 (shapeCast _ (extractStridedSlice S1x1024 ![20, 0] (shapeCast _ w shapeCasts_S1x31x1024_S31x1024) slices_S31x1024_S1x1024_20_0) shapeCasts_S1x1024_S1024))))) (mulf (extractStridedSlice S128x4x1024 ![0, 21, 0] e slices_S128x34x1024_S128x4x1024_0_21_0) (broadcastInDim S128x4x1024 ![0, 1, 2] bcast_S1x1x1024_S128x4x1024_0_1_2 (broadcastInDim S1x1x1024 ![2] bcast_S1024_S1x1x1024_2 (shapeCast _ (extractStridedSlice S1x1024 ![21, 0] (shapeCast _ w shapeCasts_S1x31x1024_S31x1024) slices_S31x1024_S1x1024_21_0) shapeCasts_S1x1024_S1024))))) (mulf (extractStridedSlice S128x4x1024 ![0, 22, 0] e slices_S128x34x1024_S128x4x1024_0_22_0) (broadcastInDim S128x4x1024 ![0, 1, 2] bcast_S1x1x1024_S128x4x1024_0_1_2 (broadcastInDim S1x1x1024 ![2] bcast_S1024_S1x1x1024_2 (shapeCast _ (extractStridedSlice S1x1024 ![22, 0] (shapeCast _ w shapeCasts_S1x31x1024_S31x1024) slices_S31x1024_S1x1024_22_0) shapeCasts_S1x1024_S1024))))) (mulf (extractStridedSlice S128x4x1024 ![0, 23, 0] e slices_S128x34x1024_S128x4x1024_0_23_0) (broadcastInDim S128x4x1024 ![0, 1, 2] bcast_S1x1x1024_S128x4x1024_0_1_2 (broadcastInDim S1x1x1024 ![2] bcast_S1024_S1x1x1024_2 (shapeCast _ (extractStridedSlice S1x1024 ![23, 0] (shapeCast _ w shapeCasts_S1x31x1024_S31x1024) slices_S31x1024_S1x1024_23_0) shapeCasts_S1x1024_S1024))))) (mulf (extractStridedSlice S128x4x1024 ![0, 24, 0] e slices_S128x34x1024_S128x4x1024_0_24_0) (broadcastInDim S128x4x1024 ![0, 1, 2] bcast_S1x1x1024_S128x4x1024_0_1_2 (broadcastInDim S1x1x1024 ![2] bcast_S1024_S1x1x1024_2 (shapeCast _ (extractStridedSlice S1x1024 ![24, 0] (shapeCast _ w shapeCasts_S1x31x1024_S31x1024) slices_S31x1024_S1x1024_24_0) shapeCasts_S1x1024_S1024))))) (mulf (extractStridedSlice S128x4x1024 ![0, 25, 0] e slices_S128x34x1024_S128x4x1024_0_25_0) (broadcastInDim S128x4x1024 ![0, 1, 2] bcast_S1x1x1024_S128x4x1024_0_1_2 (broadcastInDim S1x1x1024 ![2] bcast_S1024_S1x1x1024_2 (shapeCast _ (extractStridedSlice S1x1024 ![25, 0] (shapeCast _ w shapeCasts_S1x31x1024_S31x1024) slices_S31x1024_S1x1024_25_0) shapeCasts_S1x1024_S1024))))) (mulf (extractStridedSlice S128x4x1024 ![0, 26, 0] e slices_S128x34x1024_S128x4x1024_0_26_0) (broadcastInDim S128x4x1024 ![0, 1, 2] bcast_S1x1x1024_S128x4x1024_0_1_2 (broadcastInDim S1x1x1024 ![2] bcast_S1024_S1x1x1024_2 (shapeCast _ (extractStridedSlice S1x1024 ![26, 0] (shapeCast _ w shapeCasts_S1x31x1024_S31x1024) slices_S31x1024_S1x1024_26_0) shapeCasts_S1x1024_S1024))))) (mulf (extractStridedSlice S128x4x1024 ![0, 27, 0] e slices_S128x34x1024_S128x4x1024_0_27_0) (broadcastInDim S128x4x1024 ![0, 1, 2] bcast_S1x1x1024_S128x4x1024_0_1_2 (broadcastInDim S1x1x1024 ![2] bcast_S1024_S1x1x1024_2 (shapeCast _ (extractStridedSlice S1x1024 ![27, 0] (shapeCast _ w shapeCasts_S1x31x1024_S31x1024) slices_S31x1024_S1x1024_27_0) shapeCasts_S1x1024_S1024))))) (mulf (extractStridedSlice S128x4x1024 ![0, 28, 0] e slices_S128x34x1024_S128x4x1024_0_28_0) (broadcastInDim S128x4x1024 ![0, 1, 2] bcast_S1x1x1024_S128x4x1024_0_1_2 (broadcastInDim S1x1x1024 ![2] bcast_S1024_S1x1x1024_2 (shapeCast _ (extractStridedSlice S1x1024 ![28, 0] (shapeCast _ w shapeCasts_S1x31x1024_S31x1024) slices_S31x1024_S1x1024_28_0) shapeCasts_S1x1024_S1024))))) (mulf (extractStridedSlice S128x4x1024 ![0, 29, 0] e slices_S128x34x1024_S128x4x1024_0_29_0) (broadcastInDim S128x4x1024 ![0, 1, 2] bcast_S1x1x1024_S128x4x1024_0_1_2 (broadcastInDim S1x1x1024 ![2] bcast_S1024_S1x1x1024_2 (shapeCast _ (extractStridedSlice S1x1024 ![29, 0] (shapeCast _ w shapeCasts_S1x31x1024_S31x1024) slices_S31x1024_S1x1024_29_0) shapeCasts_S1x1024_S1024))))

/-- The convolution with its bias. -/
def tapArr (e : FVec Ideal S128x34x1024 .f32) (w : FVec Ideal S1x31x1024 .f32) (b : FVec Ideal S1x1024 .f32) : FVec Ideal S128x4x1024 .f32 :=
  addf (addf (sum2 e w) (mulf (extractStridedSlice S128x4x1024 ![0, 30, 0] e slices_S128x34x1024_S128x4x1024_0_30_0) (broadcastInDim S128x4x1024 ![0, 1, 2] bcast_S1x1x1024_S128x4x1024_0_1_2 (broadcastInDim S1x1x1024 ![2] bcast_S1024_S1x1x1024_2 (shapeCast _ (extractStridedSlice S1x1024 ![30, 0] (shapeCast _ w shapeCasts_S1x31x1024_S31x1024) slices_S31x1024_S1x1024_30_0) shapeCasts_S1x1024_S1024))))) (broadcastInDim S128x4x1024 ![0, 1, 2] bcast_S1x1x1024_S128x4x1024_0_1_2 (broadcastInDim S1x1x1024 ![2] bcast_S1024_S1x1x1024_2 (shapeCast _ b shapeCasts_S1x1024_S1024)))

/-- The mean over the channels. -/
def meanArr (y : FVec Ideal S128x4x1024 .f32) : FVec Ideal S128x4x1 .f32 :=
  Host.divf (broadcastInDim S128x4x1 ![0, 1] bcast_S128x4_S128x4x1_0_1 (Host.reduceAdd y (constant S_ .f32 0x00000000#32) reducesTo_S128x4x1024_S128x4_d2 h_S_)) (broadcastInDim S128x4x1 ![] bcast_S_S128x4x1 (constant S_ .f32 0x44800000#32))

/-- The difference from the mean. -/
def devArr (y : FVec Ideal S128x4x1024 .f32) : FVec Ideal S128x4x1024 .f32 :=
  subf y (broadcastInDim S128x4x1024 ![0, 1, 2] bcast_S128x4x1_S128x4x1024_0_1_2 (meanArr y))

/-- The layer norm. -/
def lnArr (y : FVec Ideal S128x4x1024 .f32) (g o : FVec Ideal S1x1024 .f32) : FVec Ideal S128x4x1024 .f32 :=
  addf (mulf (mulf (subf y (broadcastInDim S128x4x1024 ![0, 1, 2] bcast_S128x4x1_S128x4x1024_0_1_2 (meanArr y))) (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf (devArr y) (devArr y)) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 (shapeCast _ g shapeCasts_S1x1024_S1024)))) (broadcastInDim S128x4x1024 ![0, 1, 2] bcast_S1x1x1024_S128x4x1024_0_1_2 (broadcastInDim S1x1x1024 ![2] bcast_S1024_S1x1x1024_2 (shapeCast _ o shapeCasts_S1x1024_S1024)))

/-- The prompt's rows above the swish of the normalised rows. -/
def joinArr (z : FVec Ideal S8704x1024 .bf16) (n : FVec Ideal S128x4x1024 .f32) : FVec Ideal S8704x1024 .bf16 :=
  concatenate S8704x1024 0 [⟨S8192x1024, (extractStridedSlice S8192x1024 ![0, 0] z slices_S8704x1024_S8192x1024_0_0)⟩, ⟨S512x1024, (truncf .bf16 (shapeCast _ n shapeCasts_S128x4x1024_S512x1024) bitsLt_bf16_f32)⟩] concatenates_S8192x1024_S512x1024_S8704x1024_d0

/-- The swish. -/
def swArr (n : FVec Ideal S128x4x1024 .f32) : FVec Ideal S128x4x1024 .f32 :=
  mulf n (Host.divf (broadcastInDim S128x4x1024 ![] bcast_S_S128x4x1024 (constant S_ .f32 0x3F800000#32)) (addf (broadcastInDim S128x4x1024 ![] bcast_S_S128x4x1024 (constant S_ .f32 0x3F800000#32)) (Host.exp (Host.negf n))))

/-- The convolution's output with the samples' rows filled, as the reference writes it. -/
def convArr (z : FVec Ideal S8704x1024 .bf16) (u : FVec Ideal S8704x1024 .f32) (st : FVec Ideal S1x128x30x1024 .f32) (w : FVec Ideal S1x31x1024 .f32)
    (b g o : FVec Ideal S1x1024 .f32) : FVec Ideal S8704x1024 .bf16 :=
  joinArr z (swArr (lnArr (tapArr (extArr u st) w b) g o))

/-- A row of the state, or a new row. -/
theorem ext_apply (u : FVec Ideal S8704x1024 .f32) (st : FVec Ideal S1x128x30x1024 .f32) (s : Fin 128) (j : Fin 34) (l : Fin 1024) :
    extArr u st (ix3 s j l) = if h : j.val < 30 then st (ix4 (0 : Fin 1) s (⟨j.val, h⟩ : Fin 30) l)
      else u (ix2 (⟨8192 + (s.val * 4 + (j.val - 30)), by omega⟩ : Fin 8704) l) := by
  pointwise [extArr]

/-- The taps, summed. -/
theorem tap_apply (e : FVec Ideal S128x34x1024 .f32) (w : FVec Ideal S1x31x1024 .f32) (b : FVec Ideal S1x1024 .f32) (s : Fin 128) (t : Fin 4) (l : Fin 1024) :
    tapArr e w b (ix3 s t l) = (∑ k : Fin 31, (e (ix3 s (⟨t.val + k.val, by omega⟩ : Fin 34) l) : EReal) * w (ix3 (0 : Fin 1) k l)) + b (ix2 (0 : Fin 1) l) := by
  simp only [Fin.sum_univ_castSucc, Fin.sum_univ_zero, zero_add]
  pointwise [tapArr, sum2, sum1, sum0]
  fin_cases t <;> rfl

/-- The mean of a row. -/
theorem mean_apply (y : FVec Ideal S128x4x1024 .f32) (s : Fin 128) (t : Fin 4) : meanArr y (ix3 s t (0 : Fin 1))
    = Ideal.div (∑ k : Fin 1024, y (ix3 s t k)) (Ideal.ofBits FTy.f32 0x44800000#32) := by
  pointwise [meanArr]

/-- The difference from the mean, at an index. -/
theorem dev_apply (y : FVec Ideal S128x4x1024 .f32) (s : Fin 128) (t : Fin 4) (l : Fin 1024) : devArr y (ix3 s t l)
    = (y (ix3 s t l) : EReal) - Ideal.div (∑ k : Fin 1024, y (ix3 s t k)) (Ideal.ofBits FTy.f32 0x44800000#32) := by
  pointwise [devArr]
  rw [mean_apply]

/-- The layer norm, at an index. -/
theorem ln_apply (y : FVec Ideal S128x4x1024 .f32) (g o : FVec Ideal S1x1024 .f32) (s : Fin 128) (t : Fin 4) (l : Fin 1024) : lnArr y g o (ix3 s t l)
    = normAt (fun k => y (ix3 s t k)) (fun k => g (ix2 (0 : Fin 1) k)) (fun k => o (ix2 (0 : Fin 1) k)) l := by
  pointwise [lnArr]
  simp only [mean_apply, dev_apply]
  rfl

/-- A row's layer norm and swish. -/
theorem join_high' (z : FVec Ideal S8704x1024 .bf16) (n : FVec Ideal S128x4x1024 .f32) (i : Fin 8704) (hi : ¬ i.val < 8192) (l : Fin 1024) :
    joinArr z n (ix2 i l)
      = n (ix3 (⟨(i.val - 8192) / 4, by omega⟩ : Fin 128) (⟨(i.val - 8192) % 4, by omega⟩ : Fin 4) l) := by
  pointwise [joinArr]
  exact dif_neg hi

/-- The same, by sequence and row. -/
theorem join_high (z : FVec Ideal S8704x1024 .bf16) (n : FVec Ideal S128x4x1024 .f32) (s : Fin 128) (t : Fin 4) (l : Fin 1024) :
    joinArr z n (ix2 (⟨8192 + (s.val * 4 + t.val), by omega⟩ : Fin 8704) l) = n (ix3 s t l) := by
  rw [join_high' z n _ (by show ¬ 8192 + (s.val * 4 + t.val) < 8192; omega) l]
  have e1 : (⟨(8192 + (s.val * 4 + t.val) - 8192) / 4, by omega⟩ : Fin 128) = s := Fin.ext (by show (8192 + (s.val * 4 + t.val) - 8192) / 4 = s.val; omega)
  have e2 : (⟨(8192 + (s.val * 4 + t.val) - 8192) % 4, by omega⟩ : Fin 4) = t := Fin.ext (by show (8192 + (s.val * 4 + t.val) - 8192) % 4 = t.val; omega)
  show n (ix3 (⟨(8192 + (s.val * 4 + t.val) - 8192) / 4, _⟩ : Fin 128) (⟨(8192 + (s.val * 4 + t.val) - 8192) % 4, _⟩ : Fin 4) l) = _
  rw [e1, e2]

/-- The swish, at an index. -/
theorem sw_apply (n : FVec Ideal S128x4x1024 .f32) (s : Fin 128) (t : Fin 4) (l : Fin 1024) :
    swArr n (ix3 s t l) = (n (ix3 s t l) : EReal) * Ideal.logistic (n (ix3 s t l)) := by
  unfold Ideal.logistic
  pointwise [swArr]

/-- A row of the samples. -/
theorem conv_high (z : FVec Ideal S8704x1024 .bf16) (u : FVec Ideal S8704x1024 .f32) (st : FVec Ideal S1x128x30x1024 .f32) (w : FVec Ideal S1x31x1024 .f32)
    (b g o : FVec Ideal S1x1024 .f32) (s : Fin 128) (t : Fin 4) (l : Fin 1024) :
    convArr z u st w b g o (ix2 (⟨8192 + (s.val * 4 + t.val), by omega⟩ : Fin 8704) l)
      = swishAt (fun k => tapArr (extArr u st) w b (ix3 s t k)) (fun k => g (ix2 (0 : Fin 1) k)) (fun k => o (ix2 (0 : Fin 1) k)) l := by
  unfold convArr
  rw [join_high, sw_apply, ln_apply]
  rfl

/-- A row of the prompt stays. -/
theorem join_low (z : FVec Ideal S8704x1024 .bf16) (n : FVec Ideal S128x4x1024 .f32) (i : Fin 8704) (l : Fin 1024) (hi : i.val < 8192) :
    joinArr z n (ix2 i l) = z (ix2 i l) := by
  pointwise [joinArr]
  exact dif_pos hi

end Cert.Proof.ConvS

end
-- ==== Proof.ConvSBody.lean ====
module

public import proofs.«01_k».proof.Defs
public import proofs.«01_k».proof.Proof.Gen.ConvSIdeal.Value
public import Idealize.ShloMosaic.Lib.Pipeline.ValueKit
public import Idealize.ShloMosaic.Lib.Claim
public import Idealize.ShloMosaic.Lib.Pointwise

@[expose] public section

set_option maxRecDepth 16384

noncomputable section

namespace Cert.Proof.ConvS

open Idealize.ShloMosaic Idealize.ShloMosaic.TcCoe Idealize.SL.Sem
open Idealize.ShloMosaic.Pipeline (Dat)

open Cert.ConvSIdeal Cert.ConvSIdeal.Gen

/-- The buffer of a sequence: its state, its new rows from row 32 on, zeros between and behind. -/
def extOf (x0 : FVec Ideal S8x30x1024 .f32) (x1 : FVec Ideal S8x4x1024 .f32) (s : Fin 8) : FVec Ideal S40x1024 .f32 := fun i =>
  if h : (i 0 : ℕ) < 30 then x0 (ix3 s (⟨i 0, h⟩ : Fin 30) (i 1))
  else if h' : 32 ≤ (i 0 : ℕ) ∧ (i 0 : ℕ) < 36 then x1 (ix3 s (⟨(i 0 : ℕ) - 32, by omega⟩ : Fin 4) (i 1)) else (0 : EReal)

/-- The convolution's rows at a point: four for each of the eight sequences. -/
def rowsOf (x0 : FVec Ideal S8x30x1024 .f32) (x1 : FVec Ideal S8x4x1024 .f32) (x2 : FVec Ideal S4x40x1024 .f32) (x3 : FVec Ideal S1x1024 .f32) :
    FVec Ideal S32x1024 .f32 := fun y =>
  (∑ r : Fin 40, (extOf x0 x1 (⟨(y 0 : ℕ) / 4, by have : (y 0 : ℕ) < 32 := (y 0).isLt; omega⟩ : Fin 8) (ix2 r (y 1)) : EReal)
    * x2 (ix3 (⟨(y 0 : ℕ) % 4, by omega⟩ : Fin 4) r (y 1))) + x3 (ix2 (0 : Fin 1) (y 1))

/-- A scratch buffer read whole, where each piece holds what an array has under it and the pieces cover. -/
theorem read_of_pieces {S : Shape} {sig : RefSig} {κ : Kind} {sp : Space} (v : View sig κ sp S .f32) (L : List (View.Piece (Elt Ideal) S .f32))
    {off : Fin S.rank → ℕ} (h0 : ∀ a, off a = 0) (inb : ∀ a, off a + S.size a ≤ S.size a) (G : S.Idx → Elt Ideal .f32)
    (hL : ∀ p ∈ L, ∀ x : p.1.shape.Idx, p.2 x = G (p.1.emb x)) (hc : ∀ y : S.Idx, ∃ p ∈ L, y ∈ p.1.set) :
    v.readCov L (Rect.unit off S.size inb).toLoadRect = G := by
  obtain rfl : off = fun _ => 0 := funext h0
  rw [View.readCov_eq_canon_ld _ _ _ hc]
  funext j
  rw [View.ld_unit_zero rfl]
  exact View.canon_apply_of_pieces G L hL j (hc j)

/-- The buffer of a sequence, read whole after the sequence's three stores. -/
theorem ext_read (x0 : FVec Ideal S8x30x1024 .f32) (x1 : FVec Ideal S8x4x1024 .f32) (s : Fin 8)
    (p : FVec Ideal S4x1024 .f32) (q : FVec Ideal S30x1024 .f32) (z : FVec Ideal S16x1024 .f32) (L : List (View.Piece (Elt Ideal) S40x1024 .f32))
    (hp : ∀ r l, p (ix2 r l) = x1 (ix3 s r l)) (hq : ∀ r l, q (ix2 r l) = x0 (ix3 s r l)) (hz : ∀ r l, z (ix2 r l) = (0 : EReal)) :
    (View.whole cc0_scratch0 : View sig .tc _ S40x1024 .f32).readCov (Val := Elt Ideal)
      (⟨Rect.unit ![32, 0] ![4, 1024] inb_S40x1024_S4x1024_32_0, p⟩ :: ⟨Rect.unit ![0, 0] ![30, 1024] inb_S40x1024_S30x1024_0_0, q⟩
        :: ⟨Rect.unit ![24, 0] ![16, 1024] inb_S40x1024_S16x1024_24_0, z⟩ :: L)
      (Rect.unit ![0, 0] ![40, 1024] inb_S40x1024_S40x1024_0_0).toLoadRect = extOf x0 x1 s := by
  have m2 : ∀ y : S40x1024.Idx, (y 0 : ℕ) < 30 → y ∈ (Rect.unit (s := S40x1024) ![0, 0] ![30, 1024] inb_S40x1024_S30x1024_0_0).set := by
    intro y h
    refine Rect.mem_set_unit.2 fun a => ?_
    fin_cases a
    · exact ⟨Nat.zero_le _, h⟩
    · exact ⟨Nat.zero_le _, (y 1).isLt⟩
  have m3 : ∀ y : S40x1024.Idx, ¬ (y 0 : ℕ) < 30 → y ∈ (Rect.unit (s := S40x1024) ![24, 0] ![16, 1024] inb_S40x1024_S16x1024_24_0).set := by
    intro y h
    refine Rect.mem_set_unit.2 fun a => ?_
    fin_cases a
    · exact ⟨le_trans (by decide) (not_lt.1 h), (y 0).isLt⟩
    · exact ⟨Nat.zero_le _, (y 1).isLt⟩
  have hmem : ∀ y : S40x1024.Idx, ∃ pc ∈ ((⟨Rect.unit ![32, 0] ![4, 1024] inb_S40x1024_S4x1024_32_0, p⟩ ::
      ⟨Rect.unit ![0, 0] ![30, 1024] inb_S40x1024_S30x1024_0_0, q⟩ ::
      ⟨Rect.unit ![24, 0] ![16, 1024] inb_S40x1024_S16x1024_24_0, z⟩ :: L : List (View.Piece (Elt Ideal) S40x1024 .f32))), y ∈ pc.1.set := by
    intro y
    by_cases h : (y 0 : ℕ) < 30
    · exact ⟨_, List.mem_cons_of_mem _ List.mem_cons_self, m2 y h⟩
    · exact ⟨_, List.mem_cons_of_mem _ (List.mem_cons_of_mem _ List.mem_cons_self), m3 y h⟩
  refine (View.readCov_eq_canon_ld _ _ _ hmem).trans ?_
  refine (View.ld_unit_lit _ _ (by intro a; fin_cases a <;> rfl)).trans ?_
  refine funext fun (y : S40x1024.Idx) => ?_
  have h1 : (y 1 : ℕ) < 1024 := (y 1).isLt
  have h0 : (y 0 : ℕ) < 40 := (y 0).isLt
  have n1 : ¬ (32 ≤ (y 0 : ℕ) ∧ (y 0 : ℕ) < 36) → y ∉ (Rect.unit (s := S40x1024) ![32, 0] ![4, 1024] inb_S40x1024_S4x1024_32_0).set :=
    fun h' hm => h' (Rect.mem_set_unit.1 hm 0)
  have n2 : ¬ (y 0 : ℕ) < 30 → y ∉ (Rect.unit (s := S40x1024) ![0, 0] ![30, 1024] inb_S40x1024_S30x1024_0_0).set := fun h hm =>
    h ((Rect.mem_set_unit.1 hm 0).2.trans_eq (Nat.zero_add 30))
  have c1 : ∀ M, ¬ (32 ≤ (y 0 : ℕ) ∧ (y 0 : ℕ) < 36) →
      View.canon ((⟨Rect.unit ![32, 0] ![4, 1024] inb_S40x1024_S4x1024_32_0, p⟩ : View.Piece (Elt Ideal) S40x1024 .f32) :: M) y = View.canon M y :=
    fun M h' => View.canon_cons_of_not_mem (⟨Rect.unit ![32, 0] ![4, 1024] inb_S40x1024_S4x1024_32_0, p⟩ : View.Piece (Elt Ideal) S40x1024 .f32) M (n1 h')
  have c2 : ∀ M, ¬ (y 0 : ℕ) < 30 →
      View.canon ((⟨Rect.unit ![0, 0] ![30, 1024] inb_S40x1024_S30x1024_0_0, q⟩ : View.Piece (Elt Ideal) S40x1024 .f32) :: M) y = View.canon M y :=
    fun M h' => View.canon_cons_of_not_mem (⟨Rect.unit ![0, 0] ![30, 1024] inb_S40x1024_S30x1024_0_0, q⟩ : View.Piece (Elt Ideal) S40x1024 .f32) M (n2 h')
  unfold extOf
  by_cases h : (y 0 : ℕ) < 30
  · rw [dif_pos h]
    refine (c1 _ fun h' => absurd h (not_lt.2 (le_trans (by decide) h'.1))).trans ?_
    have e : (Rect.unit (s := S40x1024) ![0, 0] ![30, 1024] inb_S40x1024_S30x1024_0_0).emb (ix2 (⟨y 0, h⟩ : Fin 30) (y 1)) = y := by
      refine Eq.trans ?_ (eq_ix2 y).symm
      blk_ext []
    have e' := View.canon_cons_emb (Rect.unit (s := S40x1024) ![0, 0] ![30, 1024] inb_S40x1024_S30x1024_0_0) q
      (⟨Rect.unit ![24, 0] ![16, 1024] inb_S40x1024_S16x1024_24_0, z⟩ :: L) (ix2 (⟨y 0, h⟩ : Fin 30) (y 1))
    rw [e] at e'
    exact e'.trans (hq _ _)
  · rw [dif_neg h]
    by_cases h' : 32 ≤ (y 0 : ℕ) ∧ (y 0 : ℕ) < 36
    · rw [dif_pos h']
      have e : (Rect.unit (s := S40x1024) ![32, 0] ![4, 1024] inb_S40x1024_S4x1024_32_0).emb (ix2 (⟨(y 0 : ℕ) - 32, by omega⟩ : Fin 4) (y 1)) = y := by
        refine Eq.trans ?_ (eq_ix2 y).symm
        blk_ext []
      have e' := View.canon_cons_emb (Rect.unit (s := S40x1024) ![32, 0] ![4, 1024] inb_S40x1024_S4x1024_32_0) p
        (⟨Rect.unit ![0, 0] ![30, 1024] inb_S40x1024_S30x1024_0_0, q⟩ :: ⟨Rect.unit ![24, 0] ![16, 1024] inb_S40x1024_S16x1024_24_0, z⟩ :: L)
        (ix2 (⟨(y 0 : ℕ) - 32, by omega⟩ : Fin 4) (y 1))
      rw [e] at e'
      exact e'.trans (hp _ _)
    · rw [dif_neg h']
      refine (c1 _ h').trans ((c2 _ h).trans ?_)
      have e : (Rect.unit (s := S40x1024) ![24, 0] ![16, 1024] inb_S40x1024_S16x1024_24_0).emb (ix2 (⟨(y 0 : ℕ) - 24, by omega⟩ : Fin 16) (y 1)) = y := by
        refine Eq.trans ?_ (eq_ix2 y).symm
        blk_ext []
      have e' := View.canon_cons_emb (Rect.unit (s := S40x1024) ![24, 0] ![16, 1024] inb_S40x1024_S16x1024_24_0) z L
        (ix2 (⟨(y 0 : ℕ) - 24, by omega⟩ : Fin 16) (y 1))
      rw [e] at e'
      exact e'.trans (hz _ _)

theorem ext_read0 (x0 : FVec Ideal S8x30x1024 .f32) (x1 : FVec Ideal S8x4x1024 .f32) (L : List (View.Piece (Elt Ideal) S40x1024 .f32)) :
    (View.whole cc0_scratch0 : View sig .tc _ S40x1024 .f32).readCov (Val := Elt Ideal)
      (⟨Rect.unit ![32, 0] ![4, 1024] inb_S40x1024_S4x1024_32_0, (k0_pay3 (F := Ideal) (View.ld (Val := Elt Ideal) (e' := .f32) x1 (Rect.unit (s := S8x4x1024) ![0, 0, 0] ![1, 4, 1024] inb_S8x4x1024_S1x4x1024_0_0_0) :))⟩
        :: ⟨Rect.unit ![0, 0] ![30, 1024] inb_S40x1024_S30x1024_0_0, (k0_pay2 (F := Ideal) (View.ld (Val := Elt Ideal) (e' := .f32) x0 (Rect.unit (s := S8x30x1024) ![0, 0, 0] ![1, 30, 1024] inb_S8x30x1024_S1x30x1024_0_0_0) :))⟩
        :: ⟨Rect.unit ![24, 0] ![16, 1024] inb_S40x1024_S16x1024_24_0, (k0_pay1 (F := Ideal))⟩ :: L)
      (Rect.unit ![0, 0] ![40, 1024] inb_S40x1024_S40x1024_0_0).toLoadRect = extOf x0 x1 (⟨0, by decide⟩ : Fin 8) :=
  ext_read x0 x1 _ _ _ _ L (fun r l => by pointwise [k0_pay3]; blk_ext []) (fun r l => by pointwise [k0_pay2]; blk_ext [])
    (fun r l => by pointwise [k0_pay1])

theorem ext_read1 (x0 : FVec Ideal S8x30x1024 .f32) (x1 : FVec Ideal S8x4x1024 .f32) (L : List (View.Piece (Elt Ideal) S40x1024 .f32)) :
    (View.whole cc0_scratch0 : View sig .tc _ S40x1024 .f32).readCov (Val := Elt Ideal)
      (⟨Rect.unit ![32, 0] ![4, 1024] inb_S40x1024_S4x1024_32_0, (k0_pay12 (F := Ideal) (View.ld (Val := Elt Ideal) (e' := .f32) x1 (Rect.unit (s := S8x4x1024) ![1, 0, 0] ![1, 4, 1024] inb_S8x4x1024_S1x4x1024_1_0_0) :))⟩
        :: ⟨Rect.unit ![0, 0] ![30, 1024] inb_S40x1024_S30x1024_0_0, (k0_pay11 (F := Ideal) (View.ld (Val := Elt Ideal) (e' := .f32) x0 (Rect.unit (s := S8x30x1024) ![1, 0, 0] ![1, 30, 1024] inb_S8x30x1024_S1x30x1024_1_0_0) :))⟩
        :: ⟨Rect.unit ![24, 0] ![16, 1024] inb_S40x1024_S16x1024_24_0, (k0_pay10 (F := Ideal) (k0_pay9 (F := Ideal)))⟩ :: L)
      (Rect.unit ![0, 0] ![40, 1024] inb_S40x1024_S40x1024_0_0).toLoadRect = extOf x0 x1 (⟨1, by decide⟩ : Fin 8) :=
  ext_read x0 x1 _ _ _ _ L (fun r l => by pointwise [k0_pay12]; blk_ext []) (fun r l => by pointwise [k0_pay11]; blk_ext [])
    (fun r l => by pointwise [k0_pay10, k0_pay9])

theorem ext_read2 (x0 : FVec Ideal S8x30x1024 .f32) (x1 : FVec Ideal S8x4x1024 .f32) (L : List (View.Piece (Elt Ideal) S40x1024 .f32)) :
    (View.whole cc0_scratch0 : View sig .tc _ S40x1024 .f32).readCov (Val := Elt Ideal)
      (⟨Rect.unit ![32, 0] ![4, 1024] inb_S40x1024_S4x1024_32_0, (k0_pay22 (F := Ideal) (View.ld (Val := Elt Ideal) (e' := .f32) x1 (Rect.unit (s := S8x4x1024) ![2, 0, 0] ![1, 4, 1024] inb_S8x4x1024_S1x4x1024_2_0_0) :))⟩
        :: ⟨Rect.unit ![0, 0] ![30, 1024] inb_S40x1024_S30x1024_0_0, (k0_pay21 (F := Ideal) (k0_pay20 (F := Ideal) (View.ld (Val := Elt Ideal) (e' := .f32) x0 (Rect.unit (s := S8x30x1024) ![2, 0, 0] ![1, 30, 1024] inb_S8x30x1024_S1x30x1024_2_0_0) :)))⟩
        :: ⟨Rect.unit ![24, 0] ![16, 1024] inb_S40x1024_S16x1024_24_0, (k0_pay19 (F := Ideal))⟩ :: L)
      (Rect.unit ![0, 0] ![40, 1024] inb_S40x1024_S40x1024_0_0).toLoadRect = extOf x0 x1 (⟨2, by decide⟩ : Fin 8) :=
  ext_read x0 x1 _ _ _ _ L (fun r l => by pointwise [k0_pay22]; blk_ext []) (fun r l => by pointwise [k0_pay21, k0_pay20]; blk_ext [])
    (fun r l => by pointwise [k0_pay19])

theorem ext_read3 (x0 : FVec Ideal S8x30x1024 .f32) (x1 : FVec Ideal S8x4x1024 .f32) (L : List (View.Piece (Elt Ideal) S40x1024 .f32)) :
    (View.whole cc0_scratch0 : View sig .tc _ S40x1024 .f32).readCov (Val := Elt Ideal)
      (⟨Rect.unit ![32, 0] ![4, 1024] inb_S40x1024_S4x1024_32_0, (k0_pay29 (F := Ideal) (View.ld (Val := Elt Ideal) (e' := .f32) x1 (Rect.unit (s := S8x4x1024) ![3, 0, 0] ![1, 4, 1024] inb_S8x4x1024_S1x4x1024_3_0_0) :))⟩
        :: ⟨Rect.unit ![0, 0] ![30, 1024] inb_S40x1024_S30x1024_0_0, (k0_pay28 (F := Ideal) (View.ld (Val := Elt Ideal) (e' := .f32) x0 (Rect.unit (s := S8x30x1024) ![3, 0, 0] ![1, 30, 1024] inb_S8x30x1024_S1x30x1024_3_0_0) :))⟩
        :: ⟨Rect.unit ![24, 0] ![16, 1024] inb_S40x1024_S16x1024_24_0, (k0_pay27 (F := Ideal))⟩ :: L)
      (Rect.unit ![0, 0] ![40, 1024] inb_S40x1024_S40x1024_0_0).toLoadRect = extOf x0 x1 (⟨3, by decide⟩ : Fin 8) :=
  ext_read x0 x1 _ _ _ _ L (fun r l => by pointwise [k0_pay29]; blk_ext []) (fun r l => by pointwise [k0_pay28]; blk_ext [])
    (fun r l => by pointwise [k0_pay27])

theorem ext_read4 (x0 : FVec Ideal S8x30x1024 .f32) (x1 : FVec Ideal S8x4x1024 .f32) (L : List (View.Piece (Elt Ideal) S40x1024 .f32)) :
    (View.whole cc0_scratch0 : View sig .tc _ S40x1024 .f32).readCov (Val := Elt Ideal)
      (⟨Rect.unit ![32, 0] ![4, 1024] inb_S40x1024_S4x1024_32_0, (k0_pay38 (F := Ideal) (k0_pay37 (F := Ideal) (View.ld (Val := Elt Ideal) (e' := .f32) x1 (Rect.unit (s := S8x4x1024) ![4, 0, 0] ![1, 4, 1024] inb_S8x4x1024_S1x4x1024_4_0_0) :)))⟩
        :: ⟨Rect.unit ![0, 0] ![30, 1024] inb_S40x1024_S30x1024_0_0, (k0_pay36 (F := Ideal) (View.ld (Val := Elt Ideal) (e' := .f32) x0 (Rect.unit (s := S8x30x1024) ![4, 0, 0] ![1, 30, 1024] inb_S8x30x1024_S1x30x1024_4_0_0) :))⟩
        :: ⟨Rect.unit ![24, 0] ![16, 1024] inb_S40x1024_S16x1024_24_0, (k0_pay35 (F := Ideal))⟩ :: L)
      (Rect.unit ![0, 0] ![40, 1024] inb_S40x1024_S40x1024_0_0).toLoadRect = extOf x0 x1 (⟨4, by decide⟩ : Fin 8) :=
  ext_read x0 x1 _ _ _ _ L (fun r l => by pointwise [k0_pay38, k0_pay37]; blk_ext []) (fun r l => by pointwise [k0_pay36]; blk_ext [])
    (fun r l => by pointwise [k0_pay35])

theorem ext_read5 (x0 : FVec Ideal S8x30x1024 .f32) (x1 : FVec Ideal S8x4x1024 .f32) (L : List (View.Piece (Elt Ideal) S40x1024 .f32)) :
    (View.whole cc0_scratch0 : View sig .tc _ S40x1024 .f32).readCov (Val := Elt Ideal)
      (⟨Rect.unit ![32, 0] ![4, 1024] inb_S40x1024_S4x1024_32_0, (k0_pay46 (F := Ideal) (View.ld (Val := Elt Ideal) (e' := .f32) x1 (Rect.unit (s := S8x4x1024) ![5, 0, 0] ![1, 4, 1024] inb_S8x4x1024_S1x4x1024_5_0_0) :))⟩
        :: ⟨Rect.unit ![0, 0] ![30, 1024] inb_S40x1024_S30x1024_0_0, (k0_pay45 (F := Ideal) (View.ld (Val := Elt Ideal) (e' := .f32) x0 (Rect.unit (s := S8x30x1024) ![5, 0, 0] ![1, 30, 1024] inb_S8x30x1024_S1x30x1024_5_0_0) :))⟩
        :: ⟨Rect.unit ![24, 0] ![16, 1024] inb_S40x1024_S16x1024_24_0, (k0_pay44 (F := Ideal))⟩ :: L)
      (Rect.unit ![0, 0] ![40, 1024] inb_S40x1024_S40x1024_0_0).toLoadRect = extOf x0 x1 (⟨5, by decide⟩ : Fin 8) :=
  ext_read x0 x1 _ _ _ _ L (fun r l => by pointwise [k0_pay46]; blk_ext []) (fun r l => by pointwise [k0_pay45]; blk_ext [])
    (fun r l => by pointwise [k0_pay44])

theorem ext_read6 (x0 : FVec Ideal S8x30x1024 .f32) (x1 : FVec Ideal S8x4x1024 .f32) (L : List (View.Piece (Elt Ideal) S40x1024 .f32)) :
    (View.whole cc0_scratch0 : View sig .tc _ S40x1024 .f32).readCov (Val := Elt Ideal)
      (⟨Rect.unit ![32, 0] ![4, 1024] inb_S40x1024_S4x1024_32_0, (k0_pay53 (F := Ideal) (View.ld (Val := Elt Ideal) (e' := .f32) x1 (Rect.unit (s := S8x4x1024) ![6, 0, 0] ![1, 4, 1024] inb_S8x4x1024_S1x4x1024_6_0_0) :))⟩
        :: ⟨Rect.unit ![0, 0] ![30, 1024] inb_S40x1024_S30x1024_0_0, (k0_pay52 (F := Ideal) (View.ld (Val := Elt Ideal) (e' := .f32) x0 (Rect.unit (s := S8x30x1024) ![6, 0, 0] ![1, 30, 1024] inb_S8x30x1024_S1x30x1024_6_0_0) :))⟩
        :: ⟨Rect.unit ![24, 0] ![16, 1024] inb_S40x1024_S16x1024_24_0, (k0_pay51 (F := Ideal))⟩ :: L)
      (Rect.unit ![0, 0] ![40, 1024] inb_S40x1024_S40x1024_0_0).toLoadRect = extOf x0 x1 (⟨6, by decide⟩ : Fin 8) :=
  ext_read x0 x1 _ _ _ _ L (fun r l => by pointwise [k0_pay53]; blk_ext []) (fun r l => by pointwise [k0_pay52]; blk_ext [])
    (fun r l => by pointwise [k0_pay51])

theorem ext_read7 (x0 : FVec Ideal S8x30x1024 .f32) (x1 : FVec Ideal S8x4x1024 .f32) (L : List (View.Piece (Elt Ideal) S40x1024 .f32)) :
    (View.whole cc0_scratch0 : View sig .tc _ S40x1024 .f32).readCov (Val := Elt Ideal)
      (⟨Rect.unit ![32, 0] ![4, 1024] inb_S40x1024_S4x1024_32_0, (k0_pay62 (F := Ideal) (View.ld (Val := Elt Ideal) (e' := .f32) x1 (Rect.unit (s := S8x4x1024) ![7, 0, 0] ![1, 4, 1024] inb_S8x4x1024_S1x4x1024_7_0_0) :))⟩
        :: ⟨Rect.unit ![0, 0] ![30, 1024] inb_S40x1024_S30x1024_0_0, (k0_pay61 (F := Ideal) (View.ld (Val := Elt Ideal) (e' := .f32) x0 (Rect.unit (s := S8x30x1024) ![7, 0, 0] ![1, 30, 1024] inb_S8x30x1024_S1x30x1024_7_0_0) :))⟩
        :: ⟨Rect.unit ![24, 0] ![16, 1024] inb_S40x1024_S16x1024_24_0, (k0_pay60 (F := Ideal))⟩ :: L)
      (Rect.unit ![0, 0] ![40, 1024] inb_S40x1024_S40x1024_0_0).toLoadRect = extOf x0 x1 (⟨7, by decide⟩ : Fin 8) :=
  ext_read x0 x1 _ _ _ _ L (fun r l => by pointwise [k0_pay62]; blk_ext []) (fun r l => by pointwise [k0_pay61]; blk_ext [])
    (fun r l => by pointwise [k0_pay60])

theorem row0 (e : FVec Ideal S40x1024 .f32) (w : FVec Ideal S1x40x1024 .f32) (b : FVec Ideal S1x1024 .f32) (l : Fin 1024) :
    (k0_pay4 (F := Ideal) e w b) (ix2 (0 : Fin 1) l) = (∑ r : Fin 40, (e (ix2 r l) : EReal) * w (ix3 (0 : Fin 1) r l)) + b (ix2 (0 : Fin 1) l) := by
  pointwise [k0_pay4]

theorem row1 (e : FVec Ideal S40x1024 .f32) (w : FVec Ideal S1x40x1024 .f32) (b : FVec Ideal S1x1024 .f32) (l : Fin 1024) :
    (k0_pay6 (F := Ideal) (k0_pay5 (F := Ideal) e w) b) (ix2 (0 : Fin 1) l) = (∑ r : Fin 40, (e (ix2 r l) : EReal) * w (ix3 (0 : Fin 1) r l)) + b (ix2 (0 : Fin 1) l) := by
  pointwise [k0_pay5, k0_pay6]

theorem row2 (e : FVec Ideal S40x1024 .f32) (w : FVec Ideal S1x40x1024 .f32) (b : FVec Ideal S1x1024 .f32) (l : Fin 1024) :
    (k0_pay7 (F := Ideal) e w b) (ix2 (0 : Fin 1) l) = (∑ r : Fin 40, (e (ix2 r l) : EReal) * w (ix3 (0 : Fin 1) r l)) + b (ix2 (0 : Fin 1) l) := by
  pointwise [k0_pay7]

theorem row3 (e : FVec Ideal S40x1024 .f32) (w : FVec Ideal S1x40x1024 .f32) (b : FVec Ideal S1x1024 .f32) (l : Fin 1024) :
    (k0_pay8 (F := Ideal) e w b) (ix2 (0 : Fin 1) l) = (∑ r : Fin 40, (e (ix2 r l) : EReal) * w (ix3 (0 : Fin 1) r l)) + b (ix2 (0 : Fin 1) l) := by
  pointwise [k0_pay8]

theorem row4 (e : FVec Ideal S40x1024 .f32) (w : FVec Ideal S1x40x1024 .f32) (b : FVec Ideal S1x1024 .f32) (l : Fin 1024) :
    (k0_pay13 (F := Ideal) e w b) (ix2 (0 : Fin 1) l) = (∑ r : Fin 40, (e (ix2 r l) : EReal) * w (ix3 (0 : Fin 1) r l)) + b (ix2 (0 : Fin 1) l) := by
  pointwise [k0_pay13]

theorem row5 (e : FVec Ideal S40x1024 .f32) (w : FVec Ideal S1x40x1024 .f32) (b : FVec Ideal S1x1024 .f32) (l : Fin 1024) :
    (k0_pay16 (F := Ideal) (k0_pay14 (F := Ideal) e w) (k0_pay15 (F := Ideal) b)) (ix2 (0 : Fin 1) l) = (∑ r : Fin 40, (e (ix2 r l) : EReal) * w (ix3 (0 : Fin 1) r l)) + b (ix2 (0 : Fin 1) l) := by
  pointwise [k0_pay14, k0_pay15, k0_pay16]

theorem row6 (e : FVec Ideal S40x1024 .f32) (w : FVec Ideal S1x40x1024 .f32) (b : FVec Ideal S1x1024 .f32) (l : Fin 1024) :
    (k0_pay17 (F := Ideal) e w b) (ix2 (0 : Fin 1) l) = (∑ r : Fin 40, (e (ix2 r l) : EReal) * w (ix3 (0 : Fin 1) r l)) + b (ix2 (0 : Fin 1) l) := by
  pointwise [k0_pay17]

theorem row7 (e : FVec Ideal S40x1024 .f32) (w : FVec Ideal S1x40x1024 .f32) (b : FVec Ideal S1x1024 .f32) (l : Fin 1024) :
    (k0_pay18 (F := Ideal) e w b) (ix2 (0 : Fin 1) l) = (∑ r : Fin 40, (e (ix2 r l) : EReal) * w (ix3 (0 : Fin 1) r l)) + b (ix2 (0 : Fin 1) l) := by
  pointwise [k0_pay18]

theorem row8 (e : FVec Ideal S40x1024 .f32) (w : FVec Ideal S1x40x1024 .f32) (b : FVec Ideal S1x1024 .f32) (l : Fin 1024) :
    (k0_pay23 (F := Ideal) e w b) (ix2 (0 : Fin 1) l) = (∑ r : Fin 40, (e (ix2 r l) : EReal) * w (ix3 (0 : Fin 1) r l)) + b (ix2 (0 : Fin 1) l) := by
  pointwise [k0_pay23]

theorem row9 (e : FVec Ideal S40x1024 .f32) (w : FVec Ideal S1x40x1024 .f32) (b : FVec Ideal S1x1024 .f32) (l : Fin 1024) :
    (k0_pay24 (F := Ideal) e w b) (ix2 (0 : Fin 1) l) = (∑ r : Fin 40, (e (ix2 r l) : EReal) * w (ix3 (0 : Fin 1) r l)) + b (ix2 (0 : Fin 1) l) := by
  pointwise [k0_pay24]

theorem row10 (e : FVec Ideal S40x1024 .f32) (w : FVec Ideal S1x40x1024 .f32) (b : FVec Ideal S1x1024 .f32) (l : Fin 1024) :
    (k0_pay25 (F := Ideal) e w b) (ix2 (0 : Fin 1) l) = (∑ r : Fin 40, (e (ix2 r l) : EReal) * w (ix3 (0 : Fin 1) r l)) + b (ix2 (0 : Fin 1) l) := by
  pointwise [k0_pay25]

theorem row11 (e : FVec Ideal S40x1024 .f32) (w : FVec Ideal S1x40x1024 .f32) (b : FVec Ideal S1x1024 .f32) (l : Fin 1024) :
    (k0_pay26 (F := Ideal) e w b) (ix2 (0 : Fin 1) l) = (∑ r : Fin 40, (e (ix2 r l) : EReal) * w (ix3 (0 : Fin 1) r l)) + b (ix2 (0 : Fin 1) l) := by
  pointwise [k0_pay26]

theorem row12 (e : FVec Ideal S40x1024 .f32) (w : FVec Ideal S1x40x1024 .f32) (b : FVec Ideal S1x1024 .f32) (l : Fin 1024) :
    (k0_pay30 (F := Ideal) e w b) (ix2 (0 : Fin 1) l) = (∑ r : Fin 40, (e (ix2 r l) : EReal) * w (ix3 (0 : Fin 1) r l)) + b (ix2 (0 : Fin 1) l) := by
  pointwise [k0_pay30]

theorem row13 (e : FVec Ideal S40x1024 .f32) (w : FVec Ideal S1x40x1024 .f32) (b : FVec Ideal S1x1024 .f32) (l : Fin 1024) :
    (k0_pay31 (F := Ideal) e w b) (ix2 (0 : Fin 1) l) = (∑ r : Fin 40, (e (ix2 r l) : EReal) * w (ix3 (0 : Fin 1) r l)) + b (ix2 (0 : Fin 1) l) := by
  pointwise [k0_pay31]

theorem row14 (e : FVec Ideal S40x1024 .f32) (w : FVec Ideal S1x40x1024 .f32) (b : FVec Ideal S1x1024 .f32) (l : Fin 1024) :
    (k0_pay33 (F := Ideal) (k0_pay32 (F := Ideal) e w) b) (ix2 (0 : Fin 1) l) = (∑ r : Fin 40, (e (ix2 r l) : EReal) * w (ix3 (0 : Fin 1) r l)) + b (ix2 (0 : Fin 1) l) := by
  pointwise [k0_pay32, k0_pay33]

theorem row15 (e : FVec Ideal S40x1024 .f32) (w : FVec Ideal S1x40x1024 .f32) (b : FVec Ideal S1x1024 .f32) (l : Fin 1024) :
    (k0_pay34 (F := Ideal) e w b) (ix2 (0 : Fin 1) l) = (∑ r : Fin 40, (e (ix2 r l) : EReal) * w (ix3 (0 : Fin 1) r l)) + b (ix2 (0 : Fin 1) l) := by
  pointwise [k0_pay34]

theorem row16 (e : FVec Ideal S40x1024 .f32) (w : FVec Ideal S1x40x1024 .f32) (b : FVec Ideal S1x1024 .f32) (l : Fin 1024) :
    (k0_pay39 (F := Ideal) e w b) (ix2 (0 : Fin 1) l) = (∑ r : Fin 40, (e (ix2 r l) : EReal) * w (ix3 (0 : Fin 1) r l)) + b (ix2 (0 : Fin 1) l) := by
  pointwise [k0_pay39]

theorem row17 (e : FVec Ideal S40x1024 .f32) (w : FVec Ideal S1x40x1024 .f32) (b : FVec Ideal S1x1024 .f32) (l : Fin 1024) :
    (k0_pay40 (F := Ideal) e w b) (ix2 (0 : Fin 1) l) = (∑ r : Fin 40, (e (ix2 r l) : EReal) * w (ix3 (0 : Fin 1) r l)) + b (ix2 (0 : Fin 1) l) := by
  pointwise [k0_pay40]

theorem row18 (e : FVec Ideal S40x1024 .f32) (w : FVec Ideal S1x40x1024 .f32) (b : FVec Ideal S1x1024 .f32) (l : Fin 1024) :
    (k0_pay42 (F := Ideal) (k0_pay41 (F := Ideal) e w b)) (ix2 (0 : Fin 1) l) = (∑ r : Fin 40, (e (ix2 r l) : EReal) * w (ix3 (0 : Fin 1) r l)) + b (ix2 (0 : Fin 1) l) := by
  pointwise [k0_pay41, k0_pay42]

theorem row19 (e : FVec Ideal S40x1024 .f32) (w : FVec Ideal S1x40x1024 .f32) (b : FVec Ideal S1x1024 .f32) (l : Fin 1024) :
    (k0_pay43 (F := Ideal) e w b) (ix2 (0 : Fin 1) l) = (∑ r : Fin 40, (e (ix2 r l) : EReal) * w (ix3 (0 : Fin 1) r l)) + b (ix2 (0 : Fin 1) l) := by
  pointwise [k0_pay43]

theorem row20 (e : FVec Ideal S40x1024 .f32) (w : FVec Ideal S1x40x1024 .f32) (b : FVec Ideal S1x1024 .f32) (l : Fin 1024) :
    (k0_pay47 (F := Ideal) e w b) (ix2 (0 : Fin 1) l) = (∑ r : Fin 40, (e (ix2 r l) : EReal) * w (ix3 (0 : Fin 1) r l)) + b (ix2 (0 : Fin 1) l) := by
  pointwise [k0_pay47]

theorem row21 (e : FVec Ideal S40x1024 .f32) (w : FVec Ideal S1x40x1024 .f32) (b : FVec Ideal S1x1024 .f32) (l : Fin 1024) :
    (k0_pay48 (F := Ideal) e w b) (ix2 (0 : Fin 1) l) = (∑ r : Fin 40, (e (ix2 r l) : EReal) * w (ix3 (0 : Fin 1) r l)) + b (ix2 (0 : Fin 1) l) := by
  pointwise [k0_pay48]

theorem row22 (e : FVec Ideal S40x1024 .f32) (w : FVec Ideal S1x40x1024 .f32) (b : FVec Ideal S1x1024 .f32) (l : Fin 1024) :
    (k0_pay49 (F := Ideal) e w b) (ix2 (0 : Fin 1) l) = (∑ r : Fin 40, (e (ix2 r l) : EReal) * w (ix3 (0 : Fin 1) r l)) + b (ix2 (0 : Fin 1) l) := by
  pointwise [k0_pay49]

theorem row23 (e : FVec Ideal S40x1024 .f32) (w : FVec Ideal S1x40x1024 .f32) (b : FVec Ideal S1x1024 .f32) (l : Fin 1024) :
    (k0_pay50 (F := Ideal) e w b) (ix2 (0 : Fin 1) l) = (∑ r : Fin 40, (e (ix2 r l) : EReal) * w (ix3 (0 : Fin 1) r l)) + b (ix2 (0 : Fin 1) l) := by
  pointwise [k0_pay50]

theorem row24 (e : FVec Ideal S40x1024 .f32) (w : FVec Ideal S1x40x1024 .f32) (b : FVec Ideal S1x1024 .f32) (l : Fin 1024) :
    (k0_pay55 (F := Ideal) (k0_pay54 (F := Ideal) e w) b) (ix2 (0 : Fin 1) l) = (∑ r : Fin 40, (e (ix2 r l) : EReal) * w (ix3 (0 : Fin 1) r l)) + b (ix2 (0 : Fin 1) l) := by
  pointwise [k0_pay54, k0_pay55]

theorem row25 (e : FVec Ideal S40x1024 .f32) (w : FVec Ideal S1x40x1024 .f32) (b : FVec Ideal S1x1024 .f32) (l : Fin 1024) :
    (k0_pay56 (F := Ideal) e w b) (ix2 (0 : Fin 1) l) = (∑ r : Fin 40, (e (ix2 r l) : EReal) * w (ix3 (0 : Fin 1) r l)) + b (ix2 (0 : Fin 1) l) := by
  pointwise [k0_pay56]

theorem row26 (e : FVec Ideal S40x1024 .f32) (w : FVec Ideal S1x40x1024 .f32) (b : FVec Ideal S1x1024 .f32) (l : Fin 1024) :
    (k0_pay57 (F := Ideal) e w b) (ix2 (0 : Fin 1) l) = (∑ r : Fin 40, (e (ix2 r l) : EReal) * w (ix3 (0 : Fin 1) r l)) + b (ix2 (0 : Fin 1) l) := by
  pointwise [k0_pay57]

theorem row27 (e : FVec Ideal S40x1024 .f32) (w : FVec Ideal S1x40x1024 .f32) (b : FVec Ideal S1x1024 .f32) (l : Fin 1024) :
    (k0_pay59 (F := Ideal) (k0_pay58 (F := Ideal) e w) b) (ix2 (0 : Fin 1) l) = (∑ r : Fin 40, (e (ix2 r l) : EReal) * w (ix3 (0 : Fin 1) r l)) + b (ix2 (0 : Fin 1) l) := by
  pointwise [k0_pay58, k0_pay59]

theorem row28 (e : FVec Ideal S40x1024 .f32) (w : FVec Ideal S1x40x1024 .f32) (b : FVec Ideal S1x1024 .f32) (l : Fin 1024) :
    (k0_pay64 (F := Ideal) (k0_pay63 (F := Ideal) e w b)) (ix2 (0 : Fin 1) l) = (∑ r : Fin 40, (e (ix2 r l) : EReal) * w (ix3 (0 : Fin 1) r l)) + b (ix2 (0 : Fin 1) l) := by
  pointwise [k0_pay63, k0_pay64]

theorem row29 (e : FVec Ideal S40x1024 .f32) (w : FVec Ideal S1x40x1024 .f32) (b : FVec Ideal S1x1024 .f32) (l : Fin 1024) :
    (k0_pay65 (F := Ideal) e w b) (ix2 (0 : Fin 1) l) = (∑ r : Fin 40, (e (ix2 r l) : EReal) * w (ix3 (0 : Fin 1) r l)) + b (ix2 (0 : Fin 1) l) := by
  pointwise [k0_pay65]

theorem row30 (e : FVec Ideal S40x1024 .f32) (w : FVec Ideal S1x40x1024 .f32) (b : FVec Ideal S1x1024 .f32) (l : Fin 1024) :
    (k0_pay66 (F := Ideal) e w b) (ix2 (0 : Fin 1) l) = (∑ r : Fin 40, (e (ix2 r l) : EReal) * w (ix3 (0 : Fin 1) r l)) + b (ix2 (0 : Fin 1) l) := by
  pointwise [k0_pay66]

theorem row31 (e : FVec Ideal S40x1024 .f32) (w : FVec Ideal S1x40x1024 .f32) (b : FVec Ideal S1x1024 .f32) (l : Fin 1024) :
    (k0_pay68 (F := Ideal) (k0_pay67 (F := Ideal) e w b)) (ix2 (0 : Fin 1) l) = (∑ r : Fin 40, (e (ix2 r l) : EReal) * w (ix3 (0 : Fin 1) r l)) + b (ix2 (0 : Fin 1) l) := by
  pointwise [k0_pay67, k0_pay68]

/-- A row of the convolution, from its taps' products summed. -/
theorem row_ok (x0 : FVec Ideal S8x30x1024 .f32) (x1 : FVec Ideal S8x4x1024 .f32) (x2 : FVec Ideal S4x40x1024 .f32) (x3 : FVec Ideal S1x1024 .f32)
    (s : Fin 8) (t : Fin 4) {e : FVec Ideal S40x1024 .f32} {w : FVec Ideal S1x40x1024 .f32} {pay : FVec Ideal S1x1024 .f32}
    (he : e = extOf x0 x1 s) (hw : ∀ r l, w (ix3 (0 : Fin 1) r l) = x2 (ix3 t r l))
    (hpay : ∀ l : Fin 1024, pay (ix2 (0 : Fin 1) l) = (∑ r : Fin 40, (e (ix2 r l) : EReal) * w (ix3 (0 : Fin 1) r l)) + x3 (ix2 (0 : Fin 1) l))
    {k : ℕ} (hk : k = s.val * 4 + t.val) (inb : ∀ a, ![k, 0] a + ![1, 1024] a ≤ S32x1024.size a) (x : S1x1024.Idx) :
    pay x = rowsOf x0 x1 x2 x3 ((Rect.unit (s := S32x1024) ![k, 0] ![1, 1024] inb).emb x) := by
  subst hk
  subst he
  have hx0 : (x 0 : ℕ) = 0 := by have : (x 0 : ℕ) < 1 := (x 0).isLt; omega
  have e1 : x = ix2 (0 : Fin 1) (x 1) := (eq_ix2 x).trans (congrArg (ix2 · (x 1)) (Fin.ext hx0))
  have e2 : (Rect.unit (s := S32x1024) ![s.val * 4 + t.val, 0] ![1, 1024] inb).emb x = ix2 (⟨s.val * 4 + t.val, by omega⟩ : Fin 32) (x 1) := by
    blk_ext [hx0]
  have f1 : (⟨(s.val * 4 + t.val) / 4, by omega⟩ : Fin 8) = s := Fin.ext (by show (s.val * 4 + t.val) / 4 = s.val; omega)
  have f2 : (⟨(s.val * 4 + t.val) % 4, by omega⟩ : Fin 4) = t := Fin.ext (by show (s.val * 4 + t.val) % 4 = t.val; omega)
  rw [e2]
  refine (congrArg pay e1).trans ((hpay (x 1)).trans ?_)
  show _ = (∑ r : Fin 40, (extOf x0 x1 (⟨(s.val * 4 + t.val) / 4, _⟩ : Fin 8) (ix2 r (x 1)) : EReal)
    * x2 (ix3 (⟨(s.val * 4 + t.val) % 4, _⟩ : Fin 4) r (x 1))) + x3 (ix2 (0 : Fin 1) (x 1))
  rw [f1, f2]
  exact congrArg (fun v : EReal => v + x3 (ix2 (0 : Fin 1) (x 1))) (Finset.sum_congr rfl fun r _ => congrArg (fun v : EReal => (extOf x0 x1 s (ix2 r (x 1)) : EReal) * v) (hw r (x 1)))

theorem ld_tap0 (x2 : FVec Ideal S4x40x1024 .f32) (r : Fin 40) (l : Fin 1024) : (View.ld (Val := Elt Ideal) (e' := .f32) x2 (Rect.unit ![0, 0, 0] ![1, 40, 1024] inb_S4x40x1024_S1x40x1024_0_0_0)) (ix3 (0 : Fin 1) r l)
    = x2 (ix3 (⟨0, by decide⟩ : Fin 4) r l) := by
  pointwise
  blk_ext []

theorem ld_tap1 (x2 : FVec Ideal S4x40x1024 .f32) (r : Fin 40) (l : Fin 1024) : (View.ld (Val := Elt Ideal) (e' := .f32) x2 (Rect.unit ![1, 0, 0] ![1, 40, 1024] inb_S4x40x1024_S1x40x1024_1_0_0)) (ix3 (0 : Fin 1) r l)
    = x2 (ix3 (⟨1, by decide⟩ : Fin 4) r l) := by
  pointwise
  blk_ext []

theorem ld_tap2 (x2 : FVec Ideal S4x40x1024 .f32) (r : Fin 40) (l : Fin 1024) : (View.ld (Val := Elt Ideal) (e' := .f32) x2 (Rect.unit ![2, 0, 0] ![1, 40, 1024] inb_S4x40x1024_S1x40x1024_2_0_0)) (ix3 (0 : Fin 1) r l)
    = x2 (ix3 (⟨2, by decide⟩ : Fin 4) r l) := by
  pointwise
  blk_ext []

theorem ld_tap3 (x2 : FVec Ideal S4x40x1024 .f32) (r : Fin 40) (l : Fin 1024) : (View.ld (Val := Elt Ideal) (e' := .f32) x2 (Rect.unit ![3, 0, 0] ![1, 40, 1024] inb_S4x40x1024_S1x40x1024_3_0_0)) (ix3 (0 : Fin 1) r l)
    = x2 (ix3 (⟨3, by decide⟩ : Fin 4) r l) := by
  pointwise
  blk_ext []

/-- The scratch of rows, read whole. -/
theorem pay_of {v v' : FVec Ideal S32x1024 .f32} (hv : v = v') (g o : FVec Ideal S1x1024 .f32) (y : S32x1024.Idx) :
    k0_pay69 (F := Ideal) v g o y = k0_pay69 (F := Ideal) v' g o y := by rw [hv]

variable (m : (ℓ : Loc nD τ sig) → Buf (Elt Ideal) ℓ)

/-- What a point stores: the normalised and swished rows. -/
theorem after_eq (c : Dev nD) (t : Fin cfg0.N) (y : S32x1024.Idx) : (dats m 0 c).after 6 t y
    = k0_pay69 (F := Ideal) (rowsOf (iblk m c 0 t) (iblk m c 1 t) (iblk m c 2 t) (iblk m c 3 t)) (iblk m c 4 t) (iblk m c 5 t) y := by
  rw [after0_6]; unfold Gen.outsAt0; frame_out
  refine pay_of (read_of_pieces _ _ (by decide) _ _ ?_ (View.cover_of_tiledL _ ![1, 1024] (by sl_kernel_rfl))) _ _ _
  refine List.forall_mem_cons.2 ⟨?_, ?_⟩
  · exact row_ok (k := 31) _ _ _ _ (⟨7, by decide⟩ : Fin 8) (⟨3, by decide⟩ : Fin 4) (ext_read7 _ _ _) (ld_tap3 _) (row31 _ _ _) rfl inb_S32x1024_S1x1024_31_0
  refine List.forall_mem_cons.2 ⟨?_, ?_⟩
  · exact row_ok (k := 30) _ _ _ _ (⟨7, by decide⟩ : Fin 8) (⟨2, by decide⟩ : Fin 4) (ext_read7 _ _ _) (ld_tap2 _) (row30 _ _ _) rfl inb_S32x1024_S1x1024_30_0
  refine List.forall_mem_cons.2 ⟨?_, ?_⟩
  · exact row_ok (k := 29) _ _ _ _ (⟨7, by decide⟩ : Fin 8) (⟨1, by decide⟩ : Fin 4) (ext_read7 _ _ _) (ld_tap1 _) (row29 _ _ _) rfl inb_S32x1024_S1x1024_29_0
  refine List.forall_mem_cons.2 ⟨?_, ?_⟩
  · exact row_ok (k := 28) _ _ _ _ (⟨7, by decide⟩ : Fin 8) (⟨0, by decide⟩ : Fin 4) (ext_read7 _ _ _) (ld_tap0 _) (row28 _ _ _) rfl inb_S32x1024_S1x1024_28_0
  refine List.forall_mem_cons.2 ⟨?_, ?_⟩
  · exact row_ok (k := 27) _ _ _ _ (⟨6, by decide⟩ : Fin 8) (⟨3, by decide⟩ : Fin 4) (ext_read6 _ _ _) (ld_tap3 _) (row27 _ _ _) rfl inb_S32x1024_S1x1024_27_0
  refine List.forall_mem_cons.2 ⟨?_, ?_⟩
  · exact row_ok (k := 26) _ _ _ _ (⟨6, by decide⟩ : Fin 8) (⟨2, by decide⟩ : Fin 4) (ext_read6 _ _ _) (ld_tap2 _) (row26 _ _ _) rfl inb_S32x1024_S1x1024_26_0
  refine List.forall_mem_cons.2 ⟨?_, ?_⟩
  · exact row_ok (k := 25) _ _ _ _ (⟨6, by decide⟩ : Fin 8) (⟨1, by decide⟩ : Fin 4) (ext_read6 _ _ _) (ld_tap1 _) (row25 _ _ _) rfl inb_S32x1024_S1x1024_25_0
  refine List.forall_mem_cons.2 ⟨?_, ?_⟩
  · exact row_ok (k := 24) _ _ _ _ (⟨6, by decide⟩ : Fin 8) (⟨0, by decide⟩ : Fin 4) (ext_read6 _ _ _) (ld_tap0 _) (row24 _ _ _) rfl inb_S32x1024_S1x1024_24_0
  refine List.forall_mem_cons.2 ⟨?_, ?_⟩
  · exact row_ok (k := 23) _ _ _ _ (⟨5, by decide⟩ : Fin 8) (⟨3, by decide⟩ : Fin 4) (ext_read5 _ _ _) (ld_tap3 _) (row23 _ _ _) rfl inb_S32x1024_S1x1024_23_0
  refine List.forall_mem_cons.2 ⟨?_, ?_⟩
  · exact row_ok (k := 22) _ _ _ _ (⟨5, by decide⟩ : Fin 8) (⟨2, by decide⟩ : Fin 4) (ext_read5 _ _ _) (ld_tap2 _) (row22 _ _ _) rfl inb_S32x1024_S1x1024_22_0
  refine List.forall_mem_cons.2 ⟨?_, ?_⟩
  · exact row_ok (k := 21) _ _ _ _ (⟨5, by decide⟩ : Fin 8) (⟨1, by decide⟩ : Fin 4) (ext_read5 _ _ _) (ld_tap1 _) (row21 _ _ _) rfl inb_S32x1024_S1x1024_21_0
  refine List.forall_mem_cons.2 ⟨?_, ?_⟩
  · exact row_ok (k := 20) _ _ _ _ (⟨5, by decide⟩ : Fin 8) (⟨0, by decide⟩ : Fin 4) (ext_read5 _ _ _) (ld_tap0 _) (row20 _ _ _) rfl inb_S32x1024_S1x1024_20_0
  refine List.forall_mem_cons.2 ⟨?_, ?_⟩
  · exact row_ok (k := 19) _ _ _ _ (⟨4, by decide⟩ : Fin 8) (⟨3, by decide⟩ : Fin 4) (ext_read4 _ _ _) (ld_tap3 _) (row19 _ _ _) rfl inb_S32x1024_S1x1024_19_0
  refine List.forall_mem_cons.2 ⟨?_, ?_⟩
  · exact row_ok (k := 18) _ _ _ _ (⟨4, by decide⟩ : Fin 8) (⟨2, by decide⟩ : Fin 4) (ext_read4 _ _ _) (ld_tap2 _) (row18 _ _ _) rfl inb_S32x1024_S1x1024_18_0
  refine List.forall_mem_cons.2 ⟨?_, ?_⟩
  · exact row_ok (k := 17) _ _ _ _ (⟨4, by decide⟩ : Fin 8) (⟨1, by decide⟩ : Fin 4) (ext_read4 _ _ _) (ld_tap1 _) (row17 _ _ _) rfl inb_S32x1024_S1x1024_17_0
  refine List.forall_mem_cons.2 ⟨?_, ?_⟩
  · exact row_ok (k := 16) _ _ _ _ (⟨4, by decide⟩ : Fin 8) (⟨0, by decide⟩ : Fin 4) (ext_read4 _ _ _) (ld_tap0 _) (row16 _ _ _) rfl inb_S32x1024_S1x1024_16_0
  refine List.forall_mem_cons.2 ⟨?_, ?_⟩
  · exact row_ok (k := 15) _ _ _ _ (⟨3, by decide⟩ : Fin 8) (⟨3, by decide⟩ : Fin 4) (ext_read3 _ _ _) (ld_tap3 _) (row15 _ _ _) rfl inb_S32x1024_S1x1024_15_0
  refine List.forall_mem_cons.2 ⟨?_, ?_⟩
  · exact row_ok (k := 14) _ _ _ _ (⟨3, by decide⟩ : Fin 8) (⟨2, by decide⟩ : Fin 4) (ext_read3 _ _ _) (ld_tap2 _) (row14 _ _ _) rfl inb_S32x1024_S1x1024_14_0
  refine List.forall_mem_cons.2 ⟨?_, ?_⟩
  · exact row_ok (k := 13) _ _ _ _ (⟨3, by decide⟩ : Fin 8) (⟨1, by decide⟩ : Fin 4) (ext_read3 _ _ _) (ld_tap1 _) (row13 _ _ _) rfl inb_S32x1024_S1x1024_13_0
  refine List.forall_mem_cons.2 ⟨?_, ?_⟩
  · exact row_ok (k := 12) _ _ _ _ (⟨3, by decide⟩ : Fin 8) (⟨0, by decide⟩ : Fin 4) (ext_read3 _ _ _) (ld_tap0 _) (row12 _ _ _) rfl inb_S32x1024_S1x1024_12_0
  refine List.forall_mem_cons.2 ⟨?_, ?_⟩
  · exact row_ok (k := 11) _ _ _ _ (⟨2, by decide⟩ : Fin 8) (⟨3, by decide⟩ : Fin 4) (ext_read2 _ _ _) (ld_tap3 _) (row11 _ _ _) rfl inb_S32x1024_S1x1024_11_0
  refine List.forall_mem_cons.2 ⟨?_, ?_⟩
  · exact row_ok (k := 10) _ _ _ _ (⟨2, by decide⟩ : Fin 8) (⟨2, by decide⟩ : Fin 4) (ext_read2 _ _ _) (ld_tap2 _) (row10 _ _ _) rfl inb_S32x1024_S1x1024_10_0
  refine List.forall_mem_cons.2 ⟨?_, ?_⟩
  · exact row_ok (k := 9) _ _ _ _ (⟨2, by decide⟩ : Fin 8) (⟨1, by decide⟩ : Fin 4) (ext_read2 _ _ _) (ld_tap1 _) (row9 _ _ _) rfl inb_S32x1024_S1x1024_9_0
  refine List.forall_mem_cons.2 ⟨?_, ?_⟩
  · exact row_ok (k := 8) _ _ _ _ (⟨2, by decide⟩ : Fin 8) (⟨0, by decide⟩ : Fin 4) (ext_read2 _ _ _) (ld_tap0 _) (row8 _ _ _) rfl inb_S32x1024_S1x1024_8_0
  refine List.forall_mem_cons.2 ⟨?_, ?_⟩
  · exact row_ok (k := 7) _ _ _ _ (⟨1, by decide⟩ : Fin 8) (⟨3, by decide⟩ : Fin 4) (ext_read1 _ _ _) (ld_tap3 _) (row7 _ _ _) rfl inb_S32x1024_S1x1024_7_0
  refine List.forall_mem_cons.2 ⟨?_, ?_⟩
  · exact row_ok (k := 6) _ _ _ _ (⟨1, by decide⟩ : Fin 8) (⟨2, by decide⟩ : Fin 4) (ext_read1 _ _ _) (ld_tap2 _) (row6 _ _ _) rfl inb_S32x1024_S1x1024_6_0
  refine List.forall_mem_cons.2 ⟨?_, ?_⟩
  · exact row_ok (k := 5) _ _ _ _ (⟨1, by decide⟩ : Fin 8) (⟨1, by decide⟩ : Fin 4) (ext_read1 _ _ _) (ld_tap1 _) (row5 _ _ _) rfl inb_S32x1024_S1x1024_5_0
  refine List.forall_mem_cons.2 ⟨?_, ?_⟩
  · exact row_ok (k := 4) _ _ _ _ (⟨1, by decide⟩ : Fin 8) (⟨0, by decide⟩ : Fin 4) (ext_read1 _ _ _) (ld_tap0 _) (row4 _ _ _) rfl inb_S32x1024_S1x1024_4_0
  refine List.forall_mem_cons.2 ⟨?_, ?_⟩
  · exact row_ok (k := 3) _ _ _ _ (⟨0, by decide⟩ : Fin 8) (⟨3, by decide⟩ : Fin 4) (ext_read0 _ _ _) (ld_tap3 _) (row3 _ _ _) rfl inb_S32x1024_S1x1024_3_0
  refine List.forall_mem_cons.2 ⟨?_, ?_⟩
  · exact row_ok (k := 2) _ _ _ _ (⟨0, by decide⟩ : Fin 8) (⟨2, by decide⟩ : Fin 4) (ext_read0 _ _ _) (ld_tap2 _) (row2 _ _ _) rfl inb_S32x1024_S1x1024_2_0
  refine List.forall_mem_cons.2 ⟨?_, ?_⟩
  · exact row_ok (k := 1) _ _ _ _ (⟨0, by decide⟩ : Fin 8) (⟨1, by decide⟩ : Fin 4) (ext_read0 _ _ _) (ld_tap1 _) (row1 _ _ _) rfl inb_S32x1024_S1x1024_1_0
  refine List.forall_mem_cons.2 ⟨?_, ?_⟩
  · exact row_ok (k := 0) _ _ _ _ (⟨0, by decide⟩ : Fin 8) (⟨0, by decide⟩ : Fin 4) (ext_read0 _ _ _) (ld_tap0 _) (row0 _ _ _) rfl inb_S32x1024_S1x1024_0_0
  exact fun p hp => absurd hp List.not_mem_nil

end Cert.Proof.ConvS

end
-- ==== Proof.ConvSTap.lean ====
module

public import proofs.«01_k».proof.Defs
public import proofs.«01_k».proof.Proof.Gen.ConvSIdeal.Value
public import Idealize.ShloMosaic.Lib.Pipeline.ValueKit
public import Idealize.ShloMosaic.Lib.Claim
public import Idealize.ShloMosaic.Lib.Routing.OpsOne
public import Idealize.ShloMosaic.Lib.Pointwise

@[expose] public section

set_option maxRecDepth 16384

noncomputable section

namespace Cert.Proof.ConvS

open Idealize.ShloMosaic Idealize.ShloMosaic.TcCoe Idealize.SL.Sem
open Idealize.ShloMosaic.Pipeline (Dat)

section Rows

open Idealize.ShloMosaic.Routing

/-- Rows of a matrix overwritten at a literal row, read at an entry. -/
theorem scatter_rows {α : Type} {R C U : ℕ} (d : ScatterDims (shape2 R C) (shape1 1) (shape2 U C)) (huw : d.updateWindowDims = [0, 1])
    (hiw : d.insertedWindowDims = []) (hsd : d.scatterDimsToOperandDims = [0]) (hivd : d.indexVectorDim = 0) (x0 : (shape2 R C).Idx → α)
    (idx : IVec (shape1 1) 32) (upd : (shape2 U C).Idx → α) (k : ℕ) (hk : (idx (ValueIdx.ix1 (0 : Fin 1))).toInt = (k : Int)) (r : Fin R) (c : Fin C) :
    Host.scatter d (fun _ b => b) x0 idx upd (ValueIdx.ix2 r c)
      = if h : k ≤ r.val ∧ r.val < k + U then upd (ValueIdx.ix2 (⟨r.val - k, by omega⟩ : Fin U) c) else x0 (ValueIdx.ix2 r c) := by
  have hs0 : ∀ j, d.start j idx 0 = (k : Int) := by
    intro j
    have hm : (0 : Fin 2) ∈ d.scatterDimsToOperandDims := by rw [hsd]; simp
    have hsi : d.siIdx j ⟨d.scatterDimsToOperandDims.idxOf (0 : Fin 2), List.idxOf_lt_length_iff.2 hm⟩ = ValueIdx.ix1 (0 : Fin 1) := by
      funext b'
      apply Fin.ext
      match b' with
      | ⟨0, _⟩ =>
        unfold ScatterDims.siIdx
        rw [dif_pos (by rw [hivd])]
        show List.idxOf (0 : Fin 2) d.scatterDimsToOperandDims = 0
        rw [hsd]
        rfl
    unfold ScatterDims.start
    rw [dif_pos hm, hsi, hk]
  have hs1 : ∀ j, d.start j idx 1 = 0 := by
    intro j
    unfold ScatterDims.start
    rw [dif_neg (by rw [hsd]; simp)]
  have hkept : d.sKept = [0, 1] := by
    show (shape2 R C).kept d.insertedWindowDims = _
    rw [hiw]
    rfl
  have hw : ∀ (i : Fin U) (l : Fin C) (a : Fin 2), d.window (ValueIdx.ix2 i l) a = ((ValueIdx.ix2 i l : (shape2 U C).Idx) a).val := by
    intro i l a
    unfold ScatterDims.window
    rw [dif_pos (by rw [hkept]; fin_cases a <;> simp)]
    have key : ∀ (K : List (Fin 2)) (W : List (Fin 2)) (hK : K = [0, 1]) (hW : W = [0, 1]) (hlt : K.idxOf a < W.length), W[K.idxOf a]'hlt = a := by
      intro K W hK hW hlt
      subst hK
      subst hW
      fin_cases a <;> rfl
    exact congrArg (fun t => ((ValueIdx.ix2 i l : (shape2 U C).Idx) t).val) (key d.sKept d.updateWindowDims hkept huw _)
  have lands : ∀ (i : Fin U) (l : Fin C), d.resultIdx? (ValueIdx.ix2 i l) idx = some (ValueIdx.ix2 r c) ↔ k + i.val = r.val ∧ l = c := by
    intro i l
    rw [resultIdx?_ix2, hs0, hs1, hw, hw]
    constructor
    · rintro ⟨h0, h1⟩
      have h0' : (k : Int) + (i.val : Int) = r.val := h0
      have h1' : (0 : Int) + (l.val : Int) = c.val := h1
      exact ⟨by omega, Fin.ext (by omega)⟩
    · rintro ⟨h0, rfl⟩
      exact ⟨by show (k : Int) + (i.val : Int) = r.val; omega, by show (0 : Int) + (l.val : Int) = l.val; omega⟩
  split
  · rename_i h
    refine scatter_set_hit d x0 idx upd _ _ (fun j hj => ?_) (ValueIdx.ix2 (⟨r.val - k, by omega⟩ : Fin U) c)
      ((lands _ _).2 ⟨by show k + (r.val - k) = r.val; omega, rfl⟩)
    rw [ValueIdx.eq_ix2 j] at hj ⊢
    obtain ⟨h0, h1⟩ := (lands _ _).1 hj
    rw [h1]
    exact congrArg (fun i => upd (ValueIdx.ix2 i c)) (Fin.ext (by show (j 0).val = r.val - k; omega))
  · rename_i h
    refine scatter_set_miss d x0 idx upd _ fun j hj => h ?_
    rw [ValueIdx.eq_ix2 j] at hj
    obtain ⟨h0, h1⟩ := (lands _ _).1 hj
    have : (j 0).val < U := (j 0).isLt
    omega

end Rows

/-- The same, of the shapes that are printed. -/
theorem scatter_rows' {α : Type} {R C U : ℕ} (d : ScatterDims (Shape.mk 2 ![R, C]) (Shape.mk 1 ![1]) (Shape.mk 2 ![U, C])) (huw : d.updateWindowDims = [0, 1])
    (hiw : d.insertedWindowDims = []) (hsd : d.scatterDimsToOperandDims = [0]) (hivd : d.indexVectorDim = 0) (x0 : (Shape.mk 2 ![R, C]).Idx → α)
    (idx : IVec (Shape.mk 1 ![1]) 32) (upd : (Shape.mk 2 ![U, C]).Idx → α) (k : ℕ) (hk : (idx (ix1 (0 : Fin 1))).toInt = (k : Int)) (r : Fin R) (c : Fin C) :
    Host.scatter d (fun _ b => b) x0 idx upd (ix2 r c)
      = if h : k ≤ r.val ∧ r.val < k + U then upd (ix2 (⟨r.val - k, by omega⟩ : Fin U) c) else x0 (ix2 r c) :=
  scatter_rows d huw hiw hsd hivd x0 idx upd k hk r c

open Cert.ConvSIdeal Cert.ConvSIdeal.Gen

/-- The buffer's weights for row 0 of a sequence: the taps down to the state's last row, then those of the new rows. -/
def wRow0 (w : FVec Ideal S1x31x1024 .f32) : FVec Ideal S40x1024 .f32 :=
  Host.scatter scatter_S40x1024_S1_S1x1024_01_n_0_0 (fun _ b => b)
    (Host.scatter scatter_S40x1024_S1_S30x1024_01_n_0_0 (fun _ b => b)
      (broadcastInDim S40x1024 ![] bcast_S_S40x1024 (constant S_ .f32 0x00000000#32) : FVec Ideal S40x1024 .f32)
      (broadcastInDim S1 ![] bcast_S_S1 (constantI S_ 32 0#32))
      (extractStridedSlice S30x1024 ![0, 0] (shapeCast _ w shapeCasts_S1x31x1024_S31x1024) slices_S31x1024_S30x1024_0_0))
    (broadcastInDim S1 ![] bcast_S_S1 (constantI S_ 32 32#32))
    (extractStridedSlice S1x1024 ![30, 0] (shapeCast _ w shapeCasts_S1x31x1024_S31x1024) slices_S31x1024_S1x1024_30_0)

/-- The buffer's weights for row 1 of a sequence: the taps down to the state's last row, then those of the new rows. -/
def wRow1 (w : FVec Ideal S1x31x1024 .f32) : FVec Ideal S40x1024 .f32 :=
  Host.scatter scatter_S40x1024_S1_S2x1024_01_n_0_0 (fun _ b => b)
    (Host.scatter scatter_S40x1024_S1_S29x1024_01_n_0_0 (fun _ b => b)
      (broadcastInDim S40x1024 ![] bcast_S_S40x1024 (constant S_ .f32 0x00000000#32) : FVec Ideal S40x1024 .f32)
      (broadcastInDim S1 ![] bcast_S_S1 (constantI S_ 32 1#32))
      (extractStridedSlice S29x1024 ![0, 0] (shapeCast _ w shapeCasts_S1x31x1024_S31x1024) slices_S31x1024_S29x1024_0_0))
    (broadcastInDim S1 ![] bcast_S_S1 (constantI S_ 32 32#32))
    (extractStridedSlice S2x1024 ![29, 0] (shapeCast _ w shapeCasts_S1x31x1024_S31x1024) slices_S31x1024_S2x1024_29_0)

/-- The buffer's weights for row 2 of a sequence: the taps down to the state's last row, then those of the new rows. -/
def wRow2 (w : FVec Ideal S1x31x1024 .f32) : FVec Ideal S40x1024 .f32 :=
  Host.scatter scatter_S40x1024_S1_S3x1024_01_n_0_0 (fun _ b => b)
    (Host.scatter scatter_S40x1024_S1_S28x1024_01_n_0_0 (fun _ b => b)
      (broadcastInDim S40x1024 ![] bcast_S_S40x1024 (constant S_ .f32 0x00000000#32) : FVec Ideal S40x1024 .f32)
      (broadcastInDim S1 ![] bcast_S_S1 (constantI S_ 32 2#32))
      (extractStridedSlice S28x1024 ![0, 0] (shapeCast _ w shapeCasts_S1x31x1024_S31x1024) slices_S31x1024_S28x1024_0_0))
    (broadcastInDim S1 ![] bcast_S_S1 (constantI S_ 32 32#32))
    (extractStridedSlice S3x1024 ![28, 0] (shapeCast _ w shapeCasts_S1x31x1024_S31x1024) slices_S31x1024_S3x1024_28_0)

/-- The buffer's weights for row 3 of a sequence: the taps down to the state's last row, then those of the new rows. -/
def wRow3 (w : FVec Ideal S1x31x1024 .f32) : FVec Ideal S40x1024 .f32 :=
  Host.scatter scatter_S40x1024_S1_S4x1024_01_n_0_0 (fun _ b => b)
    (Host.scatter scatter_S40x1024_S1_S27x1024_01_n_0_0 (fun _ b => b)
      (broadcastInDim S40x1024 ![] bcast_S_S40x1024 (constant S_ .f32 0x00000000#32) : FVec Ideal S40x1024 .f32)
      (broadcastInDim S1 ![] bcast_S_S1 (constantI S_ 32 3#32))
      (extractStridedSlice S27x1024 ![0, 0] (shapeCast _ w shapeCasts_S1x31x1024_S31x1024) slices_S31x1024_S27x1024_0_0))
    (broadcastInDim S1 ![] bcast_S_S1 (constantI S_ 32 32#32))
    (extractStridedSlice S4x1024 ![27, 0] (shapeCast _ w shapeCasts_S1x31x1024_S31x1024) slices_S31x1024_S4x1024_27_0)

/-- The weights of a buffer's row for a row of the sequence, in closed form. -/
def wAt (w : FVec Ideal S1x31x1024 .f32) (t : ℕ) (r : ℕ) (l : Fin 1024) : EReal :=
  if h : 32 ≤ r ∧ r ≤ 32 + t ∧ t < 4 then w (ix3 (0 : Fin 1) (⟨r - 2 - t, by omega⟩ : Fin 31) l)
  else if h : t ≤ r ∧ r < 30 then w (ix3 (0 : Fin 1) (⟨r - t, by omega⟩ : Fin 31) l) else 0

theorem wRow0_apply (w : FVec Ideal S1x31x1024 .f32) (r : Fin 40) (l : Fin 1024) : wRow0 w (ix2 r l) = wAt w 0 r.val l := by
  unfold wRow0 wAt
  rw [scatter_rows' _ rfl rfl rfl rfl _ _ _ 32 rfl, scatter_rows' _ rfl rfl rfl rfl _ _ _ 0 rfl]
  by_cases h : 32 ≤ r.val ∧ r.val ≤ 32 + 0 ∧ 0 < 4
  · rw [dif_pos h, dif_pos (by omega)]
    pointwise
    blk_ext []
  · rw [dif_neg h, dif_neg (by omega)]
    by_cases h' : 0 ≤ r.val ∧ r.val < 30
    · rw [dif_pos h', dif_pos (by omega)]
      pointwise
      blk_ext []
    · rw [dif_neg h', dif_neg (by omega)]
      pointwise

theorem wRow1_apply (w : FVec Ideal S1x31x1024 .f32) (r : Fin 40) (l : Fin 1024) : wRow1 w (ix2 r l) = wAt w 1 r.val l := by
  unfold wRow1 wAt
  rw [scatter_rows' _ rfl rfl rfl rfl _ _ _ 32 rfl, scatter_rows' _ rfl rfl rfl rfl _ _ _ 1 rfl]
  by_cases h : 32 ≤ r.val ∧ r.val ≤ 32 + 1 ∧ 1 < 4
  · rw [dif_pos h, dif_pos (by omega)]
    pointwise
    blk_ext []
  · rw [dif_neg h, dif_neg (by omega)]
    by_cases h' : 1 ≤ r.val ∧ r.val < 30
    · rw [dif_pos h', dif_pos (by omega)]
      pointwise
      blk_ext []
    · rw [dif_neg h', dif_neg (by omega)]
      pointwise

theorem wRow2_apply (w : FVec Ideal S1x31x1024 .f32) (r : Fin 40) (l : Fin 1024) : wRow2 w (ix2 r l) = wAt w 2 r.val l := by
  unfold wRow2 wAt
  rw [scatter_rows' _ rfl rfl rfl rfl _ _ _ 32 rfl, scatter_rows' _ rfl rfl rfl rfl _ _ _ 2 rfl]
  by_cases h : 32 ≤ r.val ∧ r.val ≤ 32 + 2 ∧ 2 < 4
  · rw [dif_pos h, dif_pos (by omega)]
    pointwise
    blk_ext []
  · rw [dif_neg h, dif_neg (by omega)]
    by_cases h' : 2 ≤ r.val ∧ r.val < 30
    · rw [dif_pos h', dif_pos (by omega)]
      pointwise
      blk_ext []
    · rw [dif_neg h', dif_neg (by omega)]
      pointwise

theorem wRow3_apply (w : FVec Ideal S1x31x1024 .f32) (r : Fin 40) (l : Fin 1024) : wRow3 w (ix2 r l) = wAt w 3 r.val l := by
  unfold wRow3 wAt
  rw [scatter_rows' _ rfl rfl rfl rfl _ _ _ 32 rfl, scatter_rows' _ rfl rfl rfl rfl _ _ _ 3 rfl]
  by_cases h : 32 ≤ r.val ∧ r.val ≤ 32 + 3 ∧ 3 < 4
  · rw [dif_pos h, dif_pos (by omega)]
    pointwise
    blk_ext []
  · rw [dif_neg h, dif_neg (by omega)]
    by_cases h' : 3 ≤ r.val ∧ r.val < 30
    · rw [dif_pos h', dif_pos (by omega)]
      pointwise
      blk_ext []
    · rw [dif_neg h', dif_neg (by omega)]
      pointwise

/-- The weights, staged together. -/
def wArr (w : FVec Ideal S1x31x1024 .f32) : FVec Ideal S4x40x1024 .f32 :=
  concatenate S4x40x1024 0 [⟨S1x40x1024, broadcastInDim S1x40x1024 ![1, 2] bcast_S40x1024_S1x40x1024_1_2 (wRow0 w)⟩,
    ⟨S1x40x1024, broadcastInDim S1x40x1024 ![1, 2] bcast_S40x1024_S1x40x1024_1_2 (wRow1 w)⟩,
    ⟨S1x40x1024, broadcastInDim S1x40x1024 ![1, 2] bcast_S40x1024_S1x40x1024_1_2 (wRow2 w)⟩,
    ⟨S1x40x1024, broadcastInDim S1x40x1024 ![1, 2] bcast_S40x1024_S1x40x1024_1_2 (wRow3 w)⟩] concatenates_S1x40x1024_S1x40x1024_S1x40x1024_S1x40x1024_S4x40x1024_d0

theorem wArr_apply (w : FVec Ideal S1x31x1024 .f32) (t : Fin 4) (r : Fin 40) (l : Fin 1024) : wArr w (ix3 t r l) = wAt w t.val r.val l := by
  fin_cases t
  · refine Eq.trans ?_ (wRow0_apply w r l)
    pointwise [wArr]
  · refine Eq.trans ?_ (wRow1_apply w r l)
    pointwise [wArr]
  · refine Eq.trans ?_ (wRow2_apply w r l)
    pointwise [wArr]
  · refine Eq.trans ?_ (wRow3_apply w r l)
    pointwise [wArr]

/-- A buffer's rows against a row's weights: the thirty-one taps of the rows from that row on. -/
theorem sum_taps (w : FVec Ideal S1x31x1024 .f32) (t : Fin 4) (l : Fin 1024) (e : Fin 40 → EReal) (f : Fin 34 → EReal)
    (hlo : ∀ (r : Fin 40) (h : r.val < 30), e r = f (⟨r.val, by omega⟩ : Fin 34))
    (hhi : ∀ (r : Fin 40) (h : 32 ≤ r.val ∧ r.val < 36), e r = f (⟨r.val - 2, by omega⟩ : Fin 34)) :
    (∑ r : Fin 40, e r * wAt w t.val r.val l) = ∑ k : Fin 31, f (⟨t.val + k.val, by omega⟩ : Fin 34) * w (ix3 (0 : Fin 1) k l) := by
  symm
  refine Finset.sum_of_injOn (fun k : Fin 31 => (⟨if t.val + k.val < 30 then t.val + k.val else t.val + k.val + 2, by split <;> omega⟩ : Fin 40)) ?_ ?_ ?_ ?_
  · intro a _ b _ hab
    have hab' : (if t.val + a.val < 30 then t.val + a.val else t.val + a.val + 2) = (if t.val + b.val < 30 then t.val + b.val else t.val + b.val + 2) :=
      congrArg Fin.val hab
    apply Fin.ext
    split at hab' <;> split at hab' <;> omega
  · intro a _
    exact Finset.mem_coe.2 (Finset.mem_univ _)
  · intro r _ hr
    have hz : wAt w t.val r.val l = 0 := by
      unfold wAt
      by_cases h : 32 ≤ r.val ∧ r.val ≤ 32 + t.val ∧ t.val < 4
      · refine absurd ⟨(⟨r.val - 2 - t.val, by omega⟩ : Fin 31), Finset.mem_coe.2 (Finset.mem_univ _), Fin.ext ?_⟩ hr
        show (if t.val + (r.val - 2 - t.val) < 30 then t.val + (r.val - 2 - t.val) else t.val + (r.val - 2 - t.val) + 2) = r.val
        rw [if_neg (by omega)]
        omega
      · rw [dif_neg h]
        by_cases h' : t.val ≤ r.val ∧ r.val < 30
        · refine absurd ⟨(⟨r.val - t.val, by omega⟩ : Fin 31), Finset.mem_coe.2 (Finset.mem_univ _), Fin.ext ?_⟩ hr
          show (if t.val + (r.val - t.val) < 30 then t.val + (r.val - t.val) else t.val + (r.val - t.val) + 2) = r.val
          rw [if_pos (by omega)]
          omega
        · rw [dif_neg h']
    rw [hz, mul_zero]
  · intro k _
    by_cases h : t.val + k.val < 30
    · have e1 : (⟨if t.val + k.val < 30 then t.val + k.val else t.val + k.val + 2, by split <;> omega⟩ : Fin 40) = ⟨t.val + k.val, by omega⟩ :=
        Fin.ext (if_pos h)
      show _ = e (⟨if t.val + k.val < 30 then t.val + k.val else t.val + k.val + 2, _⟩ : Fin 40) * wAt w t.val (⟨if t.val + k.val < 30 then t.val + k.val else t.val + k.val + 2, _⟩ : Fin 40).val l
      rw [e1, hlo _ h]
      unfold wAt
      rw [dif_neg (by show ¬ (32 ≤ t.val + k.val ∧ _); omega), dif_pos (show t.val ≤ t.val + k.val ∧ t.val + k.val < 30 from ⟨by omega, h⟩)]
      have e2 : (⟨t.val + k.val - t.val, by omega⟩ : Fin 31) = k := Fin.ext (by show t.val + k.val - t.val = k.val; omega)
      show _ = _ * w (ix3 (0 : Fin 1) (⟨t.val + k.val - t.val, _⟩ : Fin 31) l)
      rw [e2]
    · have e1 : (⟨if t.val + k.val < 30 then t.val + k.val else t.val + k.val + 2, by split <;> omega⟩ : Fin 40) = ⟨t.val + k.val + 2, by omega⟩ :=
        Fin.ext (if_neg h)
      show _ = e (⟨if t.val + k.val < 30 then t.val + k.val else t.val + k.val + 2, _⟩ : Fin 40) * wAt w t.val (⟨if t.val + k.val < 30 then t.val + k.val else t.val + k.val + 2, _⟩ : Fin 40).val l
      rw [e1, hhi _ (show 32 ≤ t.val + k.val + 2 ∧ t.val + k.val + 2 < 36 by omega)]
      unfold wAt
      rw [dif_pos (show 32 ≤ t.val + k.val + 2 ∧ t.val + k.val + 2 ≤ 32 + t.val ∧ t.val < 4 by omega)]
      have e2 : (⟨t.val + k.val + 2 - 2 - t.val, by omega⟩ : Fin 31) = k := Fin.ext (by show t.val + k.val + 2 - 2 - t.val = k.val; omega)
      show _ = _ * w (ix3 (0 : Fin 1) (⟨t.val + k.val + 2 - 2 - t.val, _⟩ : Fin 31) l)
      rw [e2]
      rfl

end Cert.Proof.ConvS

end
-- ==== Proof.ConvS.lean ====
module

public import proofs.«01_k».proof.Defs
public import proofs.«01_k».proof.Proof.Gen.ConvSIdeal.Value
public import proofs.«01_k».proof.Proof.Gen.ConvSRefIdeal.Run
public import Idealize.ShloMosaic.Lib.Pipeline.ValueKit
public import proofs.«01_k».proof.Proof.ConvSRef
public import proofs.«01_k».proof.Proof.ConvSBody
public import proofs.«01_k».proof.Proof.ConvSTap
public import Idealize.ShloMosaic.Lib.Claim
public import Idealize.ShloMosaic.Lib.Pointwise

@[expose] public section

set_option maxRecDepth 16384

noncomputable section

namespace Cert.Proof.ConvS

open Idealize.ShloMosaic Idealize.ShloMosaic.TcCoe Idealize.SL.Sem
open Idealize.ShloMosaic.Pipeline (Dat)

open Cert.ConvSIdeal Cert.ConvSIdeal.Gen

/-- The mean of the kernel's rows. -/
def meanK (y : FVec Ideal S32x1024 .f32) : FVec Ideal S32x1 .f32 :=
  divf (shapeCast S32x1 (multiReduction .add [1] S32 y 0x00000000#32 reduces_S32x1024_S32 (.inl rfl) rfl) shapeCasts_S32_S32x1)
    (broadcast S32x1 (Scalar.ofBits (F := Ideal) .f32 0x44800000#32))

/-- The rows less their mean. -/
def devK (y : FVec Ideal S32x1024 .f32) : FVec Ideal S32x1024 .f32 := subf y (broadcastTo S32x1024 (meanK y) broadcasts_S32x1_S32x1024)

/-- The rows normalised. -/
def lnK (y : FVec Ideal S32x1024 .f32) (g o : FVec Ideal S1x1024 .f32) : FVec Ideal S32x1024 .f32 :=
  addf (mulf (mulf (devK y) (broadcastTo S32x1024 (rsqrt (addf (divf
      (shapeCast S32x1 (multiReduction .add [1] S32 (mulf (devK y) (devK y)) 0x00000000#32 reduces_S32x1024_S32 (.inl rfl) rfl) shapeCasts_S32_S32x1)
      (broadcast S32x1 (Scalar.ofBits (F := Ideal) .f32 0x44800000#32))) (broadcast S32x1 (Scalar.ofBits (F := Ideal) .f32 0x358637BD#32)))) broadcasts_S32x1_S32x1024))
    (broadcastTo S32x1024 (shapeCast S1x1024 g shapeCasts_S1x1024_S1x1024) broadcasts_S1x1024_S32x1024))
    (broadcastTo S32x1024 (shapeCast S1x1024 o shapeCasts_S1x1024_S1x1024) broadcasts_S1x1024_S32x1024)

/-- The rows normalised and swished. -/
def swK (n : FVec Ideal S32x1024 .f32) : FVec Ideal S32x1024 .bf16 := truncf .bf16 (mulf n (logistic n)) bitsLt_bf16_f32

theorem pay_eq (y : FVec Ideal S32x1024 .f32) (g o : FVec Ideal S1x1024 .f32) : k0_pay69 (F := Ideal) y g o = swK (lnK y g o) := rfl

theorem meanK_apply (y : FVec Ideal S32x1024 .f32) (r : Fin 32) : meanK y (ix2 r (0 : Fin 1))
    = Ideal.div (∑ k : Fin 1024, y (ix2 r k)) (Ideal.ofBits FTy.f32 0x44800000#32) := by
  pointwise [meanK]

theorem devK_apply (y : FVec Ideal S32x1024 .f32) (r : Fin 32) (l : Fin 1024) : devK y (ix2 r l)
    = (y (ix2 r l) : EReal) - Ideal.div (∑ k : Fin 1024, y (ix2 r k)) (Ideal.ofBits FTy.f32 0x44800000#32) := by
  pointwise [devK]
  rw [meanK_apply]

theorem lnK_apply (y : FVec Ideal S32x1024 .f32) (g o : FVec Ideal S1x1024 .f32) (r : Fin 32) (l : Fin 1024) : lnK y g o (ix2 r l)
    = normAt (fun k => y (ix2 r k)) (fun k => g (ix2 (0 : Fin 1) k)) (fun k => o (ix2 (0 : Fin 1) k)) l := by
  pointwise [lnK]
  simp only [devK_apply]
  rfl

theorem swK_apply (n : FVec Ideal S32x1024 .f32) (r : Fin 32) (l : Fin 1024) : swK n (ix2 r l) = (n (ix2 r l) : EReal) * Ideal.logistic (n (ix2 r l)) := by
  pointwise [swK]

/-- What the kernel stores of its rows, at an index. -/
theorem pay_apply (y : FVec Ideal S32x1024 .f32) (g o : FVec Ideal S1x1024 .f32) (r : Fin 32) (l : Fin 1024) : k0_pay69 (F := Ideal) y g o (ix2 r l)
    = swishAt (fun k => y (ix2 r k)) (fun k => g (ix2 (0 : Fin 1) k)) (fun k => o (ix2 (0 : Fin 1) k)) l := by
  rw [pay_eq, swK_apply, lnK_apply]
  rfl

variable (m : (ℓ : Loc nD τ sig) → Buf (Elt Ideal) ℓ)

/-- The blocks of the windows at a point. -/
theorem idx : ∀ t : Fin cfg0.N, win0_0.index t = ![t.val, 0, 0] ∧ win0_1.index t = ![256 + t.val, 0, 0] ∧ win0_2.index t = ![0, 0, 0]
    ∧ win0_3.index t = ![0, 0] ∧ win0_4.index t = ![0, 0] ∧ win0_5.index t = ![0, 0] ∧ win0_6.index t = ![256 + t.val, 0] :=
  (by decide +kernel : ∀ t : Fin grid0.N, _)

/-- The result the call is to leave, of the arguments in memory. -/
def goal (c : Dev nD) : FVec Ideal S8704x1024 .bf16 :=
  convArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- A sequence of a point. -/
def seqOf (t : Fin cfg0.N) (s : Fin 8) : Fin 128 := ⟨t.val * 8 + s.val, by have : t.val < 16 := t.isLt; omega⟩

/-- Window 0 stages the states of the point's sequences. -/
theorem blk0 (c : Dev nD) (t : Fin cfg0.N) (s : Fin 8) (r : Fin 30) (l : Fin 1024) :
    iblk m c 0 t (ix3 s r l) = m ((c : Thread nD τ).loc main_arg2) (ix4 (0 : Fin 1) (seqOf t s) r l) := by
  blk_simp [iblk]
  entry_read
  pointwise
  blk_ext [idx t, seqOf]

/-- Window 1 stages their new rows. -/
theorem blk1 (c : Dev nD) (t : Fin cfg0.N) (s : Fin 8) (j : Fin 4) (l : Fin 1024) :
    iblk m c 1 t (ix3 s j l) = m ((c : Thread nD τ).loc main_arg1)
      (ix2 (⟨8192 + ((seqOf t s).val * 4 + j.val), by have := (seqOf t s).isLt; omega⟩ : Fin 8704) l) := by
  blk_simp [iblk]
  entry_read
  pointwise
  blk_ext [idx t, seqOf]

/-- Four arrays joined, of equal parts. -/
theorem cat_congr {a a' b b' d d' e e' : FVec Ideal S1x40x1024 .f32} (ha : a = a') (hb : b = b') (hd : d = d') (he : e = e') :
    concatenate S4x40x1024 0 [⟨S1x40x1024, a⟩, ⟨S1x40x1024, b⟩, ⟨S1x40x1024, d⟩, ⟨S1x40x1024, e⟩] concatenates_S1x40x1024_S1x40x1024_S1x40x1024_S1x40x1024_S4x40x1024_d0
      = concatenate S4x40x1024 0 [⟨S1x40x1024, a'⟩, ⟨S1x40x1024, b'⟩, ⟨S1x40x1024, d'⟩, ⟨S1x40x1024, e'⟩] concatenates_S1x40x1024_S1x40x1024_S1x40x1024_S1x40x1024_S4x40x1024_d0 := by
  rw [ha, hb, hd, he]

/-- The weights as they are staged. -/
theorem entryW (c : Dev nD) : V m c main_v41 = wArr (m ((c : Thread nD τ).loc main_arg3)) := by
  have h0 : V m c main_v37 = broadcastInDim S1x40x1024 ![1, 2] bcast_S40x1024_S1x40x1024_1_2 (wRow0 (m ((c : Thread nD τ).loc main_arg3))) := by
    unfold V; after_results; rfl
  have h1 : V m c main_v38 = broadcastInDim S1x40x1024 ![1, 2] bcast_S40x1024_S1x40x1024_1_2 (wRow1 (m ((c : Thread nD τ).loc main_arg3))) := by
    unfold V; after_results; rfl
  have h2 : V m c main_v39 = broadcastInDim S1x40x1024 ![1, 2] bcast_S40x1024_S1x40x1024_1_2 (wRow2 (m ((c : Thread nD τ).loc main_arg3))) := by
    unfold V; after_results; rfl
  have h3 : V m c main_v40 = broadcastInDim S1x40x1024 ![1, 2] bcast_S40x1024_S1x40x1024_1_2 (wRow3 (m ((c : Thread nD τ).loc main_arg3))) := by
    unfold V; after_results; rfl
  refine Eq.trans ?_ (cat_congr h0 h1 h2 h3)
  unfold V
  simp only [StableHlo.after_cons, StableHlo.after_nil]
  rw [StableHlo.unary_result_ne]; rotate_left; decide
  rw [StableHlo.unary_result_ne]; rotate_left; decide
  rw [StableHlo.unary_result_ne]; rotate_left; decide
  rw [StableHlo.unary_result_ne]; rotate_left; decide
  rw [StableHlo.unary_result_ne]; rotate_left; decide
  rw [StableHlo.nary_result]
  rw [StableHlo.nary_result_ne]; rotate_left; decide
  rw [StableHlo.nary_result_ne]; rotate_left; decide
  rw [StableHlo.nary_result_ne]; rotate_left; decide
  rw [StableHlo.nary_result_ne]; rotate_left; decide
  exact cat_congr rfl rfl rfl rfl

/-- Window 2 stages the weights. -/
theorem blk2 (c : Dev nD) (t : Fin cfg0.N) (j : Fin 4) (r : Fin 40) (l : Fin 1024) :
    iblk m c 2 t (ix3 j r l) = wArr (m ((c : Thread nD τ).loc main_arg3)) (ix3 j r l) := by
  refine Eq.trans ?_ (congrFun (entryW m c) _)
  blk_simp [iblk]
  blk_ext [idx t]

/-- Window 3 stages the bias. -/
theorem blk3 (c : Dev nD) (t : Fin cfg0.N) (l : Fin 1024) :
    iblk m c 3 t (ix2 (0 : Fin 1) l) = m ((c : Thread nD τ).loc main_arg4) (ix2 (0 : Fin 1) l) := by
  blk_simp [iblk]
  entry_read
  pointwise
  blk_ext [idx t]

/-- Window 4 stages the gain. -/
theorem blk4 (c : Dev nD) (t : Fin cfg0.N) (l : Fin 1024) :
    iblk m c 4 t (ix2 (0 : Fin 1) l) = m ((c : Thread nD τ).loc main_arg5) (ix2 (0 : Fin 1) l) := by
  blk_simp [iblk]
  entry_read
  pointwise
  blk_ext [idx t]

/-- Window 5 stages the offset. -/
theorem blk5 (c : Dev nD) (t : Fin cfg0.N) (l : Fin 1024) :
    iblk m c 5 t (ix2 (0 : Fin 1) l) = m ((c : Thread nD τ).loc main_arg6) (ix2 (0 : Fin 1) l) := by
  blk_simp [iblk]
  entry_read
  pointwise
  blk_ext [idx t]

/-- A row of the convolution at a point is the reference's. -/
theorem rows_eq (c : Dev nD) (t : Fin cfg0.N) (s : Fin 8) (j : Fin 4) (l : Fin 1024) :
    rowsOf (iblk m c 0 t) (iblk m c 1 t) (iblk m c 2 t) (iblk m c 3 t) (ix2 (⟨s.val * 4 + j.val, by omega⟩ : Fin 32) l)
      = tapArr (extArr (m ((c : Thread nD τ).loc main_arg1)) (m ((c : Thread nD τ).loc main_arg2))) (m ((c : Thread nD τ).loc main_arg3))
          (m ((c : Thread nD τ).loc main_arg4)) (ix3 (seqOf t s) j l) := by
  refine Eq.trans ?_ (tap_apply _ _ _ _ _ _).symm
  have f1 : (⟨(s.val * 4 + j.val) / 4, by omega⟩ : Fin 8) = s := Fin.ext (by show (s.val * 4 + j.val) / 4 = s.val; omega)
  have f2 : (⟨(s.val * 4 + j.val) % 4, by omega⟩ : Fin 4) = j := Fin.ext (by show (s.val * 4 + j.val) % 4 = j.val; omega)
  show (∑ r : Fin 40, (extOf (iblk m c 0 t) (iblk m c 1 t) (⟨(s.val * 4 + j.val) / 4, _⟩ : Fin 8) (ix2 r l) : EReal)
    * iblk m c 2 t (ix3 (⟨(s.val * 4 + j.val) % 4, _⟩ : Fin 4) r l)) + iblk m c 3 t (ix2 (0 : Fin 1) l) = _
  rw [f1, f2, blk3]
  refine congrArg (fun v : EReal => v + m ((c : Thread nD τ).loc main_arg4) (ix2 (0 : Fin 1) l)) ?_
  refine Eq.trans (Finset.sum_congr rfl fun r _ => congrArg (fun v : EReal => (extOf (iblk m c 0 t) (iblk m c 1 t) s (ix2 r l) : EReal) * v)
    ((blk2 m c t j r l).trans (wArr_apply _ j r l))) ?_
  refine sum_taps _ j l (fun r => extOf (iblk m c 0 t) (iblk m c 1 t) s (ix2 r l))
    (fun i => extArr (m ((c : Thread nD τ).loc main_arg1)) (m ((c : Thread nD τ).loc main_arg2)) (ix3 (seqOf t s) i l)) ?_ ?_
  · intro r h
    refine Eq.trans ?_ (ext_apply _ _ _ _ _).symm
    rw [dif_pos h]
    exact (dif_pos h).trans (blk0 m c t s _ l)
  · intro r h
    refine Eq.trans ?_ (ext_apply _ _ _ _ _).symm
    rw [dif_neg (by show ¬ r.val - 2 < 30; omega)]
    refine (dif_neg (show ¬ r.val < 30 by omega)).trans ((dif_pos h).trans ((blk1 m c t s _ l).trans ?_))
    refine congrArg (fun i => m ((c : Thread nD τ).loc main_arg1) (ix2 i l)) (Fin.ext ?_)
    show 8192 + ((seqOf t s).val * 4 + (r.val - 32)) = 8192 + ((seqOf t s).val * 4 + (r.val - 2 - 30))
    omega

/-- What the body stores at a point is the array under the point's block. -/
theorem point (c : Dev nD) (t : Fin cfg0.N) (s : Fin 8) (j : Fin 4) (l : Fin 1024) :
    k0_pay69 (F := Ideal) (rowsOf (iblk m c 0 t) (iblk m c 1 t) (iblk m c 2 t) (iblk m c 3 t)) (iblk m c 4 t) (iblk m c 5 t)
        (ix2 (⟨s.val * 4 + j.val, by omega⟩ : Fin 32) l)
      = goal m c (ix2 (⟨8192 + ((seqOf t s).val * 4 + j.val), by have := (seqOf t s).isLt; omega⟩ : Fin 8704) l) := by
  refine Eq.trans (pay_apply _ _ _ _ _) (Eq.trans ?_ (conv_high _ _ _ _ _ _ _ _ _ _).symm)
  have e1 := funext fun k => rows_eq m c t s j k
  have e2 := funext fun k => blk4 m c t k
  have e3 := funext fun k => blk5 m c t k
  rw [e1, e2, e3]

/-- An index of a point's block, as an index of the array. -/
theorem emb_eq (t : Fin cfg0.N) (s : Fin 8) (j : Fin 4) (l : Fin 1024) :
    ((cfg0.win 6).blk t).view.emb (ix2 (⟨s.val * 4 + j.val, by omega⟩ : Fin 32) l)
      = ix2 (⟨8192 + ((seqOf t s).val * 4 + j.val), by have := (seqOf t s).isLt; omega⟩ : Fin 8704) l := by
  blk_simp
  blk_ext [idx t, seqOf]

/-- The same at any index of the block. -/
theorem point' (c : Dev nD) (t : Fin cfg0.N) (y : S32x1024.Idx) :
    k0_pay69 (F := Ideal) (rowsOf (iblk m c 0 t) (iblk m c 1 t) (iblk m c 2 t) (iblk m c 3 t)) (iblk m c 4 t) (iblk m c 5 t) y
      = goal m c (((cfg0.win 6).blk t).view.emb y) := by
  have h0 : (y 0).val < 32 := (y 0).isLt
  have key : ∀ z : S32x1024.Idx, z = ix2 (⟨(⟨(y 0).val / 4, by omega⟩ : Fin 8).val * 4 + (⟨(y 0).val % 4, by omega⟩ : Fin 4).val,
      by show (y 0).val / 4 * 4 + (y 0).val % 4 < 32; omega⟩ : Fin 32) (y 1) →
      k0_pay69 (F := Ideal) (rowsOf (iblk m c 0 t) (iblk m c 1 t) (iblk m c 2 t) (iblk m c 3 t)) (iblk m c 4 t) (iblk m c 5 t) z
        = goal m c (((cfg0.win 6).blk t).view.emb z) := by
    intro z hz
    subst hz
    exact (point m c t (⟨(y 0).val / 4, by omega⟩ : Fin 8) (⟨(y 0).val % 4, by omega⟩ : Fin 4) (y 1)).trans
      (congrArg (goal m c) (emb_eq t (⟨(y 0).val / 4, by omega⟩ : Fin 8) (⟨(y 0).val % 4, by omega⟩ : Fin 4) (y 1)).symm)
  exact key y ((eq_ix2 y).trans (congrArg (fun i => ix2 i (y 1)) (Fin.ext (by show (y 0).val = (y 0).val / 4 * 4 + (y 0).val % 4; omega))))

/-- The call starts from the convolution's output of the prompt. -/
theorem entry (c : Dev nD) : V m c main_v42 = m ((c : Thread nD τ).loc main_arg0) := by
  unfold V; after_results; rfl

/-- The call's result: the samples' rows as computed, the prompt's as they were. -/
theorem final (c : Dev nD) : (dats m 0 c).arrAt 6 (cfgs 0).N
    = fun i => if 256 * 32 ≤ (i 0 : ℕ) then goal m c i else V m c main_v42 i := by
  refine (dats m 0 c).arrAt_eq_of_coversWhere 6 _ (fun β => 256 ≤ β 0) (by decide +kernel) (fun t _ y => ?_)
    (fun j => by blk_simp [Pipeline.Window.cell_apply]; omega)
  blk_simp
  exact (after_eq m c t y).trans (point' m c t y)

/-- Both kinds of rows are the reference's. -/
theorem final_eq (c : Dev nD) : (dats m 0 c).arrAt 6 (cfgs 0).N = goal m c := by
  refine (final m c).trans ?_
  funext i
  split
  · rfl
  · rename_i h
    rw [entry, eq_ix2 i]
    exact (join_low _ _ _ _ (Nat.lt_of_not_le h)).symm

/-- THE VALUE CLAIM of the convolution of the samples. -/
theorem algebraic : Cert.algebraic_ConvSIdeal_ConvSRefIdeal (hConvSIdeal := Cert.ConvSIdeal.Gen.facts) (hConvSRefIdeal := Cert.ConvSRefIdeal.Gen.facts) := by
  intro m g m' g' _ hargs
  refine ⟨fun c => goal m c, ?_, ?_⟩
  · exact (θ_run _ _ _).mono (fun r h c => ⟨(h c).1.trans (final_eq m c), (h c).2⟩) (Cert.ConvSIdeal.Value.run_blocks m g)
  · refine (θ_run _ _ _).mono (fun r h c => ⟨(h c).1.trans ?_, (h c).2⟩) (Cert.ConvSRefIdeal.Value.run m' g')
    obtain ⟨e0, e1, e2, e3, e4, e5, e6⟩ := hargs c
    refine Eq.trans (b := convArr (m' ((c : Thread Cert.ConvSRefIdeal.nD Cert.ConvSRefIdeal.τ).loc Cert.ConvSRefIdeal.main_arg0))
      (m' ((c : Thread Cert.ConvSRefIdeal.nD Cert.ConvSRefIdeal.τ).loc Cert.ConvSRefIdeal.main_arg1))
      (m' ((c : Thread Cert.ConvSRefIdeal.nD Cert.ConvSRefIdeal.τ).loc Cert.ConvSRefIdeal.main_arg2))
      (m' ((c : Thread Cert.ConvSRefIdeal.nD Cert.ConvSRefIdeal.τ).loc Cert.ConvSRefIdeal.main_arg3))
      (m' ((c : Thread Cert.ConvSRefIdeal.nD Cert.ConvSRefIdeal.τ).loc Cert.ConvSRefIdeal.main_arg4))
      (m' ((c : Thread Cert.ConvSRefIdeal.nD Cert.ConvSRefIdeal.τ).loc Cert.ConvSRefIdeal.main_arg5))
      (m' ((c : Thread Cert.ConvSRefIdeal.nD Cert.ConvSRefIdeal.τ).loc Cert.ConvSRefIdeal.main_arg6))) rfl ?_
    rw [e0, e1, e2, e3, e4, e5, e6]
    rfl

end Cert.Proof.ConvS

end
-- ==== Proof.lean ====
module

public import proofs.«01_k».proof.Defs
public import proofs.«01_k».proof.Proof.FlashClaim
public import proofs.«01_k».proof.Proof.PleS
public import proofs.«01_k».proof.Proof.Ple
public import proofs.«01_k».proof.Proof.Out
public import proofs.«01_k».proof.Proof.Glu
public import proofs.«01_k».proof.Proof.Gates
public import proofs.«01_k».proof.Proof.Ffn
public import proofs.«01_k».proof.Proof.Norm
public import proofs.«01_k».proof.Proof.Kv
public import proofs.«01_k».proof.Proof.Qp
public import proofs.«01_k».proof.Proof.Absorb
public import proofs.«01_k».proof.Proof.Uv
public import proofs.«01_k».proof.Proof.ConvS
public import proofs.«01_k».proof.Proof.Gen.FlashIdeal.Value
public import proofs.«01_k».proof.Proof.Gen.FlashRefIdeal.Run
public import proofs.«01_k».proof.Proof.Gen.Flash
public import proofs.«01_k».proof.Proof.Gen.Flash.Skeleton
public import proofs.«01_k».proof.Proof.Gen.Flash.Loops
public import proofs.«01_k».proof.Proof.Gen.Flash.Launch
public import proofs.«01_k».proof.Proof.Gen.Flash.Points
public import proofs.«01_k».proof.Proof.Gen.Flash.Frame
public import proofs.«01_k».proof.Proof.Gen.FlashIdeal
public import proofs.«01_k».proof.Proof.Gen.FlashIdeal.Skeleton
public import proofs.«01_k».proof.Proof.Gen.FlashIdeal.Loops
public import proofs.«01_k».proof.Proof.Gen.FlashIdeal.Launch
public import proofs.«01_k».proof.Proof.Gen.FlashIdeal.Points
public import proofs.«01_k».proof.Proof.Gen.FlashIdeal.Frame
public import proofs.«01_k».proof.Proof.Gen.FlashRefIdeal
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.Gen.Gates.Frame
public import proofs.«01_k».proof.Proof.Gen.GatesIdeal.Frame
public import proofs.«01_k».proof.Proof.Gen.GatesIdeal.Value
public import proofs.«01_k».proof.Proof.Gen.GatesRefIdeal.Run
public import proofs.«01_k».proof.Proof.Gen.Glu.Frame
public import proofs.«01_k».proof.Proof.Gen.GluIdeal.Frame
public import proofs.«01_k».proof.Proof.Gen.GluRefIdeal.Run
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Run
public import proofs.«01_k».proof.Proof.Gen.Ple.Frame
public import proofs.«01_k».proof.Proof.Gen.PleIdeal.Frame
public import proofs.«01_k».proof.Proof.Gen.PleIdeal.Value
public import proofs.«01_k».proof.Proof.Gen.PleRefIdeal.Run
public import proofs.«01_k».proof.Proof.Gen.PleS.Frame
public import proofs.«01_k».proof.Proof.Gen.PleSIdeal.Frame
public import proofs.«01_k».proof.Proof.Gen.PleSIdeal.Value
public import proofs.«01_k».proof.Proof.Gen.PleSRefIdeal.Run
public import proofs.«01_k».proof.Proof.Gen.Norm.Frame
public import proofs.«01_k».proof.Proof.Gen.NormIdeal.Frame
public import proofs.«01_k».proof.Proof.Gen.NormIdeal.Value
public import proofs.«01_k».proof.Proof.Gen.NormRefIdeal.Run
public import proofs.«01_k».proof.Proof.Gen.Kv.Frame
public import proofs.«01_k».proof.Proof.Gen.KvIdeal.Frame
public import proofs.«01_k».proof.Proof.Gen.KvIdeal.Value
public import proofs.«01_k».proof.Proof.Gen.KvRefIdeal.Run
public import proofs.«01_k».proof.Proof.Gen.Qp.Frame
public import proofs.«01_k».proof.Proof.Gen.QpIdeal.Frame
public import proofs.«01_k».proof.Proof.Gen.QpIdeal.Value
public import proofs.«01_k».proof.Proof.Gen.QpRefIdeal.Run
public import proofs.«01_k».proof.Proof.Gen.Absorb.Frame
public import proofs.«01_k».proof.Proof.Gen.AbsorbIdeal.Frame
public import proofs.«01_k».proof.Proof.Gen.AbsorbIdeal.Value
public import proofs.«01_k».proof.Proof.Gen.AbsorbRefIdeal.Run
public import proofs.«01_k».proof.Proof.Gen.Uv.Frame
public import proofs.«01_k».proof.Proof.Gen.UvIdeal.Frame
public import proofs.«01_k».proof.Proof.Gen.UvIdeal.Value
public import proofs.«01_k».proof.Proof.Gen.UvRefIdeal.Run
public import proofs.«01_k».proof.Proof.Gen.ConvS.Frame
public import proofs.«01_k».proof.Proof.Gen.ConvSIdeal.Frame
public import proofs.«01_k».proof.Proof.Gen.ConvSIdeal.Value
public import proofs.«01_k».proof.Proof.Gen.ConvSRefIdeal.Run
public import proofs.«01_k».proof.Proof.Gen.On_prompt_rows
public import Idealize.ShloMosaic.Adequacy
public import Idealize.ShloMosaic.Init

@[expose] public section

noncomputable section

namespace Cert.Proof

open Idealize.ShloMosaic Idealize.SL.Sem Cert.Flash

/-- The reference of the attention is a straight-line host program: its run keeps its arguments, and it has no semaphore. -/
theorem flashRef_frame : Cert.quiescent_FlashRefIdeal (hFlashRefIdeal := Cert.FlashRefIdeal.Gen.facts) := fun m g _ =>
  (θ_run Cert.FlashRefIdeal.defs _ _).mono (fun r h => ⟨fun c => (h c).2, sem_eq_zero_of_no_sems (by decide) r.2⟩)
    (Cert.FlashRefIdeal.Value.run (F := Ideal) m g)

/-- The same of the channel mixer. -/
theorem ffnRef_frame : Cert.quiescent_FfnRefIdeal (hFfnRefIdeal := Cert.FfnRefIdeal.Gen.facts) := fun m g _ =>
  (θ_run Cert.FfnRefIdeal.defs _ _).mono (fun r h => ⟨fun c => (h c).2.2, sem_eq_zero_of_no_sems (by decide) r.2⟩)
    (Cert.FfnRefIdeal.Value.run (F := Ideal) m g)

/-- The same of the gates. -/
theorem gatesRef_frame : Cert.quiescent_GatesRefIdeal (hGatesRefIdeal := Cert.GatesRefIdeal.Gen.facts) := fun m g _ =>
  (θ_run Cert.GatesRefIdeal.defs _ _).mono (fun r h => ⟨fun c => (h c).2, sem_eq_zero_of_no_sems (by decide) r.2⟩)
    (Cert.GatesRefIdeal.Value.run (F := Ideal) m g)

/-- The same of the linear unit. -/
theorem gluRef_frame : Cert.quiescent_GluRefIdeal (hGluRefIdeal := Cert.GluRefIdeal.Gen.facts) := fun m g _ =>
  (θ_run Cert.GluRefIdeal.defs _ _).mono (fun r h => ⟨fun c => (h c).2.2.2, sem_eq_zero_of_no_sems (by decide) r.2⟩)
    (Cert.GluRefIdeal.Value.run (F := Ideal) m g)

/-- The same of the output projections. -/
theorem outRef_frame : Cert.quiescent_OutRefIdeal (hOutRefIdeal := Cert.OutRefIdeal.Gen.facts) := fun m g _ =>
  (θ_run Cert.OutRefIdeal.defs _ _).mono (fun r h => ⟨fun c => (h c).2.2, sem_eq_zero_of_no_sems (by decide) r.2⟩)
    (Cert.OutRefIdeal.Value.run (F := Ideal) m g)

/-- The same of the prompt's result. -/
theorem pleRef_frame : Cert.quiescent_PleRefIdeal (hPleRefIdeal := Cert.PleRefIdeal.Gen.facts) := fun m g _ =>
  (θ_run Cert.PleRefIdeal.defs _ _).mono (fun r h => ⟨fun c => (h c).2, sem_eq_zero_of_no_sems (by decide) r.2⟩)
    (Cert.PleRefIdeal.Value.run (F := Ideal) m g)

/-- The same of the samples' result. -/
theorem pleSRef_frame : Cert.quiescent_PleSRefIdeal (hPleSRefIdeal := Cert.PleSRefIdeal.Gen.facts) := fun m g _ =>
  (θ_run Cert.PleSRefIdeal.defs _ _).mono (fun r h => ⟨fun c => (h c).2, sem_eq_zero_of_no_sems (by decide) r.2⟩)
    (Cert.PleSRefIdeal.Value.run (F := Ideal) m g)

/-- The same of the normalised rows. -/
theorem normRef_frame : Cert.quiescent_NormRefIdeal (hNormRefIdeal := Cert.NormRefIdeal.Gen.facts) := fun m g _ =>
  (θ_run Cert.NormRefIdeal.defs _ _).mono (fun r h => ⟨fun c => (h c).2, sem_eq_zero_of_no_sems (by decide) r.2⟩)
    (Cert.NormRefIdeal.Value.run (F := Ideal) m g)

/-- The same of the keys and values. -/
theorem kvRef_frame : Cert.quiescent_KvRefIdeal (hKvRefIdeal := Cert.KvRefIdeal.Gen.facts) := fun m g _ =>
  (θ_run Cert.KvRefIdeal.defs _ _).mono (fun r h => ⟨fun c => (h c).2.2.2.2, sem_eq_zero_of_no_sems (by decide) r.2⟩)
    (Cert.KvRefIdeal.Value.run (F := Ideal) m g)

/-- The same of the queries. -/
theorem qpRef_frame : Cert.quiescent_QpRefIdeal (hQpRefIdeal := Cert.QpRefIdeal.Gen.facts) := fun m g _ =>
  (θ_run Cert.QpRefIdeal.defs _ _).mono (fun r h => ⟨fun c => (h c).2, sem_eq_zero_of_no_sems (by decide) r.2⟩)
    (Cert.QpRefIdeal.Value.run (F := Ideal) m g)

/-- The same of the absorbed queries. -/
theorem absorbRef_frame : Cert.quiescent_AbsorbRefIdeal (hAbsorbRefIdeal := Cert.AbsorbRefIdeal.Gen.facts) := fun m g _ =>
  (θ_run Cert.AbsorbRefIdeal.defs _ _).mono (fun r h => ⟨fun c => (h c).2, sem_eq_zero_of_no_sems (by decide) r.2⟩)
    (Cert.AbsorbRefIdeal.Value.run (F := Ideal) m g)

/-- The same of the unfolded outputs. -/
theorem uvRef_frame : Cert.quiescent_UvRefIdeal (hUvRefIdeal := Cert.UvRefIdeal.Gen.facts) := fun m g _ =>
  (θ_run Cert.UvRefIdeal.defs _ _).mono (fun r h => ⟨fun c => (h c).2, sem_eq_zero_of_no_sems (by decide) r.2⟩)
    (Cert.UvRefIdeal.Value.run (F := Ideal) m g)

/-- The same of the unfolded outputs. -/
theorem convSRef_frame : Cert.quiescent_ConvSRefIdeal (hConvSRefIdeal := Cert.ConvSRefIdeal.Gen.facts) := fun m g _ =>
  (θ_run Cert.ConvSRefIdeal.defs _ _).mono (fun r h => ⟨fun c => (h c).2, sem_eq_zero_of_no_sems (by decide) r.2⟩)
    (Cert.ConvSRefIdeal.Value.run (F := Ideal) m g)

/-- THE CLAIM: every frame, every idealization, every value. -/
theorem claim : Cert.Claim :=
  ⟨Cert.Flash.Gen.facts, Cert.FlashIdeal.Gen.facts, Cert.FlashRefIdeal.Gen.facts,
    Cert.Ffn.Gen.facts, Cert.FfnIdeal.Gen.facts, Cert.FfnRefIdeal.Gen.facts,
    Cert.Gates.Gen.facts, Cert.GatesIdeal.Gen.facts, Cert.GatesRefIdeal.Gen.facts,
    Cert.Glu.Gen.facts, Cert.GluIdeal.Gen.facts, Cert.GluRefIdeal.Gen.facts,
    Cert.Out.Gen.facts, Cert.OutIdeal.Gen.facts, Cert.OutRefIdeal.Gen.facts,
    Cert.Ple.Gen.facts, Cert.PleIdeal.Gen.facts, Cert.PleRefIdeal.Gen.facts,
    Cert.PleS.Gen.facts, Cert.PleSIdeal.Gen.facts, Cert.PleSRefIdeal.Gen.facts,
    Cert.Norm.Gen.facts, Cert.NormIdeal.Gen.facts, Cert.NormRefIdeal.Gen.facts,
    Cert.Kv.Gen.facts, Cert.KvIdeal.Gen.facts, Cert.KvRefIdeal.Gen.facts,
    Cert.Qp.Gen.facts, Cert.QpIdeal.Gen.facts, Cert.QpRefIdeal.Gen.facts,
    Cert.Absorb.Gen.facts, Cert.AbsorbIdeal.Gen.facts, Cert.AbsorbRefIdeal.Gen.facts,
    Cert.Uv.Gen.facts, Cert.UvIdeal.Gen.facts, Cert.UvRefIdeal.Gen.facts,
    Cert.ConvS.Gen.facts, Cert.ConvSIdeal.Gen.facts, Cert.ConvSRefIdeal.Gen.facts,
    Flash.pre_facts, Kv.pre_facts, Qp.pre_facts, Cert.On_prompt_rows.Gen.facts,
    fun m ρ _ => Cert.Flash.Gen.frame m ρ, fun m ρ _ => Cert.FlashIdeal.Gen.frame m ρ, fun m ρ _ => Cert.FlashIdeal.Gen.frame m ρ,
    flashRef_frame, fun m g _ => flashRef_frame m g trivial,
    fun m ρ _ => Cert.Ffn.Gen.frame m ρ, fun m ρ _ => Cert.FfnIdeal.Gen.frame m ρ, ffnRef_frame,
    fun m ρ _ => Cert.Gates.Gen.frame m ρ, fun m ρ _ => Cert.GatesIdeal.Gen.frame m ρ, gatesRef_frame,
    fun m ρ _ => Cert.Glu.Gen.frame m ρ, fun m ρ _ => Cert.GluIdeal.Gen.frame m ρ, gluRef_frame,
    fun m ρ _ => Cert.Out.Gen.frame m ρ, fun m ρ _ => Cert.OutIdeal.Gen.frame m ρ, outRef_frame,
    fun m ρ _ => Cert.Ple.Gen.frame m ρ, fun m ρ _ => Cert.PleIdeal.Gen.frame m ρ, pleRef_frame,
    fun m ρ _ => Cert.PleS.Gen.frame m ρ, fun m ρ _ => Cert.PleSIdeal.Gen.frame m ρ, pleSRef_frame,
    fun m ρ _ => Cert.Norm.Gen.frame m ρ, fun m ρ _ => Cert.NormIdeal.Gen.frame m ρ, normRef_frame,
    fun m ρ _ => Cert.Kv.Gen.frame m ρ, fun m ρ _ => Cert.KvIdeal.Gen.frame m ρ, fun m ρ _ => Cert.KvIdeal.Gen.frame m ρ,
    kvRef_frame, fun m g _ => kvRef_frame m g trivial,
    fun m ρ _ => Cert.Qp.Gen.frame m ρ, fun m ρ _ => Cert.QpIdeal.Gen.frame m ρ, fun m ρ _ => Cert.QpIdeal.Gen.frame m ρ,
    qpRef_frame, fun m g _ => qpRef_frame m g trivial,
    fun m ρ _ => Cert.Absorb.Gen.frame m ρ, fun m ρ _ => Cert.AbsorbIdeal.Gen.frame m ρ, absorbRef_frame,
    fun m ρ _ => Cert.Uv.Gen.frame m ρ, fun m ρ _ => Cert.UvIdeal.Gen.frame m ρ, uvRef_frame,
    fun m ρ _ => Cert.ConvS.Gen.frame m ρ, fun m ρ _ => Cert.ConvSIdeal.Gen.frame m ρ, convSRef_frame,
    trivial, Flash.algebraic, trivial, Ffn.algebraic, trivial, Gates.algebraic, trivial, Glu.algebraic, trivial, Out.algebraic, trivial, Ple.algebraic, trivial, PleS.algebraic,
    trivial, Norm.algebraic, trivial, Kv.algebraic, trivial, Qp.algebraic, trivial, Absorb.algebraic, trivial, Uv.algebraic, trivial, ConvS.algebraic⟩

end Cert.Proof

end
